-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v5)) (v2 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v5) = v1 c
          ∧ r.2.mem ((c.tc : Thread Cert.Kernel3Ideal.nD Cert.Kernel3Ideal.τ).loc Cert.Kernel3Ideal.main_v4_1) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v7) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v20)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_v19) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_v20) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_v19) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v15)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v15) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v21) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v18)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v18) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v22) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v18)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v18) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v70) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v5)) (v2 : (c : Dev Cert.Kernel19Ideal.nD) → Buf (Elt Ideal) ((c.tc : Thread Cert.Kernel19Ideal.nD Cert.Kernel19Ideal.τ).loc Cert.Kernel19Ideal.main_v6)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v5) = v1 c
          ∧ r.2.mem ((c.tc : Thread Cert.Kernel19Ideal.nD Cert.Kernel19Ideal.τ).loc Cert.Kernel19Ideal.main_v6) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v58) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v44) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v5)) (v1 : (c : Dev Cert.Kernel20Ideal.nD) → Buf (Elt Ideal) ((c.tc : Thread Cert.Kernel20Ideal.nD Cert.Kernel20Ideal.τ).loc Cert.Kernel20Ideal.main_v6)) (v2 : (c : Dev Cert.Kernel20Ideal.nD) → Buf (Elt Ideal) ((c.tc : Thread Cert.Kernel20Ideal.nD Cert.Kernel20Ideal.τ).loc Cert.Kernel20Ideal.main_v7)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_v6) = v1 c
          ∧ r.2.mem ((c.tc : Thread Cert.Kernel20Ideal.nD Cert.Kernel20Ideal.τ).loc Cert.Kernel20Ideal.main_v7) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v5)) (v1 : (c : Dev Cert.Kernel21Ideal.nD) → Buf (Elt Ideal) ((c.tc : Thread Cert.Kernel21Ideal.nD Cert.Kernel21Ideal.τ).loc Cert.Kernel21Ideal.main_v6)) (v2 : (c : Dev Cert.Kernel21Ideal.nD) → Buf (Elt Ideal) ((c.tc : Thread Cert.Kernel21Ideal.nD Cert.Kernel21Ideal.τ).loc Cert.Kernel21Ideal.main_v7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5) = v0 c
          ∧ r.2.mem ((c.tc : Thread Cert.Kernel21Ideal.nD Cert.Kernel21Ideal.τ).loc Cert.Kernel21Ideal.main_v6) = v1 c
          ∧ r.2.mem ((c.tc : Thread Cert.Kernel21Ideal.nD Cert.Kernel21Ideal.τ).loc Cert.Kernel21Ideal.main_v7) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v5)) (v1 : (c : Dev Cert.Kernel22Ideal.nD) → Buf (Elt Ideal) ((c.tc : Thread Cert.Kernel22Ideal.nD Cert.Kernel22Ideal.τ).loc Cert.Kernel22Ideal.main_v6)) (v2 : (c : Dev Cert.Kernel22Ideal.nD) → Buf (Elt Ideal) ((c.tc : Thread Cert.Kernel22Ideal.nD Cert.Kernel22Ideal.τ).loc Cert.Kernel22Ideal.main_v7)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v5) = v0 c
          ∧ r.2.mem ((c.tc : Thread Cert.Kernel22Ideal.nD Cert.Kernel22Ideal.τ).loc Cert.Kernel22Ideal.main_v6) = v1 c
          ∧ r.2.mem ((c.tc : Thread Cert.Kernel22Ideal.nD Cert.Kernel22Ideal.τ).loc Cert.Kernel22Ideal.main_v7) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v5)) (v1 : (c : Dev Cert.Kernel23Ideal.nD) → Buf (Elt Ideal) ((c.tc : Thread Cert.Kernel23Ideal.nD Cert.Kernel23Ideal.τ).loc Cert.Kernel23Ideal.main_v6)) (v2 : (c : Dev Cert.Kernel23Ideal.nD) → Buf (Elt Ideal) ((c.tc : Thread Cert.Kernel23Ideal.nD Cert.Kernel23Ideal.τ).loc Cert.Kernel23Ideal.main_v7)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5) = v0 c
          ∧ r.2.mem ((c.tc : Thread Cert.Kernel23Ideal.nD Cert.Kernel23Ideal.τ).loc Cert.Kernel23Ideal.main_v6) = v1 c
          ∧ r.2.mem ((c.tc : Thread Cert.Kernel23Ideal.nD Cert.Kernel23Ideal.τ).loc Cert.Kernel23Ideal.main_v7) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v18)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v18) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v70) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v22)) (v1 : (c : Dev Cert.Kernel25Ideal.nD) → Buf (Elt Ideal) ((c.tc : Thread Cert.Kernel25Ideal.nD Cert.Kernel25Ideal.τ).loc Cert.Kernel25Ideal.main_v23)) (v2 : (c : Dev Cert.Kernel25Ideal.nD) → Buf (Elt Ideal) ((c.tc : Thread Cert.Kernel25Ideal.nD Cert.Kernel25Ideal.τ).loc Cert.Kernel25Ideal.main_v32)) (v3 : (c : Dev Cert.Kernel25Ideal.nD) → Buf (Elt Ideal) ((c.tc : Thread Cert.Kernel25Ideal.nD Cert.Kernel25Ideal.τ).loc Cert.Kernel25Ideal.main_v34)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v22) = v0 c
          ∧ r.2.mem ((c.tc : Thread Cert.Kernel25Ideal.nD Cert.Kernel25Ideal.τ).loc Cert.Kernel25Ideal.main_v23) = v1 c
          ∧ r.2.mem ((c.tc : Thread Cert.Kernel25Ideal.nD Cert.Kernel25Ideal.τ).loc Cert.Kernel25Ideal.main_v32) = v2 c
          ∧ r.2.mem ((c.tc : Thread Cert.Kernel25Ideal.nD Cert.Kernel25Ideal.τ).loc Cert.Kernel25Ideal.main_v34) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v132) = v0 c
          ∧ r.2.mem ((c.tc : Thread Cert.Reference25Ideal.nD Cert.Reference25Ideal.τ).loc Cert.Reference25Ideal.main_v126) = v1 c
          ∧ r.2.mem ((c.tc : Thread Cert.Reference25Ideal.nD Cert.Reference25Ideal.τ).loc Cert.Reference25Ideal.main_v85) = v2 c
          ∧ r.2.mem ((c.tc : Thread Cert.Reference25Ideal.nD Cert.Reference25Ideal.τ).loc Cert.Reference25Ideal.main_v79) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Kernel.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S_ : Shape := ⟨0, ![]⟩
abbrev S4x2176x1024 : Shape := ⟨3, ![4, 2176, 1024]⟩
abbrev S8704x1024 : Shape := ⟨2, ![8704, 1024]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S32x256 : Shape := ⟨2, ![32, 256]⟩
abbrev S544x256 : Shape := ⟨2, ![544, 256]⟩
abbrev S16x256 : Shape := ⟨2, ![16, 256]⟩
abbrev S544x1024 : Shape := ⟨2, ![544, 1024]⟩
abbrev S560x1 : Shape := ⟨2, ![560, 1]⟩
abbrev S544x1 : Shape := ⟨2, ![544, 1]⟩
abbrev S560x256 : Shape := ⟨2, ![560, 256]⟩
abbrev S8x256 : Shape := ⟨2, ![8, 256]⟩
abbrev S68x8x256 : Shape := ⟨3, ![68, 8, 256]⟩
abbrev S4x8x256 : Shape := ⟨3, ![4, 8, 256]⟩
abbrev S4x256 : Shape := ⟨2, ![4, 256]⟩
abbrev S64x64 : Shape := ⟨2, ![64, 64]⟩
abbrev S1x64x64 : Shape := ⟨3, ![1, 64, 64]⟩

abbrev nBuf : Space → Nat
  | .hbm => 48
  | .vmem => 31
  | .smem => 0
  | _ => 0

abbrev bufTy : (tb : Table) → Fin (tcTables nBuf tb) → BufTy
  | .hbm, ⟨0, _⟩ => ⟨S4x2064x1024, .f32⟩
  | .hbm, ⟨1, _⟩ => ⟨S4x2064x1024, .f32⟩
  | .hbm, ⟨2, _⟩ => ⟨S3x256, .f32⟩
  | .hbm, ⟨3, _⟩ => ⟨S4x64x64, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S4x2176x1024, .f32⟩
  | .hbm, ⟨8, _⟩ => ⟨S8704x1024, .f32⟩
  | .hbm, ⟨9, _⟩ => ⟨S_, .i32⟩
  | .hbm, ⟨10, _⟩ => ⟨S_, .f32⟩
  | .hbm, ⟨11, _⟩ => ⟨S4x2176x1024, .f32⟩
  | .hbm, ⟨12, _⟩ => ⟨S8704x1024, .f32⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .f32⟩
  | .hbm, ⟨20, _⟩ => ⟨S4x1x4x1, .f32⟩
  | .hbm, ⟨21, _⟩ => ⟨S4x64x1x64, .f32⟩
  | .hbm, ⟨22, _⟩ => ⟨S4x64x4x64, .f32⟩
  | .hbm, ⟨23, _⟩ => ⟨S4x64x4x64, .f32⟩
  | .hbm, ⟨24, _⟩ => ⟨S4x64x4x64, .f32⟩
  | .hbm, ⟨25, _⟩ => ⟨S256x256, .f32⟩
  | .hbm, ⟨26, _⟩ => ⟨S256x256, .bf16⟩
  | .hbm, ⟨27, _⟩ => ⟨S1x256, .f32⟩
  | .hbm, ⟨28, _⟩ => ⟨S8704x1024, .bf16⟩
  | .hbm, ⟨29, _⟩ => ⟨S32x256, .f32⟩
  | .hbm, ⟨30, _⟩ => ⟨S256x256, .f32⟩
  | .hbm, ⟨31, _⟩ => ⟨S4x8x256, .f32⟩
  | .hbm, ⟨32, _⟩ => ⟨S_, .f32⟩
  | .hbm, ⟨33, _⟩ => ⟨S4x256, .f32⟩
  | .hbm, ⟨34, _⟩ => ⟨S4x2176x1024, .bf16⟩
  | .hbm, ⟨35, _⟩ => ⟨S4x2064x1024, .bf16⟩
  | .hbm, ⟨36, _⟩ => ⟨S3x256, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S1x64x64, .f32⟩
  | .hbm, ⟨42, _⟩ => ⟨S1x64x64, .f32⟩
  | .hbm, ⟨43, _⟩ => ⟨S1x64x64, .f32⟩
  | .hbm, ⟨44, _⟩ => ⟨S1x64x64, .f32⟩
  | .hbm, ⟨45, _⟩ => ⟨S4x64x64, .f32⟩
  | .hbm, ⟨46, _⟩ => ⟨S1x256, .f32⟩
  | .hbm, ⟨47, _⟩ => ⟨S256, .f32⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S544x256, .f32⟩
  | .local _ .vmem, ⟨7, _⟩ => ⟨S544x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S16x256, .f32⟩
  | .local _ .vmem, ⟨16, _⟩ => ⟨S544x256, .f32⟩
  | .local _ .vmem, ⟨17, _⟩ => ⟨S544x256, .f32⟩
  | .local _ .vmem, ⟨18, _⟩ => ⟨S544x256, .f32⟩
  | .local _ .vmem, ⟨19, _⟩ => ⟨S544x256, .f32⟩
  | .local _ .vmem, ⟨20, _⟩ => ⟨S16x256, .f32⟩
  | .local _ .vmem, ⟨21, _⟩ => ⟨S16x256, .f32⟩
  | .local _ .vmem, ⟨22, _⟩ => ⟨S16x256, .f32⟩
  | .local _ .vmem, ⟨23, _⟩ => ⟨S16x256, .f32⟩
  | .local _ .vmem, ⟨24, _⟩ => ⟨S3x256, .f32⟩
  | .local _ .vmem, ⟨25, _⟩ => ⟨S256x256, .bf16⟩
  | .local _ .vmem, ⟨26, _⟩ => ⟨S1x256, .f32⟩
  | .local _ .vmem, ⟨27, _⟩ => ⟨S544x1024, .bf16⟩
  | .local _ .vmem, ⟨28, _⟩ => ⟨S544x1024, .bf16⟩
  | .local _ .vmem, ⟨29, _⟩ => ⟨S32x256, .f32⟩
  | .local _ .vmem, ⟨30, _⟩ => ⟨S256x256, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c543_i32 : BitVec 32 := 543#32
  let v2 : BitVec 32 := Scalar.minsi v1 c543_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c543_i32 : BitVec 32 := 543#32
  let v2 : BitVec 32 := Scalar.minsi v1 c543_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c543_i32 : BitVec 32 := 543#32
  let v2 : BitVec 32 := Scalar.minsi v1 c543_i32
  let c1_i32_0 : BitVec 32 := 1#32
  let c0_i32 : BitVec 32 := 0#32
  ![v2.toNat, c1_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S544x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S4x2064x256 : Shape := ⟨3, ![4, 2064, 256]⟩
abbrev S_ : Shape := ⟨0, ![]⟩
abbrev S4x2x256 : Shape := ⟨3, ![4, 2, 256]⟩
abbrev S4x2066x256 : Shape := ⟨3, ![4, 2066, 256]⟩
abbrev S1x256 : Shape := ⟨2, ![1, 256]⟩
abbrev S1x1x256 : Shape := ⟨3, ![1, 1, 256]⟩
abbrev S4x2064x4x64 : Shape := ⟨4, ![4, 2064, 4, 64]⟩
abbrev S2064 : Shape := ⟨1, ![2064]⟩
abbrev S2064x1x1 : Shape := ⟨3, ![2064, 1, 1]⟩
abbrev S1x2064x1 : Shape := ⟨3, ![1, 2064, 1]⟩
abbrev S4 : Shape := ⟨1, ![4]⟩
abbrev S2064x2064x1 : Shape := ⟨3, ![2064, 2064, 1]⟩
abbrev S1x1x4 : Shape := ⟨3, ![1, 1, 4]⟩
abbrev S1x2064x4 : Shape := ⟨3, ![1, 2064, 4]⟩
abbrev S2064x2064x4 : Shape := ⟨3, ![2064, 2064, 4]⟩
abbrev S2064x1x4 : Shape := ⟨3, ![2064, 1, 4]⟩
abbrev S4x4x64x2064 : Shape := ⟨4, ![4, 4, 64, 2064]⟩
abbrev S2064x4 : Shape := ⟨2, ![2064, 4]⟩
abbrev S1x2064x4x1 : Shape := ⟨4, ![1, 2064, 4, 1]⟩
abbrev S4x64x4x2064 : Shape := ⟨4, ![4, 64, 4, 2064]⟩
abbrev S4x2064x512 : Shape := ⟨3, ![4, 2064, 512]⟩
abbrev S4x4x2064x64 : Shape := ⟨4, ![4, 4, 2064, 64]⟩

abbrev nBuf : Space → Nat
  | .hbm => 160
  | .vmem => 0
  | .smem => 0
  | _ => 0

abbrev hbmTy0_0 (i : Nat) : BufTy := match i % 128 with
  | 0 => ⟨S4x2064x1024, .f32⟩
  | 1 => ⟨S4x2064x1024, .f32⟩
  | 2 => ⟨S3x256, .f32⟩
  | 3 => ⟨S4x64x64, .f32⟩
  | 4 => ⟨S256, .f32⟩
  | 5 => ⟨S4x2064x256, .f32⟩
  | 6 => ⟨S4x2064x256, .f32⟩
  | 7 => ⟨S4x2064x256, .f32⟩
  | 8 => ⟨S4x2064x256, .f32⟩
  | 9 => ⟨S4x2064x256, .f32⟩
  | 10 => ⟨S_, .f32⟩
  | 11 => ⟨S4x2x256, .f32⟩
  | 12 => ⟨S4x2066x256, .f32⟩
  | 13 => ⟨S_, .f32⟩
  | 14 => ⟨S4x2x256, .f32⟩
  | 15 => ⟨S1x256, .f32⟩
  | 16 => ⟨S256, .f32⟩
  | 17 => ⟨S4x2064x256, .f32⟩
  | 18 => ⟨S1x1x256, .f32⟩
  | 19 => ⟨S4x2064x256, .f32⟩
  | 20 => ⟨S4x2064x256, .f32⟩
  | 21 => ⟨S1x256, .f32⟩
  | 22 => ⟨S256, .f32⟩
  | 23 => ⟨S4x2064x256, .f32⟩
  | 24 => ⟨S1x1x256, .f32⟩
  | 25 => ⟨S4x2064x256, .f32⟩
  | 26 => ⟨S4x2064x256, .f32⟩
  | 27 => ⟨S4x2064x256, .f32⟩
  | 28 => ⟨S1x256, .f32⟩
  | 29 => ⟨S256, .f32⟩
  | 30 => ⟨S4x2064x256, .f32⟩
  | 31 => ⟨S1x1x256, .f32⟩
  | 32 => ⟨S4x2064x256, .f32⟩
  | 33 => ⟨S4x2064x256, .f32⟩
  | 34 => ⟨S4x2064x256, .f32⟩
  | 35 => ⟨S4x2064x256, .f32⟩
  | 36 => ⟨S4x2064x4x64, .f32⟩
  | 37 => ⟨S2064, .i32⟩
  | 38 => ⟨S2064x1x1, .i32⟩
  | 39 => ⟨S2064, .i32⟩
  | 40 => ⟨S1x2064x1, .i32⟩
  | 41 => ⟨S4, .i32⟩
  | 42 => ⟨S_, .i32⟩
  | 43 => ⟨S4, .i32⟩
  | 44 => ⟨S4, .i32⟩
  | 45 => ⟨S2064x2064x1, .i32⟩
  | 46 => ⟨S2064x2064x1, .i32⟩
  | 47 => ⟨S2064x2064x1, .i1⟩
  | 48 => ⟨S1x1x4, .i32⟩
  | 49 => ⟨S1x2064x4, .i32⟩
  | 50 => ⟨S1x2064x4, .i32⟩
  | 51 => ⟨S1x2064x4, .i32⟩
  | 52 => ⟨S2064x2064x4, .i32⟩
  | 53 => ⟨S2064x2064x4, .i32⟩
  | 54 => ⟨S2064x2064x4, .i1⟩
  | 55 => ⟨S2064x2064x4, .i1⟩
  | 56 => ⟨S2064x2064x4, .i1⟩
  | 57 => ⟨S_, .f32⟩
  | 58 => ⟨S_, .f32⟩
  | 59 => ⟨S2064x2064x4, .f32⟩
  | 60 => ⟨S2064x2064x4, .f32⟩
  | 61 => ⟨S2064x2064x4, .f32⟩
  | 62 => ⟨S_, .i32⟩
  | 63 => ⟨S2064x1x1, .i32⟩
  | 64 => ⟨S2064x1x1, .i32⟩
  | 65 => ⟨S1x1x4, .i32⟩
  | 66 => ⟨S2064x1x4, .i32⟩
  | 67 => ⟨S2064x1x4, .i32⟩
  | 68 => ⟨S2064x1x4, .i32⟩
  | 69 => ⟨S2064x1x4, .f32⟩
  | 70 => ⟨S4x4x64x2064, .f32⟩
  | 71 => ⟨S4x2064x4x64, .f32⟩
  | 72 => ⟨S2064x4, .f32⟩
  | 73 => ⟨S1x2064x4x1, .f32⟩
  | 74 => ⟨S4x2064x4x64, .f32⟩
  | 75 => ⟨S4x2064x4x64, .f32⟩
  | 76 => ⟨S4x2064x4x64, .f32⟩
  | 77 => ⟨S4x64x4x2064, .f32⟩
  | 78 => ⟨S4x2064x4x64, .f32⟩
  | 79 => ⟨S4x2064x256, .f32⟩
  | 80 => ⟨S1x1x256, .f32⟩
  | 81 => ⟨S4x2064x256, .f32⟩
  | 82 => ⟨S4x2064x256, .f32⟩
  | 83 => ⟨S4x2064x512, .f32⟩
  | 84 => ⟨S4x2064x512, .f32⟩
  | 85 => ⟨S4x2064x256, .f32⟩
  | 86 => ⟨S4x2064x256, .f32⟩
  | 87 => ⟨S4x2064x256, .f32⟩
  | 88 => ⟨S_, .f32⟩
  | 89 => ⟨S256, .f32⟩
  | 90 => ⟨S1x1x256, .f32⟩
  | 91 => ⟨S4x2064x256, .f32⟩
  | 92 => ⟨S4x2064x256, .f32⟩
  | 93 => ⟨S_, .f32⟩
  | 94 => ⟨S256, .f32⟩
  | 95 => ⟨S4x2064x4x64, .f32⟩
  | 96 => ⟨S4x64x4x2064, .f32⟩
  | 97 => ⟨S4x4x2064x64, .f32⟩
  | 98 => ⟨S4x2064x4x64, .f32⟩
  | 99 => ⟨S4x64x64, .f32⟩
  | 100 => ⟨S4x64x64, .f32⟩
  | 101 => ⟨S4x2064x4x64, .f32⟩
  | 102 => ⟨S4x2064x4x64, .f32⟩
  | 103 => ⟨S4x2064x4x64, .f32⟩
  | 104 => ⟨S4x4x64x2064, .f32⟩
  | 105 => ⟨S4x4x64x2064, .f32⟩
  | 106 => ⟨S4x2064x4x64, .f32⟩
  | 107 => ⟨S4x2064x4x64, .f32⟩
  | 108 => ⟨S4x2064x256, .f32⟩
  | 109 => ⟨S4x2064x256, .f32⟩
  | 110 => ⟨S4x2064x256, .f32⟩
  | 111 => ⟨S4x2064x256, .f32⟩
  | 112 => ⟨S4x2064x256, .f32⟩
  | 113 => ⟨S4x2064x256, .f32⟩
  | 114 => ⟨S_, .f32⟩
  | 115 => ⟨S256, .f32⟩
  | 116 => ⟨S1x1x256, .f32⟩
  | 117 => ⟨S_, .f32⟩
  | 118 => ⟨S256, .f32⟩
  | 119 => ⟨S_, .f32⟩
  | 120 => ⟨S4x2066x256, .f32⟩
  | 121 => ⟨S1x256, .f32⟩
  | 122 => ⟨S_, .f32⟩
  | 123 => ⟨S3x256, .f32⟩
  | 124 => ⟨S4x2064x256, .f32⟩
  | 125 => ⟨S4x2064x256, .f32⟩
  | 126 => ⟨S4x2064x256, .f32⟩
  | 127 => ⟨S_, .f32⟩
  | _ => ⟨S4x2064x1024, .f32⟩

abbrev hbmTy0_1 (i : Nat) : BufTy := match i % 128 with
  | 0 => ⟨S256, .f32⟩
  | 1 => ⟨S1x1x256, .f32⟩
  | 2 => ⟨S_, .f32⟩
  | 3 => ⟨S256, .f32⟩
  | 4 => ⟨S_, .f32⟩
  | 5 => ⟨S4x2066x256, .f32⟩
  | 6 => ⟨S4x2066x256, .f32⟩
  | 7 => ⟨S1x256, .f32⟩
  | 8 => ⟨S_, .f32⟩
  | 9 => ⟨S3x256, .f32⟩
  | 10 => ⟨S3x256, .f32⟩
  | 11 => ⟨S4x2064x256, .f32⟩
  | 12 => ⟨S4x2064x256, .f32⟩
  | 13 => ⟨S4x2064x256, .f32⟩
  | 14 => ⟨S_, .f32⟩
  | 15 => ⟨S256, .f32⟩
  | 16 => ⟨S1x1x256, .f32⟩
  | 17 => ⟨S_, .f32⟩
  | 18 => ⟨S256, .f32⟩
  | 19 => ⟨S_, .f32⟩
  | 20 => ⟨S4x2066x256, .f32⟩
  | 21 => ⟨S4x2066x256, .f32⟩
  | 22 => ⟨S1x256, .f32⟩
  | 23 => ⟨S_, .f32⟩
  | 24 => ⟨S3x256, .f32⟩
  | 25 => ⟨S3x256, .f32⟩
  | 26 => ⟨S4x2x256, .f32⟩
  | 27 => ⟨S4x2064x256, .f32⟩
  | 28 => ⟨S4x2064x256, .f32⟩
  | 29 => ⟨S4x2064x256, .f32⟩
  | 30 => ⟨S4x2064x1024, .f32⟩
  | 31 => ⟨S4x2064x1024, .bf16⟩
  | _ => ⟨S4x2064x1024, .f32⟩

abbrev hbmTy (i : Nat) : BufTy := match i / 128 with
  | 0 => hbmTy0_0 i
  | 1 => hbmTy0_1 i
  | _ => ⟨S4x2064x1024, .f32⟩

abbrev bufTy : (tb : Table) → Fin (tcTables nBuf tb) → BufTy
  | .hbm, ⟨i, _⟩ => hbmTy i
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_1 : Ref sig .tc := ⟨.hbm, 57, rfl⟩
abbrev main_cst_2 : Ref sig .tc := ⟨.hbm, 58, rfl⟩
abbrev main_call0_v0 : Ref sig .tc := ⟨.hbm, 59, rfl⟩
abbrev main_call0_v1 : Ref sig .tc := ⟨.hbm, 60, rfl⟩
abbrev main_v49 : Ref sig .tc := ⟨.hbm, 61, rfl⟩
abbrev main_c_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_4 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_5 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_6 : Ref sig .tc := ⟨.hbm, 114, rfl⟩
abbrev main_v99 : Ref sig .tc := ⟨.hbm, 115, rfl⟩
abbrev main_v100 : Ref sig .tc := ⟨.hbm, 116, rfl⟩
abbrev main_cst_7 : Ref sig .tc := ⟨.hbm, 117, rfl⟩
abbrev main_v101 : Ref sig .tc := ⟨.hbm, 118, rfl⟩
abbrev main_cst_8 : Ref sig .tc := ⟨.hbm, 119, rfl⟩
abbrev main_v102 : Ref sig .tc := ⟨.hbm, 120, rfl⟩
abbrev main_v103 : Ref sig .tc := ⟨.hbm, 121, rfl⟩
abbrev main_cst_9 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_10 : Ref sig .tc := ⟨.hbm, 127, rfl⟩
abbrev main_v108 : Ref sig .tc := ⟨.hbm, 128, rfl⟩
abbrev main_v109 : Ref sig .tc := ⟨.hbm, 129, rfl⟩
abbrev main_cst_11 : Ref sig .tc := ⟨.hbm, 130, rfl⟩
abbrev main_v110 : Ref sig .tc := ⟨.hbm, 131, rfl⟩
abbrev main_cst_12 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_13 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_14 : Ref sig .tc := ⟨.hbm, 142, rfl⟩
abbrev main_v119 : Ref sig .tc := ⟨.hbm, 143, rfl⟩
abbrev main_v120 : Ref sig .tc := ⟨.hbm, 144, rfl⟩
abbrev main_cst_15 : Ref sig .tc := ⟨.hbm, 145, rfl⟩
abbrev main_v121 : Ref sig .tc := ⟨.hbm, 146, rfl⟩
abbrev main_cst_16 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_17 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩

abbrev nD : Nat := 1
abbrev τ : Topo := Topo.v7x

variable {F : FTy → Type} [FloatOps F]
-- ==== Kernel2.lean ====
abbrev S8704x4096 : Shape := ⟨2, ![8704, 4096]⟩
abbrev S2x4096x1024 : Shape := ⟨3, ![2, 4096, 1024]⟩
abbrev S8704x1024 : Shape := ⟨2, ![8704, 1024]⟩
abbrev S544x1024 : Shape := ⟨2, ![544, 1024]⟩
abbrev S544x4096 : Shape := ⟨2, ![544, 4096]⟩
abbrev S1x4096x1024 : Shape := ⟨3, ![1, 4096, 1024]⟩
abbrev S1x512x1024 : Shape := ⟨3, ![1, 512, 1024]⟩
abbrev S512x1024 : Shape := ⟨2, ![512, 1024]⟩
abbrev S544x512 : Shape := ⟨2, ![544, 512]⟩

abbrev nBuf : Space → Nat
  | .hbm => 6
  | .vmem => 7
  | .smem => 0
  | _ => 0

abbrev bufTy : (tb : Table) → Fin (tcTables nBuf tb) → BufTy
  | .hbm, ⟨0, _⟩ => ⟨S8704x4096, .f32⟩
  | .hbm, ⟨1, _⟩ => ⟨S2x4096x1024, .f32⟩
  | .hbm, ⟨2, _⟩ => ⟨S8704x1024, .f32⟩
  | .hbm, ⟨3, _⟩ => ⟨S8704x4096, .bf16⟩
  | .hbm, ⟨4, _⟩ => ⟨S2x4096x1024, .bf16⟩
  | .hbm, ⟨5, _⟩ => ⟨S8704x4096, .bf16⟩
  | .local _ .vmem, ⟨0, _⟩ => ⟨S544x1024, .f32⟩
  | .local _ .vmem, ⟨1, _⟩ => ⟨S544x1024, .f32⟩
  | .local _ .vmem, ⟨2, _⟩ => ⟨S544x4096, .bf16⟩
  | .local _ .vmem, ⟨3, _⟩ => ⟨S544x4096, .bf16⟩
  | .local _ .vmem, ⟨4, _⟩ => ⟨S1x4096x1024, .bf16⟩
  | .local _ .vmem, ⟨5, _⟩ => ⟨S544x4096, .bf16⟩
  | .local _ .vmem, ⟨6, _⟩ => ⟨S544x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8704x4096 : Shape := ⟨2, ![8704, 4096]⟩
abbrev S2x4096x1024 : Shape := ⟨3, ![2, 4096, 1024]⟩
abbrev S8704x1024 : Shape := ⟨2, ![8704, 1024]⟩
abbrev S_ : Shape := ⟨0, ![]⟩
abbrev S1x4096x1024 : Shape := ⟨3, ![1, 4096, 1024]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x4096x1024, .f32⟩
  | .hbm, ⟨2, _⟩ => ⟨S8704x1024, .f32⟩
  | .hbm, ⟨3, _⟩ => ⟨S_, .f32⟩
  | .hbm, ⟨4, _⟩ => ⟨S8704x4096, .f32⟩
  | .hbm, ⟨5, _⟩ => ⟨S8704x4096, .f32⟩
  | .hbm, ⟨6, _⟩ => ⟨S_, .f32⟩
  | .hbm, ⟨7, _⟩ => ⟨S8704x4096, .f32⟩
  | .hbm, ⟨8, _⟩ => ⟨S8704x4096, .i1⟩
  | .hbm, ⟨9, _⟩ => ⟨S_, .f32⟩
  | .hbm, ⟨10, _⟩ => ⟨S8704x4096, .f32⟩
  | .hbm, ⟨11, _⟩ => ⟨S8704x4096, .f32⟩
  | .hbm, ⟨12, _⟩ => ⟨S_, .f32⟩
  | .hbm, ⟨13, _⟩ => ⟨S8704x4096, .f32⟩
  | .hbm, ⟨14, _⟩ => ⟨S8704x4096, .f32⟩
  | .hbm, ⟨15, _⟩ => ⟨S1x4096x1024, .f32⟩
  | .hbm, ⟨16, _⟩ => ⟨S4096x1024, .f32⟩
  | .hbm, ⟨17, _⟩ => ⟨S8704x1024, .f32⟩
  | .hbm, ⟨18, _⟩ => ⟨S8704x4096, .f32⟩
  | .hbm, ⟨19, _⟩ => ⟨S8704x4096, .f32⟩
  | .hbm, ⟨20, _⟩ => ⟨S_, .f32⟩
  | .hbm, ⟨21, _⟩ => ⟨S8704x4096, .f32⟩
  | .hbm, ⟨22, _⟩ => ⟨S8704x4096, .f32⟩
  | .hbm, ⟨23, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8704x1024 : Shape := ⟨2, ![8704, 1024]⟩
abbrev S1024 : Shape := ⟨1, ![1024]⟩
abbrev S2x1024x4096 : Shape := ⟨3, ![2, 1024, 4096]⟩
abbrev S2x1024x1024 : Shape := ⟨3, ![2, 1024, 1024]⟩
abbrev S8704x4096 : Shape := ⟨2, ![8704, 4096]⟩
abbrev S1x1024 : Shape := ⟨2, ![1, 1024]⟩
abbrev S8x1024 : Shape := ⟨2, ![8, 1024]⟩
abbrev S544x4096 : Shape := ⟨2, ![544, 4096]⟩
abbrev S544x1024 : Shape := ⟨2, ![544, 1024]⟩
abbrev S1x1024x4096 : Shape := ⟨3, ![1, 1024, 4096]⟩
abbrev S1x1024x1024 : Shape := ⟨3, ![1, 1024, 1024]⟩
abbrev S1024x4096 : Shape := ⟨2, ![1024, 4096]⟩
abbrev S544 : Shape := ⟨1, ![544]⟩
abbrev S544x1 : Shape := ⟨2, ![544, 1]⟩
abbrev S68x8x1024 : Shape := ⟨3, ![68, 8, 1024]⟩
abbrev S1024x1024 : Shape := ⟨2, ![1024, 1024]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x4096, .f32⟩
  | .hbm, ⟨3, _⟩ => ⟨S2x1024x1024, .f32⟩
  | .hbm, ⟨4, _⟩ => ⟨S8704x4096, .f32⟩
  | .hbm, ⟨5, _⟩ => ⟨S8704x1024, .f32⟩
  | .hbm, ⟨6, _⟩ => ⟨S8704x4096, .bf16⟩
  | .hbm, ⟨7, _⟩ => ⟨S2x1024x4096, .bf16⟩
  | .hbm, ⟨8, _⟩ => ⟨S2x1024x1024, .bf16⟩
  | .hbm, ⟨9, _⟩ => ⟨S1x1024, .f32⟩
  | .hbm, ⟨10, _⟩ => ⟨S8704x1024, .f32⟩
  | .hbm, ⟨11, _⟩ => ⟨S8704x1024, .f32⟩
  | .hbm, ⟨12, _⟩ => ⟨S8x1024, .f32⟩
  | .hbm, ⟨13, _⟩ => ⟨S_, .f32⟩
  | .hbm, ⟨14, _⟩ => ⟨S1024, .f32⟩
  | .local _ .vmem, ⟨0, _⟩ => ⟨S544x4096, .bf16⟩
  | .local _ .vmem, ⟨1, _⟩ => ⟨S544x4096, .bf16⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S1x1024x4096, .bf16⟩
  | .local _ .vmem, ⟨8, _⟩ => ⟨S1x1024x1024, .bf16⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .f32⟩
  | .local _ .vmem, ⟨13, _⟩ => ⟨S8x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_cst : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8704x1024 : Shape := ⟨2, ![8704, 1024]⟩
abbrev S1024 : Shape := ⟨1, ![1024]⟩
abbrev S2x1024x4096 : Shape := ⟨3, ![2, 1024, 4096]⟩
abbrev S2x1024x1024 : Shape := ⟨3, ![2, 1024, 1024]⟩
abbrev S8704x4096 : Shape := ⟨2, ![8704, 4096]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S1x1024x4096 : Shape := ⟨3, ![1, 1024, 4096]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x4096, .f32⟩
  | .hbm, ⟨3, _⟩ => ⟨S2x1024x1024, .f32⟩
  | .hbm, ⟨4, _⟩ => ⟨S8704x4096, .f32⟩
  | .hbm, ⟨5, _⟩ => ⟨S8704x1024, .f32⟩
  | .hbm, ⟨6, _⟩ => ⟨S8704x1024, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S_, .f32⟩
  | .hbm, ⟨19, _⟩ => ⟨S8704x1, .f32⟩
  | .hbm, ⟨20, _⟩ => ⟨S8704x1, .f32⟩
  | .hbm, ⟨21, _⟩ => ⟨S8704x1024, .f32⟩
  | .hbm, ⟨22, _⟩ => ⟨S8704x1024, .f32⟩
  | .hbm, ⟨23, _⟩ => ⟨S1x1024, .f32⟩
  | .hbm, ⟨24, _⟩ => ⟨S8704x1024, .f32⟩
  | .hbm, ⟨25, _⟩ => ⟨S8704x1024, .f32⟩
  | .hbm, ⟨26, _⟩ => ⟨S1x1024x4096, .f32⟩
  | .hbm, ⟨27, _⟩ => ⟨S1024x4096, .f32⟩
  | .hbm, ⟨28, _⟩ => ⟨S8704x4096, .f32⟩
  | .hbm, ⟨29, _⟩ => ⟨S8704x1024, .f32⟩
  | .hbm, ⟨30, _⟩ => ⟨S8704x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8704x1024, .f32⟩
  | .hbm, ⟨35, _⟩ => ⟨S8704x1024, .f32⟩
  | .hbm, ⟨36, _⟩ => ⟨S_, .f32⟩
  | .hbm, ⟨37, _⟩ => ⟨S1024, .f32⟩
  | .hbm, ⟨38, _⟩ => ⟨S8704x1024, .f32⟩
  | .hbm, ⟨39, _⟩ => ⟨S_, .f32⟩
  | .hbm, ⟨40, _⟩ => ⟨S8704, .f32⟩
  | .hbm, ⟨41, _⟩ => ⟨S8704x1, .f32⟩
  | .hbm, ⟨42, _⟩ => ⟨S8704x1024, .f32⟩
  | .hbm, ⟨43, _⟩ => ⟨S8704x1024, .f32⟩
  | .hbm, ⟨44, _⟩ => ⟨S8704x1024, .f32⟩
  | .hbm, ⟨45, _⟩ => ⟨S8704x1, .f32⟩
  | .hbm, ⟨46, _⟩ => ⟨S_, .f32⟩
  | .hbm, ⟨47, _⟩ => ⟨S8704x1, .f32⟩
  | .hbm, ⟨48, _⟩ => ⟨S8704x1, .f32⟩
  | .hbm, ⟨49, _⟩ => ⟨S_, .f32⟩
  | .hbm, ⟨50, _⟩ => ⟨S8704, .f32⟩
  | .hbm, ⟨51, _⟩ => ⟨S8704x1024, .f32⟩
  | .hbm, ⟨52, _⟩ => ⟨S8704x1024, .f32⟩
  | .hbm, ⟨53, _⟩ => ⟨S8704x1024, .f32⟩
  | .hbm, ⟨54, _⟩ => ⟨S8704x1024, .f32⟩
  | .hbm, ⟨55, _⟩ => ⟨S8704x1024, .f32⟩
  | .hbm, ⟨56, _⟩ => ⟨S_, .f32⟩
  | .hbm, ⟨57, _⟩ => ⟨S8704x1024, .f32⟩
  | .hbm, ⟨58, _⟩ => ⟨S1x1024x1024, .f32⟩
  | .hbm, ⟨59, _⟩ => ⟨S1024x1024, .f32⟩
  | .hbm, ⟨60, _⟩ => ⟨S8704x1024, .f32⟩
  | .hbm, ⟨61, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel4.lean ====
abbrev S8704x1024 : Shape := ⟨2, ![8704, 1024]⟩
abbrev S1024 : Shape := ⟨1, ![1024]⟩
abbrev S2x1024x2560 : Shape := ⟨3, ![2, 1024, 2560]⟩
abbrev S8704x512 : Shape := ⟨2, ![8704, 512]⟩
abbrev S1x1024 : Shape := ⟨2, ![1, 1024]⟩
abbrev S8x1024 : Shape := ⟨2, ![8, 1024]⟩
abbrev S544x1024 : Shape := ⟨2, ![544, 1024]⟩
abbrev S544x512 : Shape := ⟨2, ![544, 512]⟩
abbrev S1x1024x2560 : Shape := ⟨3, ![1, 1024, 2560]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩
abbrev S544 : Shape := ⟨1, ![544]⟩
abbrev S544x1 : Shape := ⟨2, ![544, 1]⟩
abbrev S68x8x1024 : Shape := ⟨3, ![68, 8, 1024]⟩
abbrev S_ : Shape := ⟨0, ![]⟩

abbrev nBuf : Space → Nat
  | .hbm => 18
  | .vmem => 17
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x2560, .f32⟩
  | .hbm, ⟨3, _⟩ => ⟨S8704x1024, .f32⟩
  | .hbm, ⟨4, _⟩ => ⟨S8704x512, .f32⟩
  | .hbm, ⟨5, _⟩ => ⟨S8704x512, .f32⟩
  | .hbm, ⟨6, _⟩ => ⟨S8704x512, .f32⟩
  | .hbm, ⟨7, _⟩ => ⟨S8704x1024, .f32⟩
  | .hbm, ⟨8, _⟩ => ⟨S8704x1024, .bf16⟩
  | .hbm, ⟨9, _⟩ => ⟨S8704x512, .bf16⟩
  | .hbm, ⟨10, _⟩ => ⟨S8704x512, .bf16⟩
  | .hbm, ⟨11, _⟩ => ⟨S8704x512, .bf16⟩
  | .hbm, ⟨12, _⟩ => ⟨S2x1024x2560, .bf16⟩
  | .hbm, ⟨13, _⟩ => ⟨S1x1024, .f32⟩
  | .hbm, ⟨14, _⟩ => ⟨S8704x1024, .f32⟩
  | .hbm, ⟨15, _⟩ => ⟨S8x1024, .f32⟩
  | .hbm, ⟨16, _⟩ => ⟨S_, .f32⟩
  | .hbm, ⟨17, _⟩ => ⟨S1024, .f32⟩
  | .local _ .vmem, ⟨0, _⟩ => ⟨S544x1024, .bf16⟩
  | .local _ .vmem, ⟨1, _⟩ => ⟨S544x1024, .bf16⟩
  | .local _ .vmem, ⟨2, _⟩ => ⟨S544x512, .bf16⟩
  | .local _ .vmem, ⟨3, _⟩ => ⟨S544x512, .bf16⟩
  | .local _ .vmem, ⟨4, _⟩ => ⟨S544x512, .bf16⟩
  | .local _ .vmem, ⟨5, _⟩ => ⟨S544x512, .bf16⟩
  | .local _ .vmem, ⟨6, _⟩ => ⟨S544x512, .bf16⟩
  | .local _ .vmem, ⟨7, _⟩ => ⟨S544x512, .bf16⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S1x1024, .f32⟩
  | .local _ .vmem, ⟨13, _⟩ => ⟨S1x1024x2560, .bf16⟩
  | .local _ .vmem, ⟨14, _⟩ => ⟨S544x1024, .f32⟩
  | .local _ .vmem, ⟨15, _⟩ => ⟨S544x1024, .f32⟩
  | .local _ .vmem, ⟨16, _⟩ => ⟨S8x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_cst : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8704x1024 : Shape := ⟨2, ![8704, 1024]⟩
abbrev S1024 : Shape := ⟨1, ![1024]⟩
abbrev S2x1024x2560 : Shape := ⟨3, ![2, 1024, 2560]⟩
abbrev S8704x512 : Shape := ⟨2, ![8704, 512]⟩
abbrev S8704x2560 : Shape := ⟨2, ![8704, 2560]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S1x1024x2560 : Shape := ⟨3, ![1, 1024, 2560]⟩
abbrev S1024x2560 : Shape := ⟨2, ![1024, 2560]⟩

abbrev nBuf : Space → Nat
  | .hbm => 59
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x2560, .f32⟩
  | .hbm, ⟨3, _⟩ => ⟨S8704x1024, .f32⟩
  | .hbm, ⟨4, _⟩ => ⟨S8704x512, .f32⟩
  | .hbm, ⟨5, _⟩ => ⟨S8704x512, .f32⟩
  | .hbm, ⟨6, _⟩ => ⟨S8704x512, .f32⟩
  | .hbm, ⟨7, _⟩ => ⟨S8704x1024, .f32⟩
  | .hbm, ⟨8, _⟩ => ⟨S8704x2560, .f32⟩
  | .hbm, ⟨9, _⟩ => ⟨S8704x1024, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x1, .f32⟩
  | .hbm, ⟨21, _⟩ => ⟨S_, .f32⟩
  | .hbm, ⟨22, _⟩ => ⟨S8704x1, .f32⟩
  | .hbm, ⟨23, _⟩ => ⟨S8704x1, .f32⟩
  | .hbm, ⟨24, _⟩ => ⟨S8704x1024, .f32⟩
  | .hbm, ⟨25, _⟩ => ⟨S8704x1024, .f32⟩
  | .hbm, ⟨26, _⟩ => ⟨S1x1024, .f32⟩
  | .hbm, ⟨27, _⟩ => ⟨S8704x1024, .f32⟩
  | .hbm, ⟨28, _⟩ => ⟨S8704x1024, .f32⟩
  | .hbm, ⟨29, _⟩ => ⟨S1x1024x2560, .f32⟩
  | .hbm, ⟨30, _⟩ => ⟨S1024x2560, .f32⟩
  | .hbm, ⟨31, _⟩ => ⟨S8704x2560, .f32⟩
  | .hbm, ⟨32, _⟩ => ⟨S8704x1024, .f32⟩
  | .hbm, ⟨33, _⟩ => ⟨S8704x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8704x1024, .f32⟩
  | .hbm, ⟨38, _⟩ => ⟨S8704x1024, .f32⟩
  | .hbm, ⟨39, _⟩ => ⟨S_, .f32⟩
  | .hbm, ⟨40, _⟩ => ⟨S1024, .f32⟩
  | .hbm, ⟨41, _⟩ => ⟨S8704x1024, .f32⟩
  | .hbm, ⟨42, _⟩ => ⟨S_, .f32⟩
  | .hbm, ⟨43, _⟩ => ⟨S8704, .f32⟩
  | .hbm, ⟨44, _⟩ => ⟨S8704x1, .f32⟩
  | .hbm, ⟨45, _⟩ => ⟨S8704x1024, .f32⟩
  | .hbm, ⟨46, _⟩ => ⟨S8704x1024, .f32⟩
  | .hbm, ⟨47, _⟩ => ⟨S8704x1024, .f32⟩
  | .hbm, ⟨48, _⟩ => ⟨S8704x1, .f32⟩
  | .hbm, ⟨49, _⟩ => ⟨S_, .f32⟩
  | .hbm, ⟨50, _⟩ => ⟨S8704x1, .f32⟩
  | .hbm, ⟨51, _⟩ => ⟨S8704x1, .f32⟩
  | .hbm, ⟨52, _⟩ => ⟨S_, .f32⟩
  | .hbm, ⟨53, _⟩ => ⟨S8704, .f32⟩
  | .hbm, ⟨54, _⟩ => ⟨S8704x1024, .f32⟩
  | .hbm, ⟨55, _⟩ => ⟨S8704x1024, .f32⟩
  | .hbm, ⟨56, _⟩ => ⟨S8704x1024, .f32⟩
  | .hbm, ⟨57, _⟩ => ⟨S8704x1024, .f32⟩
  | .hbm, ⟨58, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel5.lean ====
abbrev S8704x4096 : Shape := ⟨2, ![8704, 4096]⟩
abbrev S8704x1024 : Shape := ⟨2, ![8704, 1024]⟩
abbrev S_ : Shape := ⟨0, ![]⟩
abbrev S2x4096x1024 : Shape := ⟨3, ![2, 4096, 1024]⟩
abbrev S2176x1024 : Shape := ⟨2, ![2176, 1024]⟩
abbrev S1x1024x1024 : Shape := ⟨3, ![1, 1024, 1024]⟩
abbrev S1024x1024 : Shape := ⟨2, ![1024, 1024]⟩
abbrev S1x4096x1024 : Shape := ⟨3, ![1, 4096, 1024]⟩
abbrev S4096x1024 : Shape := ⟨2, ![4096, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S8704x1024, .f32⟩
  | .hbm, ⟨2, _⟩ => ⟨S_, .f32⟩
  | .hbm, ⟨3, _⟩ => ⟨S8704x4096, .f32⟩
  | .hbm, ⟨4, _⟩ => ⟨S8704x4096, .f32⟩
  | .hbm, ⟨5, _⟩ => ⟨S8704x4096, .f32⟩
  | .hbm, ⟨6, _⟩ => ⟨S8704x4096, .bf16⟩
  | .hbm, ⟨7, _⟩ => ⟨S2x4096x1024, .f32⟩
  | .hbm, ⟨8, _⟩ => ⟨S1x4096x1024, .f32⟩
  | .hbm, ⟨9, _⟩ => ⟨S4096x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .f32⟩
  | .local _ .vmem, ⟨3, _⟩ => ⟨S2176x1024, .f32⟩
  | .local _ .vmem, ⟨4, _⟩ => ⟨S1x1024x1024, .f32⟩
  | .local _ .vmem, ⟨5, _⟩ => ⟨S1x1024x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c1_i32 : BitVec 32 := 1#32
  let c0_i32_1 : BitVec 32 := 0#32
  ![c1_i32.toNat, v0.toNat, v1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8704x4096 : Shape := ⟨2, ![8704, 4096]⟩
abbrev S8704x1024 : Shape := ⟨2, ![8704, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8704x4096, .f32⟩
  | .hbm, ⟨6, _⟩ => ⟨S8704x4096, .f32⟩
  | .hbm, ⟨7, _⟩ => ⟨S8704x4096, .f32⟩
  | .hbm, ⟨8, _⟩ => ⟨S8704x1024, .f32⟩
  | .hbm, ⟨9, _⟩ => ⟨S1024x4096, .f32⟩
  | .hbm, ⟨10, _⟩ => ⟨S4096x1024, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel6.lean ====
abbrev S8704x1024 : Shape := ⟨2, ![8704, 1024]⟩
abbrev S1024 : Shape := ⟨1, ![1024]⟩
abbrev S8704x4096 : Shape := ⟨2, ![8704, 4096]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S2x1024x4096 : Shape := ⟨3, ![2, 1024, 4096]⟩
abbrev S2176x1024 : Shape := ⟨2, ![2176, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩

abbrev nBuf : Space → Nat
  | .hbm => 24
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S8704x4096, .f32⟩
  | .hbm, ⟨3, _⟩ => ⟨S8704x1024, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x1024, .f32⟩
  | .hbm, ⟨15, _⟩ => ⟨S8704x1024, .f32⟩
  | .hbm, ⟨16, _⟩ => ⟨S1x1024, .f32⟩
  | .hbm, ⟨17, _⟩ => ⟨S8704x1024, .f32⟩
  | .hbm, ⟨18, _⟩ => ⟨S8704x1024, .f32⟩
  | .hbm, ⟨19, _⟩ => ⟨S8704x1024, .bf16⟩
  | .hbm, ⟨20, _⟩ => ⟨S8704x4096, .bf16⟩
  | .hbm, ⟨21, _⟩ => ⟨S2x1024x4096, .f32⟩
  | .hbm, ⟨22, _⟩ => ⟨S1x1024x4096, .f32⟩
  | .hbm, ⟨23, _⟩ => ⟨S1024x4096, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .f32⟩
  | .local _ .vmem, ⟨5, _⟩ => ⟨S1x1024x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c1_i32 : BitVec 32 := 1#32
  let c0_i32_1 : BitVec 32 := 0#32
  ![c1_i32.toNat, v0.toNat, v1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8704x1024 : Shape := ⟨2, ![8704, 1024]⟩
abbrev S1024 : Shape := ⟨1, ![1024]⟩
abbrev S8704x4096 : Shape := ⟨2, ![8704, 4096]⟩
abbrev S_ : Shape := ⟨0, ![]⟩
abbrev S1024x4096 : Shape := ⟨2, ![1024, 4096]⟩
abbrev S8704 : Shape := ⟨1, ![8704]⟩
abbrev S8704x1 : Shape := ⟨2, ![8704, 1]⟩
abbrev S1x1024 : Shape := ⟨2, ![1, 1024]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S8704x4096, .f32⟩
  | .hbm, ⟨3, _⟩ => ⟨S_, .f32⟩
  | .hbm, ⟨4, _⟩ => ⟨S1024x4096, .f32⟩
  | .hbm, ⟨5, _⟩ => ⟨S8704x1024, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x1024, .f32⟩
  | .hbm, ⟨17, _⟩ => ⟨S8704x1024, .f32⟩
  | .hbm, ⟨18, _⟩ => ⟨S1x1024, .f32⟩
  | .hbm, ⟨19, _⟩ => ⟨S8704x1024, .f32⟩
  | .hbm, ⟨20, _⟩ => ⟨S8704x1024, .f32⟩
  | .hbm, ⟨21, _⟩ => ⟨S8704x4096, .f32⟩
  | .hbm, ⟨22, _⟩ => ⟨S4096x1024, .f32⟩
  | .hbm, ⟨23, _⟩ => ⟨S1024x4096, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S8704x512 : Shape := ⟨2, ![8704, 512]⟩
abbrev S8704x1024 : Shape := ⟨2, ![8704, 1024]⟩
abbrev S2x1024x1024 : Shape := ⟨3, ![2, 1024, 1024]⟩
abbrev S1088x512 : Shape := ⟨2, ![1088, 512]⟩
abbrev S1088x1024 : Shape := ⟨2, ![1088, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8704x512, .f32⟩
  | .hbm, ⟨1, _⟩ => ⟨S8704x512, .f32⟩
  | .hbm, ⟨2, _⟩ => ⟨S8704x1024, .f32⟩
  | .hbm, ⟨3, _⟩ => ⟨S8704x512, .bf16⟩
  | .hbm, ⟨4, _⟩ => ⟨S8704x512, .bf16⟩
  | .hbm, ⟨5, _⟩ => ⟨S2x1024x1024, .f32⟩
  | .hbm, ⟨6, _⟩ => ⟨S1x1024x1024, .f32⟩
  | .hbm, ⟨7, _⟩ => ⟨S1024x1024, .f32⟩
  | .local _ .vmem, ⟨0, _⟩ => ⟨S1088x512, .bf16⟩
  | .local _ .vmem, ⟨1, _⟩ => ⟨S1088x512, .bf16⟩
  | .local _ .vmem, ⟨2, _⟩ => ⟨S1088x512, .bf16⟩
  | .local _ .vmem, ⟨3, _⟩ => ⟨S1088x512, .bf16⟩
  | .local _ .vmem, ⟨4, _⟩ => ⟨S1088x1024, .f32⟩
  | .local _ .vmem, ⟨5, _⟩ => ⟨S1088x1024, .f32⟩
  | .local _ .vmem, ⟨6, _⟩ => ⟨S1x1024x1024, .f32⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S8704x512 : Shape := ⟨2, ![8704, 512]⟩
abbrev S8704x1024 : Shape := ⟨2, ![8704, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x512, .f32⟩
  | .hbm, ⟨1, _⟩ => ⟨S8704x512, .f32⟩
  | .hbm, ⟨2, _⟩ => ⟨S8704x1024, .f32⟩
  | .hbm, ⟨3, _⟩ => ⟨S_, .f32⟩
  | .hbm, ⟨4, _⟩ => ⟨S1024x1024, .f32⟩
  | .hbm, ⟨5, _⟩ => ⟨S8704x1024, .f32⟩
  | .hbm, ⟨6, _⟩ => ⟨S8704x1024, .f32⟩
  | .hbm, ⟨7, _⟩ => ⟨S1024x1024, .f32⟩
  | .hbm, ⟨8, _⟩ => ⟨S1024x1024, .f32⟩
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8704x1024 : Shape := ⟨2, ![8704, 1024]⟩
abbrev S1024 : Shape := ⟨1, ![1024]⟩
abbrev S8704x512 : Shape := ⟨2, ![8704, 512]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S2x1024x2560 : Shape := ⟨3, ![2, 1024, 2560]⟩
abbrev S1088x1024 : Shape := ⟨2, ![1088, 1024]⟩
abbrev S1088x512 : Shape := ⟨2, ![1088, 512]⟩
abbrev S1x1024x2560 : Shape := ⟨3, ![1, 1024, 2560]⟩
abbrev S1024x2560 : Shape := ⟨2, ![1024, 2560]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 30
  | .vmem => 11
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S8704x1024, .f32⟩
  | .hbm, ⟨3, _⟩ => ⟨S8704x512, .f32⟩
  | .hbm, ⟨4, _⟩ => ⟨S8704x512, .f32⟩
  | .hbm, ⟨5, _⟩ => ⟨S8704x512, .f32⟩
  | .hbm, ⟨6, _⟩ => ⟨S8704x1024, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x1024, .f32⟩
  | .hbm, ⟨18, _⟩ => ⟨S8704x1024, .f32⟩
  | .hbm, ⟨19, _⟩ => ⟨S1x1024, .f32⟩
  | .hbm, ⟨20, _⟩ => ⟨S8704x1024, .f32⟩
  | .hbm, ⟨21, _⟩ => ⟨S8704x1024, .f32⟩
  | .hbm, ⟨22, _⟩ => ⟨S8704x1024, .bf16⟩
  | .hbm, ⟨23, _⟩ => ⟨S8704x1024, .bf16⟩
  | .hbm, ⟨24, _⟩ => ⟨S8704x512, .bf16⟩
  | .hbm, ⟨25, _⟩ => ⟨S8704x512, .bf16⟩
  | .hbm, ⟨26, _⟩ => ⟨S8704x512, .bf16⟩
  | .hbm, ⟨27, _⟩ => ⟨S2x1024x2560, .f32⟩
  | .hbm, ⟨28, _⟩ => ⟨S1x1024x2560, .f32⟩
  | .hbm, ⟨29, _⟩ => ⟨S1024x2560, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1088x512, .bf16⟩
  | .local _ .vmem, ⟨5, _⟩ => ⟨S1088x512, .bf16⟩
  | .local _ .vmem, ⟨6, _⟩ => ⟨S1088x512, .bf16⟩
  | .local _ .vmem, ⟨7, _⟩ => ⟨S1088x512, .bf16⟩
  | .local _ .vmem, ⟨8, _⟩ => ⟨S1088x512, .bf16⟩
  | .local _ .vmem, ⟨9, _⟩ => ⟨S1088x512, .bf16⟩
  | .local _ .vmem, ⟨10, _⟩ => ⟨S1x1024x2560, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S8704x1024 : Shape := ⟨2, ![8704, 1024]⟩
abbrev S1024 : Shape := ⟨1, ![1024]⟩
abbrev S8704x512 : Shape := ⟨2, ![8704, 512]⟩
abbrev S8704x2560 : Shape := ⟨2, ![8704, 2560]⟩
abbrev S_ : Shape := ⟨0, ![]⟩
abbrev S1024x2560 : Shape := ⟨2, ![1024, 2560]⟩
abbrev S8704 : Shape := ⟨1, ![8704]⟩
abbrev S8704x1 : Shape := ⟨2, ![8704, 1]⟩
abbrev S1x1024 : Shape := ⟨2, ![1, 1024]⟩
abbrev S2560x1024 : Shape := ⟨2, ![2560, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S8704x1024, .f32⟩
  | .hbm, ⟨3, _⟩ => ⟨S8704x512, .f32⟩
  | .hbm, ⟨4, _⟩ => ⟨S8704x512, .f32⟩
  | .hbm, ⟨5, _⟩ => ⟨S8704x512, .f32⟩
  | .hbm, ⟨6, _⟩ => ⟨S8704x2560, .f32⟩
  | .hbm, ⟨7, _⟩ => ⟨S_, .f32⟩
  | .hbm, ⟨8, _⟩ => ⟨S1024x2560, .f32⟩
  | .hbm, ⟨9, _⟩ => ⟨S8704x1024, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x1024, .f32⟩
  | .hbm, ⟨21, _⟩ => ⟨S8704x1024, .f32⟩
  | .hbm, ⟨22, _⟩ => ⟨S1x1024, .f32⟩
  | .hbm, ⟨23, _⟩ => ⟨S8704x1024, .f32⟩
  | .hbm, ⟨24, _⟩ => ⟨S8704x1024, .f32⟩
  | .hbm, ⟨25, _⟩ => ⟨S8704x2560, .f32⟩
  | .hbm, ⟨26, _⟩ => ⟨S2560x1024, .f32⟩
  | .hbm, ⟨27, _⟩ => ⟨S1024x2560, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel9.lean ====
abbrev S8704x1024 : Shape := ⟨2, ![8704, 1024]⟩
abbrev S1024 : Shape := ⟨1, ![1024]⟩
abbrev S2x1024x2560 : Shape := ⟨3, ![2, 1024, 2560]⟩
abbrev S1x1024 : Shape := ⟨2, ![1, 1024]⟩
abbrev S8704x1536 : Shape := ⟨2, ![8704, 1536]⟩
abbrev S544x1024 : Shape := ⟨2, ![544, 1024]⟩
abbrev S1x1024x2560 : Shape := ⟨3, ![1, 1024, 2560]⟩
abbrev S544x1536 : Shape := ⟨2, ![544, 1536]⟩
abbrev S544 : Shape := ⟨1, ![544]⟩
abbrev S544x1 : Shape := ⟨2, ![544, 1]⟩
abbrev S1x1024x512 : Shape := ⟨3, ![1, 1024, 512]⟩
abbrev S1024x512 : Shape := ⟨2, ![1024, 512]⟩
abbrev S544x512 : Shape := ⟨2, ![544, 512]⟩

abbrev nBuf : Space → Nat
  | .hbm => 8
  | .vmem => 10
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x2560, .f32⟩
  | .hbm, ⟨3, _⟩ => ⟨S2x1024x2560, .bf16⟩
  | .hbm, ⟨4, _⟩ => ⟨S1x1024, .f32⟩
  | .hbm, ⟨5, _⟩ => ⟨S8704x1024, .bf16⟩
  | .hbm, ⟨6, _⟩ => ⟨S8704x1024, .f32⟩
  | .hbm, ⟨7, _⟩ => ⟨S8704x1536, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S1x1024x2560, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .f32⟩
  | .local _ .vmem, ⟨7, _⟩ => ⟨S544x1024, .f32⟩
  | .local _ .vmem, ⟨8, _⟩ => ⟨S544x1536, .bf16⟩
  | .local _ .vmem, ⟨9, _⟩ => ⟨S544x1536, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8704x1024 : Shape := ⟨2, ![8704, 1024]⟩
abbrev S1024 : Shape := ⟨1, ![1024]⟩
abbrev S2x1024x2560 : Shape := ⟨3, ![2, 1024, 2560]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S1x1024x2560 : Shape := ⟨3, ![1, 1024, 2560]⟩
abbrev S1024x2560 : Shape := ⟨2, ![1024, 2560]⟩
abbrev S8704x2560 : Shape := ⟨2, ![8704, 2560]⟩
abbrev S8704x1536 : Shape := ⟨2, ![8704, 1536]⟩

abbrev nBuf : Space → Nat
  | .hbm => 26
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x2560, .f32⟩
  | .hbm, ⟨3, _⟩ => ⟨S8704x1024, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x1024, .f32⟩
  | .hbm, ⟨15, _⟩ => ⟨S8704x1024, .f32⟩
  | .hbm, ⟨16, _⟩ => ⟨S1x1024, .f32⟩
  | .hbm, ⟨17, _⟩ => ⟨S8704x1024, .f32⟩
  | .hbm, ⟨18, _⟩ => ⟨S8704x1024, .f32⟩
  | .hbm, ⟨19, _⟩ => ⟨S1x1024x2560, .f32⟩
  | .hbm, ⟨20, _⟩ => ⟨S1024x2560, .f32⟩
  | .hbm, ⟨21, _⟩ => ⟨S8704x2560, .f32⟩
  | .hbm, ⟨22, _⟩ => ⟨S8704x1024, .bf16⟩
  | .hbm, ⟨23, _⟩ => ⟨S8704x1024, .f32⟩
  | .hbm, ⟨24, _⟩ => ⟨S8704x1536, .f32⟩
  | .hbm, ⟨25, _⟩ => ⟨S8704x1536, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel10.lean ====
abbrev S8704x512 : Shape := ⟨2, ![8704, 512]⟩
abbrev S8704x1024 : Shape := ⟨2, ![8704, 1024]⟩
abbrev S2x1024x1024 : Shape := ⟨3, ![2, 1024, 1024]⟩
abbrev S544x512 : Shape := ⟨2, ![544, 512]⟩
abbrev S544x1024 : Shape := ⟨2, ![544, 1024]⟩
abbrev S1x1024x1024 : Shape := ⟨3, ![1, 1024, 1024]⟩
abbrev S1x512x512 : Shape := ⟨3, ![1, 512, 512]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S8704x512, .f32⟩
  | .hbm, ⟨1, _⟩ => ⟨S8704x512, .f32⟩
  | .hbm, ⟨2, _⟩ => ⟨S8704x1024, .f32⟩
  | .hbm, ⟨3, _⟩ => ⟨S2x1024x1024, .f32⟩
  | .hbm, ⟨4, _⟩ => ⟨S8704x512, .bf16⟩
  | .hbm, ⟨5, _⟩ => ⟨S8704x512, .bf16⟩
  | .hbm, ⟨6, _⟩ => ⟨S2x1024x1024, .bf16⟩
  | .hbm, ⟨7, _⟩ => ⟨S8704x1024, .f32⟩
  | .local _ .vmem, ⟨0, _⟩ => ⟨S544x512, .bf16⟩
  | .local _ .vmem, ⟨1, _⟩ => ⟨S544x512, .bf16⟩
  | .local _ .vmem, ⟨2, _⟩ => ⟨S544x512, .bf16⟩
  | .local _ .vmem, ⟨3, _⟩ => ⟨S544x512, .bf16⟩
  | .local _ .vmem, ⟨4, _⟩ => ⟨S544x1024, .f32⟩
  | .local _ .vmem, ⟨5, _⟩ => ⟨S544x1024, .f32⟩
  | .local _ .vmem, ⟨6, _⟩ => ⟨S1x1024x1024, .bf16⟩
  | .local _ .vmem, ⟨7, _⟩ => ⟨S544x1024, .f32⟩
  | .local _ .vmem, ⟨8, _⟩ => ⟨S544x1024, .f32⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8704x512 : Shape := ⟨2, ![8704, 512]⟩
abbrev S8704x1024 : Shape := ⟨2, ![8704, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x512, .f32⟩
  | .hbm, ⟨1, _⟩ => ⟨S8704x512, .f32⟩
  | .hbm, ⟨2, _⟩ => ⟨S8704x1024, .f32⟩
  | .hbm, ⟨3, _⟩ => ⟨S2x1024x1024, .f32⟩
  | .hbm, ⟨4, _⟩ => ⟨S8704x1024, .f32⟩
  | .hbm, ⟨5, _⟩ => ⟨S1x1024x1024, .f32⟩
  | .hbm, ⟨6, _⟩ => ⟨S1024x1024, .f32⟩
  | .hbm, ⟨7, _⟩ => ⟨S8704x1024, .f32⟩
  | .hbm, ⟨8, _⟩ => ⟨S8704x1024, .f32⟩
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S8704x1024 : Shape := ⟨2, ![8704, 1024]⟩
abbrev S1024 : Shape := ⟨1, ![1024]⟩
abbrev S2x1024x4096 : Shape := ⟨3, ![2, 1024, 4096]⟩
abbrev S1x1024 : Shape := ⟨2, ![1, 1024]⟩
abbrev S8704x4096 : Shape := ⟨2, ![8704, 4096]⟩
abbrev S544x1024 : Shape := ⟨2, ![544, 1024]⟩
abbrev S1x1024x4096 : Shape := ⟨3, ![1, 1024, 4096]⟩
abbrev S544x4096 : Shape := ⟨2, ![544, 4096]⟩
abbrev S544 : Shape := ⟨1, ![544]⟩
abbrev S544x1 : Shape := ⟨2, ![544, 1]⟩
abbrev S1x1024x512 : Shape := ⟨3, ![1, 1024, 512]⟩
abbrev S1024x512 : Shape := ⟨2, ![1024, 512]⟩
abbrev S544x512 : Shape := ⟨2, ![544, 512]⟩

abbrev nBuf : Space → Nat
  | .hbm => 8
  | .vmem => 10
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x4096, .f32⟩
  | .hbm, ⟨3, _⟩ => ⟨S2x1024x4096, .bf16⟩
  | .hbm, ⟨4, _⟩ => ⟨S1x1024, .f32⟩
  | .hbm, ⟨5, _⟩ => ⟨S8704x1024, .bf16⟩
  | .hbm, ⟨6, _⟩ => ⟨S8704x4096, .bf16⟩
  | .hbm, ⟨7, _⟩ => ⟨S8704x4096, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S1x1024x4096, .bf16⟩
  | .local _ .vmem, ⟨4, _⟩ => ⟨S544x1024, .bf16⟩
  | .local _ .vmem, ⟨5, _⟩ => ⟨S544x1024, .bf16⟩
  | .local _ .vmem, ⟨6, _⟩ => ⟨S544x4096, .bf16⟩
  | .local _ .vmem, ⟨7, _⟩ => ⟨S544x4096, .bf16⟩
  | .local _ .vmem, ⟨8, _⟩ => ⟨S544x4096, .bf16⟩
  | .local _ .vmem, ⟨9, _⟩ => ⟨S544x4096, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8704x1024 : Shape := ⟨2, ![8704, 1024]⟩
abbrev S1024 : Shape := ⟨1, ![1024]⟩
abbrev S2x1024x4096 : Shape := ⟨3, ![2, 1024, 4096]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S1x1024x4096 : Shape := ⟨3, ![1, 1024, 4096]⟩
abbrev S1024x4096 : Shape := ⟨2, ![1024, 4096]⟩
abbrev S8704x4096 : Shape := ⟨2, ![8704, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x4096, .f32⟩
  | .hbm, ⟨3, _⟩ => ⟨S8704x1024, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x1024, .f32⟩
  | .hbm, ⟨15, _⟩ => ⟨S8704x1024, .f32⟩
  | .hbm, ⟨16, _⟩ => ⟨S1x1024, .f32⟩
  | .hbm, ⟨17, _⟩ => ⟨S8704x1024, .f32⟩
  | .hbm, ⟨18, _⟩ => ⟨S8704x1024, .f32⟩
  | .hbm, ⟨19, _⟩ => ⟨S1x1024x4096, .f32⟩
  | .hbm, ⟨20, _⟩ => ⟨S1024x4096, .f32⟩
  | .hbm, ⟨21, _⟩ => ⟨S8704x4096, .f32⟩
  | .hbm, ⟨22, _⟩ => ⟨S8704x1024, .bf16⟩
  | .hbm, ⟨23, _⟩ => ⟨S8704x4096, .bf16⟩
  | .hbm, ⟨24, _⟩ => ⟨S_, .f32⟩
  | .hbm, ⟨25, _⟩ => ⟨S8704x4096, .f32⟩
  | .hbm, ⟨26, _⟩ => ⟨S8704x4096, .f32⟩
  | .hbm, ⟨27, _⟩ => ⟨S8704x4096, .f32⟩
  | .hbm, ⟨28, _⟩ => ⟨S8704x4096, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel12.lean ====
abbrev S8704x1024 : Shape := ⟨2, ![8704, 1024]⟩
abbrev S1024 : Shape := ⟨1, ![1024]⟩
abbrev S2x1024x2560 : Shape := ⟨3, ![2, 1024, 2560]⟩
abbrev S1x1024 : Shape := ⟨2, ![1, 1024]⟩
abbrev S8704x1536 : Shape := ⟨2, ![8704, 1536]⟩
abbrev S544x1024 : Shape := ⟨2, ![544, 1024]⟩
abbrev S1x1024x2560 : Shape := ⟨3, ![1, 1024, 2560]⟩
abbrev S544x1536 : Shape := ⟨2, ![544, 1536]⟩
abbrev S544 : Shape := ⟨1, ![544]⟩
abbrev S544x1 : Shape := ⟨2, ![544, 1]⟩
abbrev S1x1024x512 : Shape := ⟨3, ![1, 1024, 512]⟩
abbrev S1024x512 : Shape := ⟨2, ![1024, 512]⟩
abbrev S544x512 : Shape := ⟨2, ![544, 512]⟩

abbrev nBuf : Space → Nat
  | .hbm => 8
  | .vmem => 10
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x2560, .f32⟩
  | .hbm, ⟨3, _⟩ => ⟨S2x1024x2560, .bf16⟩
  | .hbm, ⟨4, _⟩ => ⟨S1x1024, .f32⟩
  | .hbm, ⟨5, _⟩ => ⟨S8704x1024, .bf16⟩
  | .hbm, ⟨6, _⟩ => ⟨S8704x1024, .f32⟩
  | .hbm, ⟨7, _⟩ => ⟨S8704x1536, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S1x1024x2560, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .f32⟩
  | .local _ .vmem, ⟨7, _⟩ => ⟨S544x1024, .f32⟩
  | .local _ .vmem, ⟨8, _⟩ => ⟨S544x1536, .bf16⟩
  | .local _ .vmem, ⟨9, _⟩ => ⟨S544x1536, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S8704x1024 : Shape := ⟨2, ![8704, 1024]⟩
abbrev S1024 : Shape := ⟨1, ![1024]⟩
abbrev S2x1024x2560 : Shape := ⟨3, ![2, 1024, 2560]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S1x1024x2560 : Shape := ⟨3, ![1, 1024, 2560]⟩
abbrev S1024x2560 : Shape := ⟨2, ![1024, 2560]⟩
abbrev S8704x2560 : Shape := ⟨2, ![8704, 2560]⟩
abbrev S8704x1536 : Shape := ⟨2, ![8704, 1536]⟩

abbrev nBuf : Space → Nat
  | .hbm => 26
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S2x1024x2560, .f32⟩
  | .hbm, ⟨3, _⟩ => ⟨S8704x1024, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x1024, .f32⟩
  | .hbm, ⟨15, _⟩ => ⟨S8704x1024, .f32⟩
  | .hbm, ⟨16, _⟩ => ⟨S1x1024, .f32⟩
  | .hbm, ⟨17, _⟩ => ⟨S8704x1024, .f32⟩
  | .hbm, ⟨18, _⟩ => ⟨S8704x1024, .f32⟩
  | .hbm, ⟨19, _⟩ => ⟨S1x1024x2560, .f32⟩
  | .hbm, ⟨20, _⟩ => ⟨S1024x2560, .f32⟩
  | .hbm, ⟨21, _⟩ => ⟨S8704x2560, .f32⟩
  | .hbm, ⟨22, _⟩ => ⟨S8704x1024, .bf16⟩
  | .hbm, ⟨23, _⟩ => ⟨S8704x1024, .f32⟩
  | .hbm, ⟨24, _⟩ => ⟨S8704x1536, .f32⟩
  | .hbm, ⟨25, _⟩ => ⟨S8704x1536, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel13.lean ====
abbrev S8704x512 : Shape := ⟨2, ![8704, 512]⟩
abbrev S8704x1024 : Shape := ⟨2, ![8704, 1024]⟩
abbrev S2x1024x1024 : Shape := ⟨3, ![2, 1024, 1024]⟩
abbrev S544x512 : Shape := ⟨2, ![544, 512]⟩
abbrev S544x1024 : Shape := ⟨2, ![544, 1024]⟩
abbrev S1x1024x1024 : Shape := ⟨3, ![1, 1024, 1024]⟩
abbrev S1x512x512 : Shape := ⟨3, ![1, 512, 512]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S8704x512, .f32⟩
  | .hbm, ⟨1, _⟩ => ⟨S8704x512, .f32⟩
  | .hbm, ⟨2, _⟩ => ⟨S8704x1024, .f32⟩
  | .hbm, ⟨3, _⟩ => ⟨S2x1024x1024, .f32⟩
  | .hbm, ⟨4, _⟩ => ⟨S8704x512, .bf16⟩
  | .hbm, ⟨5, _⟩ => ⟨S8704x512, .bf16⟩
  | .hbm, ⟨6, _⟩ => ⟨S2x1024x1024, .bf16⟩
  | .hbm, ⟨7, _⟩ => ⟨S8704x1024, .f32⟩
  | .local _ .vmem, ⟨0, _⟩ => ⟨S544x512, .bf16⟩
  | .local _ .vmem, ⟨1, _⟩ => ⟨S544x512, .bf16⟩
  | .local _ .vmem, ⟨2, _⟩ => ⟨S544x512, .bf16⟩
  | .local _ .vmem, ⟨3, _⟩ => ⟨S544x512, .bf16⟩
  | .local _ .vmem, ⟨4, _⟩ => ⟨S544x1024, .f32⟩
  | .local _ .vmem, ⟨5, _⟩ => ⟨S544x1024, .f32⟩
  | .local _ .vmem, ⟨6, _⟩ => ⟨S1x1024x1024, .bf16⟩
  | .local _ .vmem, ⟨7, _⟩ => ⟨S544x1024, .f32⟩
  | .local _ .vmem, ⟨8, _⟩ => ⟨S544x1024, .f32⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8704x512 : Shape := ⟨2, ![8704, 512]⟩
abbrev S8704x1024 : Shape := ⟨2, ![8704, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x512, .f32⟩
  | .hbm, ⟨1, _⟩ => ⟨S8704x512, .f32⟩
  | .hbm, ⟨2, _⟩ => ⟨S8704x1024, .f32⟩
  | .hbm, ⟨3, _⟩ => ⟨S2x1024x1024, .f32⟩
  | .hbm, ⟨4, _⟩ => ⟨S8704x1024, .f32⟩
  | .hbm, ⟨5, _⟩ => ⟨S1x1024x1024, .f32⟩
  | .hbm, ⟨6, _⟩ => ⟨S1024x1024, .f32⟩
  | .hbm, ⟨7, _⟩ => ⟨S8704x1024, .f32⟩
  | .hbm, ⟨8, _⟩ => ⟨S8704x1024, .f32⟩
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S8704x4096 : Shape := ⟨2, ![8704, 4096]⟩
abbrev S8704x1024 : Shape := ⟨2, ![8704, 1024]⟩
abbrev S2x4096x1024 : Shape := ⟨3, ![2, 4096, 1024]⟩
abbrev S_ : Shape := ⟨0, ![]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S8704x1024, .f32⟩
  | .hbm, ⟨2, _⟩ => ⟨S2x4096x1024, .f32⟩
  | .hbm, ⟨3, _⟩ => ⟨S_, .f32⟩
  | .hbm, ⟨4, _⟩ => ⟨S8704x4096, .f32⟩
  | .hbm, ⟨5, _⟩ => ⟨S8704x4096, .f32⟩
  | .hbm, ⟨6, _⟩ => ⟨S8704x4096, .f32⟩
  | .hbm, ⟨7, _⟩ => ⟨S8704x4096, .bf16⟩
  | .hbm, ⟨8, _⟩ => ⟨S2x4096x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .f32⟩
  | .local _ .vmem, ⟨3, _⟩ => ⟨S2176x1024, .f32⟩
  | .local _ .vmem, ⟨4, _⟩ => ⟨S1x1024x1024, .f32⟩
  | .local _ .vmem, ⟨5, _⟩ => ⟨S1x1024x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8704x4096 : Shape := ⟨2, ![8704, 4096]⟩
abbrev S8704x1024 : Shape := ⟨2, ![8704, 1024]⟩
abbrev S2x4096x1024 : Shape := ⟨3, ![2, 4096, 1024]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x1024, .f32⟩
  | .hbm, ⟨2, _⟩ => ⟨S2x4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S8704x4096, .f32⟩
  | .hbm, ⟨7, _⟩ => ⟨S8704x4096, .f32⟩
  | .hbm, ⟨8, _⟩ => ⟨S8704x4096, .f32⟩
  | .hbm, ⟨9, _⟩ => ⟨S8704x1024, .f32⟩
  | .hbm, ⟨10, _⟩ => ⟨S1024x4096, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S1x4096x1024, .f32⟩
  | .hbm, ⟨15, _⟩ => ⟨S1x4096x1024, .f32⟩
  | .hbm, ⟨16, _⟩ => ⟨S2x4096x1024, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel15.lean ====
abbrev S8704x1024 : Shape := ⟨2, ![8704, 1024]⟩
abbrev S1024 : Shape := ⟨1, ![1024]⟩
abbrev S8704x4096 : Shape := ⟨2, ![8704, 4096]⟩
abbrev S2x1024x4096 : Shape := ⟨3, ![2, 1024, 4096]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S8704x4096, .f32⟩
  | .hbm, ⟨3, _⟩ => ⟨S2x1024x4096, .f32⟩
  | .hbm, ⟨4, _⟩ => ⟨S8704x1024, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x1, .f32⟩
  | .hbm, ⟨15, _⟩ => ⟨S8704x1024, .f32⟩
  | .hbm, ⟨16, _⟩ => ⟨S8704x1024, .f32⟩
  | .hbm, ⟨17, _⟩ => ⟨S1x1024, .f32⟩
  | .hbm, ⟨18, _⟩ => ⟨S8704x1024, .f32⟩
  | .hbm, ⟨19, _⟩ => ⟨S8704x1024, .f32⟩
  | .hbm, ⟨20, _⟩ => ⟨S8704x1024, .bf16⟩
  | .hbm, ⟨21, _⟩ => ⟨S8704x4096, .bf16⟩
  | .hbm, ⟨22, _⟩ => ⟨S2x1024x4096, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .f32⟩
  | .local _ .vmem, ⟨5, _⟩ => ⟨S1x1024x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8704x1024 : Shape := ⟨2, ![8704, 1024]⟩
abbrev S1024 : Shape := ⟨1, ![1024]⟩
abbrev S8704x4096 : Shape := ⟨2, ![8704, 4096]⟩
abbrev S2x1024x4096 : Shape := ⟨3, ![2, 1024, 4096]⟩
abbrev S_ : Shape := ⟨0, ![]⟩
abbrev S1024x4096 : Shape := ⟨2, ![1024, 4096]⟩
abbrev S8704 : Shape := ⟨1, ![8704]⟩
abbrev S8704x1 : Shape := ⟨2, ![8704, 1]⟩
abbrev S1x1024 : Shape := ⟨2, ![1, 1024]⟩
abbrev S4096x1024 : Shape := ⟨2, ![4096, 1024]⟩
abbrev S1x1024x4096 : Shape := ⟨3, ![1, 1024, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S8704x4096, .f32⟩
  | .hbm, ⟨3, _⟩ => ⟨S2x1024x4096, .f32⟩
  | .hbm, ⟨4, _⟩ => ⟨S_, .f32⟩
  | .hbm, ⟨5, _⟩ => ⟨S1024x4096, .f32⟩
  | .hbm, ⟨6, _⟩ => ⟨S8704x1024, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x1024, .f32⟩
  | .hbm, ⟨18, _⟩ => ⟨S8704x1024, .f32⟩
  | .hbm, ⟨19, _⟩ => ⟨S1x1024, .f32⟩
  | .hbm, ⟨20, _⟩ => ⟨S8704x1024, .f32⟩
  | .hbm, ⟨21, _⟩ => ⟨S8704x1024, .f32⟩
  | .hbm, ⟨22, _⟩ => ⟨S8704x4096, .f32⟩
  | .hbm, ⟨23, _⟩ => ⟨S4096x1024, .f32⟩
  | .hbm, ⟨24, _⟩ => ⟨S1024x4096, .f32⟩
  | .hbm, ⟨25, _⟩ => ⟨S1x1024x4096, .f32⟩
  | .hbm, ⟨26, _⟩ => ⟨S1024x4096, .f32⟩
  | .hbm, ⟨27, _⟩ => ⟨S1x1024x4096, .f32⟩
  | .hbm, ⟨28, _⟩ => ⟨S1x1024x4096, .f32⟩
  | .hbm, ⟨29, _⟩ => ⟨S2x1024x4096, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel16.lean ====
abbrev S8704x512 : Shape := ⟨2, ![8704, 512]⟩
abbrev S8704x1024 : Shape := ⟨2, ![8704, 1024]⟩
abbrev S2x1024x1024 : Shape := ⟨3, ![2, 1024, 1024]⟩
abbrev S1088x512 : Shape := ⟨2, ![1088, 512]⟩
abbrev S1088x1024 : Shape := ⟨2, ![1088, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8704x512, .f32⟩
  | .hbm, ⟨1, _⟩ => ⟨S8704x512, .f32⟩
  | .hbm, ⟨2, _⟩ => ⟨S8704x1024, .f32⟩
  | .hbm, ⟨3, _⟩ => ⟨S2x1024x1024, .f32⟩
  | .hbm, ⟨4, _⟩ => ⟨S8704x512, .bf16⟩
  | .hbm, ⟨5, _⟩ => ⟨S8704x512, .bf16⟩
  | .hbm, ⟨6, _⟩ => ⟨S2x1024x1024, .f32⟩
  | .local _ .vmem, ⟨0, _⟩ => ⟨S1088x512, .bf16⟩
  | .local _ .vmem, ⟨1, _⟩ => ⟨S1088x512, .bf16⟩
  | .local _ .vmem, ⟨2, _⟩ => ⟨S1088x512, .bf16⟩
  | .local _ .vmem, ⟨3, _⟩ => ⟨S1088x512, .bf16⟩
  | .local _ .vmem, ⟨4, _⟩ => ⟨S1088x1024, .f32⟩
  | .local _ .vmem, ⟨5, _⟩ => ⟨S1088x1024, .f32⟩
  | .local _ .vmem, ⟨6, _⟩ => ⟨S1x1024x1024, .f32⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference16Ideal.lean ====
abbrev S8704x512 : Shape := ⟨2, ![8704, 512]⟩
abbrev S8704x1024 : Shape := ⟨2, ![8704, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8704x512, .f32⟩
  | .hbm, ⟨1, _⟩ => ⟨S8704x512, .f32⟩
  | .hbm, ⟨2, _⟩ => ⟨S8704x1024, .f32⟩
  | .hbm, ⟨3, _⟩ => ⟨S2x1024x1024, .f32⟩
  | .hbm, ⟨4, _⟩ => ⟨S8704x1024, .f32⟩
  | .hbm, ⟨5, _⟩ => ⟨S_, .f32⟩
  | .hbm, ⟨6, _⟩ => ⟨S1024x1024, .f32⟩
  | .hbm, ⟨7, _⟩ => ⟨S8704x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1x1024x1024, .f32⟩
  | .hbm, ⟨13, _⟩ => ⟨S1x1024x1024, .f32⟩
  | .hbm, ⟨14, _⟩ => ⟨S2x1024x1024, .f32⟩
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel17.lean ====
abbrev S8704x1024 : Shape := ⟨2, ![8704, 1024]⟩
abbrev S1024 : Shape := ⟨1, ![1024]⟩
abbrev S8704x512 : Shape := ⟨2, ![8704, 512]⟩
abbrev S2x1024x2560 : Shape := ⟨3, ![2, 1024, 2560]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S1088x1024 : Shape := ⟨2, ![1088, 1024]⟩
abbrev S1088x512 : Shape := ⟨2, ![1088, 512]⟩
abbrev S1x1024x2560 : Shape := ⟨3, ![1, 1024, 2560]⟩
abbrev S1024x2560 : Shape := ⟨2, ![1024, 2560]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 29
  | .vmem => 11
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S8704x1024, .f32⟩
  | .hbm, ⟨3, _⟩ => ⟨S8704x512, .f32⟩
  | .hbm, ⟨4, _⟩ => ⟨S8704x512, .f32⟩
  | .hbm, ⟨5, _⟩ => ⟨S8704x512, .f32⟩
  | .hbm, ⟨6, _⟩ => ⟨S2x1024x2560, .f32⟩
  | .hbm, ⟨7, _⟩ => ⟨S8704x1024, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x1024, .f32⟩
  | .hbm, ⟨19, _⟩ => ⟨S8704x1024, .f32⟩
  | .hbm, ⟨20, _⟩ => ⟨S1x1024, .f32⟩
  | .hbm, ⟨21, _⟩ => ⟨S8704x1024, .f32⟩
  | .hbm, ⟨22, _⟩ => ⟨S8704x1024, .f32⟩
  | .hbm, ⟨23, _⟩ => ⟨S8704x1024, .bf16⟩
  | .hbm, ⟨24, _⟩ => ⟨S8704x1024, .bf16⟩
  | .hbm, ⟨25, _⟩ => ⟨S8704x512, .bf16⟩
  | .hbm, ⟨26, _⟩ => ⟨S8704x512, .bf16⟩
  | .hbm, ⟨27, _⟩ => ⟨S8704x512, .bf16⟩
  | .hbm, ⟨28, _⟩ => ⟨S2x1024x2560, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1088x512, .bf16⟩
  | .local _ .vmem, ⟨5, _⟩ => ⟨S1088x512, .bf16⟩
  | .local _ .vmem, ⟨6, _⟩ => ⟨S1088x512, .bf16⟩
  | .local _ .vmem, ⟨7, _⟩ => ⟨S1088x512, .bf16⟩
  | .local _ .vmem, ⟨8, _⟩ => ⟨S1088x512, .bf16⟩
  | .local _ .vmem, ⟨9, _⟩ => ⟨S1088x512, .bf16⟩
  | .local _ .vmem, ⟨10, _⟩ => ⟨S1x1024x2560, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S8704x1024 : Shape := ⟨2, ![8704, 1024]⟩
abbrev S1024 : Shape := ⟨1, ![1024]⟩
abbrev S8704x512 : Shape := ⟨2, ![8704, 512]⟩
abbrev S2x1024x2560 : Shape := ⟨3, ![2, 1024, 2560]⟩
abbrev S8704x2560 : Shape := ⟨2, ![8704, 2560]⟩
abbrev S_ : Shape := ⟨0, ![]⟩
abbrev S1024x2560 : Shape := ⟨2, ![1024, 2560]⟩
abbrev S8704 : Shape := ⟨1, ![8704]⟩
abbrev S8704x1 : Shape := ⟨2, ![8704, 1]⟩
abbrev S1x1024 : Shape := ⟨2, ![1, 1024]⟩
abbrev S2560x1024 : Shape := ⟨2, ![2560, 1024]⟩
abbrev S1x1024x2560 : Shape := ⟨3, ![1, 1024, 2560]⟩

abbrev nBuf : Space → Nat
  | .hbm => 34
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024, .f32⟩
  | .hbm, ⟨2, _⟩ => ⟨S8704x1024, .f32⟩
  | .hbm, ⟨3, _⟩ => ⟨S8704x512, .f32⟩
  | .hbm, ⟨4, _⟩ => ⟨S8704x512, .f32⟩
  | .hbm, ⟨5, _⟩ => ⟨S8704x512, .f32⟩
  | .hbm, ⟨6, _⟩ => ⟨S2x1024x2560, .f32⟩
  | .hbm, ⟨7, _⟩ => ⟨S8704x2560, .f32⟩
  | .hbm, ⟨8, _⟩ => ⟨S_, .f32⟩
  | .hbm, ⟨9, _⟩ => ⟨S1024x2560, .f32⟩
  | .hbm, ⟨10, _⟩ => ⟨S8704x1024, .f32⟩
  | .hbm, ⟨11, _⟩ => ⟨S_, .f32⟩
  | .hbm, ⟨12, _⟩ => ⟨S8704, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S_, .f32⟩
  | .hbm, ⟨18, _⟩ => ⟨S8704x1, .f32⟩
  | .hbm, ⟨19, _⟩ => ⟨S8704x1, .f32⟩
  | .hbm, ⟨20, _⟩ => ⟨S8704x1, .f32⟩
  | .hbm, ⟨21, _⟩ => ⟨S8704x1024, .f32⟩
  | .hbm, ⟨22, _⟩ => ⟨S8704x1024, .f32⟩
  | .hbm, ⟨23, _⟩ => ⟨S1x1024, .f32⟩
  | .hbm, ⟨24, _⟩ => ⟨S8704x1024, .f32⟩
  | .hbm, ⟨25, _⟩ => ⟨S8704x1024, .f32⟩
  | .hbm, ⟨26, _⟩ => ⟨S8704x2560, .f32⟩
  | .hbm, ⟨27, _⟩ => ⟨S2560x1024, .f32⟩
  | .hbm, ⟨28, _⟩ => ⟨S1024x2560, .f32⟩
  | .hbm, ⟨29, _⟩ => ⟨S1x1024x2560, .f32⟩
  | .hbm, ⟨30, _⟩ => ⟨S1024x2560, .f32⟩
  | .hbm, ⟨31, _⟩ => ⟨S1x1024x2560, .f32⟩
  | .hbm, ⟨32, _⟩ => ⟨S1x1024x2560, .f32⟩
  | .hbm, ⟨33, _⟩ => ⟨S2x1024x2560, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel18.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S_ : Shape := ⟨0, ![]⟩
abbrev S4x2176x1024 : Shape := ⟨3, ![4, 2176, 1024]⟩
abbrev S8704x1024 : Shape := ⟨2, ![8704, 1024]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S8704x512 : Shape := ⟨2, ![8704, 512]⟩
abbrev S544x256 : Shape := ⟨2, ![544, 256]⟩
abbrev S16x256 : Shape := ⟨2, ![16, 256]⟩
abbrev S544x512 : Shape := ⟨2, ![544, 512]⟩
abbrev S544x1 : Shape := ⟨2, ![544, 1]⟩
abbrev S560x256 : Shape := ⟨2, ![560, 256]⟩
abbrev S4x2176x512 : Shape := ⟨3, ![4, 2176, 512]⟩
abbrev S4x2064x512 : Shape := ⟨3, ![4, 2064, 512]⟩

abbrev nBuf : Space → Nat
  | .hbm => 26
  | .vmem => 19
  | .smem => 0
  | _ => 0

abbrev bufTy : (tb : Table) → Fin (tcTables nBuf tb) → BufTy
  | .hbm, ⟨0, _⟩ => ⟨S4x2064x1024, .f32⟩
  | .hbm, ⟨1, _⟩ => ⟨S3x256, .f32⟩
  | .hbm, ⟨2, _⟩ => ⟨S4x64x64, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4x2176x1024, .f32⟩
  | .hbm, ⟨7, _⟩ => ⟨S8704x1024, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S4x1x4x1, .f32⟩
  | .hbm, ⟨16, _⟩ => ⟨S4x64x1x64, .f32⟩
  | .hbm, ⟨17, _⟩ => ⟨S4x64x4x64, .f32⟩
  | .hbm, ⟨18, _⟩ => ⟨S4x64x4x64, .f32⟩
  | .hbm, ⟨19, _⟩ => ⟨S4x64x4x64, .f32⟩
  | .hbm, ⟨20, _⟩ => ⟨S256x256, .f32⟩
  | .hbm, ⟨21, _⟩ => ⟨S256x256, .bf16⟩
  | .hbm, ⟨22, _⟩ => ⟨S1x256, .f32⟩
  | .hbm, ⟨23, _⟩ => ⟨S8704x512, .bf16⟩
  | .hbm, ⟨24, _⟩ => ⟨S4x2176x512, .bf16⟩
  | .hbm, ⟨25, _⟩ => ⟨S4x2064x512, .bf16⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S544x256, .f32⟩
  | .local _ .vmem, ⟨7, _⟩ => ⟨S544x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S3x256, .f32⟩
  | .local _ .vmem, ⟨15, _⟩ => ⟨S256x256, .bf16⟩
  | .local _ .vmem, ⟨16, _⟩ => ⟨S1x256, .f32⟩
  | .local _ .vmem, ⟨17, _⟩ => ⟨S544x512, .bf16⟩
  | .local _ .vmem, ⟨18, _⟩ => ⟨S544x512, .bf16⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S544x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference18Ideal.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S4x2064x256 : Shape := ⟨3, ![4, 2064, 256]⟩
abbrev S_ : Shape := ⟨0, ![]⟩
abbrev S4x2x256 : Shape := ⟨3, ![4, 2, 256]⟩
abbrev S4x2066x256 : Shape := ⟨3, ![4, 2066, 256]⟩
abbrev S1x256 : Shape := ⟨2, ![1, 256]⟩
abbrev S1x1x256 : Shape := ⟨3, ![1, 1, 256]⟩
abbrev S4x2064x4x64 : Shape := ⟨4, ![4, 2064, 4, 64]⟩
abbrev S2064 : Shape := ⟨1, ![2064]⟩
abbrev S2064x1x1 : Shape := ⟨3, ![2064, 1, 1]⟩
abbrev S1x2064x1 : Shape := ⟨3, ![1, 2064, 1]⟩
abbrev S4 : Shape := ⟨1, ![4]⟩
abbrev S2064x2064x1 : Shape := ⟨3, ![2064, 2064, 1]⟩
abbrev S1x1x4 : Shape := ⟨3, ![1, 1, 4]⟩
abbrev S1x2064x4 : Shape := ⟨3, ![1, 2064, 4]⟩
abbrev S2064x2064x4 : Shape := ⟨3, ![2064, 2064, 4]⟩
abbrev S2064x1x4 : Shape := ⟨3, ![2064, 1, 4]⟩
abbrev S4x4x64x2064 : Shape := ⟨4, ![4, 4, 64, 2064]⟩
abbrev S2064x4 : Shape := ⟨2, ![2064, 4]⟩
abbrev S1x2064x4x1 : Shape := ⟨4, ![1, 2064, 4, 1]⟩
abbrev S4x64x4x2064 : Shape := ⟨4, ![4, 64, 4, 2064]⟩
abbrev S4x2064x512 : Shape := ⟨3, ![4, 2064, 512]⟩

abbrev nBuf : Space → Nat
  | .hbm => 82
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S3x256, .f32⟩
  | .hbm, ⟨2, _⟩ => ⟨S4x64x64, .f32⟩
  | .hbm, ⟨3, _⟩ => ⟨S256, .f32⟩
  | .hbm, ⟨4, _⟩ => ⟨S4x2064x256, .f32⟩
  | .hbm, ⟨5, _⟩ => ⟨S4x2064x256, .f32⟩
  | .hbm, ⟨6, _⟩ => ⟨S4x2064x256, .f32⟩
  | .hbm, ⟨7, _⟩ => ⟨S4x2064x256, .f32⟩
  | .hbm, ⟨8, _⟩ => ⟨S4x2064x256, .f32⟩
  | .hbm, ⟨9, _⟩ => ⟨S_, .f32⟩
  | .hbm, ⟨10, _⟩ => ⟨S4x2x256, .f32⟩
  | .hbm, ⟨11, _⟩ => ⟨S4x2066x256, .f32⟩
  | .hbm, ⟨12, _⟩ => ⟨S1x256, .f32⟩
  | .hbm, ⟨13, _⟩ => ⟨S256, .f32⟩
  | .hbm, ⟨14, _⟩ => ⟨S4x2064x256, .f32⟩
  | .hbm, ⟨15, _⟩ => ⟨S1x1x256, .f32⟩
  | .hbm, ⟨16, _⟩ => ⟨S4x2064x256, .f32⟩
  | .hbm, ⟨17, _⟩ => ⟨S4x2064x256, .f32⟩
  | .hbm, ⟨18, _⟩ => ⟨S1x256, .f32⟩
  | .hbm, ⟨19, _⟩ => ⟨S256, .f32⟩
  | .hbm, ⟨20, _⟩ => ⟨S4x2064x256, .f32⟩
  | .hbm, ⟨21, _⟩ => ⟨S1x1x256, .f32⟩
  | .hbm, ⟨22, _⟩ => ⟨S4x2064x256, .f32⟩
  | .hbm, ⟨23, _⟩ => ⟨S4x2064x256, .f32⟩
  | .hbm, ⟨24, _⟩ => ⟨S4x2064x256, .f32⟩
  | .hbm, ⟨25, _⟩ => ⟨S1x256, .f32⟩
  | .hbm, ⟨26, _⟩ => ⟨S256, .f32⟩
  | .hbm, ⟨27, _⟩ => ⟨S4x2064x256, .f32⟩
  | .hbm, ⟨28, _⟩ => ⟨S1x1x256, .f32⟩
  | .hbm, ⟨29, _⟩ => ⟨S4x2064x256, .f32⟩
  | .hbm, ⟨30, _⟩ => ⟨S4x2064x256, .f32⟩
  | .hbm, ⟨31, _⟩ => ⟨S4x2064x256, .f32⟩
  | .hbm, ⟨32, _⟩ => ⟨S4x2064x256, .f32⟩
  | .hbm, ⟨33, _⟩ => ⟨S4x2064x4x64, .f32⟩
  | .hbm, ⟨34, _⟩ => ⟨S2064, .i32⟩
  | .hbm, ⟨35, _⟩ => ⟨S2064x1x1, .i32⟩
  | .hbm, ⟨36, _⟩ => ⟨S2064, .i32⟩
  | .hbm, ⟨37, _⟩ => ⟨S1x2064x1, .i32⟩
  | .hbm, ⟨38, _⟩ => ⟨S4, .i32⟩
  | .hbm, ⟨39, _⟩ => ⟨S_, .i32⟩
  | .hbm, ⟨40, _⟩ => ⟨S4, .i32⟩
  | .hbm, ⟨41, _⟩ => ⟨S4, .i32⟩
  | .hbm, ⟨42, _⟩ => ⟨S2064x2064x1, .i32⟩
  | .hbm, ⟨43, _⟩ => ⟨S2064x2064x1, .i32⟩
  | .hbm, ⟨44, _⟩ => ⟨S2064x2064x1, .i1⟩
  | .hbm, ⟨45, _⟩ => ⟨S1x1x4, .i32⟩
  | .hbm, ⟨46, _⟩ => ⟨S1x2064x4, .i32⟩
  | .hbm, ⟨47, _⟩ => ⟨S1x2064x4, .i32⟩
  | .hbm, ⟨48, _⟩ => ⟨S1x2064x4, .i32⟩
  | .hbm, ⟨49, _⟩ => ⟨S2064x2064x4, .i32⟩
  | .hbm, ⟨50, _⟩ => ⟨S2064x2064x4, .i32⟩
  | .hbm, ⟨51, _⟩ => ⟨S2064x2064x4, .i1⟩
  | .hbm, ⟨52, _⟩ => ⟨S2064x2064x4, .i1⟩
  | .hbm, ⟨53, _⟩ => ⟨S2064x2064x4, .i1⟩
  | .hbm, ⟨54, _⟩ => ⟨S_, .f32⟩
  | .hbm, ⟨55, _⟩ => ⟨S_, .f32⟩
  | .hbm, ⟨56, _⟩ => ⟨S2064x2064x4, .f32⟩
  | .hbm, ⟨57, _⟩ => ⟨S2064x2064x4, .f32⟩
  | .hbm, ⟨58, _⟩ => ⟨S2064x2064x4, .f32⟩
  | .hbm, ⟨59, _⟩ => ⟨S_, .i32⟩
  | .hbm, ⟨60, _⟩ => ⟨S2064x1x1, .i32⟩
  | .hbm, ⟨61, _⟩ => ⟨S2064x1x1, .i32⟩
  | .hbm, ⟨62, _⟩ => ⟨S1x1x4, .i32⟩
  | .hbm, ⟨63, _⟩ => ⟨S2064x1x4, .i32⟩
  | .hbm, ⟨64, _⟩ => ⟨S2064x1x4, .i32⟩
  | .hbm, ⟨65, _⟩ => ⟨S2064x1x4, .i32⟩
  | .hbm, ⟨66, _⟩ => ⟨S2064x1x4, .f32⟩
  | .hbm, ⟨67, _⟩ => ⟨S4x4x64x2064, .f32⟩
  | .hbm, ⟨68, _⟩ => ⟨S4x2064x4x64, .f32⟩
  | .hbm, ⟨69, _⟩ => ⟨S2064x4, .f32⟩
  | .hbm, ⟨70, _⟩ => ⟨S1x2064x4x1, .f32⟩
  | .hbm, ⟨71, _⟩ => ⟨S4x2064x4x64, .f32⟩
  | .hbm, ⟨72, _⟩ => ⟨S4x2064x4x64, .f32⟩
  | .hbm, ⟨73, _⟩ => ⟨S4x2064x4x64, .f32⟩
  | .hbm, ⟨74, _⟩ => ⟨S4x64x4x2064, .f32⟩
  | .hbm, ⟨75, _⟩ => ⟨S4x2064x4x64, .f32⟩
  | .hbm, ⟨76, _⟩ => ⟨S4x2064x256, .f32⟩
  | .hbm, ⟨77, _⟩ => ⟨S1x1x256, .f32⟩
  | .hbm, ⟨78, _⟩ => ⟨S4x2064x256, .f32⟩
  | .hbm, ⟨79, _⟩ => ⟨S4x2064x256, .f32⟩
  | .hbm, ⟨80, _⟩ => ⟨S4x2064x512, .f32⟩
  | .hbm, ⟨81, _⟩ => ⟨S4x2064x512, .bf16⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_0 : Ref sig .tc := ⟨.hbm, 54, rfl⟩
abbrev main_cst_1 : Ref sig .tc := ⟨.hbm, 55, rfl⟩
abbrev main_call0_v0 : Ref sig .tc := ⟨.hbm, 56, rfl⟩
abbrev main_call0_v1 : Ref sig .tc := ⟨.hbm, 57, rfl⟩
abbrev main_v48 : Ref sig .tc := ⟨.hbm, 58, rfl⟩
abbrev main_c_2 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩

abbrev nD : Nat := 1
abbrev τ : Topo := Topo.v7x

variable {F : FTy → Type} [FloatOps F]
-- ==== Kernel19.lean ====
abbrev S8704x4096 : Shape := ⟨2, ![8704, 4096]⟩
abbrev S8704x1024 : Shape := ⟨2, ![8704, 1024]⟩
abbrev S2x4096x1024 : Shape := ⟨3, ![2, 4096, 1024]⟩
abbrev S1024 : Shape := ⟨1, ![1024]⟩
abbrev S4x2048x1024 : Shape := ⟨3, ![4, 2048, 1024]⟩
abbrev S1x1024 : Shape := ⟨2, ![1, 1024]⟩
abbrev S8x1024 : Shape := ⟨2, ![8, 1024]⟩
abbrev S544x4096 : Shape := ⟨2, ![544, 4096]⟩
abbrev S544x1024 : Shape := ⟨2, ![544, 1024]⟩
abbrev S1x4096x1024 : Shape := ⟨3, ![1, 4096, 1024]⟩
abbrev S_ : Shape := ⟨0, ![]⟩
abbrev S128x1024 : Shape := ⟨2, ![128, 1024]⟩
abbrev S416x1024 : Shape := ⟨2, ![416, 1024]⟩
abbrev S1x416x1024 : Shape := ⟨3, ![1, 416, 1024]⟩
abbrev S1x544x1024 : Shape := ⟨3, ![1, 544, 1024]⟩
abbrev S544x512 : Shape := ⟨2, ![544, 512]⟩
abbrev S1x4096x512 : Shape := ⟨3, ![1, 4096, 512]⟩
abbrev S4096x512 : Shape := ⟨2, ![4096, 512]⟩
abbrev S544 : Shape := ⟨1, ![544]⟩
abbrev S544x1 : Shape := ⟨2, ![544, 1]⟩
abbrev S68x8x1024 : Shape := ⟨3, ![68, 8, 1024]⟩

abbrev nBuf : Space → Nat
  | .hbm => 17
  | .vmem => 12
  | .smem => 0
  | _ => 0

abbrev bufTy : (tb : Table) → Fin (tcTables nBuf tb) → BufTy
  | .hbm, ⟨0, _⟩ => ⟨S8704x4096, .f32⟩
  | .hbm, ⟨1, _⟩ => ⟨S8704x1024, .f32⟩
  | .hbm, ⟨2, _⟩ => ⟨S2x4096x1024, .f32⟩
  | .hbm, ⟨3, _⟩ => ⟨S1024, .f32⟩
  | .hbm, ⟨4, _⟩ => ⟨S4x2048x1024, .f32⟩
  | .hbm, ⟨5, _⟩ => ⟨S8704x4096, .bf16⟩
  | .hbm, ⟨6, _⟩ => ⟨S2x4096x1024, .bf16⟩
  | .hbm, ⟨7, _⟩ => ⟨S1x1024, .f32⟩
  | .hbm, ⟨8, _⟩ => ⟨S8704x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1024, .f32⟩
  | .local _ .vmem, ⟨0, _⟩ => ⟨S544x4096, .bf16⟩
  | .local _ .vmem, ⟨1, _⟩ => ⟨S544x4096, .bf16⟩
  | .local _ .vmem, ⟨2, _⟩ => ⟨S544x1024, .f32⟩
  | .local _ .vmem, ⟨3, _⟩ => ⟨S544x1024, .f32⟩
  | .local _ .vmem, ⟨4, _⟩ => ⟨S1x4096x1024, .bf16⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S8x1024, .f32⟩
  | .local _ .vmem, ⟨9, _⟩ => ⟨S8x1024, .f32⟩
  | .local _ .vmem, ⟨10, _⟩ => ⟨S544x1024, .f32⟩
  | .local _ .vmem, ⟨11, _⟩ => ⟨S544x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_12 : BitVec 32 := 0#32
  let v30 : BitVec 1 := Scalar.cmpi .eq v26 c0_i32_12
  let v31 : BitVec 32 := Scalar.extui v30
  let c0_i32_13 : BitVec 32 := 0#32
  let v32 : BitVec 1 := Scalar.cmpi .ne v31 c0_i32_13
  v32

def k0_off1 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_68 : BitVec 32 := 0#32
  let c0_i32_69 : BitVec 32 := 0#32
  ![v16.toNat, 0, 0]
def k0_cond3 (i : grid0.Coords) : BitVec 1 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_14 : BitVec 32 := 0#32
  let v33 : BitVec 1 := Scalar.cmpi .sgt v26 c0_i32_14
  let v34 : BitVec 32 := Scalar.extui v33
  let c0_i32_15 : BitVec 32 := 0#32
  let v35 : BitVec 1 := Scalar.cmpi .ne v34 c0_i32_15
  v35

def k0_mult1 (i : grid0.Coords) : BitVec 32 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c544_i32_63 : BitVec 32 := 544#32
  let v120 : BitVec 32 := Scalar.muli v26 c544_i32_63
  let c128_i32_64 : BitVec 32 := 128#32
  let v121 : BitVec 32 := Scalar.subi v120 c128_i32_64
  v121
def k0_off2 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c544_i32_63 : BitVec 32 := 544#32
  let v120 : BitVec 32 := Scalar.muli v26 c544_i32_63
  let c128_i32_64 : BitVec 32 := 128#32
  let v121 : BitVec 32 := Scalar.subi v120 c128_i32_64
  let v122 : BitVec 32 := v121
  let c0_i32_65 : BitVec 32 := 0#32
  ![v16.toNat, v122.toNat, 0]
def k0_cond4 (i : grid0.Coords) : BitVec 1 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_33 : BitVec 32 := 0#32
  let v56 : BitVec 1 := Scalar.cmpi .eq v26 c0_i32_33
  let v57 : BitVec 32 := Scalar.extui v56
  let c0_i32_34 : BitVec 32 := 0#32
  let v58 : BitVec 1 := Scalar.cmpi .ne v57 c0_i32_34
  v58

def k0_off3 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_65 : BitVec 32 := 0#32
  let c0_i32_66 : BitVec 32 := 0#32
  ![v16.toNat, 0, 0]
def k0_cond5 (i : grid0.Coords) : BitVec 1 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_35 : BitVec 32 := 0#32
  let v59 : BitVec 1 := Scalar.cmpi .sgt v26 c0_i32_35
  let v60 : BitVec 32 := Scalar.extui v59
  let c0_i32_36 : BitVec 32 := 0#32
  let v61 : BitVec 1 := Scalar.cmpi .ne v60 c0_i32_36
  v61

def k0_mult2 (i : grid0.Coords) : BitVec 32 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c544_i32_63 : BitVec 32 := 544#32
  let v120 : BitVec 32 := Scalar.muli v26 c544_i32_63
  let c128_i32_64 : BitVec 32 := 128#32
  let v121 : BitVec 32 := Scalar.subi v120 c128_i32_64
  v121
def k0_off4 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c544_i32_63 : BitVec 32 := 544#32
  let v120 : BitVec 32 := Scalar.muli v26 c544_i32_63
  let c128_i32_64 : BitVec 32 := 128#32
  let v121 : BitVec 32 := Scalar.subi v120 c128_i32_64
  let v122 : BitVec 32 := v121
  let c0_i32_65 : BitVec 32 := 0#32
  ![v16.toNat, v122.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S8704x4096 : Shape := ⟨2, ![8704, 4096]⟩
abbrev S8704x1024 : Shape := ⟨2, ![8704, 1024]⟩
abbrev S2x4096x1024 : Shape := ⟨3, ![2, 4096, 1024]⟩
abbrev S1024 : Shape := ⟨1, ![1024]⟩
abbrev S4x2048x1024 : Shape := ⟨3, ![4, 2048, 1024]⟩
abbrev S1x4096x1024 : Shape := ⟨3, ![1, 4096, 1024]⟩
abbrev S4096x1024 : Shape := ⟨2, ![4096, 1024]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S4x2176x1024 : Shape := ⟨3, ![4, 2176, 1024]⟩
abbrev S4x2048 : Shape := ⟨2, ![4, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x1024, .f32⟩
  | .hbm, ⟨2, _⟩ => ⟨S2x4096x1024, .f32⟩
  | .hbm, ⟨3, _⟩ => ⟨S1024, .f32⟩
  | .hbm, ⟨4, _⟩ => ⟨S4x2048x1024, .f32⟩
  | .hbm, ⟨5, _⟩ => ⟨S1x4096x1024, .f32⟩
  | .hbm, ⟨6, _⟩ => ⟨S4096x1024, .f32⟩
  | .hbm, ⟨7, _⟩ => ⟨S8704x1024, .f32⟩
  | .hbm, ⟨8, _⟩ => ⟨S8704x1024, .f32⟩
  | .hbm, ⟨9, _⟩ => ⟨S8704x1024, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x1, .f32⟩
  | .hbm, ⟨21, _⟩ => ⟨S_, .f32⟩
  | .hbm, ⟨22, _⟩ => ⟨S8704x1, .f32⟩
  | .hbm, ⟨23, _⟩ => ⟨S8704x1, .f32⟩
  | .hbm, ⟨24, _⟩ => ⟨S8704x1024, .f32⟩
  | .hbm, ⟨25, _⟩ => ⟨S8704x1024, .f32⟩
  | .hbm, ⟨26, _⟩ => ⟨S1x1024, .f32⟩
  | .hbm, ⟨27, _⟩ => ⟨S8704x1024, .f32⟩
  | .hbm, ⟨28, _⟩ => ⟨S8704x1024, .f32⟩
  | .hbm, ⟨29, _⟩ => ⟨S4x2176x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4x2048, .f32⟩
  | .hbm, ⟨49, _⟩ => ⟨S_, .f32⟩
  | .hbm, ⟨50, _⟩ => ⟨S4x2048, .f32⟩
  | .hbm, ⟨51, _⟩ => ⟨S4x2048, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x2176x1024, .f32⟩
  | .hbm, ⟨56, _⟩ => ⟨S8704x1024, .f32⟩
  | .hbm, ⟨57, _⟩ => ⟨S8704x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8704x1024, .f32⟩
  | .hbm, ⟨62, _⟩ => ⟨S8704x1024, .f32⟩
  | .hbm, ⟨63, _⟩ => ⟨S_, .f32⟩
  | .hbm, ⟨64, _⟩ => ⟨S1024, .f32⟩
  | .hbm, ⟨65, _⟩ => ⟨S8704x1024, .f32⟩
  | .hbm, ⟨66, _⟩ => ⟨S_, .f32⟩
  | .hbm, ⟨67, _⟩ => ⟨S8704, .f32⟩
  | .hbm, ⟨68, _⟩ => ⟨S8704x1, .f32⟩
  | .hbm, ⟨69, _⟩ => ⟨S8704x1024, .f32⟩
  | .hbm, ⟨70, _⟩ => ⟨S8704x1024, .f32⟩
  | .hbm, ⟨71, _⟩ => ⟨S8704x1, .f32⟩
  | .hbm, ⟨72, _⟩ => ⟨S_, .f32⟩
  | .hbm, ⟨73, _⟩ => ⟨S8704x1, .f32⟩
  | .hbm, ⟨74, _⟩ => ⟨S8704x1, .f32⟩
  | .hbm, ⟨75, _⟩ => ⟨S_, .f32⟩
  | .hbm, ⟨76, _⟩ => ⟨S8704, .f32⟩
  | .hbm, ⟨77, _⟩ => ⟨S8704x1024, .f32⟩
  | .hbm, ⟨78, _⟩ => ⟨S8704x1024, .f32⟩
  | .hbm, ⟨79, _⟩ => ⟨S8704x1024, .f32⟩
  | .hbm, ⟨80, _⟩ => ⟨S8704x1024, .f32⟩
  | .hbm, ⟨81, _⟩ => ⟨S8704x1024, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel20.lean ====
abbrev S2x1024x640 : Shape := ⟨3, ![2, 1024, 640]⟩
abbrev S2048x640 : Shape := ⟨2, ![2048, 640]⟩
abbrev S256x640 : Shape := ⟨2, ![256, 640]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S2x1024x640, .f32⟩
  | .hbm, ⟨12, _⟩ => ⟨S2x1024x640, .f32⟩
  | .hbm, ⟨13, _⟩ => ⟨S2x1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S2x1024x640 : Shape := ⟨3, ![2, 1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S_, .f32⟩
  | .hbm, ⟨5, _⟩ => ⟨S2x1024x640, .f32⟩
  | .hbm, ⟨6, _⟩ => ⟨S2x1024x640, .f32⟩
  | .hbm, ⟨7, _⟩ => ⟨S_, .f32⟩
  | .hbm, ⟨8, _⟩ => ⟨S2x1024x640, .f32⟩
  | .hbm, ⟨9, _⟩ => ⟨S2x1024x640, .f32⟩
  | .hbm, ⟨10, _⟩ => ⟨S2x1024x640, .f32⟩
  | .hbm, ⟨11, _⟩ => ⟨S_, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S_, .f32⟩
  | .hbm, ⟨16, _⟩ => ⟨S2x1024x640, .f32⟩
  | .hbm, ⟨17, _⟩ => ⟨S2x1024x640, .f32⟩
  | .hbm, ⟨18, _⟩ => ⟨S2x1024x640, .f32⟩
  | .hbm, ⟨19, _⟩ => ⟨S_, .f32⟩
  | .hbm, ⟨20, _⟩ => ⟨S2x1024x640, .f32⟩
  | .hbm, ⟨21, _⟩ => ⟨S2x1024x640, .f32⟩
  | .hbm, ⟨22, _⟩ => ⟨S_, .f32⟩
  | .hbm, ⟨23, _⟩ => ⟨S2x1024x640, .f32⟩
  | .hbm, ⟨24, _⟩ => ⟨S2x1024x640, .f32⟩
  | .hbm, ⟨25, _⟩ => ⟨S2x1024x640, .f32⟩
  | .hbm, ⟨26, _⟩ => ⟨S_, .f32⟩
  | .hbm, ⟨27, _⟩ => ⟨S2x1024x640, .f32⟩
  | .hbm, ⟨28, _⟩ => ⟨S2x1024x640, .f32⟩
  | .hbm, ⟨29, _⟩ => ⟨S2x1024x640, .f32⟩
  | .hbm, ⟨30, _⟩ => ⟨S_, .f32⟩
  | .hbm, ⟨31, _⟩ => ⟨S2x1024x640, .f32⟩
  | .hbm, ⟨32, _⟩ => ⟨S2x1024x640, .f32⟩
  | .hbm, ⟨33, _⟩ => ⟨S2x1024x640, .f32⟩
  | .hbm, ⟨34, _⟩ => ⟨S_, .f32⟩
  | .hbm, ⟨35, _⟩ => ⟨S2x1024x640, .f32⟩
  | .hbm, ⟨36, _⟩ => ⟨S2x1024x640, .f32⟩
  | _, _ => ⟨S2x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x1024x1024 : Shape := ⟨3, ![2, 1024, 1024]⟩
abbrev S2048x1024 : Shape := ⟨2, ![2048, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2x1024x1024, .f32⟩
  | .hbm, ⟨12, _⟩ => ⟨S2x1024x1024, .f32⟩
  | .hbm, ⟨13, _⟩ => ⟨S2x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S2x1024x1024 : Shape := ⟨3, ![2, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2x1024x1024 : Shape := ⟨3, ![2, 1024, 1024]⟩
abbrev S2048x1024 : Shape := ⟨2, ![2048, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2x1024x1024, .f32⟩
  | .hbm, ⟨12, _⟩ => ⟨S2x1024x1024, .f32⟩
  | .hbm, ⟨13, _⟩ => ⟨S2x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S2x1024x1024 : Shape := ⟨3, ![2, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S_ : Shape := ⟨0, ![]⟩
abbrev S4x2176x1024 : Shape := ⟨3, ![4, 2176, 1024]⟩
abbrev S8704x1024 : Shape := ⟨2, ![8704, 1024]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S8704x512 : Shape := ⟨2, ![8704, 512]⟩
abbrev S544x256 : Shape := ⟨2, ![544, 256]⟩
abbrev S16x256 : Shape := ⟨2, ![16, 256]⟩
abbrev S544x512 : Shape := ⟨2, ![544, 512]⟩
abbrev S544x1 : Shape := ⟨2, ![544, 1]⟩
abbrev S560x256 : Shape := ⟨2, ![560, 256]⟩
abbrev S4x2176x512 : Shape := ⟨3, ![4, 2176, 512]⟩
abbrev S4x2064x512 : Shape := ⟨3, ![4, 2064, 512]⟩

abbrev nBuf : Space → Nat
  | .hbm => 26
  | .vmem => 19
  | .smem => 0
  | _ => 0

abbrev bufTy : (tb : Table) → Fin (tcTables nBuf tb) → BufTy
  | .hbm, ⟨0, _⟩ => ⟨S4x2064x1024, .f32⟩
  | .hbm, ⟨1, _⟩ => ⟨S3x256, .f32⟩
  | .hbm, ⟨2, _⟩ => ⟨S4x64x64, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4x2176x1024, .f32⟩
  | .hbm, ⟨7, _⟩ => ⟨S8704x1024, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S4x1x4x1, .f32⟩
  | .hbm, ⟨16, _⟩ => ⟨S4x64x1x64, .f32⟩
  | .hbm, ⟨17, _⟩ => ⟨S4x64x4x64, .f32⟩
  | .hbm, ⟨18, _⟩ => ⟨S4x64x4x64, .f32⟩
  | .hbm, ⟨19, _⟩ => ⟨S4x64x4x64, .f32⟩
  | .hbm, ⟨20, _⟩ => ⟨S256x256, .f32⟩
  | .hbm, ⟨21, _⟩ => ⟨S256x256, .bf16⟩
  | .hbm, ⟨22, _⟩ => ⟨S1x256, .f32⟩
  | .hbm, ⟨23, _⟩ => ⟨S8704x512, .bf16⟩
  | .hbm, ⟨24, _⟩ => ⟨S4x2176x512, .bf16⟩
  | .hbm, ⟨25, _⟩ => ⟨S4x2064x512, .bf16⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S544x256, .f32⟩
  | .local _ .vmem, ⟨7, _⟩ => ⟨S544x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S3x256, .f32⟩
  | .local _ .vmem, ⟨15, _⟩ => ⟨S256x256, .bf16⟩
  | .local _ .vmem, ⟨16, _⟩ => ⟨S1x256, .f32⟩
  | .local _ .vmem, ⟨17, _⟩ => ⟨S544x512, .bf16⟩
  | .local _ .vmem, ⟨18, _⟩ => ⟨S544x512, .bf16⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S544x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference24Ideal.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S4x2064x256 : Shape := ⟨3, ![4, 2064, 256]⟩
abbrev S_ : Shape := ⟨0, ![]⟩
abbrev S4x2x256 : Shape := ⟨3, ![4, 2, 256]⟩
abbrev S4x2066x256 : Shape := ⟨3, ![4, 2066, 256]⟩
abbrev S1x256 : Shape := ⟨2, ![1, 256]⟩
abbrev S1x1x256 : Shape := ⟨3, ![1, 1, 256]⟩
abbrev S4x2064x4x64 : Shape := ⟨4, ![4, 2064, 4, 64]⟩
abbrev S2064 : Shape := ⟨1, ![2064]⟩
abbrev S2064x1x1 : Shape := ⟨3, ![2064, 1, 1]⟩
abbrev S1x2064x1 : Shape := ⟨3, ![1, 2064, 1]⟩
abbrev S4 : Shape := ⟨1, ![4]⟩
abbrev S2064x2064x1 : Shape := ⟨3, ![2064, 2064, 1]⟩
abbrev S1x1x4 : Shape := ⟨3, ![1, 1, 4]⟩
abbrev S1x2064x4 : Shape := ⟨3, ![1, 2064, 4]⟩
abbrev S2064x2064x4 : Shape := ⟨3, ![2064, 2064, 4]⟩
abbrev S2064x1x4 : Shape := ⟨3, ![2064, 1, 4]⟩
abbrev S4x4x64x2064 : Shape := ⟨4, ![4, 4, 64, 2064]⟩
abbrev S2064x4 : Shape := ⟨2, ![2064, 4]⟩
abbrev S1x2064x4x1 : Shape := ⟨4, ![1, 2064, 4, 1]⟩
abbrev S4x64x4x2064 : Shape := ⟨4, ![4, 64, 4, 2064]⟩
abbrev S4x2064x512 : Shape := ⟨3, ![4, 2064, 512]⟩

abbrev nBuf : Space → Nat
  | .hbm => 82
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S3x256, .f32⟩
  | .hbm, ⟨2, _⟩ => ⟨S4x64x64, .f32⟩
  | .hbm, ⟨3, _⟩ => ⟨S256, .f32⟩
  | .hbm, ⟨4, _⟩ => ⟨S4x2064x256, .f32⟩
  | .hbm, ⟨5, _⟩ => ⟨S4x2064x256, .f32⟩
  | .hbm, ⟨6, _⟩ => ⟨S4x2064x256, .f32⟩
  | .hbm, ⟨7, _⟩ => ⟨S4x2064x256, .f32⟩
  | .hbm, ⟨8, _⟩ => ⟨S4x2064x256, .f32⟩
  | .hbm, ⟨9, _⟩ => ⟨S_, .f32⟩
  | .hbm, ⟨10, _⟩ => ⟨S4x2x256, .f32⟩
  | .hbm, ⟨11, _⟩ => ⟨S4x2066x256, .f32⟩
  | .hbm, ⟨12, _⟩ => ⟨S1x256, .f32⟩
  | .hbm, ⟨13, _⟩ => ⟨S256, .f32⟩
  | .hbm, ⟨14, _⟩ => ⟨S4x2064x256, .f32⟩
  | .hbm, ⟨15, _⟩ => ⟨S1x1x256, .f32⟩
  | .hbm, ⟨16, _⟩ => ⟨S4x2064x256, .f32⟩
  | .hbm, ⟨17, _⟩ => ⟨S4x2064x256, .f32⟩
  | .hbm, ⟨18, _⟩ => ⟨S1x256, .f32⟩
  | .hbm, ⟨19, _⟩ => ⟨S256, .f32⟩
  | .hbm, ⟨20, _⟩ => ⟨S4x2064x256, .f32⟩
  | .hbm, ⟨21, _⟩ => ⟨S1x1x256, .f32⟩
  | .hbm, ⟨22, _⟩ => ⟨S4x2064x256, .f32⟩
  | .hbm, ⟨23, _⟩ => ⟨S4x2064x256, .f32⟩
  | .hbm, ⟨24, _⟩ => ⟨S4x2064x256, .f32⟩
  | .hbm, ⟨25, _⟩ => ⟨S1x256, .f32⟩
  | .hbm, ⟨26, _⟩ => ⟨S256, .f32⟩
  | .hbm, ⟨27, _⟩ => ⟨S4x2064x256, .f32⟩
  | .hbm, ⟨28, _⟩ => ⟨S1x1x256, .f32⟩
  | .hbm, ⟨29, _⟩ => ⟨S4x2064x256, .f32⟩
  | .hbm, ⟨30, _⟩ => ⟨S4x2064x256, .f32⟩
  | .hbm, ⟨31, _⟩ => ⟨S4x2064x256, .f32⟩
  | .hbm, ⟨32, _⟩ => ⟨S4x2064x256, .f32⟩
  | .hbm, ⟨33, _⟩ => ⟨S4x2064x4x64, .f32⟩
  | .hbm, ⟨34, _⟩ => ⟨S2064, .i32⟩
  | .hbm, ⟨35, _⟩ => ⟨S2064x1x1, .i32⟩
  | .hbm, ⟨36, _⟩ => ⟨S2064, .i32⟩
  | .hbm, ⟨37, _⟩ => ⟨S1x2064x1, .i32⟩
  | .hbm, ⟨38, _⟩ => ⟨S4, .i32⟩
  | .hbm, ⟨39, _⟩ => ⟨S_, .i32⟩
  | .hbm, ⟨40, _⟩ => ⟨S4, .i32⟩
  | .hbm, ⟨41, _⟩ => ⟨S4, .i32⟩
  | .hbm, ⟨42, _⟩ => ⟨S2064x2064x1, .i32⟩
  | .hbm, ⟨43, _⟩ => ⟨S2064x2064x1, .i32⟩
  | .hbm, ⟨44, _⟩ => ⟨S2064x2064x1, .i1⟩
  | .hbm, ⟨45, _⟩ => ⟨S1x1x4, .i32⟩
  | .hbm, ⟨46, _⟩ => ⟨S1x2064x4, .i32⟩
  | .hbm, ⟨47, _⟩ => ⟨S1x2064x4, .i32⟩
  | .hbm, ⟨48, _⟩ => ⟨S1x2064x4, .i32⟩
  | .hbm, ⟨49, _⟩ => ⟨S2064x2064x4, .i32⟩
  | .hbm, ⟨50, _⟩ => ⟨S2064x2064x4, .i32⟩
  | .hbm, ⟨51, _⟩ => ⟨S2064x2064x4, .i1⟩
  | .hbm, ⟨52, _⟩ => ⟨S2064x2064x4, .i1⟩
  | .hbm, ⟨53, _⟩ => ⟨S2064x2064x4, .i1⟩
  | .hbm, ⟨54, _⟩ => ⟨S_, .f32⟩
  | .hbm, ⟨55, _⟩ => ⟨S_, .f32⟩
  | .hbm, ⟨56, _⟩ => ⟨S2064x2064x4, .f32⟩
  | .hbm, ⟨57, _⟩ => ⟨S2064x2064x4, .f32⟩
  | .hbm, ⟨58, _⟩ => ⟨S2064x2064x4, .f32⟩
  | .hbm, ⟨59, _⟩ => ⟨S_, .i32⟩
  | .hbm, ⟨60, _⟩ => ⟨S2064x1x1, .i32⟩
  | .hbm, ⟨61, _⟩ => ⟨S2064x1x1, .i32⟩
  | .hbm, ⟨62, _⟩ => ⟨S1x1x4, .i32⟩
  | .hbm, ⟨63, _⟩ => ⟨S2064x1x4, .i32⟩
  | .hbm, ⟨64, _⟩ => ⟨S2064x1x4, .i32⟩
  | .hbm, ⟨65, _⟩ => ⟨S2064x1x4, .i32⟩
  | .hbm, ⟨66, _⟩ => ⟨S2064x1x4, .f32⟩
  | .hbm, ⟨67, _⟩ => ⟨S4x4x64x2064, .f32⟩
  | .hbm, ⟨68, _⟩ => ⟨S4x2064x4x64, .f32⟩
  | .hbm, ⟨69, _⟩ => ⟨S2064x4, .f32⟩
  | .hbm, ⟨70, _⟩ => ⟨S1x2064x4x1, .f32⟩
  | .hbm, ⟨71, _⟩ => ⟨S4x2064x4x64, .f32⟩
  | .hbm, ⟨72, _⟩ => ⟨S4x2064x4x64, .f32⟩
  | .hbm, ⟨73, _⟩ => ⟨S4x2064x4x64, .f32⟩
  | .hbm, ⟨74, _⟩ => ⟨S4x64x4x2064, .f32⟩
  | .hbm, ⟨75, _⟩ => ⟨S4x2064x4x64, .f32⟩
  | .hbm, ⟨76, _⟩ => ⟨S4x2064x256, .f32⟩
  | .hbm, ⟨77, _⟩ => ⟨S1x1x256, .f32⟩
  | .hbm, ⟨78, _⟩ => ⟨S4x2064x256, .f32⟩
  | .hbm, ⟨79, _⟩ => ⟨S4x2064x256, .f32⟩
  | .hbm, ⟨80, _⟩ => ⟨S4x2064x512, .f32⟩
  | .hbm, ⟨81, _⟩ => ⟨S4x2064x512, .bf16⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_0 : Ref sig .tc := ⟨.hbm, 54, rfl⟩
abbrev main_cst_1 : Ref sig .tc := ⟨.hbm, 55, rfl⟩
abbrev main_call0_v0 : Ref sig .tc := ⟨.hbm, 56, rfl⟩
abbrev main_call0_v1 : Ref sig .tc := ⟨.hbm, 57, rfl⟩
abbrev main_v48 : Ref sig .tc := ⟨.hbm, 58, rfl⟩
abbrev main_c_2 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩

abbrev nD : Nat := 1
abbrev τ : Topo := Topo.v7x

variable {F : FTy → Type} [FloatOps F]
-- ==== Kernel25.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S_ : Shape := ⟨0, ![]⟩
abbrev S4x2176x1024 : Shape := ⟨3, ![4, 2176, 1024]⟩
abbrev S8704x1024 : Shape := ⟨2, ![8704, 1024]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S32x256 : Shape := ⟨2, ![32, 256]⟩
abbrev S544x256 : Shape := ⟨2, ![544, 256]⟩
abbrev S16x256 : Shape := ⟨2, ![16, 256]⟩
abbrev S544x1024 : Shape := ⟨2, ![544, 1024]⟩
abbrev S560x1 : Shape := ⟨2, ![560, 1]⟩
abbrev S544x1 : Shape := ⟨2, ![544, 1]⟩
abbrev S560x256 : Shape := ⟨2, ![560, 256]⟩
abbrev S8x256 : Shape := ⟨2, ![8, 256]⟩
abbrev S68x8x256 : Shape := ⟨3, ![68, 8, 256]⟩
abbrev S4x8x256 : Shape := ⟨3, ![4, 8, 256]⟩
abbrev S4x256 : Shape := ⟨2, ![4, 256]⟩
abbrev S64x64 : Shape := ⟨2, ![64, 64]⟩
abbrev S1x64x64 : Shape := ⟨3, ![1, 64, 64]⟩

abbrev nBuf : Space → Nat
  | .hbm => 48
  | .vmem => 31
  | .smem => 0
  | _ => 0

abbrev bufTy : (tb : Table) → Fin (tcTables nBuf tb) → BufTy
  | .hbm, ⟨0, _⟩ => ⟨S4x2064x1024, .f32⟩
  | .hbm, ⟨1, _⟩ => ⟨S4x2064x1024, .f32⟩
  | .hbm, ⟨2, _⟩ => ⟨S3x256, .f32⟩
  | .hbm, ⟨3, _⟩ => ⟨S4x64x64, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S4x2176x1024, .f32⟩
  | .hbm, ⟨8, _⟩ => ⟨S8704x1024, .f32⟩
  | .hbm, ⟨9, _⟩ => ⟨S_, .i32⟩
  | .hbm, ⟨10, _⟩ => ⟨S_, .f32⟩
  | .hbm, ⟨11, _⟩ => ⟨S4x2176x1024, .f32⟩
  | .hbm, ⟨12, _⟩ => ⟨S8704x1024, .f32⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .f32⟩
  | .hbm, ⟨20, _⟩ => ⟨S4x1x4x1, .f32⟩
  | .hbm, ⟨21, _⟩ => ⟨S4x64x1x64, .f32⟩
  | .hbm, ⟨22, _⟩ => ⟨S4x64x4x64, .f32⟩
  | .hbm, ⟨23, _⟩ => ⟨S4x64x4x64, .f32⟩
  | .hbm, ⟨24, _⟩ => ⟨S4x64x4x64, .f32⟩
  | .hbm, ⟨25, _⟩ => ⟨S256x256, .f32⟩
  | .hbm, ⟨26, _⟩ => ⟨S256x256, .bf16⟩
  | .hbm, ⟨27, _⟩ => ⟨S1x256, .f32⟩
  | .hbm, ⟨28, _⟩ => ⟨S8704x1024, .bf16⟩
  | .hbm, ⟨29, _⟩ => ⟨S32x256, .f32⟩
  | .hbm, ⟨30, _⟩ => ⟨S256x256, .f32⟩
  | .hbm, ⟨31, _⟩ => ⟨S4x8x256, .f32⟩
  | .hbm, ⟨32, _⟩ => ⟨S_, .f32⟩
  | .hbm, ⟨33, _⟩ => ⟨S4x256, .f32⟩
  | .hbm, ⟨34, _⟩ => ⟨S4x2176x1024, .bf16⟩
  | .hbm, ⟨35, _⟩ => ⟨S4x2064x1024, .bf16⟩
  | .hbm, ⟨36, _⟩ => ⟨S3x256, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S1x64x64, .f32⟩
  | .hbm, ⟨42, _⟩ => ⟨S1x64x64, .f32⟩
  | .hbm, ⟨43, _⟩ => ⟨S1x64x64, .f32⟩
  | .hbm, ⟨44, _⟩ => ⟨S1x64x64, .f32⟩
  | .hbm, ⟨45, _⟩ => ⟨S4x64x64, .f32⟩
  | .hbm, ⟨46, _⟩ => ⟨S1x256, .f32⟩
  | .hbm, ⟨47, _⟩ => ⟨S256, .f32⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S544x256, .f32⟩
  | .local _ .vmem, ⟨7, _⟩ => ⟨S544x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S16x256, .f32⟩
  | .local _ .vmem, ⟨16, _⟩ => ⟨S544x256, .f32⟩
  | .local _ .vmem, ⟨17, _⟩ => ⟨S544x256, .f32⟩
  | .local _ .vmem, ⟨18, _⟩ => ⟨S544x256, .f32⟩
  | .local _ .vmem, ⟨19, _⟩ => ⟨S544x256, .f32⟩
  | .local _ .vmem, ⟨20, _⟩ => ⟨S16x256, .f32⟩
  | .local _ .vmem, ⟨21, _⟩ => ⟨S16x256, .f32⟩
  | .local _ .vmem, ⟨22, _⟩ => ⟨S16x256, .f32⟩
  | .local _ .vmem, ⟨23, _⟩ => ⟨S16x256, .f32⟩
  | .local _ .vmem, ⟨24, _⟩ => ⟨S3x256, .f32⟩
  | .local _ .vmem, ⟨25, _⟩ => ⟨S256x256, .bf16⟩
  | .local _ .vmem, ⟨26, _⟩ => ⟨S1x256, .f32⟩
  | .local _ .vmem, ⟨27, _⟩ => ⟨S544x1024, .bf16⟩
  | .local _ .vmem, ⟨28, _⟩ => ⟨S544x1024, .bf16⟩
  | .local _ .vmem, ⟨29, _⟩ => ⟨S32x256, .f32⟩
  | .local _ .vmem, ⟨30, _⟩ => ⟨S256x256, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c543_i32 : BitVec 32 := 543#32
  let v2 : BitVec 32 := Scalar.minsi v1 c543_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c543_i32 : BitVec 32 := 543#32
  let v2 : BitVec 32 := Scalar.minsi v1 c543_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c543_i32 : BitVec 32 := 543#32
  let v2 : BitVec 32 := Scalar.minsi v1 c543_i32
  let c1_i32_0 : BitVec 32 := 1#32
  let c0_i32 : BitVec 32 := 0#32
  ![v2.toNat, c1_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S544x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference25Ideal.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S4x2064x256 : Shape := ⟨3, ![4, 2064, 256]⟩
abbrev S_ : Shape := ⟨0, ![]⟩
abbrev S4x2x256 : Shape := ⟨3, ![4, 2, 256]⟩
abbrev S4x2066x256 : Shape := ⟨3, ![4, 2066, 256]⟩
abbrev S1x256 : Shape := ⟨2, ![1, 256]⟩
abbrev S1x1x256 : Shape := ⟨3, ![1, 1, 256]⟩
abbrev S4x2064x4x64 : Shape := ⟨4, ![4, 2064, 4, 64]⟩
abbrev S2064 : Shape := ⟨1, ![2064]⟩
abbrev S2064x1x1 : Shape := ⟨3, ![2064, 1, 1]⟩
abbrev S1x2064x1 : Shape := ⟨3, ![1, 2064, 1]⟩
abbrev S4 : Shape := ⟨1, ![4]⟩
abbrev S2064x2064x1 : Shape := ⟨3, ![2064, 2064, 1]⟩
abbrev S1x1x4 : Shape := ⟨3, ![1, 1, 4]⟩
abbrev S1x2064x4 : Shape := ⟨3, ![1, 2064, 4]⟩
abbrev S2064x2064x4 : Shape := ⟨3, ![2064, 2064, 4]⟩
abbrev S2064x1x4 : Shape := ⟨3, ![2064, 1, 4]⟩
abbrev S4x4x64x2064 : Shape := ⟨4, ![4, 4, 64, 2064]⟩
abbrev S2064x4 : Shape := ⟨2, ![2064, 4]⟩
abbrev S1x2064x4x1 : Shape := ⟨4, ![1, 2064, 4, 1]⟩
abbrev S4x64x4x2064 : Shape := ⟨4, ![4, 64, 4, 2064]⟩
abbrev S4x2064x512 : Shape := ⟨3, ![4, 2064, 512]⟩
abbrev S4x4x2064x64 : Shape := ⟨4, ![4, 4, 2064, 64]⟩

abbrev nBuf : Space → Nat
  | .hbm => 160
  | .vmem => 0
  | .smem => 0
  | _ => 0

abbrev hbmTy0_0 (i : Nat) : BufTy := match i % 128 with
  | 0 => ⟨S4x2064x1024, .f32⟩
  | 1 => ⟨S4x2064x1024, .f32⟩
  | 2 => ⟨S3x256, .f32⟩
  | 3 => ⟨S4x64x64, .f32⟩
  | 4 => ⟨S256, .f32⟩
  | 5 => ⟨S4x2064x256, .f32⟩
  | 6 => ⟨S4x2064x256, .f32⟩
  | 7 => ⟨S4x2064x256, .f32⟩
  | 8 => ⟨S4x2064x256, .f32⟩
  | 9 => ⟨S4x2064x256, .f32⟩
  | 10 => ⟨S_, .f32⟩
  | 11 => ⟨S4x2x256, .f32⟩
  | 12 => ⟨S4x2066x256, .f32⟩
  | 13 => ⟨S_, .f32⟩
  | 14 => ⟨S4x2x256, .f32⟩
  | 15 => ⟨S1x256, .f32⟩
  | 16 => ⟨S256, .f32⟩
  | 17 => ⟨S4x2064x256, .f32⟩
  | 18 => ⟨S1x1x256, .f32⟩
  | 19 => ⟨S4x2064x256, .f32⟩
  | 20 => ⟨S4x2064x256, .f32⟩
  | 21 => ⟨S1x256, .f32⟩
  | 22 => ⟨S256, .f32⟩
  | 23 => ⟨S4x2064x256, .f32⟩
  | 24 => ⟨S1x1x256, .f32⟩
  | 25 => ⟨S4x2064x256, .f32⟩
  | 26 => ⟨S4x2064x256, .f32⟩
  | 27 => ⟨S4x2064x256, .f32⟩
  | 28 => ⟨S1x256, .f32⟩
  | 29 => ⟨S256, .f32⟩
  | 30 => ⟨S4x2064x256, .f32⟩
  | 31 => ⟨S1x1x256, .f32⟩
  | 32 => ⟨S4x2064x256, .f32⟩
  | 33 => ⟨S4x2064x256, .f32⟩
  | 34 => ⟨S4x2064x256, .f32⟩
  | 35 => ⟨S4x2064x256, .f32⟩
  | 36 => ⟨S4x2064x4x64, .f32⟩
  | 37 => ⟨S2064, .i32⟩
  | 38 => ⟨S2064x1x1, .i32⟩
  | 39 => ⟨S2064, .i32⟩
  | 40 => ⟨S1x2064x1, .i32⟩
  | 41 => ⟨S4, .i32⟩
  | 42 => ⟨S_, .i32⟩
  | 43 => ⟨S4, .i32⟩
  | 44 => ⟨S4, .i32⟩
  | 45 => ⟨S2064x2064x1, .i32⟩
  | 46 => ⟨S2064x2064x1, .i32⟩
  | 47 => ⟨S2064x2064x1, .i1⟩
  | 48 => ⟨S1x1x4, .i32⟩
  | 49 => ⟨S1x2064x4, .i32⟩
  | 50 => ⟨S1x2064x4, .i32⟩
  | 51 => ⟨S1x2064x4, .i32⟩
  | 52 => ⟨S2064x2064x4, .i32⟩
  | 53 => ⟨S2064x2064x4, .i32⟩
  | 54 => ⟨S2064x2064x4, .i1⟩
  | 55 => ⟨S2064x2064x4, .i1⟩
  | 56 => ⟨S2064x2064x4, .i1⟩
  | 57 => ⟨S_, .f32⟩
  | 58 => ⟨S_, .f32⟩
  | 59 => ⟨S2064x2064x4, .f32⟩
  | 60 => ⟨S2064x2064x4, .f32⟩
  | 61 => ⟨S2064x2064x4, .f32⟩
  | 62 => ⟨S_, .i32⟩
  | 63 => ⟨S2064x1x1, .i32⟩
  | 64 => ⟨S2064x1x1, .i32⟩
  | 65 => ⟨S1x1x4, .i32⟩
  | 66 => ⟨S2064x1x4, .i32⟩
  | 67 => ⟨S2064x1x4, .i32⟩
  | 68 => ⟨S2064x1x4, .i32⟩
  | 69 => ⟨S2064x1x4, .f32⟩
  | 70 => ⟨S4x4x64x2064, .f32⟩
  | 71 => ⟨S4x2064x4x64, .f32⟩
  | 72 => ⟨S2064x4, .f32⟩
  | 73 => ⟨S1x2064x4x1, .f32⟩
  | 74 => ⟨S4x2064x4x64, .f32⟩
  | 75 => ⟨S4x2064x4x64, .f32⟩
  | 76 => ⟨S4x2064x4x64, .f32⟩
  | 77 => ⟨S4x64x4x2064, .f32⟩
  | 78 => ⟨S4x2064x4x64, .f32⟩
  | 79 => ⟨S4x2064x256, .f32⟩
  | 80 => ⟨S1x1x256, .f32⟩
  | 81 => ⟨S4x2064x256, .f32⟩
  | 82 => ⟨S4x2064x256, .f32⟩
  | 83 => ⟨S4x2064x512, .f32⟩
  | 84 => ⟨S4x2064x512, .f32⟩
  | 85 => ⟨S4x2064x256, .f32⟩
  | 86 => ⟨S4x2064x256, .f32⟩
  | 87 => ⟨S4x2064x256, .f32⟩
  | 88 => ⟨S_, .f32⟩
  | 89 => ⟨S256, .f32⟩
  | 90 => ⟨S1x1x256, .f32⟩
  | 91 => ⟨S4x2064x256, .f32⟩
  | 92 => ⟨S4x2064x256, .f32⟩
  | 93 => ⟨S_, .f32⟩
  | 94 => ⟨S256, .f32⟩
  | 95 => ⟨S4x2064x4x64, .f32⟩
  | 96 => ⟨S4x64x4x2064, .f32⟩
  | 97 => ⟨S4x4x2064x64, .f32⟩
  | 98 => ⟨S4x2064x4x64, .f32⟩
  | 99 => ⟨S4x64x64, .f32⟩
  | 100 => ⟨S4x64x64, .f32⟩
  | 101 => ⟨S4x2064x4x64, .f32⟩
  | 102 => ⟨S4x2064x4x64, .f32⟩
  | 103 => ⟨S4x2064x4x64, .f32⟩
  | 104 => ⟨S4x4x64x2064, .f32⟩
  | 105 => ⟨S4x4x64x2064, .f32⟩
  | 106 => ⟨S4x2064x4x64, .f32⟩
  | 107 => ⟨S4x2064x4x64, .f32⟩
  | 108 => ⟨S4x2064x256, .f32⟩
  | 109 => ⟨S4x2064x256, .f32⟩
  | 110 => ⟨S4x2064x256, .f32⟩
  | 111 => ⟨S4x2064x256, .f32⟩
  | 112 => ⟨S4x2064x256, .f32⟩
  | 113 => ⟨S4x2064x256, .f32⟩
  | 114 => ⟨S_, .f32⟩
  | 115 => ⟨S256, .f32⟩
  | 116 => ⟨S1x1x256, .f32⟩
  | 117 => ⟨S_, .f32⟩
  | 118 => ⟨S256, .f32⟩
  | 119 => ⟨S_, .f32⟩
  | 120 => ⟨S4x2066x256, .f32⟩
  | 121 => ⟨S1x256, .f32⟩
  | 122 => ⟨S_, .f32⟩
  | 123 => ⟨S3x256, .f32⟩
  | 124 => ⟨S4x2064x256, .f32⟩
  | 125 => ⟨S4x2064x256, .f32⟩
  | 126 => ⟨S4x2064x256, .f32⟩
  | 127 => ⟨S_, .f32⟩
  | _ => ⟨S4x2064x1024, .f32⟩

abbrev hbmTy0_1 (i : Nat) : BufTy := match i % 128 with
  | 0 => ⟨S256, .f32⟩
  | 1 => ⟨S1x1x256, .f32⟩
  | 2 => ⟨S_, .f32⟩
  | 3 => ⟨S256, .f32⟩
  | 4 => ⟨S_, .f32⟩
  | 5 => ⟨S4x2066x256, .f32⟩
  | 6 => ⟨S4x2066x256, .f32⟩
  | 7 => ⟨S1x256, .f32⟩
  | 8 => ⟨S_, .f32⟩
  | 9 => ⟨S3x256, .f32⟩
  | 10 => ⟨S3x256, .f32⟩
  | 11 => ⟨S4x2064x256, .f32⟩
  | 12 => ⟨S4x2064x256, .f32⟩
  | 13 => ⟨S4x2064x256, .f32⟩
  | 14 => ⟨S_, .f32⟩
  | 15 => ⟨S256, .f32⟩
  | 16 => ⟨S1x1x256, .f32⟩
  | 17 => ⟨S_, .f32⟩
  | 18 => ⟨S256, .f32⟩
  | 19 => ⟨S_, .f32⟩
  | 20 => ⟨S4x2066x256, .f32⟩
  | 21 => ⟨S4x2066x256, .f32⟩
  | 22 => ⟨S1x256, .f32⟩
  | 23 => ⟨S_, .f32⟩
  | 24 => ⟨S3x256, .f32⟩
  | 25 => ⟨S3x256, .f32⟩
  | 26 => ⟨S4x2x256, .f32⟩
  | 27 => ⟨S4x2064x256, .f32⟩
  | 28 => ⟨S4x2064x256, .f32⟩
  | 29 => ⟨S4x2064x256, .f32⟩
  | 30 => ⟨S4x2064x1024, .f32⟩
  | 31 => ⟨S4x2064x1024, .bf16⟩
  | _ => ⟨S4x2064x1024, .f32⟩

abbrev hbmTy (i : Nat) : BufTy := match i / 128 with
  | 0 => hbmTy0_0 i
  | 1 => hbmTy0_1 i
  | _ => ⟨S4x2064x1024, .f32⟩

abbrev bufTy : (tb : Table) → Fin (tcTables nBuf tb) → BufTy
  | .hbm, ⟨i, _⟩ => hbmTy i
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_1 : Ref sig .tc := ⟨.hbm, 57, rfl⟩
abbrev main_cst_2 : Ref sig .tc := ⟨.hbm, 58, rfl⟩
abbrev main_call0_v0 : Ref sig .tc := ⟨.hbm, 59, rfl⟩
abbrev main_call0_v1 : Ref sig .tc := ⟨.hbm, 60, rfl⟩
abbrev main_v49 : Ref sig .tc := ⟨.hbm, 61, rfl⟩
abbrev main_c_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_4 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_5 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_6 : Ref sig .tc := ⟨.hbm, 114, rfl⟩
abbrev main_v99 : Ref sig .tc := ⟨.hbm, 115, rfl⟩
abbrev main_v100 : Ref sig .tc := ⟨.hbm, 116, rfl⟩
abbrev main_cst_7 : Ref sig .tc := ⟨.hbm, 117, rfl⟩
abbrev main_v101 : Ref sig .tc := ⟨.hbm, 118, rfl⟩
abbrev main_cst_8 : Ref sig .tc := ⟨.hbm, 119, rfl⟩
abbrev main_v102 : Ref sig .tc := ⟨.hbm, 120, rfl⟩
abbrev main_v103 : Ref sig .tc := ⟨.hbm, 121, rfl⟩
abbrev main_cst_9 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_10 : Ref sig .tc := ⟨.hbm, 127, rfl⟩
abbrev main_v108 : Ref sig .tc := ⟨.hbm, 128, rfl⟩
abbrev main_v109 : Ref sig .tc := ⟨.hbm, 129, rfl⟩
abbrev main_cst_11 : Ref sig .tc := ⟨.hbm, 130, rfl⟩
abbrev main_v110 : Ref sig .tc := ⟨.hbm, 131, rfl⟩
abbrev main_cst_12 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_13 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_14 : Ref sig .tc := ⟨.hbm, 142, rfl⟩
abbrev main_v119 : Ref sig .tc := ⟨.hbm, 143, rfl⟩
abbrev main_v120 : Ref sig .tc := ⟨.hbm, 144, rfl⟩
abbrev main_cst_15 : Ref sig .tc := ⟨.hbm, 145, rfl⟩
abbrev main_v121 : Ref sig .tc := ⟨.hbm, 146, rfl⟩
abbrev main_cst_16 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_17 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩

abbrev nD : Nat := 1
abbrev τ : Topo := Topo.v7x

variable {F : FTy → Type} [FloatOps F]
-- ==== Proof.DownDx.lean ====
/- The gradient through the second matrix of the feed-forward block and through its squared rectifier: what the kernel
   writes, tile by tile, is what the reference computes. -/
module

public import proofs.«01_k».proof.Defs
public import proofs.«01_k».proof.Proof.Gen.Kernel2Ideal.Value
public import proofs.«01_k».proof.Proof.Gen.Reference2Ideal.Read
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Ring

@[expose] public section

set_option maxRecDepth 16384
set_option maxHeartbeats 4000000

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The gradient with respect to the squared rectifier's input, row by row: the cotangent times the matrix turned, times
    the rectifier's slope. -/
def dm (a : FVec Ideal S8704x4096 .f32) (w : FVec Ideal S2x4096x1024 .f32) (d : FVec Ideal S8704x1024 .f32) (r : Fin 8704) (j : Fin 4096) : EReal :=
  (∑ k : Fin 1024, d (ix2 r k) * w (ix3 1 j k)) * (Ideal.ofBits .f32 0x40000000#32 * max (a (ix2 r j)) 0)

theorem idx : ∀ t : Fin cfg0.N, win0_0.index t = ![t.val, 0] ∧ win0_1.index t = ![t.val, 0] ∧ win0_2.index t = ![1, 0, 0] ∧ win0_3.index t = ![t.val, 0] :=
  (by decide +kernel : ∀ t : Fin grid0.N, _)

theorem tlt (t : Fin cfg0.N) : t.val < 16 := lt_of_lt_of_eq t.isLt N_0

theorem iblk0 (c : Dev nD) (t : Fin cfg0.N) (i : Fin 544) (k : Fin 1024) (r : Fin 8704) (hr : t.val * 544 + i.val = r.val) :
    (iblk m c 0 t : FVec Ideal S544x1024 .f32) (ix2 i k) = (m ((c : Thread nD τ).loc main_arg2) : FVec Ideal S8704x1024 .f32) (ix2 r k) := by
  have ht := tlt t
  obtain ⟨r, h⟩ := r
  obtain rfl : t.val * 544 + i.val = r := hr
  blk_ext [iblk, idx t, V]

theorem V_v0 (c : Dev nD) (j : S8704x4096.Idx) : (V m c main_v0 : FVec Ideal S8704x4096 .bf16) j = (m ((c : Thread nD τ).loc main_arg0) : FVec Ideal S8704x4096 .f32) j := by
  unfold V
  simp only [hostOps0, List.flatten_cons, List.flatten_nil, List.cons_append, List.nil_append, List.append_nil]
  after_results_simp
  rfl

theorem V_v1 (c : Dev nD) (j : S2x4096x1024.Idx) : (V m c main_v1 : FVec Ideal S2x4096x1024 .bf16) j = (m ((c : Thread nD τ).loc main_arg1) : FVec Ideal S2x4096x1024 .f32) j := by
  unfold V
  simp only [hostOps0, List.flatten_cons, List.flatten_nil, List.cons_append, List.nil_append, List.append_nil]
  after_results_simp
  rfl

theorem iblk1 (c : Dev nD) (t : Fin cfg0.N) (i : Fin 544) (j : Fin 4096) (r : Fin 8704) (hr : t.val * 544 + i.val = r.val) :
    (iblk m c 1 t : FVec Ideal S544x4096 .bf16) (ix2 i j) = (m ((c : Thread nD τ).loc main_arg0) : FVec Ideal S8704x4096 .f32) (ix2 r j) := by
  have ht := tlt t
  obtain ⟨r, h⟩ := r
  obtain rfl : t.val * 544 + i.val = r := hr
  refine Eq.trans (b := (V m c main_v0 : FVec Ideal S8704x4096 .bf16) (ix2 ⟨t.val * 544 + i.val, by omega⟩ j)) ?_ (V_v0 m c _)
  blk_ext [iblk, idx t]

theorem iblk2 (c : Dev nD) (t : Fin cfg0.N) (j : Fin 4096) (k : Fin 1024) :
    (iblk m c 2 t : FVec Ideal S1x4096x1024 .bf16) (ix3 0 j k) = (m ((c : Thread nD τ).loc main_arg1) : FVec Ideal S2x4096x1024 .f32) (ix3 1 j k) := by
  refine Eq.trans (b := (V m c main_v1 : FVec Ideal S2x4096x1024 .bf16) (ix3 1 j k)) ?_ (V_v1 m c _)
  blk_ext [iblk, idx t]

/-- One piece's element, from the elements it reads. -/
theorem point (c : Dev nD) (t : Fin cfg0.N) (o : ℕ) (g g') (i : Fin 544) (j : Fin 512) (r : Fin 8704) (n : Fin 4096) (hr : t.val * 544 + i.val = r.val) (hn : n.val = o + j.val) :
    k0_pay3 (F := Ideal) (View.ld (iblk m c 0 t) r0_0) (View.ld (iblk m c 2 t) (Rect.unit (s := S1x4096x1024) ![0, o, 0] S1x512x1024.size g))
        (View.ld (iblk m c 1 t) (Rect.unit (s := S544x4096) ![0, o] S544x512.size g')) (ix2 i j)
      = dm (m ((c : Thread nD τ).loc main_arg0)) (m ((c : Thread nD τ).loc main_arg1)) (m ((c : Thread nD τ).loc main_arg2)) r n := by
  pointwise [k0_pay3, k0_pay2]
  unfold dm
  obtain ⟨n, h⟩ := n
  obtain rfl : n = o + j.val := hn
  simp only [iblk0 m c t i _ r hr, iblk1 m c t i _ r hr, iblk2 m c t]

/-- The eight column pieces a point stores, in the rows of the array. -/
theorem pieces (c : Dev nD) (t : Fin cfg0.N) (y : S544x4096.Idx) (r : Fin 8704) (n : Fin 4096) (hr : t.val * 544 + (y 0).val = r.val) (hn : (y 1).val = n.val) :
    out0_3 (iblk m c 0 t) (iblk m c 1 t) (iblk m c 2 t) y
      = dm (m ((c : Thread nD τ).loc main_arg0)) (m ((c : Thread nD τ).loc main_arg1)) (m ((c : Thread nD τ).loc main_arg2)) r n := by
  unfold_out out0_3
  refine View.canon_eq_of_allAt (Val := Elt Ideal) (S := S544x4096) (e := .bf16) _ y _ (View.cover_of_tiledL _ ![544, 512] rfl y) ?_
  refine View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_nil _ _))))))))
  · intro x h
    obtain ⟨i, j, rfl⟩ : ∃ i j, x = ix2 i j := ⟨x 0, x 1, eq_ix2 x⟩
    have e0 : (y 0).val = i.val := (h 0).trans (Nat.zero_add _)
    exact point m c t 3584 _ _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point m c t 3072 _ _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point m c t 2560 _ _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point m c t 2048 _ _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point m c t 1536 _ _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point m c t 1024 _ _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point m c t 512 _ _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point m c t 0 _ _ i j r n (by omega) (hn.symm.trans (h 1))

/-- What the output array holds after the last grid point. -/
theorem array (c : Dev nD) (r : Fin 8704) (n : Fin 4096) :
    ((dats m 0 c).arrAt 3 (cfgs 0).N : FVec Ideal S8704x4096 .bf16) (ix2 r n)
      = dm (m ((c : Thread nD τ).loc main_arg0)) (m ((c : Thread nD τ).loc main_arg1)) (m ((c : Thread nD τ).loc main_arg2)) r n := by
  refine (dats m 0 c).arrAt_forall_of_covers 3 (fun (x : S8704x4096.Idx) (v : EReal) => ∀ (r : Fin 8704) (n : Fin 4096), (x 0).val = r.val → (x 1).val = n.val →
      v = dm (m ((c : Thread nD τ).loc main_arg0)) (m ((c : Thread nD τ).loc main_arg1)) (m ((c : Thread nD τ).loc main_arg2)) r n)
      (by decide +kernel) (fun t hf y => ?_) (ix2 r n) (Memref.isWhole_whole _) r n rfl rfl
  blk_simp
  rw [after0_3]
  have e0 : win0_3.index t 0 = t.val := by rw [(idx t).2.2.2]; rfl
  have e1 : win0_3.index t 1 = 0 := by rw [(idx t).2.2.2]; rfl
  rw [e0, e1]
  intro r n hr hn
  exact pieces m c t y r n hr (by omega)

end Cert.Kernel2Ideal.Value

namespace Cert.Reference2Ideal.Plain

open Idealize.ShloMosaic Idealize.ShloMosaic.TcCoe Idealize.SL.Sem
open Cert.Reference2Ideal Cert.Reference2Ideal.Gen Cert.Reference2Ideal.Read

/-- The reference's gradient, element by element: where the rectifier's input is not positive both are zero. -/
theorem v14_at (a : FVec Ideal S8704x4096 .f32) (w : FVec Ideal S2x4096x1024 .f32) (d : FVec Ideal S8704x1024 .f32) (r : Fin 8704) (n : Fin 4096) :
    val_main_v14 (F := Ideal) a w d (ix2 r n) = Cert.Kernel2Ideal.Value.dm a w d r n := by
  pointwise [val_main_v14, val_main_v13, val_main_v12, val_main_v11, val_main_v10, val_main_v8, val_main_v7, val_main_v6, val_main_v5, val_main_v2, val_main_v1, val_main_v0,
    val_main_cst, val_main_cst_1, val_main_cst_2, val_main_call0_v0, val_main_call0_cst]
  unfold Cert.Kernel2Ideal.Value.dm
  split_ifs with h
  · rfl
  · rw [max_eq_right (not_lt.mp h), mul_zero, mul_zero]

end Cert.Reference2Ideal.Plain

namespace Cert.Proof.DownDx

open Idealize.ShloMosaic Idealize.ShloMosaic.TcCoe Idealize.SL.Sem

/-- At the ideal instance the kernel's gradient is the reference's. -/
theorem algebraic : Cert.algebraic_Kernel2Ideal_Reference2Ideal := by
  pair_intro
  · run_from Cert.Kernel2Ideal.Value.run_blocks m g
  · run_from Cert.Reference2Ideal.Value.run m' g'
    · refine (Cert.Reference2Ideal.Read.val_main_v14_eq ..).trans ?_
      funext i
      rw [eq_ix2 i]
      exact (Cert.Reference2Ideal.Plain.v14_at ..).trans (Cert.Kernel2Ideal.Value.array m c (i 0) (i 1)).symm

end Cert.Proof.DownDx

end
-- ==== Proof.Norm.lean ====
/- The root mean square normalisation of one row, as both the kernels and the references spell it, and its gradient, where
   they differ: the kernels work with the normalised row, the references differentiate the root's argument. -/
module

public import Idealize.ShloMosaic.Lib.Pointwise

@[expose] public section

noncomputable section

namespace Cert.Norm

open Idealize.ShloMosaic

/-- The mean of the squares of a row, and the small constant added to it. -/
abbrev ms (x : Fin 1024 → EReal) : EReal :=
  Ideal.div (∑ k, x k * x k) (Ideal.ofBits .f32 0x44800000#32) + Ideal.ofBits .f32 0x358637BD#32

/-- The row divided by the root of that mean, times the gains. -/
abbrev norm (x g : Fin 1024 → EReal) (j : Fin 1024) : EReal := x j * Ideal.rsqrt (ms x) * g j

/-- The gradient in the row for the cotangent `w` (gains already in it), added to `d`, as the kernels compute it. -/
abbrev back (x w : Fin 1024 → EReal) (d : EReal) (j : Fin 1024) : EReal :=
  d + Ideal.rsqrt (ms x) * (w j - x j * Ideal.rsqrt (ms x)
    * Ideal.div (∑ k, w k * (x k * Ideal.rsqrt (ms x))) (Ideal.ofBits .f32 0x44800000#32))

theorem bits_1024 : Ideal.ofBits .f32 0x44800000#32 = ((1024 : ℝ) : EReal) := by
  simp [Ideal.ofBits, Ideal.ieee, -EReal.coe_mul]; norm_num

theorem bits_half : Ideal.ofBits .f32 0xBF000000#32 = ((-(1 / 2) : ℝ) : EReal) := by
  simp [Ideal.ofBits, Ideal.ieee, -EReal.coe_mul, -EReal.coe_neg]; norm_num

/-- The small constant is a positive real. -/
theorem bits_eps : ∃ e : ℝ, 0 < e ∧ Ideal.ofBits .f32 0x358637BD#32 = (e : EReal) := by
  refine ⟨_, ?_, by simp [Ideal.ofBits, Ideal.ieee, -EReal.coe_mul]; rfl⟩
  norm_num

/-- The mean of the squares with the constant is a positive real or infinite. -/
theorem ms_cases (x : Fin 1024 → EReal) : ms x = ⊤ ∨ ∃ v : ℝ, 0 < v ∧ ms x = (v : EReal) := by
  obtain ⟨e, he, h⟩ := bits_eps
  have h0 : (0 : EReal) ≤ ∑ k, x k * x k := Finset.sum_nonneg fun k _ => by
    rcases le_total 0 (x k) with hk | hk
    · exact mul_nonneg hk hk
    · rw [← neg_mul_neg]
      exact mul_nonneg (EReal.neg_nonneg.mpr hk) (EReal.neg_nonneg.mpr hk)
  unfold ms
  rw [h, bits_1024, Ideal.div_coe (by norm_num)]
  generalize (∑ k, x k * x k) = q at h0 ⊢
  induction q using EReal.rec with
  | bot => exact absurd h0 (by simp)
  | top =>
    left
    rw [EReal.top_mul_coe_of_pos (by norm_num), EReal.top_add_coe]
  | coe v =>
    right
    refine ⟨v * (1 / 1024) + e, ?_, by push_cast; rfl⟩
    have : 0 ≤ v := by exact_mod_cast h0
    positivity

/-- A nonnegative real factor goes into a sum. -/
theorem mul_sum (c : ℝ) (hc : 0 ≤ c) {ι : Type} (s : Finset ι) (f : ι → EReal) : (c : EReal) * ∑ k ∈ s, f k = ∑ k ∈ s, (c : EReal) * f k := by
  classical
  induction s using Finset.induction_on with
  | empty => simp
  | insert a s ha ih =>
    rw [Finset.sum_insert ha, Finset.sum_insert ha, EReal.left_distrib_of_nonneg_of_ne_top (by exact_mod_cast hc) (EReal.coe_ne_top _), ih]

/-- The references' form of the gradient is the kernels'. -/
theorem back_eq (x w : Fin 1024 → EReal) (d : EReal) (j : Fin 1024) :
    d + w j * Ideal.rsqrt (ms x)
      + x j * (∑ _x : Fin 1, Ideal.div ((∑ k, x k * w k) * (Ideal.ofBits .f32 0xBF000000#32 * Ideal.div (Ideal.rsqrt (ms x)) (ms x))) (Ideal.ofBits .f32 0x44800000#32))
      + (∑ _x : Fin 1, Ideal.div ((∑ k, x k * w k) * (Ideal.ofBits .f32 0xBF000000#32 * Ideal.div (Ideal.rsqrt (ms x)) (ms x))) (Ideal.ofBits .f32 0x44800000#32)) * x j
      = back x w d j := by
  unfold back
  simp only [Finset.univ_unique, Finset.sum_singleton]
  rw [bits_1024, bits_half, Ideal.div_coe (by norm_num), Ideal.div_coe (by norm_num), add_assoc, add_assoc]
  refine congrArg (fun v : EReal => d + v) ?_
  rcases ms_cases x with h | ⟨v, hv, h⟩
  · rw [h]
    simp [Ideal.div]
  · rw [h, Ideal.div_coe (ne_of_gt hv), Ideal.rsqrt_coe, if_neg (not_lt.mpr hv.le), if_neg (ne_of_gt hv)]
    have hr : 0 < (Real.sqrt v)⁻¹ := by positivity
    have hrr : 1 / v = (Real.sqrt v)⁻¹ * (Real.sqrt v)⁻¹ := by
      rw [← mul_inv, Real.mul_self_sqrt hv.le, one_div]
    rw [hrr]
    generalize (Real.sqrt v)⁻¹ = r at hr ⊢
    have hS : ∑ k, w k * (x k * (r : EReal)) = (r : EReal) * ∑ k, x k * w k := by
      rw [mul_sum r hr.le]
      exact Finset.sum_congr rfl fun k _ => by ac_rfl
    rw [hS]
    generalize (∑ k, x k * w k) = S
    rw [sub_eq_add_neg, EReal.left_distrib_of_nonneg_of_ne_top (by exact_mod_cast hr.le) (EReal.coe_ne_top _), mul_comm (w j)]
    refine congrArg (fun u : EReal => (r : EReal) * w j + u) ?_
    have hc : (0 : ℝ) ≤ 1 / 2 * r * r * r * (1 / 1024) := by positivity
    have e1 : S * (((-(1 / 2) : ℝ) : EReal) * ((r : EReal) * ((r * r : ℝ) : EReal))) * ((1 / 1024 : ℝ) : EReal)
        = -(S * ((1 / 2 * r * r * r * (1 / 1024) : ℝ) : EReal)) := by
      rw [← EReal.coe_mul, ← EReal.coe_mul, mul_assoc, ← EReal.coe_mul, ← mul_neg, ← EReal.coe_neg]
      congr 2
      ring
    have e2 : (r : EReal) * -(x j * (r : EReal) * ((r : EReal) * S * ((1 / 1024 : ℝ) : EReal)))
        = -(x j * S * ((1 / 2 * r * r * r * (1 / 1024) + 1 / 2 * r * r * r * (1 / 1024) : ℝ) : EReal)) := by
      rw [mul_neg, show (1 / 2 * r * r * r * (1 / 1024) + 1 / 2 * r * r * r * (1 / 1024) : ℝ) = r * (r * (r * (1 / 1024))) by ring]
      push_cast
      congr 1
      ac_rfl
    rw [e1, e2, EReal.coe_add]
    have hc' : (0 : EReal) ≤ ((1 / 2 * r * r * r * (1 / 1024) : ℝ) : EReal) := EReal.coe_nonneg.mpr hc
    rw [EReal.left_distrib_of_nonneg hc' hc', mul_neg, neg_mul, ← mul_assoc, mul_comm _ (x j), ← mul_assoc]
    generalize x j * S * ((1 / 2 * r * r * r * (1 / 1024) : ℝ) : EReal) = u
    induction u using EReal.rec with
    | bot => rfl
    | top => rfl
    | coe u => norm_cast; ring

end Cert.Norm

end
-- ==== Proof.Rows.lean ====
/- Arrays read at natural numbers, and sums over rows taken block by block. -/
module

public import Idealize.ShloMosaic.Lib.Pointwise
public import Idealize.ShloMosaic.Lib.Pipeline.ValueKit

@[expose] public section

noncomputable section

namespace Cert.Rows

open Idealize.ShloMosaic

/-- A two-axis array read at natural numbers, zero outside. -/
def at2 {a b : ℕ} (x : Fin a → Fin b → EReal) (i j : ℕ) : EReal :=
  if h : i < a ∧ j < b then x ⟨i, h.1⟩ ⟨j, h.2⟩ else 0

theorem at2_val {a b : ℕ} (x : Fin a → Fin b → EReal) (i : Fin a) (j : Fin b) : at2 x i.val j.val = x i j := by
  unfold at2
  rw [dif_pos ⟨i.isLt, j.isLt⟩]

theorem at2_mk {a b : ℕ} (x : Fin a → Fin b → EReal) (i j : ℕ) (hi : i < a) (hj : j < b) : at2 x i j = x ⟨i, hi⟩ ⟨j, hj⟩ := by
  unfold at2
  rw [dif_pos ⟨hi, hj⟩]

/-- A sum over the rows, taken block by block. -/
theorem sum_blocks (f : ℕ → EReal) (K B : ℕ) :
    ∑ k ∈ Finset.range K, ∑ x : Fin B, f (k * B + x.val) = ∑ r : Fin (K * B), f r.val := by
  rw [Fin.sum_univ_eq_sum_range (fun r => f r) (K * B)]
  induction K with
  | zero => simp
  | succ K ih =>
    rw [Finset.sum_range_succ, ih, Nat.succ_mul, Finset.sum_range_add, Fin.sum_univ_eq_sum_range (fun x => f (K * B + x)) B]

/-- The same where each block is first folded onto eight rows. -/
theorem sum_folds (f : ℕ → EReal) (K B : ℕ) :
    ∑ s : Fin 8, ∑ k ∈ Finset.range K, ∑ a : Fin B, f (k * (B * 8) + (a.val * 8 + s.val)) = ∑ r : Fin (K * (B * 8)), f r.val := by
  rw [Finset.sum_comm, ← sum_blocks f K (B * 8)]
  refine Finset.sum_congr rfl fun k _ => ?_
  rw [Finset.sum_comm, ← sum_blocks (fun x => f (k * (B * 8) + x)) B 8]
  exact Fin.sum_univ_eq_sum_range (fun a => ∑ s : Fin 8, f (k * (B * 8) + (a * 8 + s.val))) B

/-- Stores over earlier ones: where some of the later stores holds the entry and all of them have one value there, that value is read. -/
theorem canon_front {Val : EltTy → Type} {S : Shape} {e : EltTy} [∀ e, Nonempty (Val e)] : ∀ (L L' : List (View.Piece Val S e)) (y : S.Idx) (v : Val e),
    (∃ p ∈ L, y ∈ p.1.set) → View.AllAt L y v → View.canon (L ++ L') y = v
  | [], _, _, _, hc, _ => by obtain ⟨p, hp, _⟩ := hc; exact absurd hp List.not_mem_nil
  | p :: L, L', y, v, hc, h => by
    show View.canon (p :: (L ++ L')) y = v
    by_cases hm : y ∈ p.1.set
    · obtain ⟨x, rfl⟩ := p.1.exists_idx_of_mem hm
      exact (View.canon_cons_emb p.1 p.2 (L ++ L') x).trans (h p List.mem_cons_self x rfl)
    · rw [View.canon_cons_of_not_mem _ _ hm]
      refine canon_front L L' y v ?_ fun q hq => h q (List.mem_cons_of_mem _ hq)
      obtain ⟨q, hq, hyq⟩ := hc
      rcases List.mem_cons.mp hq with rfl | hq'
      · exact absurd hyq hm
      · exact ⟨q, hq', hyq⟩

end Cert.Rows

end
-- ==== Proof.UpDx.lean ====
/- The gradients behind the feed-forward block's first matrix: the cotangent through the matrix and the normalisation, its
   product with the output projection, and the gains' gradient added up over blocks and eight-row folds. -/
module

public import proofs.«01_k».proof.Defs
public import proofs.«01_k».proof.Proof.Norm
public import proofs.«01_k».proof.Proof.Rows
public import proofs.«01_k».proof.Proof.Gen.Kernel3Ideal.Frame
public import proofs.«01_k».proof.Proof.Gen.Reference3Ideal.Read
public import Idealize.ShloMosaic.Lib.Claim
public import Idealize.ShloMosaic.Lib.Pipeline.ReadBack
public import Idealize.ShloMosaic.Lib.Pipeline.FrameSuffix
public import Idealize.ShloMosaic.Lib.Ring
public import Idealize.ShloMosaic.Lib.IdealHost

@[expose] public section

set_option maxRecDepth 16384
set_option maxHeartbeats 4000000

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen Cert.Rows

variable (m : (ℓ : Loc nD τ sig) → Buf (Elt Ideal) ℓ)

/-- The cotangent behind the normalisation: through the second layer's matrix. -/
def dyn (wu : FVec Ideal S2x1024x4096 .f32) (dm : FVec Ideal S8704x4096 .f32) (r : Fin 8704) (n : Fin 1024) : EReal :=
  ∑ k : Fin 4096, dm (ix2 r k) * wu (ix3 1 n k)

/-- The gradient of the block's input. -/
def dhm (x : FVec Ideal S8704x1024 .f32) (g : FVec Ideal S1024 .f32) (wu : FVec Ideal S2x1024x4096 .f32) (dm : FVec Ideal S8704x4096 .f32)
    (dh : FVec Ideal S8704x1024 .f32) (r : Fin 8704) (n : Fin 1024) : EReal :=
  Cert.Norm.back (fun k => x (ix2 r k)) (fun k => dyn wu dm r k * g (ix1 k)) (dh (ix2 r n)) n

/-- Its product with the second layer's output projection. -/
def dy (x : FVec Ideal S8704x1024 .f32) (g : FVec Ideal S1024 .f32) (wu : FVec Ideal S2x1024x4096 .f32) (wo : FVec Ideal S2x1024x1024 .f32)
    (dm : FVec Ideal S8704x4096 .f32) (dh : FVec Ideal S8704x1024 .f32) (r : Fin 8704) (n : Fin 1024) : EReal :=
  ∑ k : Fin 1024, dhm x g wu dm dh r k * wo (ix3 1 n k)

/-- One row's share in the gains' gradient. -/
def share (x : FVec Ideal S8704x1024 .f32) (wu : FVec Ideal S2x1024x4096 .f32) (dm : FVec Ideal S8704x4096 .f32) (r : Fin 8704) (n : Fin 1024) : EReal :=
  dyn wu dm r n * (x (ix2 r n) * Ideal.rsqrt (Cert.Norm.ms fun k => x (ix2 r k)))

/-- The gains' gradient. -/
def dg (x : FVec Ideal S8704x1024 .f32) (wu : FVec Ideal S2x1024x4096 .f32) (dm : FVec Ideal S8704x4096 .f32) (n : Fin 1024) : EReal :=
  ∑ r : Fin 8704, share x wu dm r n

/-- What each of the eight rows of the folded sums holds. -/
def fold (x : FVec Ideal S8704x1024 .f32) (wu : FVec Ideal S2x1024x4096 .f32) (dm : FVec Ideal S8704x4096 .f32) (s : Fin 8) (n : Fin 1024) : EReal :=
  ∑ k ∈ Finset.range 16, ∑ a : Fin 68, at2 (share x wu dm) (k * 544 + (a.val * 8 + s.val)) n.val

theorem fold_eq (x : FVec Ideal S8704x1024 .f32) (wu : FVec Ideal S2x1024x4096 .f32) (dm : FVec Ideal S8704x4096 .f32) (n : Fin 1024) :
    ∑ s : Fin 8, fold x wu dm s n = dg x wu dm n := by
  refine (sum_folds (fun r => at2 (share x wu dm) r n.val) 16 68).trans ?_
  unfold dg
  show ∑ r : Fin 8704, _ = _
  simp only [at2_val]

/-- The inputs as the program's start holds them. -/
abbrev X (c : Dev nD) : FVec Ideal S8704x1024 .f32 := m ((c : Thread nD τ).loc main_arg0)
abbrev G (c : Dev nD) : FVec Ideal S1024 .f32 := m ((c : Thread nD τ).loc main_arg1)
abbrev WU (c : Dev nD) : FVec Ideal S2x1024x4096 .f32 := m ((c : Thread nD τ).loc main_arg2)
abbrev WO (c : Dev nD) : FVec Ideal S2x1024x1024 .f32 := m ((c : Thread nD τ).loc main_arg3)
abbrev M (c : Dev nD) : FVec Ideal S8704x4096 .f32 := m ((c : Thread nD τ).loc main_arg4)
abbrev D (c : Dev nD) : FVec Ideal S8704x1024 .f32 := m ((c : Thread nD τ).loc main_arg5)

theorem idx : ∀ t : Fin cfg0.N, win0_0.index t = ![t.val, 0] ∧ win0_1.index t = ![t.val, 0] ∧ win0_2.index t = ![t.val, 0]
    ∧ win0_3.index t = ![0, 0] ∧ win0_4.index t = ![1, 0, 0] ∧ win0_5.index t = ![1, 0, 0]
    ∧ win0_6.index t = ![t.val, 0] ∧ win0_7.index t = ![t.val, 0] ∧ win0_8.index t = ![0, 0] :=
  (by decide +kernel : ∀ t : Fin grid0.N, _)

theorem tlt (t : Fin cfg0.N) : t.val < 16 := lt_of_lt_of_eq t.isLt N_0

theorem V_v0 (c : Dev nD) : (V m c main_v0 : FVec Ideal S8704x4096 .bf16) = M m c := by
  unfold V V0
  simp only [hostOps0, List.flatten_cons, List.flatten_nil, List.cons_append, List.nil_append, List.append_nil]
  after_results_simp
  rfl

theorem V_v1 (c : Dev nD) : (V m c main_v1 : FVec Ideal S2x1024x4096 .bf16) = WU m c := by
  unfold V V0
  simp only [hostOps0, List.flatten_cons, List.flatten_nil, List.cons_append, List.nil_append, List.append_nil]
  after_results_simp
  rfl

theorem V_v2 (c : Dev nD) : (V m c main_v2 : FVec Ideal S2x1024x1024 .bf16) = WO m c := by
  unfold V V0
  simp only [hostOps0, List.flatten_cons, List.flatten_nil, List.cons_append, List.nil_append, List.append_nil]
  after_results_simp
  rfl

theorem V_v3 (c : Dev nD) (k : Fin 1024) : (V m c main_v3 : FVec Ideal S1x1024 .f32) (ix2 0 k) = G m c (ix1 k) := by
  unfold V V0
  simp only [hostOps0, List.flatten_cons, List.flatten_nil, List.cons_append, List.nil_append, List.append_nil]
  after_results_simp
  pointwise

theorem iblk0 (c : Dev nD) (t : Fin cfg0.N) (i : Fin 544) (k : Fin 4096) (r : Fin 8704) (hr : t.val * 544 + i.val = r.val) :
    (iblk m c 0 t : FVec Ideal S544x4096 .bf16) (ix2 i k) = M m c (ix2 r k) := by
  have ht := tlt t
  obtain ⟨r, h⟩ := r
  obtain rfl : t.val * 544 + i.val = r := hr
  rw [← V_v0 m c]
  blk_ext [iblk, idx t]

theorem iblk1 (c : Dev nD) (t : Fin cfg0.N) (i : Fin 544) (k : Fin 1024) (r : Fin 8704) (hr : t.val * 544 + i.val = r.val) :
    (iblk m c 1 t : FVec Ideal S544x1024 .f32) (ix2 i k) = X m c (ix2 r k) := by
  have ht := tlt t
  obtain ⟨r, h⟩ := r
  obtain rfl : t.val * 544 + i.val = r := hr
  blk_ext [iblk, idx t, V]

theorem iblk2 (c : Dev nD) (t : Fin cfg0.N) (i : Fin 544) (k : Fin 1024) (r : Fin 8704) (hr : t.val * 544 + i.val = r.val) :
    (iblk m c 2 t : FVec Ideal S544x1024 .f32) (ix2 i k) = D m c (ix2 r k) := by
  have ht := tlt t
  obtain ⟨r, h⟩ := r
  obtain rfl : t.val * 544 + i.val = r := hr
  blk_ext [iblk, idx t, V]

theorem iblk3 (c : Dev nD) (t : Fin cfg0.N) (k : Fin 1024) : (iblk m c 3 t : FVec Ideal S1x1024 .f32) (ix2 0 k) = G m c (ix1 k) := by
  refine Eq.trans (b := (V m c main_v3 : FVec Ideal S1x1024 .f32) (ix2 0 k)) ?_ (V_v3 m c _)
  blk_ext [iblk, idx t]

theorem iblk4 (c : Dev nD) (t : Fin cfg0.N) (j : Fin 1024) (k : Fin 4096) :
    (iblk m c 4 t : FVec Ideal S1x1024x4096 .bf16) (ix3 0 j k) = WU m c (ix3 1 j k) := by
  rw [← V_v1 m c]
  blk_ext [iblk, idx t]

theorem iblk5 (c : Dev nD) (t : Fin cfg0.N) (j : Fin 1024) (k : Fin 1024) :
    (iblk m c 5 t : FVec Ideal S1x1024x1024 .bf16) (ix3 0 j k) = WO m c (ix3 1 j k) := by
  rw [← V_v2 m c]
  blk_ext [iblk, idx t]

theorem point6 (c : Dev nD) (t : Fin cfg0.N) (i : Fin 544) (n : Fin 1024) (r : Fin 8704) (hr : t.val * 544 + i.val = r.val) :
    k0_pay7 (F := Ideal) (iblk m c 0 t) (iblk m c 4 t) (iblk m c 1 t) (iblk m c 2 t) (iblk m c 3 t) (ix2 i n)
      = dhm (X m c) (G m c) (WU m c) (M m c) (D m c) r n := by
  pointwise [k0_pay7, k0_pay6, k0_pay5, k0_pay4]
  unfold dhm dyn
  simp only [iblk0 m c t i _ r hr, iblk1 m c t i _ r hr, iblk2 m c t i _ r hr, iblk3 m c t, iblk4 m c t]

theorem point7 (c : Dev nD) (t : Fin cfg0.N) (i : Fin 544) (n : Fin 1024) (r : Fin 8704) (hr : t.val * 544 + i.val = r.val) :
    k0_pay2 (F := Ideal) (k0_pay7 (iblk m c 0 t) (iblk m c 4 t) (iblk m c 1 t) (iblk m c 2 t) (iblk m c 3 t)) (iblk m c 5 t) (ix2 i n)
      = dy (X m c) (G m c) (WU m c) (WO m c) (M m c) (D m c) r n := by
  pointwise [k0_pay2]
  unfold dy
  simp only [point6 m c t i _ r hr, iblk5 m c t]

theorem step (c : Dev nD) (t : Fin cfg0.N) (Z : FVec Ideal S8x1024 .f32) (s : Fin 8) (n : Fin 1024) :
    k0_pay1 (F := Ideal) (k0_pay4 (iblk m c 0 t) (iblk m c 4 t)) (k0_pay6 (iblk m c 1 t)) Z (ix2 s n)
      = Z (ix2 s n) + ∑ a : Fin 68, at2 (share (X m c) (WU m c) (M m c)) (t.val * 544 + (a.val * 8 + s.val)) n.val := by
  have ht := tlt t
  pointwise [k0_pay1, k0_pay6, k0_pay5, k0_pay4]
  refine congrArg (fun v : EReal => Z (ix2 s n) + v) (Finset.sum_congr rfl fun a _ => ?_)
  rw [at2_mk _ _ _ (by omega) (by omega)]
  unfold share dyn
  simp only [iblk0 m c t ⟨a.val * 8 + s.val, by omega⟩ _ ⟨t.val * 544 + (a.val * 8 + s.val), by omega⟩ rfl, iblk1 m c t ⟨a.val * 8 + s.val, by omega⟩ _ ⟨t.val * 544 + (a.val * 8 + s.val), by omega⟩ rfl, iblk4 m c t]

theorem array6 (c : Dev nD) (r : Fin 8704) (n : Fin 1024) :
    ((dats m 0 c).arrAt 6 (cfgs 0).N : FVec Ideal S8704x1024 .f32) (ix2 r n) = dhm (X m c) (G m c) (WU m c) (M m c) (D m c) r n := by
  refine (dats m 0 c).arrAt_forall_of_covers 6 (fun (x : S8704x1024.Idx) (v : EReal) => ∀ (r : Fin 8704) (n : Fin 1024), (x 0).val = r.val → (x 1).val = n.val →
      v = dhm (X m c) (G m c) (WU m c) (M m c) (D m c) r n)
      (by decide +kernel) (fun t hf y => ?_) (ix2 r n) (Memref.isWhole_whole _) r n rfl rfl
  blk_simp
  rw [after0_6]
  have e0 : win0_6.index t 0 = t.val := by rw [(idx t).2.2.2.2.2.2.1]; rfl
  have e1 : win0_6.index t 1 = 0 := by rw [(idx t).2.2.2.2.2.2.1]; rfl
  rw [e0, e1]
  intro r n hr hn
  obtain ⟨i, j, rfl⟩ : ∃ i j, y = ix2 i j := ⟨y 0, y 1, eq_ix2 y⟩
  obtain rfl : n = j := Fin.ext (hn.symm.trans ((congrArg (· + j.val) (Nat.zero_mul 1024)).trans (Nat.zero_add _)))
  by_cases h : t.val % 16 = 0
  · rw [outsAt0_A m c t h]
    frame_out
    exact point6 m c t i n r hr
  · rw [outsAt0_B m c t h]
    frame_out
    exact point6 m c t i n r hr

theorem array7 (c : Dev nD) (r : Fin 8704) (n : Fin 1024) :
    ((dats m 0 c).arrAt 7 (cfgs 0).N : FVec Ideal S8704x1024 .f32) (ix2 r n) = dy (X m c) (G m c) (WU m c) (WO m c) (M m c) (D m c) r n := by
  refine (dats m 0 c).arrAt_forall_of_covers 7 (fun (x : S8704x1024.Idx) (v : EReal) => ∀ (r : Fin 8704) (n : Fin 1024), (x 0).val = r.val → (x 1).val = n.val →
      v = dy (X m c) (G m c) (WU m c) (WO m c) (M m c) (D m c) r n)
      (by decide +kernel) (fun t hf y => ?_) (ix2 r n) (Memref.isWhole_whole _) r n rfl rfl
  blk_simp
  rw [after0_7]
  have e0 : win0_7.index t 0 = t.val := by rw [(idx t).2.2.2.2.2.2.2.1]; rfl
  have e1 : win0_7.index t 1 = 0 := by rw [(idx t).2.2.2.2.2.2.2.1]; rfl
  rw [e0, e1]
  intro r n hr hn
  obtain ⟨i, j, rfl⟩ : ∃ i j, y = ix2 i j := ⟨y 0, y 1, eq_ix2 y⟩
  obtain rfl : n = j := Fin.ext (hn.symm.trans ((congrArg (· + j.val) (Nat.zero_mul 1024)).trans (Nat.zero_add _)))
  by_cases h : t.val % 16 = 0
  · rw [outsAt0_A m c t h]
    frame_out
    exact point7 m c t i n r hr
  · rw [outsAt0_B m c t h]
    frame_out
    exact point7 m c t i n r hr

/-- What stands in the folded sums after the last point. -/
theorem run_last (c : Dev nD) (t : Fin cfg0.N) (h : t.val % 16 = 15) (s : Fin 8) (n : Fin 1024) :
    (outsAt0 m c t.val t.isLt).2.2 (ix2 s n) = fold (X m c) (WU m c) (M m c) s n := by
  have ht := tlt t
  refine (Pipeline.eq_sum_of_reset_step_divmod (fun n' h => ((outsAt0 m c n' h).2.2 (ix2 s n) : EReal)) 16 0
    (fun q k => ∑ a : Fin 68, at2 (share (X m c) (WU m c) (M m c)) (k * 544 + (a.val * 8 + s.val)) n.val) (fun t h => ?_) (fun t h => ?_) t).trans ?_
  · beta_reduce
    rw [outsAt0_A m c t h]
    frame_out
    rw [step]
    have ht := tlt t
    rw [show t.val % 16 = t.val by omega]
    pointwise [k0_pay3]
  · beta_reduce
    rw [outsAt0_B m c t h]
    frame_out
    rw [step]
    have ht := tlt t
    rw [show t.val % 16 = t.val by omega]
  · rw [h]
    exact zero_add (_ : EReal)

theorem array8 (c : Dev nD) (s : Fin 8) (n : Fin 1024) :
    ((dats m 0 c).arrAt 8 (cfgs 0).N : FVec Ideal S8x1024 .f32) (ix2 s n) = fold (X m c) (WU m c) (M m c) s n := by
  refine (dats m 0 c).arrAt_forall_of_covers 8 (fun (x : S8x1024.Idx) (v : EReal) => ∀ (s : Fin 8) (n : Fin 1024), (x 0).val = s.val → (x 1).val = n.val →
      v = fold (X m c) (WU m c) (M m c) s n)
      (by decide +kernel) (fun t hf y => ?_) (ix2 s n) (Memref.isWhole_whole _) s n rfl rfl
  blk_simp
  rw [after0_8]
  have e0 : win0_8.index t 0 = 0 := by rw [(idx t).2.2.2.2.2.2.2.2]; rfl
  have e1 : win0_8.index t 1 = 0 := by rw [(idx t).2.2.2.2.2.2.2.2]; rfl
  rw [e0, e1]
  intro s n hs hn
  have h := (flush0_8 t).mp hf
  obtain ⟨i, j, rfl⟩ : ∃ i j, y = ix2 i j := ⟨y 0, y 1, eq_ix2 y⟩
  obtain rfl : s = i := Fin.ext (hs.symm.trans ((congrArg (· + i.val) (Nat.zero_mul 8)).trans (Nat.zero_add _)))
  obtain rfl : n = j := Fin.ext (hn.symm.trans ((congrArg (· + j.val) (Nat.zero_mul 1024)).trans (Nat.zero_add _)))
  exact run_last m c t h s n

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E8 (c : Dev nD) : E m c (Proc.devRef .tc main_v4_2) = (dats m 0 c).arrAt 8 (cfgs 0).N :=
  (dats m 0 c).withArrays_arrAt (by decide +kernel) (V0 m c) (fun _ => rfl) 8

theorem T_sum (c : Dev nD) (n : Fin 1024) : (T m c main_v5 : FVec Ideal S1024 .f32) (ix1 n) = dg (X m c) (WU m c) (M m c) n := by
  rw [← fold_eq]
  refine Eq.trans (b := (∑ s : Fin 8, ((dats m 0 c).arrAt 8 (cfgs 0).N : FVec Ideal S8x1024 .f32) (ix2 s n) : EReal)) ?_ (Finset.sum_congr rfl fun s _ => array8 m c s n)
  unfold T Pipeline.afterTail₀
  rw [← E8]
  simp only [hostOps1, List.flatten_cons, List.flatten_nil, List.cons_append, List.nil_append, List.append_nil]
  after_results_simp
  pointwise

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = (dats m 0 c).arrAt 6 (cfgs 0).N
      ∧ r.2.mem ((c.tc : Thread nD τ).loc main_v5) = T m c main_v5
      ∧ r.2.mem ((c.tc : Thread nD τ).loc main_v4_1) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 6, (h.1 c).2 main_v5 (by decide +kernel), (h.1 c).1 7, h.2 c⟩) (θ_run_and (run_main m ρ) (unchanged m ρ))

end Cert.Kernel3Ideal.Value

namespace Cert.Reference3Ideal.Plain

open Idealize.ShloMosaic Idealize.ShloMosaic.TcCoe Idealize.SL.Sem
open Cert.Reference3Ideal Cert.Reference3Ideal.Gen Cert.Reference3Ideal.Read
open Cert.Kernel3Ideal.Value (dyn dhm dy share dg)

theorem v40_at (x : FVec Ideal S8704x1024 .f32) (g : FVec Ideal S1024 .f32) (wu : FVec Ideal S2x1024x4096 .f32) (dm : FVec Ideal S8704x4096 .f32)
    (dh : FVec Ideal S8704x1024 .f32) (r : Fin 8704) (n : Fin 1024) :
    val_main_v40 (F := Ideal) x g wu dm dh (ix2 r n) = dhm x g wu dm dh r n := by
  pointwise [val_main_v40, val_main_v39, val_main_v38, val_main_v37, val_main_v36, val_main_v35, val_main_v34, val_main_v33, val_main_v32, val_main_v31,
    val_main_v30, val_main_v29, val_main_v28, val_main_v27, val_main_v26, val_main_v24, val_main_v23, val_main_v19, val_main_v17, val_main_v16,
    val_main_v13, val_main_v10, val_main_v9, val_main_v8, val_main_v7, val_main_v6, val_main_v5, val_main_v4, val_main_v3, val_main_v2, val_main_v1,
    val_main_v0, val_main_cst, val_main_cst_0, val_main_cst_1, val_main_cst_2, val_main_cst_5, val_main_cst_6, val_main_cst_7]
  exact Cert.Norm.back_eq (fun k => x (ix2 r k)) (fun k => dyn wu dm r k * g (ix1 k)) (dh (ix2 r n)) n

theorem v45_at (x : FVec Ideal S8704x1024 .f32) (g : FVec Ideal S1024 .f32) (wu : FVec Ideal S2x1024x4096 .f32) (wo : FVec Ideal S2x1024x1024 .f32)
    (dm : FVec Ideal S8704x4096 .f32) (dh : FVec Ideal S8704x1024 .f32) (r : Fin 8704) (n : Fin 1024) :
    val_main_v45 (F := Ideal) x g wu wo dm dh (ix2 r n) = dy x g wu wo dm dh r n := by
  pointwise [val_main_v45, val_main_v43, val_main_v42]
  unfold dy
  simp only [v40_at]

theorem v25_at (x : FVec Ideal S8704x1024 .f32) (wu : FVec Ideal S2x1024x4096 .f32) (dm : FVec Ideal S8704x4096 .f32) (n : Fin 1024) :
    val_main_v25 (F := Ideal) x wu dm (ix1 n) = dg x wu dm n := by
  pointwise [val_main_v25, val_main_v22, val_main_v21, val_main_v20, val_main_v12, val_main_v11, val_main_v19, val_main_v17, val_main_v16, val_main_v13,
    val_main_v7, val_main_v6, val_main_v5, val_main_v4, val_main_v3, val_main_v2, val_main_v1, val_main_v0, val_main_cst, val_main_cst_0, val_main_cst_1,
    val_main_cst_3, val_main_cst_4]
  rw [Finset.univ_unique, Finset.sum_singleton]
  exact Finset.sum_congr rfl fun r _ => mul_comm _ _

end Cert.Reference3Ideal.Plain

namespace Cert.Proof.UpDx

open Idealize.ShloMosaic Idealize.ShloMosaic.TcCoe Idealize.SL.Sem

/-- At the ideal instance the kernel's three results are the reference's. -/
theorem algebraic : Cert.algebraic_Kernel3Ideal_Reference3Ideal := by
  pair_intro
  · run_from Cert.Kernel3Ideal.Value.run m g
  · run_from Cert.Reference3Ideal.Value.run m' g'
    · rw [Cert.Reference3Ideal.Read.val_main_v40_eq, (hagree c).1, (hagree c).2.1, (hagree c).2.2.1, (hagree c).2.2.2.2.1, (hagree c).2.2.2.2.2]
      funext i
      rw [eq_ix2 i]
      exact (Cert.Reference3Ideal.Plain.v40_at ..).trans (Cert.Kernel3Ideal.Value.array6 m c (i 0) (i 1)).symm
    · refine (Cert.Reference3Ideal.Read.val_main_v25_eq ..).trans ?_
      funext i
      rw [eq_ix1 i]
      exact (Cert.Reference3Ideal.Plain.v25_at ..).trans (Cert.Kernel3Ideal.Value.T_sum m c (i 0)).symm
    · rw [Cert.Reference3Ideal.Read.val_main_v45_eq, (hagree c).1, (hagree c).2.1, (hagree c).2.2.1, (hagree c).2.2.2.1, (hagree c).2.2.2.2.1, (hagree c).2.2.2.2.2]
      funext i
      rw [eq_ix2 i]
      exact (Cert.Reference3Ideal.Plain.v45_at ..).trans (Cert.Kernel3Ideal.Value.array7 m c (i 0) (i 1)).symm

end Cert.Proof.UpDx

end
-- ==== Proof.InDx.lean ====
/- The gradients behind the attention block's joint input matrix: the cotangent through the matrix, a piece of its columns for
   each of the four cotangents, and through the normalisation; the gains' gradient added up over blocks and eight-row folds. -/
module

public import proofs.«01_k».proof.Defs
public import proofs.«01_k».proof.Proof.Norm
public import proofs.«01_k».proof.Proof.Rows
public import proofs.«01_k».proof.Proof.Gen.Kernel4Ideal.Frame
public import proofs.«01_k».proof.Proof.Gen.Reference4Ideal.Read
public import Idealize.ShloMosaic.Lib.Claim
public import Idealize.ShloMosaic.Lib.Pipeline.ReadBack
public import Idealize.ShloMosaic.Lib.Pipeline.FrameSuffix
public import Idealize.ShloMosaic.Lib.Ring
public import Idealize.ShloMosaic.Lib.IdealHost

@[expose] public section

set_option maxRecDepth 16384
set_option maxHeartbeats 4000000

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen Cert.Rows

variable (m : (ℓ : Loc nD τ sig) → Buf (Elt Ideal) ℓ)

/-- The cotangent behind the normalisation: the four cotangents through the second layer's columns. -/
def dyn (w : FVec Ideal S2x1024x2560 .f32) (u : FVec Ideal S8704x1024 .f32) (q k v : FVec Ideal S8704x512 .f32) (r : Fin 8704) (n : Fin 1024) : EReal :=
  (∑ j : Fin 1024, u (ix2 r j) * w (ix3 1 n ⟨j.val, by omega⟩)) + (∑ j : Fin 512, q (ix2 r j) * w (ix3 1 n ⟨1024 + j.val, by omega⟩))
    + (∑ j : Fin 512, k (ix2 r j) * w (ix3 1 n ⟨1536 + j.val, by omega⟩)) + (∑ j : Fin 512, v (ix2 r j) * w (ix3 1 n ⟨2048 + j.val, by omega⟩))

/-- The gradient of the block's input. -/
def dhm (x : FVec Ideal S8704x1024 .f32) (g : FVec Ideal S1024 .f32) (w : FVec Ideal S2x1024x2560 .f32)
    (u : FVec Ideal S8704x1024 .f32) (q k v : FVec Ideal S8704x512 .f32) (dh : FVec Ideal S8704x1024 .f32) (r : Fin 8704) (n : Fin 1024) : EReal :=
  Cert.Norm.back (fun j => x (ix2 r j)) (fun j => dyn w u q k v r j * g (ix1 j)) (dh (ix2 r n)) n

/-- One row's share in the gains' gradient. -/
def share (x : FVec Ideal S8704x1024 .f32) (w : FVec Ideal S2x1024x2560 .f32)
    (u : FVec Ideal S8704x1024 .f32) (q k v : FVec Ideal S8704x512 .f32) (r : Fin 8704) (n : Fin 1024) : EReal :=
  dyn w u q k v r n * (x (ix2 r n) * Ideal.rsqrt (Cert.Norm.ms fun j => x (ix2 r j)))

/-- The gains' gradient. -/
def dg (x : FVec Ideal S8704x1024 .f32) (w : FVec Ideal S2x1024x2560 .f32)
    (u : FVec Ideal S8704x1024 .f32) (q k v : FVec Ideal S8704x512 .f32) (n : Fin 1024) : EReal :=
  ∑ r : Fin 8704, share x w u q k v r n

/-- What each of the eight rows of the folded sums holds. -/
def fold (x : FVec Ideal S8704x1024 .f32) (w : FVec Ideal S2x1024x2560 .f32)
    (u : FVec Ideal S8704x1024 .f32) (q k v : FVec Ideal S8704x512 .f32) (s : Fin 8) (n : Fin 1024) : EReal :=
  ∑ b ∈ Finset.range 16, ∑ a : Fin 68, at2 (share x w u q k v) (b * 544 + (a.val * 8 + s.val)) n.val

theorem fold_eq (x : FVec Ideal S8704x1024 .f32) (w : FVec Ideal S2x1024x2560 .f32)
    (u : FVec Ideal S8704x1024 .f32) (q k v : FVec Ideal S8704x512 .f32) (n : Fin 1024) :
    ∑ s : Fin 8, fold x w u q k v s n = dg x w u q k v n := by
  refine (sum_folds (fun r => at2 (share x w u q k v) r n.val) 16 68).trans ?_
  unfold dg
  show ∑ r : Fin 8704, _ = _
  simp only [at2_val]

/-- The inputs as the program's start holds them. -/
abbrev X (c : Dev nD) : FVec Ideal S8704x1024 .f32 := m ((c : Thread nD τ).loc main_arg0)
abbrev G (c : Dev nD) : FVec Ideal S1024 .f32 := m ((c : Thread nD τ).loc main_arg1)
abbrev W (c : Dev nD) : FVec Ideal S2x1024x2560 .f32 := m ((c : Thread nD τ).loc main_arg2)
abbrev U (c : Dev nD) : FVec Ideal S8704x1024 .f32 := m ((c : Thread nD τ).loc main_arg3)
abbrev Q (c : Dev nD) : FVec Ideal S8704x512 .f32 := m ((c : Thread nD τ).loc main_arg4)
abbrev K (c : Dev nD) : FVec Ideal S8704x512 .f32 := m ((c : Thread nD τ).loc main_arg5)
abbrev V' (c : Dev nD) : FVec Ideal S8704x512 .f32 := m ((c : Thread nD τ).loc main_arg6)
abbrev D (c : Dev nD) : FVec Ideal S8704x1024 .f32 := m ((c : Thread nD τ).loc main_arg7)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![1, 0, 0] ∧ win0_8.index t = ![t.val, 0] ∧ win0_9.index t = ![0, 0] :=
  (by decide +kernel : ∀ t : Fin grid0.N, _)

theorem tlt (t : Fin cfg0.N) : t.val < 16 := lt_of_lt_of_eq t.isLt N_0

theorem V_v0 (c : Dev nD) : (V m c main_v0 : FVec Ideal S8704x1024 .bf16) = U m c := by
  unfold V V0
  simp only [hostOps0, List.flatten_cons, List.flatten_nil, List.cons_append, List.nil_append, List.append_nil]
  after_results_simp
  rfl

theorem V_v1 (c : Dev nD) : (V m c main_v1 : FVec Ideal S8704x512 .bf16) = Q m c := by
  unfold V V0
  simp only [hostOps0, List.flatten_cons, List.flatten_nil, List.cons_append, List.nil_append, List.append_nil]
  after_results_simp
  rfl

theorem V_v2 (c : Dev nD) : (V m c main_v2 : FVec Ideal S8704x512 .bf16) = K m c := by
  unfold V V0
  simp only [hostOps0, List.flatten_cons, List.flatten_nil, List.cons_append, List.nil_append, List.append_nil]
  after_results_simp
  rfl

theorem V_v3 (c : Dev nD) : (V m c main_v3 : FVec Ideal S8704x512 .bf16) = V' m c := by
  unfold V V0
  simp only [hostOps0, List.flatten_cons, List.flatten_nil, List.cons_append, List.nil_append, List.append_nil]
  after_results_simp
  rfl

theorem V_v4 (c : Dev nD) : (V m c main_v4 : FVec Ideal S2x1024x2560 .bf16) = W m c := by
  unfold V V0
  simp only [hostOps0, List.flatten_cons, List.flatten_nil, List.cons_append, List.nil_append, List.append_nil]
  after_results_simp
  rfl

theorem V_v5 (c : Dev nD) (k : Fin 1024) : (V m c main_v5 : FVec Ideal S1x1024 .f32) (ix2 0 k) = G m c (ix1 k) := by
  unfold V V0
  simp only [hostOps0, List.flatten_cons, List.flatten_nil, List.cons_append, List.nil_append, List.append_nil]
  after_results_simp
  pointwise

theorem iblk0 (c : Dev nD) (t : Fin cfg0.N) (i : Fin 544) (k : Fin 1024) (r : Fin 8704) (hr : t.val * 544 + i.val = r.val) :
    (iblk m c 0 t : FVec Ideal S544x1024 .bf16) (ix2 i k) = U m c (ix2 r k) := by
  have ht := tlt t
  obtain ⟨r, h⟩ := r
  obtain rfl : t.val * 544 + i.val = r := hr
  rw [← V_v0 m c]
  blk_ext [iblk, idx t]

theorem iblk1 (c : Dev nD) (t : Fin cfg0.N) (i : Fin 544) (k : Fin 512) (r : Fin 8704) (hr : t.val * 544 + i.val = r.val) :
    (iblk m c 1 t : FVec Ideal S544x512 .bf16) (ix2 i k) = Q m c (ix2 r k) := by
  have ht := tlt t
  obtain ⟨r, h⟩ := r
  obtain rfl : t.val * 544 + i.val = r := hr
  rw [← V_v1 m c]
  blk_ext [iblk, idx t]

theorem iblk2 (c : Dev nD) (t : Fin cfg0.N) (i : Fin 544) (k : Fin 512) (r : Fin 8704) (hr : t.val * 544 + i.val = r.val) :
    (iblk m c 2 t : FVec Ideal S544x512 .bf16) (ix2 i k) = K m c (ix2 r k) := by
  have ht := tlt t
  obtain ⟨r, h⟩ := r
  obtain rfl : t.val * 544 + i.val = r := hr
  rw [← V_v2 m c]
  blk_ext [iblk, idx t]

theorem iblk3 (c : Dev nD) (t : Fin cfg0.N) (i : Fin 544) (k : Fin 512) (r : Fin 8704) (hr : t.val * 544 + i.val = r.val) :
    (iblk m c 3 t : FVec Ideal S544x512 .bf16) (ix2 i k) = V' m c (ix2 r k) := by
  have ht := tlt t
  obtain ⟨r, h⟩ := r
  obtain rfl : t.val * 544 + i.val = r := hr
  rw [← V_v3 m c]
  blk_ext [iblk, idx t]

theorem iblk4 (c : Dev nD) (t : Fin cfg0.N) (i : Fin 544) (k : Fin 1024) (r : Fin 8704) (hr : t.val * 544 + i.val = r.val) :
    (iblk m c 4 t : FVec Ideal S544x1024 .f32) (ix2 i k) = X m c (ix2 r k) := by
  have ht := tlt t
  obtain ⟨r, h⟩ := r
  obtain rfl : t.val * 544 + i.val = r := hr
  blk_ext [iblk, idx t, V]

theorem iblk5 (c : Dev nD) (t : Fin cfg0.N) (i : Fin 544) (k : Fin 1024) (r : Fin 8704) (hr : t.val * 544 + i.val = r.val) :
    (iblk m c 5 t : FVec Ideal S544x1024 .f32) (ix2 i k) = D m c (ix2 r k) := by
  have ht := tlt t
  obtain ⟨r, h⟩ := r
  obtain rfl : t.val * 544 + i.val = r := hr
  blk_ext [iblk, idx t, V]

theorem iblk6 (c : Dev nD) (t : Fin cfg0.N) (k : Fin 1024) : (iblk m c 6 t : FVec Ideal S1x1024 .f32) (ix2 0 k) = G m c (ix1 k) := by
  refine Eq.trans (b := (V m c main_v5 : FVec Ideal S1x1024 .f32) (ix2 0 k)) ?_ (V_v5 m c _)
  blk_ext [iblk, idx t]

theorem iblk7 (c : Dev nD) (t : Fin cfg0.N) (j : Fin 1024) (k : Fin 2560) :
    (iblk m c 7 t : FVec Ideal S1x1024x2560 .bf16) (ix3 0 j k) = W m c (ix3 1 j k) := by
  rw [← V_v4 m c]
  blk_ext [iblk, idx t]

/-- The four products at one row. -/
theorem prods (c : Dev nD) (t : Fin cfg0.N) (g0 g1 g2 g3) (i : Fin 544) (n : Fin 1024) (r : Fin 8704) (hr : t.val * 544 + i.val = r.val) :
    k0_pay6 (F := Ideal) (iblk m c 0 t) (View.ld (iblk m c 7 t) (Rect.unit (s := S1x1024x2560) ![0, 0, 0] S1x1024x1024.size g0)) (iblk m c 1 t) (View.ld (iblk m c 7 t) (Rect.unit (s := S1x1024x2560) ![0, 0, 1024] S1x1024x512.size g1))
        (iblk m c 2 t) (View.ld (iblk m c 7 t) (Rect.unit (s := S1x1024x2560) ![0, 0, 1536] S1x1024x512.size g2)) (iblk m c 3 t) (View.ld (iblk m c 7 t) (Rect.unit (s := S1x1024x2560) ![0, 0, 2048] S1x1024x512.size g3)) (ix2 i n)
      = dyn (W m c) (U m c) (Q m c) (K m c) (V' m c) r n := by
  pointwise [k0_pay6]
  unfold dyn
  simp only [iblk0 m c t i _ r hr, iblk1 m c t i _ r hr, iblk2 m c t i _ r hr, iblk3 m c t i _ r hr, iblk7 m c t]

theorem point8 (c : Dev nD) (t : Fin cfg0.N) (g0 g1 g2 g3) (i : Fin 544) (n : Fin 1024) (r : Fin 8704) (hr : t.val * 544 + i.val = r.val) :
    k0_pay3 (F := Ideal) (k0_pay6 (iblk m c 0 t) (View.ld (iblk m c 7 t) (Rect.unit (s := S1x1024x2560) ![0, 0, 0] S1x1024x1024.size g0)) (iblk m c 1 t) (View.ld (iblk m c 7 t) (Rect.unit (s := S1x1024x2560) ![0, 0, 1024] S1x1024x512.size g1))
        (iblk m c 2 t) (View.ld (iblk m c 7 t) (Rect.unit (s := S1x1024x2560) ![0, 0, 1536] S1x1024x512.size g2)) (iblk m c 3 t) (View.ld (iblk m c 7 t) (Rect.unit (s := S1x1024x2560) ![0, 0, 2048] S1x1024x512.size g3)))
        (iblk m c 4 t) (k0_pay7 (iblk m c 4 t)) (iblk m c 5 t) (iblk m c 6 t) (ix2 i n)
      = dhm (X m c) (G m c) (W m c) (U m c) (Q m c) (K m c) (V' m c) (D m c) r n := by
  pointwise [k0_pay3, k0_pay2, k0_pay1, k0_pay7]
  unfold dhm
  simp only [prods m c t g0 g1 g2 g3 i _ r hr, iblk4 m c t i _ r hr, iblk5 m c t i _ r hr, iblk6 m c t]

theorem step (c : Dev nD) (t : Fin cfg0.N) (g0 g1 g2 g3) (Z : FVec Ideal S8x1024 .f32) (s : Fin 8) (n : Fin 1024) :
    k0_pay4 (F := Ideal) (k0_pay6 (iblk m c 0 t) (View.ld (iblk m c 7 t) (Rect.unit (s := S1x1024x2560) ![0, 0, 0] S1x1024x1024.size g0)) (iblk m c 1 t) (View.ld (iblk m c 7 t) (Rect.unit (s := S1x1024x2560) ![0, 0, 1024] S1x1024x512.size g1))
        (iblk m c 2 t) (View.ld (iblk m c 7 t) (Rect.unit (s := S1x1024x2560) ![0, 0, 1536] S1x1024x512.size g2)) (iblk m c 3 t) (View.ld (iblk m c 7 t) (Rect.unit (s := S1x1024x2560) ![0, 0, 2048] S1x1024x512.size g3)))
        (iblk m c 4 t) (k0_pay7 (iblk m c 4 t)) Z (ix2 s n)
      = Z (ix2 s n) + ∑ a : Fin 68, at2 (share (X m c) (W m c) (U m c) (Q m c) (K m c) (V' m c)) (t.val * 544 + (a.val * 8 + s.val)) n.val := by
  have ht := tlt t
  pointwise [k0_pay4, k0_pay2, k0_pay1, k0_pay7]
  refine congrArg (fun v : EReal => Z (ix2 s n) + v) (Finset.sum_congr rfl fun a _ => ?_)
  rw [at2_mk _ _ _ (by omega) (by omega)]
  unfold share
  simp only [prods m c t g0 g1 g2 g3 ⟨a.val * 8 + s.val, by omega⟩ _ ⟨t.val * 544 + (a.val * 8 + s.val), by omega⟩ rfl,
    iblk4 m c t ⟨a.val * 8 + s.val, by omega⟩ _ ⟨t.val * 544 + (a.val * 8 + s.val), by omega⟩ rfl]

theorem array8 (c : Dev nD) (r : Fin 8704) (n : Fin 1024) :
    ((dats m 0 c).arrAt 8 (cfgs 0).N : FVec Ideal S8704x1024 .f32) (ix2 r n) = dhm (X m c) (G m c) (W m c) (U m c) (Q m c) (K m c) (V' m c) (D m c) r n := by
  refine (dats m 0 c).arrAt_forall_of_covers 8 (fun (x : S8704x1024.Idx) (v : EReal) => ∀ (r : Fin 8704) (n : Fin 1024), (x 0).val = r.val → (x 1).val = n.val →
      v = dhm (X m c) (G m c) (W m c) (U m c) (Q m c) (K m c) (V' m c) (D m c) r n)
      (by decide +kernel) (fun t hf y => ?_) (ix2 r n) (Memref.isWhole_whole _) r n rfl rfl
  blk_simp
  rw [after0_8]
  have e0 : win0_8.index t 0 = t.val := by rw [(idx t).2.2.2.2.2.2.2.2.1]; rfl
  have e1 : win0_8.index t 1 = 0 := by rw [(idx t).2.2.2.2.2.2.2.2.1]; rfl
  rw [e0, e1]
  intro r n hr hn
  obtain ⟨i, j, rfl⟩ : ∃ i j, y = ix2 i j := ⟨y 0, y 1, eq_ix2 y⟩
  obtain rfl : n = j := Fin.ext (hn.symm.trans ((congrArg (· + j.val) (Nat.zero_mul 1024)).trans (Nat.zero_add _)))
  by_cases h : t.val % 16 = 0
  · rw [outsAt0_A m c t h]
    frame_out
    exact point8 m c t _ _ _ _ i n r hr
  · rw [outsAt0_B m c t h]
    frame_out
    exact point8 m c t _ _ _ _ i n r hr

/-- What stands in the folded sums after the last point. -/
theorem run_last (c : Dev nD) (t : Fin cfg0.N) (h : t.val % 16 = 15) (s : Fin 8) (n : Fin 1024) :
    (outsAt0 m c t.val t.isLt).2 (ix2 s n) = fold (X m c) (W m c) (U m c) (Q m c) (K m c) (V' m c) s n := by
  have ht := tlt t
  refine (Pipeline.eq_sum_of_reset_step_divmod (fun n' h => ((outsAt0 m c n' h).2 (ix2 s n) : EReal)) 16 0
    (fun q k => ∑ a : Fin 68, at2 (share (X m c) (W m c) (U m c) (Q m c) (K m c) (V' m c)) (k * 544 + (a.val * 8 + s.val)) n.val) (fun t h => ?_) (fun t h => ?_) t).trans ?_
  · beta_reduce
    rw [outsAt0_A m c t h]
    frame_out
    rw [step]
    have ht := tlt t
    rw [show t.val % 16 = t.val by omega]
    pointwise [k0_pay5]
  · beta_reduce
    rw [outsAt0_B m c t h]
    frame_out
    rw [step]
    have ht := tlt t
    rw [show t.val % 16 = t.val by omega]
  · rw [h]
    exact zero_add (_ : EReal)

theorem array9 (c : Dev nD) (s : Fin 8) (n : Fin 1024) :
    ((dats m 0 c).arrAt 9 (cfgs 0).N : FVec Ideal S8x1024 .f32) (ix2 s n) = fold (X m c) (W m c) (U m c) (Q m c) (K m c) (V' m c) s n := by
  refine (dats m 0 c).arrAt_forall_of_covers 9 (fun (x : S8x1024.Idx) (v : EReal) => ∀ (s : Fin 8) (n : Fin 1024), (x 0).val = s.val → (x 1).val = n.val →
      v = fold (X m c) (W m c) (U m c) (Q m c) (K m c) (V' m c) s n)
      (by decide +kernel) (fun t hf y => ?_) (ix2 s n) (Memref.isWhole_whole _) s n rfl rfl
  blk_simp
  rw [after0_9]
  have e0 : win0_9.index t 0 = 0 := by rw [(idx t).2.2.2.2.2.2.2.2.2]; rfl
  have e1 : win0_9.index t 1 = 0 := by rw [(idx t).2.2.2.2.2.2.2.2.2]; rfl
  rw [e0, e1]
  intro s n hs hn
  have h := (flush0_9 t).mp hf
  obtain ⟨i, j, rfl⟩ : ∃ i j, y = ix2 i j := ⟨y 0, y 1, eq_ix2 y⟩
  obtain rfl : s = i := Fin.ext (hs.symm.trans ((congrArg (· + i.val) (Nat.zero_mul 8)).trans (Nat.zero_add _)))
  obtain rfl : n = j := Fin.ext (hn.symm.trans ((congrArg (· + j.val) (Nat.zero_mul 1024)).trans (Nat.zero_add _)))
  exact run_last m c t h s n

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E9 (c : Dev nD) : E m c (Proc.devRef .tc main_v6_1) = (dats m 0 c).arrAt 9 (cfgs 0).N :=
  (dats m 0 c).withArrays_arrAt (by decide +kernel) (V0 m c) (fun _ => rfl) 9

theorem T_sum (c : Dev nD) (n : Fin 1024) : (T m c main_v7 : FVec Ideal S1024 .f32) (ix1 n) = dg (X m c) (W m c) (U m c) (Q m c) (K m c) (V' m c) n := by
  rw [← fold_eq]
  refine Eq.trans (b := (∑ s : Fin 8, ((dats m 0 c).arrAt 9 (cfgs 0).N : FVec Ideal S8x1024 .f32) (ix2 s n) : EReal)) ?_ (Finset.sum_congr rfl fun s _ => array9 m c s n)
  unfold T Pipeline.afterTail₀
  rw [← E9]
  simp only [hostOps1, List.flatten_cons, List.flatten_nil, List.cons_append, List.nil_append, List.append_nil]
  after_results_simp
  pointwise

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v6_0) = (dats m 0 c).arrAt 8 (cfgs 0).N
      ∧ r.2.mem ((c.tc : Thread nD τ).loc main_v7) = T m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1 c).1 8, (h.1 c).2 main_v7 (by decide +kernel), h.2 c⟩) (θ_run_and (run_main m ρ) (unchanged m ρ))

end Cert.Kernel4Ideal.Value

namespace Cert.Reference4Ideal.Plain

open Idealize.ShloMosaic Idealize.ShloMosaic.TcCoe Idealize.SL.Sem
open Cert.Reference4Ideal Cert.Reference4Ideal.Gen Cert.Reference4Ideal.Read
open Cert.Kernel4Ideal.Value (dyn dhm share dg)

/-- The joined cotangents through the matrix split into the four products. -/
theorem v20_at (w : FVec Ideal S2x1024x2560 .f32) (u : FVec Ideal S8704x1024 .f32) (q k v : FVec Ideal S8704x512 .f32) (r : Fin 8704) (n : Fin 1024) :
    val_main_v20 (F := Ideal) w u q k v (ix2 r n) = dyn w u q k v r n := by
  pointwise [val_main_v20, val_main_v18, val_main_v17, val_main_v0]
  unfold dyn
  rw [add_assoc, add_assoc]
  refine (Fin.sum_univ_add (a := 1024) (b := 1536) _).trans (congrArg₂ (fun a b : EReal => a + b) (Finset.sum_congr rfl fun j _ => ?_)
    ((Fin.sum_univ_add (a := 512) (b := 1024) _).trans (congrArg₂ (fun a b : EReal => a + b) (Finset.sum_congr rfl fun j _ => ?_)
      ((Fin.sum_univ_add (a := 512) (b := 512) _).trans (congrArg₂ (fun a b : EReal => a + b) (Finset.sum_congr rfl fun j _ => ?_)
        (Finset.sum_congr rfl fun j _ => ?_))))))
  · have hj := j.isLt
    simp only [Fin.val_natAdd, Fin.val_castAdd]
    rw [dif_pos (by omega)]
    exact congrArg₂ (fun a b : EReal => a * b) (congrArg (fun i => u (ix2 r i)) (Fin.ext rfl))
      (congrArg (fun i : Fin 2560 => w (ix3 1 n i)) (Fin.ext (by simp only [Fin.val_natAdd, Fin.val_castAdd])))
  · have hj := j.isLt
    simp only [Fin.val_natAdd, Fin.val_castAdd]
    rw [dif_neg (by omega), dif_pos (by omega)]
    exact congrArg₂ (fun a b : EReal => a * b) (congrArg (fun i => q (ix2 r i)) (Fin.ext (by simp only []; omega)))
      (congrArg (fun i : Fin 2560 => w (ix3 1 n i)) (Fin.ext (by simp only [Fin.val_natAdd, Fin.val_castAdd])))
  · have hj := j.isLt
    simp only [Fin.val_natAdd, Fin.val_castAdd]
    rw [dif_neg (by omega), dif_neg (by omega), dif_pos (by omega)]
    exact congrArg₂ (fun a b : EReal => a * b) (congrArg (fun i => k (ix2 r i)) (Fin.ext (by simp only []; omega)))
      (congrArg (fun i : Fin 2560 => w (ix3 1 n i)) (Fin.ext (by simp only [Fin.val_natAdd, Fin.val_castAdd]; omega)))
  · have hj := j.isLt
    simp only [Fin.val_natAdd, Fin.val_castAdd]
    rw [dif_neg (by omega), dif_neg (by omega), dif_neg (by omega)]
    exact congrArg₂ (fun a b : EReal => a * b) (congrArg (fun i => v (ix2 r i)) (Fin.ext (by simp only []; omega)))
      (congrArg (fun i : Fin 2560 => w (ix3 1 n i)) (Fin.ext (by simp only [Fin.val_natAdd, Fin.val_castAdd]; omega)))

theorem v41_at (x : FVec Ideal S8704x1024 .f32) (g : FVec Ideal S1024 .f32) (w : FVec Ideal S2x1024x2560 .f32)
    (u : FVec Ideal S8704x1024 .f32) (q k v : FVec Ideal S8704x512 .f32) (dh : FVec Ideal S8704x1024 .f32) (r : Fin 8704) (n : Fin 1024) :
    val_main_v41 (F := Ideal) x g w u q k v dh (ix2 r n) = dhm x g w u q k v dh r n := by
  pointwise [val_main_v1, val_main_cst, val_main_v2, val_main_v3, val_main_cst_0, val_main_v4, val_main_v5, val_main_cst_1, val_main_v6, val_main_v7, val_main_v8, val_main_v9, val_main_cst_2, val_main_v10, val_main_v11, val_main_v14, val_main_v24, val_main_v25, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41]
  simp only [v20_at]
  exact Cert.Norm.back_eq (fun j => x (ix2 r j)) (fun j => dyn w u q k v r j * g (ix1 j)) (dh (ix2 r n)) n

theorem v26_at (x : FVec Ideal S8704x1024 .f32) (w : FVec Ideal S2x1024x2560 .f32)
    (u : FVec Ideal S8704x1024 .f32) (q k v : FVec Ideal S8704x512 .f32) (n : Fin 1024) :
    val_main_v26 (F := Ideal) x w u q k v (ix1 n) = dg x w u q k v n := by
  pointwise [val_main_v26, val_main_v23, val_main_v22, val_main_v21, val_main_v13, val_main_v12, val_main_v8, val_main_v7, val_main_v6,
    val_main_v5, val_main_v4, val_main_v3, val_main_v2, val_main_v1, val_main_cst, val_main_cst_0, val_main_cst_1, val_main_cst_3, val_main_cst_4]
  rw [Finset.univ_unique, Finset.sum_singleton]
  simp only [v20_at]
  exact Finset.sum_congr rfl fun r _ => mul_comm _ _

end Cert.Reference4Ideal.Plain

namespace Cert.Proof.InDx

open Idealize.ShloMosaic Idealize.ShloMosaic.TcCoe Idealize.SL.Sem

/-- At the ideal instance the kernel's two results are the reference's. -/
theorem algebraic : Cert.algebraic_Kernel4Ideal_Reference4Ideal := by
  pair_intro
  · run_from Cert.Kernel4Ideal.Value.run m g
  · run_from Cert.Reference4Ideal.Value.run m' g'
    · rw [Cert.Reference4Ideal.Read.val_main_v41_eq, (hagree c).1, (hagree c).2.1, (hagree c).2.2.1, (hagree c).2.2.2.1, (hagree c).2.2.2.2.1, (hagree c).2.2.2.2.2.1, (hagree c).2.2.2.2.2.2.1, (hagree c).2.2.2.2.2.2.2]
      funext i
      rw [eq_ix2 i]
      exact (Cert.Reference4Ideal.Plain.v41_at ..).trans (Cert.Kernel4Ideal.Value.array8 m c (i 0) (i 1)).symm
    · rw [Cert.Reference4Ideal.Read.val_main_v26_eq, (hagree c).2.2.2.1, (hagree c).2.2.2.2.1, (hagree c).2.2.2.2.2.1, (hagree c).2.2.2.2.2.2.1]
      funext i
      rw [eq_ix1 i]
      exact (Cert.Reference4Ideal.Plain.v26_at ..).trans (Cert.Kernel4Ideal.Value.T_sum m c (i 0)).symm

end Cert.Proof.InDx

end
-- ==== Proof.DownDw.lean ====
/- The gradient of the second matrix of the feed-forward block: what the kernel adds up over blocks of rows is the
   reference's product over all rows. -/
module

public import proofs.«01_k».proof.Defs
public import proofs.«01_k».proof.Proof.Rows
public import proofs.«01_k».proof.Proof.Gen.Kernel5Ideal.Frame
public import proofs.«01_k».proof.Proof.Gen.Reference5Ideal.Read
public import Idealize.ShloMosaic.Lib.Claim
public import Idealize.ShloMosaic.Lib.Pipeline.ReadBack
public import Idealize.ShloMosaic.Lib.Pipeline.FrameSuffix
public import Idealize.ShloMosaic.Lib.Ring

@[expose] public section

set_option maxRecDepth 16384
set_option maxHeartbeats 4000000

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen Cert.Rows

variable (m : (ℓ : Loc nD τ sig) → Buf (Elt Ideal) ℓ)

/-- The squared rectifier. -/
abbrev act (a : FVec Ideal S8704x4096 .f32) (r : Fin 8704) (j : Fin 4096) : EReal := max (a (ix2 r j)) 0 * max (a (ix2 r j)) 0

/-- The matrix's gradient: the activations turned, times the cotangent. -/
def dw (a : FVec Ideal S8704x4096 .f32) (d : FVec Ideal S8704x1024 .f32) (p : Fin 4096) (n : Fin 1024) : EReal :=
  ∑ r : Fin 8704, act a r p * d (ix2 r n)

/-- The same read at natural numbers, one row's term. -/
def term (a : FVec Ideal S8704x4096 .f32) (d : FVec Ideal S8704x1024 .f32) (p n : ℕ) (r : ℕ) : EReal :=
  at2 (act a) r p * at2 (fun r n => d (ix2 r n)) r n

theorem dw_eq (a : FVec Ideal S8704x4096 .f32) (d : FVec Ideal S8704x1024 .f32) (p : Fin 4096) (n : Fin 1024) :
    ∑ k ∈ Finset.range 4, ∑ x : Fin 2176, term a d p.val n.val (k * 2176 + x.val) = dw a d p n := by
  rw [sum_blocks (term a d p.val n.val) 4 2176]
  show ∑ r : Fin 8704, _ = _
  unfold dw term
  simp only [at2_val]

/-- The two inputs as the program's start holds them. -/
abbrev X (c : Dev nD) : FVec Ideal S8704x4096 .f32 := m ((c : Thread nD τ).loc main_arg0)
abbrev Y (c : Dev nD) : FVec Ideal S8704x1024 .f32 := m ((c : Thread nD τ).loc main_arg1)

theorem idx : ∀ t : Fin cfg0.N, win0_0.index t = ![t.val % 4, t.val / 4] ∧ win0_1.index t = ![t.val % 4, 0] ∧ win0_2.index t = ![1, t.val / 4, 0] :=
  (by decide +kernel : ∀ t : Fin grid0.N, _)

theorem tlt (t : Fin cfg0.N) : t.val < 16 := lt_of_lt_of_eq t.isLt N_0

theorem V_v2 (c : Dev nD) (r : Fin 8704) (j : Fin 4096) : (V m c main_v2 : FVec Ideal S8704x4096 .bf16) (ix2 r j) = act (X m c) r j := by
  unfold V V0
  simp only [hostOps0, hostOps0_1, List.flatten_cons, List.flatten_nil, List.cons_append, List.nil_append, List.append_nil]
  after_results_simp
  simp only [StableHlo.TRef.toBuf, StableHlo.TRef.ofBuf, cast_eq]
  pointwise

theorem iblk0 (c : Dev nD) (t : Fin cfg0.N) (i : Fin 2176) (j : Fin 1024) :
    (iblk m c 0 t : FVec Ideal S2176x1024 .bf16) (ix2 i j) = at2 (act (X m c)) (t.val % 4 * 2176 + i.val) (t.val / 4 * 1024 + j.val) := by
  have ht := tlt t
  rw [at2_mk _ _ _ (by omega) (by omega)]
  refine Eq.trans (b := (V m c main_v2 : FVec Ideal S8704x4096 .bf16) (ix2 ⟨t.val % 4 * 2176 + i.val, by omega⟩ ⟨t.val / 4 * 1024 + j.val, by omega⟩)) ?_ (V_v2 m c _ _)
  blk_ext [iblk, idx t]

theorem iblk1 (c : Dev nD) (t : Fin cfg0.N) (i : Fin 2176) (j : Fin 1024) :
    (iblk m c 1 t : FVec Ideal S2176x1024 .f32) (ix2 i j) = at2 (fun r n => Y m c (ix2 r n)) (t.val % 4 * 2176 + i.val) j.val := by
  have ht := tlt t
  rw [at2_mk _ _ _ (by omega) (by omega)]
  blk_ext [iblk, idx t, V]

/-- One point's step: what stood there and the block's product. -/
theorem step (c : Dev nD) (t : Fin cfg0.N) (Z : FVec Ideal S1x1024x1024 .f32) (p n : Fin 1024) :
    k0_pay2 (F := Ideal) Z (iblk m c 0 t) (iblk m c 1 t) (ix3 0 p n)
      = Z (ix3 0 p n) + ∑ x : Fin 2176, term (X m c) (Y m c) (t.val / 4 * 1024 + p.val) n.val (t.val % 4 * 2176 + x.val) := by
  pointwise [k0_pay2]
  simp only [iblk0 m c t, iblk1 m c t]
  rfl

/-- What stands in the output block after a run's last point. -/
theorem run_last (c : Dev nD) (t : Fin cfg0.N) (h : t.val % 4 = 3) (p n : Fin 1024) :
    outsAt0 m c t.val t.isLt (ix3 0 p n)
      = (∑ k ∈ Finset.range 4, ∑ x : Fin 2176, term (X m c) (Y m c) (t.val / 4 * 1024 + p.val) n.val (k * 2176 + x.val) : EReal) := by
  refine (Pipeline.eq_sum_of_reset_step_divmod (fun n' h => (outsAt0 m c n' h (ix3 0 p n) : EReal)) 4 0
    (fun q k => ∑ x : Fin 2176, term (X m c) (Y m c) (q * 1024 + p.val) n.val (k * 2176 + x.val)) (fun t h => ?_) (fun t h => ?_) t).trans ?_
  · beta_reduce
    rw [outsAt0_A m c t h]
    frame_out
    rw [step]
    pointwise [k0_pay1]
  · beta_reduce
    rw [outsAt0_B m c t h]
    frame_out
    rw [step]
  · rw [h]
    exact zero_add (_ : EReal)

/-- The second layer's part of the output array after the last grid point. -/
theorem array (c : Dev nD) (p : Fin 4096) (n : Fin 1024) :
    ((dats m 0 c).arrAt 2 (cfgs 0).N : FVec Ideal S2x4096x1024 .f32) (ix3 1 p n) = dw (X m c) (Y m c) p n := by
  refine (dats m 0 c).arrAt_forall_of_coversWhere 2 (fun (x : S2x4096x1024.Idx) (v : EReal) => (x 0).val = 1 → ∀ (p : Fin 4096) (n : Fin 1024),
      (x 1).val = p.val → (x 2).val = n.val → v = dw (X m c) (Y m c) p n) (fun β => β (0 : Fin 3) = 1)
      (by decide +kernel) (fun t hf y => ?_) (fun j hj => ?_) (ix3 1 p n) (Memref.isWhole_whole _) rfl p n rfl rfl
  · blk_simp
    rw [after0_2]
    have e1 : win0_2.index t 1 = t.val / 4 := by rw [(idx t).2.2]; rfl
    have e2 : win0_2.index t 2 = 0 := by rw [(idx t).2.2]; rfl
    rw [e1, e2]
    intro _ p n hp hn
    have h3 : t.val % 4 = 3 := (by decide +kernel : ∀ t : Fin grid0.N, win0_2.flush t = true → t.val % 4 = 3) t hf
    have hy : y = ix3 0 (y 1) (y 2) := by
      rw [eq_ix3 y]
      congr 1
      exact Subsingleton.elim (α := Fin 1) _ _
    rw [hy]
    refine (run_last m c t h3 (y 1) (y 2)).trans ?_
    rw [← dw_eq, ← hp, ← hn]
    simp only [Nat.zero_mul, Nat.zero_add]
  · intro h
    exact absurd (by blk_simp [Pipeline.Window.cell_apply] at h ⊢; omega) hj

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E2 (c : Dev nD) : E m c (Proc.devRef .tc main_v3) = (dats m 0 c).arrAt 2 (cfgs 0).N :=
  (dats m 0 c).withArrays_arrAt (by decide +kernel) (V0 m c) (fun _ => rfl) 2

theorem T_v5 (c : Dev nD) (p : Fin 4096) (n : Fin 1024) : (T m c main_v5 : FVec Ideal S4096x1024 .f32) (ix2 p n) = dw (X m c) (Y m c) p n := by
  refine Eq.trans ?_ (array m c p n)
  unfold T Pipeline.afterTail₀
  rw [← E2]
  simp only [hostOps1, List.flatten_cons, List.flatten_nil, List.cons_append, List.nil_append, List.append_nil]
  after_results_simp
  pointwise

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5) = T m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c).2 main_v5 (by decide +kernel), h.2 c⟩) (θ_run_and (run_main m ρ) (unchanged m ρ))

end Cert.Kernel5Ideal.Value

namespace Cert.Reference5Ideal.Plain

open Idealize.ShloMosaic Idealize.ShloMosaic.TcCoe Idealize.SL.Sem
open Cert.Reference5Ideal Cert.Reference5Ideal.Gen Cert.Reference5Ideal.Read

theorem v5_at (a : FVec Ideal S8704x4096 .f32) (d : FVec Ideal S8704x1024 .f32) (p : Fin 4096) (n : Fin 1024) :
    val_main_v5 (F := Ideal) a d (ix2 p n) = Cert.Kernel5Ideal.Value.dw a d p n := by
  pointwise [val_main_v5, val_main_v4, val_main_v2, val_main_v1, val_main_call0_v0, val_main_call0_cst]
  unfold Cert.Kernel5Ideal.Value.dw
  exact Finset.sum_congr rfl fun r _ => mul_comm _ _

end Cert.Reference5Ideal.Plain

namespace Cert.Proof.DownDw

open Idealize.ShloMosaic Idealize.ShloMosaic.TcCoe Idealize.SL.Sem

/-- At the ideal instance the kernel's gradient is the reference's. -/
theorem algebraic : Cert.algebraic_Kernel5Ideal_Reference5Ideal := by
  pair_intro
  · run_from Cert.Kernel5Ideal.Value.run m g
  · run_from Cert.Reference5Ideal.Value.run m' g'
    · refine (Cert.Reference5Ideal.Read.val_main_v5_eq ..).trans ?_
      funext i
      rw [eq_ix2 i]
      exact (Cert.Reference5Ideal.Plain.v5_at ..).trans (Cert.Kernel5Ideal.Value.T_v5 m c (i 0) (i 1)).symm

end Cert.Proof.DownDw

end
-- ==== Proof.UpDw.lean ====
/- The gradient of the first matrix of the feed-forward block: what the kernel adds up over blocks of rows is the
   reference's product over all rows. -/
module

public import proofs.«01_k».proof.Defs
public import proofs.«01_k».proof.Proof.Rows
public import proofs.«01_k».proof.Proof.Gen.Kernel6Ideal.Frame
public import proofs.«01_k».proof.Proof.Gen.Reference6Ideal.Read
public import Idealize.ShloMosaic.Lib.Claim
public import Idealize.ShloMosaic.Lib.Pipeline.ReadBack
public import Idealize.ShloMosaic.Lib.Pipeline.FrameSuffix
public import Idealize.ShloMosaic.Lib.Ring

@[expose] public section

set_option maxRecDepth 16384
set_option maxHeartbeats 4000000

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen Cert.Rows

variable (m : (ℓ : Loc nD τ sig) → Buf (Elt Ideal) ℓ)

/-- The normalised rows, as the reference spells them. -/
abbrev hn (x : FVec Ideal S8704x1024 .f32) (g : FVec Ideal S1024 .f32) (r : Fin 8704) (p : Fin 1024) : EReal :=
  Cert.Reference6Ideal.Read.val_main_v13 (F := Ideal) x g (ix2 r p)

/-- The matrix's gradient: the normalised rows turned, times the cotangent. -/
def dw (x : FVec Ideal S8704x1024 .f32) (g : FVec Ideal S1024 .f32) (d : FVec Ideal S8704x4096 .f32) (p : Fin 1024) (n : Fin 4096) : EReal :=
  ∑ r : Fin 8704, hn x g r p * d (ix2 r n)

/-- The same read at natural numbers, one row's term. -/
def term (x : FVec Ideal S8704x1024 .f32) (g : FVec Ideal S1024 .f32) (d : FVec Ideal S8704x4096 .f32) (p n : ℕ) (r : ℕ) : EReal :=
  at2 (hn x g) r p * at2 (fun r n => d (ix2 r n)) r n

theorem dw_eq (x : FVec Ideal S8704x1024 .f32) (g : FVec Ideal S1024 .f32) (d : FVec Ideal S8704x4096 .f32) (p : Fin 1024) (n : Fin 4096) :
    ∑ k ∈ Finset.range 4, ∑ i : Fin 2176, term x g d p.val n.val (k * 2176 + i.val) = dw x g d p n := by
  rw [sum_blocks (term x g d p.val n.val) 4 2176]
  show ∑ r : Fin 8704, _ = _
  unfold dw term
  simp only [at2_val]

/-- The three inputs as the program's start holds them. -/
abbrev X (c : Dev nD) : FVec Ideal S8704x1024 .f32 := m ((c : Thread nD τ).loc main_arg0)
abbrev G (c : Dev nD) : FVec Ideal S1024 .f32 := m ((c : Thread nD τ).loc main_arg1)
abbrev Y (c : Dev nD) : FVec Ideal S8704x4096 .f32 := m ((c : Thread nD τ).loc main_arg2)

theorem idx : ∀ t : Fin cfg0.N, win0_0.index t = ![t.val % 4, 0] ∧ win0_1.index t = ![t.val % 4, t.val / 4] ∧ win0_2.index t = ![1, 0, t.val / 4] :=
  (by decide +kernel : ∀ t : Fin grid0.N, _)

theorem tlt (t : Fin cfg0.N) : t.val < 16 := lt_of_lt_of_eq t.isLt N_0

theorem V_v13 (c : Dev nD) (r : Fin 8704) (j : Fin 1024) : (V m c main_v13 : FVec Ideal S8704x1024 .bf16) (ix2 r j) = hn (X m c) (G m c) r j := by
  unfold V V0
  simp only [hostOps0, List.flatten_cons, List.flatten_nil, List.cons_append, List.nil_append, List.append_nil]
  after_results_simp
  rfl

theorem V_v14 (c : Dev nD) (r : Fin 8704) (j : Fin 4096) : (V m c main_v14 : FVec Ideal S8704x4096 .bf16) (ix2 r j) = Y m c (ix2 r j) := by
  unfold V V0
  simp only [hostOps0, List.flatten_cons, List.flatten_nil, List.cons_append, List.nil_append, List.append_nil]
  after_results_simp
  rfl

theorem iblk0 (c : Dev nD) (t : Fin cfg0.N) (i : Fin 2176) (j : Fin 1024) :
    (iblk m c 0 t : FVec Ideal S2176x1024 .bf16) (ix2 i j) = at2 (hn (X m c) (G m c)) (t.val % 4 * 2176 + i.val) j.val := by
  have ht := tlt t
  rw [at2_mk _ _ _ (by omega) (by omega)]
  refine Eq.trans (b := (V m c main_v13 : FVec Ideal S8704x1024 .bf16) (ix2 ⟨t.val % 4 * 2176 + i.val, by omega⟩ ⟨j.val, by omega⟩)) ?_ (V_v13 m c _ _)
  blk_ext [iblk, idx t]

theorem iblk1 (c : Dev nD) (t : Fin cfg0.N) (i : Fin 2176) (j : Fin 1024) :
    (iblk m c 1 t : FVec Ideal S2176x1024 .bf16) (ix2 i j)
      = at2 (fun r n => Y m c (ix2 r n)) (t.val % 4 * 2176 + i.val) (t.val / 4 * 1024 + j.val) := by
  have ht := tlt t
  rw [at2_mk _ _ _ (by omega) (by omega)]
  refine Eq.trans (b := (V m c main_v14 : FVec Ideal S8704x4096 .bf16) (ix2 ⟨t.val % 4 * 2176 + i.val, by omega⟩ ⟨t.val / 4 * 1024 + j.val, by omega⟩)) ?_ (V_v14 m c _ _)
  blk_ext [iblk, idx t]

/-- One point's step: what stood there and the block's product. -/
theorem step (c : Dev nD) (t : Fin cfg0.N) (Z : FVec Ideal S1x1024x1024 .f32) (p n : Fin 1024) :
    k0_pay2 (F := Ideal) Z (iblk m c 0 t) (iblk m c 1 t) (ix3 0 p n)
      = Z (ix3 0 p n) + ∑ x : Fin 2176, term (X m c) (G m c) (Y m c) p.val (t.val / 4 * 1024 + n.val) (t.val % 4 * 2176 + x.val) := by
  pointwise [k0_pay2]
  simp only [iblk0 m c t, iblk1 m c t]
  rfl

/-- What stands in the output block after a run's last point. -/
theorem run_last (c : Dev nD) (t : Fin cfg0.N) (h : t.val % 4 = 3) (p n : Fin 1024) :
    outsAt0 m c t.val t.isLt (ix3 0 p n)
      = (∑ k ∈ Finset.range 4, ∑ x : Fin 2176, term (X m c) (G m c) (Y m c) p.val (t.val / 4 * 1024 + n.val) (k * 2176 + x.val) : EReal) := by
  refine (Pipeline.eq_sum_of_reset_step_divmod (fun n' h => (outsAt0 m c n' h (ix3 0 p n) : EReal)) 4 0
    (fun q k => ∑ x : Fin 2176, term (X m c) (G m c) (Y m c) p.val (q * 1024 + n.val) (k * 2176 + x.val)) (fun t h => ?_) (fun t h => ?_) t).trans ?_
  · beta_reduce
    rw [outsAt0_A m c t h]
    frame_out
    rw [step]
    pointwise [k0_pay1]
  · beta_reduce
    rw [outsAt0_B m c t h]
    frame_out
    rw [step]
  · rw [h]
    exact zero_add (_ : EReal)

/-- The second layer's part of the output array after the last grid point. -/
theorem array (c : Dev nD) (p : Fin 1024) (n : Fin 4096) :
    ((dats m 0 c).arrAt 2 (cfgs 0).N : FVec Ideal S2x1024x4096 .f32) (ix3 1 p n) = dw (X m c) (G m c) (Y m c) p n := by
  refine (dats m 0 c).arrAt_forall_of_coversWhere 2 (fun (x : S2x1024x4096.Idx) (v : EReal) => (x 0).val = 1 → ∀ (p : Fin 1024) (n : Fin 4096),
      (x 1).val = p.val → (x 2).val = n.val → v = dw (X m c) (G m c) (Y m c) p n) (fun β => β (0 : Fin 3) = 1)
      (by decide +kernel) (fun t hf y => ?_) (fun j hj => ?_) (ix3 1 p n) (Memref.isWhole_whole _) rfl p n rfl rfl
  · blk_simp
    rw [after0_2]
    have e1 : win0_2.index t 1 = 0 := by rw [(idx t).2.2]; rfl
    have e2 : win0_2.index t 2 = t.val / 4 := by rw [(idx t).2.2]; rfl
    rw [e1, e2]
    intro _ p n hp hn
    have h3 : t.val % 4 = 3 := (by decide +kernel : ∀ t : Fin grid0.N, win0_2.flush t = true → t.val % 4 = 3) t hf
    have hy : y = ix3 0 (y 1) (y 2) := by
      rw [eq_ix3 y]
      congr 1
      exact Subsingleton.elim (α := Fin 1) _ _
    rw [hy]
    refine (run_last m c t h3 (y 1) (y 2)).trans ?_
    rw [← dw_eq, ← hp, ← hn]
    simp only [Nat.zero_mul, Nat.zero_add]
  · intro h
    exact absurd (by blk_simp [Pipeline.Window.cell_apply] at h ⊢; omega) hj

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E2 (c : Dev nD) : E m c (Proc.devRef .tc main_v15) = (dats m 0 c).arrAt 2 (cfgs 0).N :=
  (dats m 0 c).withArrays_arrAt (by decide +kernel) (V0 m c) (fun _ => rfl) 2

theorem T_v17 (c : Dev nD) (p : Fin 1024) (n : Fin 4096) : (T m c main_v17 : FVec Ideal S1024x4096 .f32) (ix2 p n) = dw (X m c) (G m c) (Y m c) p n := by
  refine Eq.trans ?_ (array m c p n)
  unfold T Pipeline.afterTail₀
  rw [← E2]
  simp only [hostOps1, List.flatten_cons, List.flatten_nil, List.cons_append, List.nil_append, List.append_nil]
  after_results_simp
  pointwise

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v17) = T m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).2 main_v17 (by decide +kernel), h.2 c⟩) (θ_run_and (run_main m ρ) (unchanged m ρ))

end Cert.Kernel6Ideal.Value

namespace Cert.Reference6Ideal.Plain

open Idealize.ShloMosaic Idealize.ShloMosaic.TcCoe Idealize.SL.Sem
open Cert.Reference6Ideal Cert.Reference6Ideal.Gen Cert.Reference6Ideal.Read

theorem v16_at (x : FVec Ideal S8704x1024 .f32) (g : FVec Ideal S1024 .f32) (d : FVec Ideal S8704x4096 .f32) (p : Fin 1024) (n : Fin 4096) :
    val_main_v16 (F := Ideal) x g d (ix2 p n) = Cert.Kernel6Ideal.Value.dw x g d p n := by
  pointwise [val_main_v16, val_main_v15]
  unfold Cert.Kernel6Ideal.Value.dw
  exact Finset.sum_congr rfl fun r _ => mul_comm _ _

end Cert.Reference6Ideal.Plain

namespace Cert.Proof.UpDw

open Idealize.ShloMosaic Idealize.ShloMosaic.TcCoe Idealize.SL.Sem

/-- At the ideal instance the kernel's gradient is the reference's. -/
theorem algebraic : Cert.algebraic_Kernel6Ideal_Reference6Ideal := by
  pair_intro
  · run_from Cert.Kernel6Ideal.Value.run m g
  · run_from Cert.Reference6Ideal.Value.run m' g'
    · refine (Cert.Reference6Ideal.Read.val_main_v16_eq ..).trans ?_
      funext i
      rw [eq_ix2 i]
      exact (Cert.Reference6Ideal.Plain.v16_at ..).trans (Cert.Kernel6Ideal.Value.T_v17 m c (i 0) (i 1)).symm

end Cert.Proof.UpDw

end
-- ==== Proof.OutDw.lean ====
/- The gradient of the output projection's matrix: the kernel keeps the whole matrix in place and adds each block of rows'
   product to the half of it that belongs to each of the two inputs; the reference joins the inputs and multiplies once. -/
module

public import proofs.«01_k».proof.Defs
public import proofs.«01_k».proof.Proof.Rows
public import proofs.«01_k».proof.Proof.Gen.Kernel7Ideal.Frame
public import proofs.«01_k».proof.Proof.Gen.Reference7Ideal.Read
public import Idealize.ShloMosaic.Lib.Claim
public import Idealize.ShloMosaic.Lib.Pipeline.ReadBack
public import Idealize.ShloMosaic.Lib.Pipeline.FrameSuffix
public import Idealize.ShloMosaic.Lib.Ring

@[expose] public section

set_option maxRecDepth 16384
set_option maxHeartbeats 4000000

noncomputable section

namespace Cert.Kernel7Ideal.Value

open Idealize.ShloMosaic Idealize.ShloMosaic.TcCoe Idealize.SL.Sem
open Idealize.ShloMosaic.Pipeline (Dat)
open Cert.Kernel7Ideal Cert.Kernel7Ideal.Gen Cert.Rows

variable (m : (ℓ : Loc nD τ sig) → Buf (Elt Ideal) ℓ)

/-- The two inputs side by side. -/
def cat (a b : FVec Ideal S8704x512 .f32) (r : Fin 8704) (p : Fin 1024) : EReal :=
  if h : p.val < 512 then a (ix2 r ⟨p.val, h⟩) else b (ix2 r ⟨p.val - 512, by omega⟩)

/-- The matrix's gradient: the joined inputs turned, times the cotangent. -/
def dw (a b : FVec Ideal S8704x512 .f32) (d : FVec Ideal S8704x1024 .f32) (p n : Fin 1024) : EReal :=
  ∑ r : Fin 8704, cat a b r p * d (ix2 r n)

/-- The same read at natural numbers, one row's term. -/
def term (a b : FVec Ideal S8704x512 .f32) (d : FVec Ideal S8704x1024 .f32) (p n : ℕ) (r : ℕ) : EReal :=
  at2 (cat a b) r p * at2 (fun r n => d (ix2 r n)) r n

theorem dw_eq (a b : FVec Ideal S8704x512 .f32) (d : FVec Ideal S8704x1024 .f32) (p n : Fin 1024) :
    ∑ k ∈ Finset.range 8, ∑ x : Fin 1088, term a b d p.val n.val (k * 1088 + x.val) = dw a b d p n := by
  rw [sum_blocks (term a b d p.val n.val) 8 1088]
  show ∑ r : Fin 8704, _ = _
  unfold dw term
  simp only [at2_val]

/-- The three inputs as the program's start holds them. -/
abbrev A (c : Dev nD) : FVec Ideal S8704x512 .f32 := m ((c : Thread nD τ).loc main_arg0)
abbrev B (c : Dev nD) : FVec Ideal S8704x512 .f32 := m ((c : Thread nD τ).loc main_arg1)
abbrev Y (c : Dev nD) : FVec Ideal S8704x1024 .f32 := m ((c : Thread nD τ).loc main_arg2)

theorem idx : ∀ t : Fin cfg0.N, win0_0.index t = ![t.val, 0] ∧ win0_1.index t = ![t.val, 0] ∧ win0_2.index t = ![t.val, 0] ∧ win0_3.index t = ![1, 0, 0] :=
  (by decide +kernel : ∀ t : Fin grid0.N, _)

theorem tlt (t : Fin cfg0.N) : t.val < 8 := lt_of_lt_of_eq t.isLt N_0

theorem V_v0 (c : Dev nD) : (V m c main_v0 : FVec Ideal S8704x512 .bf16) = A m c := by
  unfold V V0
  simp only [hostOps0, List.flatten_cons, List.flatten_nil, List.cons_append, List.nil_append, List.append_nil]
  after_results_simp
  rfl

theorem V_v1 (c : Dev nD) : (V m c main_v1 : FVec Ideal S8704x512 .bf16) = B m c := by
  unfold V V0
  simp only [hostOps0, List.flatten_cons, List.flatten_nil, List.cons_append, List.nil_append, List.append_nil]
  after_results_simp
  rfl

theorem iblk0 (c : Dev nD) (t : Fin cfg0.N) (i : Fin 1088) (j : Fin 512) :
    (iblk m c 0 t : FVec Ideal S1088x512 .bf16) (ix2 i j) = at2 (cat (A m c) (B m c)) (t.val * 1088 + i.val) j.val := by
  have ht := tlt t
  rw [at2_mk _ _ _ (by omega) (by omega)]
  unfold cat
  rw [dif_pos (show j.val < 512 by omega), ← V_v0 m c]
  blk_ext [iblk, idx t]

theorem iblk1 (c : Dev nD) (t : Fin cfg0.N) (i : Fin 1088) (j : Fin 512) :
    (iblk m c 1 t : FVec Ideal S1088x512 .bf16) (ix2 i j) = at2 (cat (A m c) (B m c)) (t.val * 1088 + i.val) (512 + j.val) := by
  have ht := tlt t
  rw [at2_mk _ _ _ (by omega) (by omega)]
  unfold cat
  rw [dif_neg (show ¬512 + j.val < 512 by omega), ← V_v1 m c]
  blk_ext [iblk, idx t]

theorem iblk2 (c : Dev nD) (t : Fin cfg0.N) (i : Fin 1088) (j : Fin 1024) :
    (iblk m c 2 t : FVec Ideal S1088x1024 .f32) (ix2 i j) = at2 (fun r n => Y m c (ix2 r n)) (t.val * 1088 + i.val) j.val := by
  have ht := tlt t
  rw [at2_mk _ _ _ (by omega) (by omega)]
  blk_ext [iblk, idx t, V]

/-- One block of rows' addition to the entry. -/
def add (c : Dev nD) (p n : Fin 1024) (k : ℕ) : EReal := ∑ x : Fin 1088, term (A m c) (B m c) (Y m c) p.val n.val (k * 1088 + x.val)

theorem step2 (c : Dev nD) (t : Fin cfg0.N) (Z : FVec Ideal S1x512x1024 .f32) (i : Fin 512) (p n : Fin 1024) (hp : p.val = i.val) :
    k0_pay2 (F := Ideal) (iblk m c 0 t) Z (iblk m c 2 t) (ix3 0 i n) = Z (ix3 0 i n) + add m c p n t.val := by
  pointwise [k0_pay2]
  simp only [iblk0 m c t, iblk2 m c t, ← hp]
  rfl

theorem step3 (c : Dev nD) (t : Fin cfg0.N) (Z : FVec Ideal S1x512x1024 .f32) (i : Fin 512) (p n : Fin 1024) (hp : p.val = 512 + i.val) :
    k0_pay3 (F := Ideal) (iblk m c 1 t) Z (iblk m c 2 t) (ix3 0 i n) = Z (ix3 0 i n) + add m c p n t.val := by
  pointwise [k0_pay3]
  simp only [iblk1 m c t, iblk2 m c t, ← hp]
  rfl

/-- A later point adds its block's product to what stood there, half by half. -/
theorem outs_B (c : Dev nD) (t : Fin cfg0.N) (h : ¬t.val % 8 = 0) (p n : Fin 1024) :
    outsAt0 m c t.val t.isLt (ix3 0 p n)
      = ((outsAt0 m c (t.val - 1) (Nat.lt_of_le_of_lt (Nat.sub_le _ _) t.isLt) : FVec Ideal S1x1024x1024 .f32) (ix3 0 p n) + add m c p n t.val : EReal) := by
  rw [outsAt0_B m c t h]
  frame_out
  refine View.canon_eq_of_allAt (Val := Elt Ideal) (S := S1x1024x1024) (e := .f32) _ (ix3 0 p n) _ (View.cover_of_tiledL _ ![1, 512, 1024] rfl _) ?_
  refine View.allAt_cons_unit _ _ _ _ _ ?_ (View.allAt_cons_unit _ _ _ _ _ ?_ (View.allAt_nil _ _))
  · intro x h
    obtain ⟨z, i, j, rfl⟩ : ∃ (z : Fin 1) (i : Fin 512) (j : Fin 1024), x = ix3 z i j := ⟨x 0, x 1, x 2, eq_ix3 x⟩
    obtain rfl : z = 0 := Subsingleton.elim _ _
    obtain rfl : n = j := Fin.ext ((h 2).trans (Nat.zero_add _))
    have e1 : p.val = 512 + i.val := h 1
    refine (step3 m c t _ i p n e1).trans (congrArg (fun v : EReal => v + add m c p n t.val) ?_)
    exact View.ld_unit_apply_of _ _ _ _ _ _ h
  · intro x h
    obtain ⟨z, i, j, rfl⟩ : ∃ (z : Fin 1) (i : Fin 512) (j : Fin 1024), x = ix3 z i j := ⟨x 0, x 1, x 2, eq_ix3 x⟩
    obtain rfl : z = 0 := Subsingleton.elim _ _
    obtain rfl : n = j := Fin.ext ((h 2).trans (Nat.zero_add _))
    have e1 : p.val = i.val := (h 1).trans (Nat.zero_add _)
    refine (step2 m c t _ i p n e1).trans (congrArg (fun v : EReal => v + add m c p n t.val) ?_)
    exact View.ld_unit_apply_of _ _ _ _ _ _ h

/-- The first point fills the block with zeros and adds its product to them. -/
theorem outs_A (c : Dev nD) (t : Fin cfg0.N) (h : t.val % 8 = 0) (p n : Fin 1024) :
    outsAt0 m c t.val t.isLt (ix3 0 p n) = (0 + add m c p n t.val : EReal) := by
  rw [outsAt0_A m c t h]
  frame_out
  simp (disch := first | rfl | decide) only [View.readCov_skip, View.readCov_fill]
  refine canon_front (Val := Elt Ideal) (S := S1x1024x1024) (e := .f32) [_, _] _ (ix3 0 p n) _ (View.cover_of_tiledL _ ![1, 512, 1024] rfl _) ?_
  refine View.allAt_cons_unit _ _ _ _ _ ?_ (View.allAt_cons_unit _ _ _ _ _ ?_ (View.allAt_nil _ _))
  · intro x h
    obtain ⟨z, i, j, rfl⟩ : ∃ (z : Fin 1) (i : Fin 512) (j : Fin 1024), x = ix3 z i j := ⟨x 0, x 1, x 2, eq_ix3 x⟩
    obtain rfl : z = 0 := Subsingleton.elim _ _
    obtain rfl : n = j := Fin.ext ((h 2).trans (Nat.zero_add _))
    have e1 : p.val = 512 + i.val := h 1
    refine (step3 m c t _ i p n e1).trans (congrArg (fun v : EReal => v + add m c p n t.val) ?_)
    refine (View.ld_unit_apply_of _ _ _ _ _ _ h).trans ?_
    pointwise [k0_pay1]
  · intro x h
    obtain ⟨z, i, j, rfl⟩ : ∃ (z : Fin 1) (i : Fin 512) (j : Fin 1024), x = ix3 z i j := ⟨x 0, x 1, x 2, eq_ix3 x⟩
    obtain rfl : z = 0 := Subsingleton.elim _ _
    obtain rfl : n = j := Fin.ext ((h 2).trans (Nat.zero_add _))
    have e1 : p.val = i.val := (h 1).trans (Nat.zero_add _)
    refine (step2 m c t _ i p n e1).trans (congrArg (fun v : EReal => v + add m c p n t.val) ?_)
    refine (View.ld_unit_apply_of _ _ _ _ _ _ h).trans ?_
    pointwise [k0_pay1]

/-- What stands in the output block after the last point. -/
theorem run_last (c : Dev nD) (t : Fin cfg0.N) (h : t.val % 8 = 7) (p n : Fin 1024) :
    outsAt0 m c t.val t.isLt (ix3 0 p n) = dw (A m c) (B m c) (Y m c) p n := by
  have ht := tlt t
  refine (Pipeline.eq_sum_of_reset_step_divmod (fun n' h => (outsAt0 m c n' h (ix3 0 p n) : EReal)) 8 0
    (fun q k => add m c p n (q * 8 + k)) (fun t h => ?_) (fun t h => ?_) t).trans ?_
  · beta_reduce
    refine (outs_A m c t h p n).trans ?_
    rw [show t.val / 8 * 8 + t.val % 8 = t.val by omega]
  · beta_reduce
    refine (outs_B m c t h p n).trans ?_
    rw [show t.val / 8 * 8 + t.val % 8 = t.val by omega]
  · rw [h, show t.val / 8 = 0 by omega, ← dw_eq]
    refine (zero_add (_ : EReal)).trans (Finset.sum_congr rfl fun k _ => ?_)
    rw [Nat.zero_mul, Nat.zero_add]
    rfl

/-- The second layer's part of the output array after the last grid point. -/
theorem array (c : Dev nD) (p n : Fin 1024) :
    ((dats m 0 c).arrAt 3 (cfgs 0).N : FVec Ideal S2x1024x1024 .f32) (ix3 1 p n) = dw (A m c) (B m c) (Y m c) p n := by
  refine (dats m 0 c).arrAt_forall_of_coversWhere 3 (fun (x : S2x1024x1024.Idx) (v : EReal) => (x 0).val = 1 → ∀ (p n : Fin 1024),
      (x 1).val = p.val → (x 2).val = n.val → v = dw (A m c) (B m c) (Y m c) p n) (fun β => β (0 : Fin 3) = 1)
      (by decide +kernel) (fun t hf y => ?_) (fun j hj => ?_) (ix3 1 p n) (Memref.isWhole_whole _) rfl p n rfl rfl
  · blk_simp
    rw [after0_3]
    have e1 : win0_3.index t 1 = 0 := by rw [(idx t).2.2.2]; rfl
    have e2 : win0_3.index t 2 = 0 := by rw [(idx t).2.2.2]; rfl
    rw [e1, e2]
    intro _ p n hp hn
    have h3 : t.val % 8 = 7 := (by decide +kernel : ∀ t : Fin grid0.N, win0_3.flush t = true → t.val % 8 = 7) t hf
    obtain rfl : y 1 = p := Fin.ext (by rw [← hp]; omega)
    obtain rfl : y 2 = n := Fin.ext (by rw [← hn]; omega)
    have hy : y = ix3 0 (y 1) (y 2) := by
      rw [eq_ix3 y]
      congr 1
      exact Subsingleton.elim (α := Fin 1) _ _
    rw [hy]
    exact run_last m c t h3 (y 1) (y 2)
  · intro h
    exact absurd (by blk_simp [Pipeline.Window.cell_apply] at h ⊢; omega) hj

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E3 (c : Dev nD) : E m c (Proc.devRef .tc main_v2) = (dats m 0 c).arrAt 3 (cfgs 0).N :=
  (dats m 0 c).withArrays_arrAt (by decide +kernel) (V0 m c) (fun _ => rfl) 3

theorem T_v4 (c : Dev nD) (p n : Fin 1024) : (T m c main_v4 : FVec Ideal S1024x1024 .f32) (ix2 p n) = dw (A m c) (B m c) (Y m c) p n := by
  refine Eq.trans ?_ (array m c p n)
  unfold T Pipeline.afterTail₀
  rw [← E3]
  simp only [hostOps1, List.flatten_cons, List.flatten_nil, List.cons_append, List.nil_append, List.append_nil]
  after_results_simp
  pointwise

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v4) = T m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).2 main_v4 (by decide +kernel), h.2 c⟩) (θ_run_and (run_main m ρ) (unchanged m ρ))

end Cert.Kernel7Ideal.Value

namespace Cert.Reference7Ideal.Plain

open Idealize.ShloMosaic Idealize.ShloMosaic.TcCoe Idealize.SL.Sem
open Cert.Reference7Ideal Cert.Reference7Ideal.Gen Cert.Reference7Ideal.Read

theorem v4_at (a b : FVec Ideal S8704x512 .f32) (d : FVec Ideal S8704x1024 .f32) (p n : Fin 1024) :
    val_main_v4 (F := Ideal) a b d (ix2 p n) = Cert.Kernel7Ideal.Value.dw a b d p n := by
  pointwise [val_main_v4, val_main_v3, val_main_v1]
  unfold Cert.Kernel7Ideal.Value.dw Cert.Kernel7Ideal.Value.cat
  exact Finset.sum_congr rfl fun r _ => mul_comm _ _

end Cert.Reference7Ideal.Plain

namespace Cert.Proof.OutDw

open Idealize.ShloMosaic Idealize.ShloMosaic.TcCoe Idealize.SL.Sem

/-- At the ideal instance the kernel's gradient is the reference's. -/
theorem algebraic : Cert.algebraic_Kernel7Ideal_Reference7Ideal := by
  pair_intro
  · run_from Cert.Kernel7Ideal.Value.run m g
  · run_from Cert.Reference7Ideal.Value.run m' g'
    · refine (Cert.Reference7Ideal.Read.val_main_v4_eq ..).trans ?_
      funext i
      rw [eq_ix2 i]
      exact (Cert.Reference7Ideal.Plain.v4_at ..).trans (Cert.Kernel7Ideal.Value.T_v4 m c (i 0) (i 1)).symm

end Cert.Proof.OutDw

end
-- ==== Proof.InDw.lean ====
/- The gradient of the input projection's matrix: the kernel keeps the whole matrix in place and adds each block of rows'
   product to the columns that belong to each of the four cotangents; the reference joins the cotangents and multiplies once. -/
module

public import proofs.«01_k».proof.Defs
public import proofs.«01_k».proof.Proof.Rows
public import proofs.«01_k».proof.Proof.Gen.Kernel8Ideal.Frame
public import proofs.«01_k».proof.Proof.Gen.Reference8Ideal.Read
public import Idealize.ShloMosaic.Lib.Claim
public import Idealize.ShloMosaic.Lib.Pipeline.ReadBack
public import Idealize.ShloMosaic.Lib.Pipeline.FrameSuffix
public import Idealize.ShloMosaic.Lib.Ring

@[expose] public section

set_option maxRecDepth 16384
set_option maxHeartbeats 4000000

noncomputable section

namespace Cert.Kernel8Ideal.Value

open Idealize.ShloMosaic Idealize.ShloMosaic.TcCoe Idealize.SL.Sem
open Idealize.ShloMosaic.Pipeline (Dat)
open Cert.Kernel8Ideal Cert.Kernel8Ideal.Gen Cert.Rows

variable (m : (ℓ : Loc nD τ sig) → Buf (Elt Ideal) ℓ)

/-- The normalised rows, as the reference spells them. -/
abbrev hn (x : FVec Ideal S8704x1024 .f32) (g : FVec Ideal S1024 .f32) (r : Fin 8704) (p : Fin 1024) : EReal :=
  Cert.Reference8Ideal.Read.val_main_v14 (F := Ideal) x g (ix2 r p)

/-- The four cotangents side by side. -/
def cat (u : FVec Ideal S8704x1024 .f32) (q k v : FVec Ideal S8704x512 .f32) (r : Fin 8704) (n : Fin 2560) : EReal :=
  if h : n.val < 1024 then u (ix2 r ⟨n.val, h⟩) else if h : n.val < 1536 then q (ix2 r ⟨n.val - 1024, by omega⟩)
  else if h : n.val < 2048 then k (ix2 r ⟨n.val - 1536, by omega⟩) else v (ix2 r ⟨n.val - 2048, by omega⟩)

/-- The matrix's gradient: the normalised rows turned, times the joined cotangents. -/
def dw (x : FVec Ideal S8704x1024 .f32) (g : FVec Ideal S1024 .f32) (u : FVec Ideal S8704x1024 .f32) (q k v : FVec Ideal S8704x512 .f32) (p : Fin 1024) (n : Fin 2560) : EReal :=
  ∑ r : Fin 8704, hn x g r p * cat u q k v r n

/-- The same read at natural numbers, one row's term. -/
def term (x : FVec Ideal S8704x1024 .f32) (g : FVec Ideal S1024 .f32) (u : FVec Ideal S8704x1024 .f32) (q k v : FVec Ideal S8704x512 .f32) (p n : ℕ) (r : ℕ) : EReal :=
  at2 (hn x g) r p * at2 (cat u q k v) r n

theorem dw_eq (x : FVec Ideal S8704x1024 .f32) (g : FVec Ideal S1024 .f32) (u : FVec Ideal S8704x1024 .f32) (q k v : FVec Ideal S8704x512 .f32) (p : Fin 1024) (n : Fin 2560) :
    ∑ s ∈ Finset.range 8, ∑ i : Fin 1088, term x g u q k v p.val n.val (s * 1088 + i.val) = dw x g u q k v p n := by
  rw [sum_blocks (term x g u q k v p.val n.val) 8 1088]
  show ∑ r : Fin 8704, _ = _
  unfold dw term
  simp only [at2_val]

/-- The six inputs as the program's start holds them. -/
abbrev X (c : Dev nD) : FVec Ideal S8704x1024 .f32 := m ((c : Thread nD τ).loc main_arg0)
abbrev G (c : Dev nD) : FVec Ideal S1024 .f32 := m ((c : Thread nD τ).loc main_arg1)
abbrev U (c : Dev nD) : FVec Ideal S8704x1024 .f32 := m ((c : Thread nD τ).loc main_arg2)
abbrev Q (c : Dev nD) : FVec Ideal S8704x512 .f32 := m ((c : Thread nD τ).loc main_arg3)
abbrev K (c : Dev nD) : FVec Ideal S8704x512 .f32 := m ((c : Thread nD τ).loc main_arg4)
abbrev W (c : Dev nD) : FVec Ideal S8704x512 .f32 := m ((c : Thread nD τ).loc main_arg5)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![1, 0, 0] :=
  (by decide +kernel : ∀ t : Fin grid0.N, _)

theorem tlt (t : Fin cfg0.N) : t.val < 8 := lt_of_lt_of_eq t.isLt N_0

theorem V_v13 (c : Dev nD) (r : Fin 8704) (j : Fin 1024) : (V m c main_v13 : FVec Ideal S8704x1024 .bf16) (ix2 r j) = hn (X m c) (G m c) r j := by
  unfold V V0
  simp only [hostOps0, List.flatten_cons, List.flatten_nil, List.cons_append, List.nil_append, List.append_nil]
  after_results_simp
  rfl

theorem iblk0 (c : Dev nD) (t : Fin cfg0.N) (i : Fin 1088) (j : Fin 1024) :
    (iblk m c 0 t : FVec Ideal S1088x1024 .bf16) (ix2 i j) = at2 (hn (X m c) (G m c)) (t.val * 1088 + i.val) j.val := by
  have ht := tlt t
  rw [at2_mk _ _ _ (by omega) (by omega)]
  refine Eq.trans (b := (V m c main_v13 : FVec Ideal S8704x1024 .bf16) (ix2 ⟨t.val * 1088 + i.val, by omega⟩ ⟨j.val, by omega⟩)) ?_ (V_v13 m c _ _)
  blk_ext [iblk, idx t]

theorem V_v14 (c : Dev nD) : (V m c main_v14 : FVec Ideal S8704x1024 .bf16) = U m c := by
  unfold V V0
  simp only [hostOps0, List.flatten_cons, List.flatten_nil, List.cons_append, List.nil_append, List.append_nil]
  after_results_simp
  rfl

theorem iblk1 (c : Dev nD) (t : Fin cfg0.N) (i : Fin 1088) (j : Fin 1024) :
    (iblk m c 1 t : FVec Ideal S1088x1024 .bf16) (ix2 i j) = at2 (cat (U m c) (Q m c) (K m c) (W m c)) (t.val * 1088 + i.val) j.val := by
  have ht := tlt t
  rw [at2_mk _ _ _ (by omega) (by omega)]
  unfold cat
  rw [dif_pos (show j.val < 1024 by omega), ← V_v14 m c]
  blk_ext [iblk, idx t]

theorem V_v15 (c : Dev nD) : (V m c main_v15 : FVec Ideal S8704x512 .bf16) = Q m c := by
  unfold V V0
  simp only [hostOps0, List.flatten_cons, List.flatten_nil, List.cons_append, List.nil_append, List.append_nil]
  after_results_simp
  rfl

theorem iblk2 (c : Dev nD) (t : Fin cfg0.N) (i : Fin 1088) (j : Fin 512) :
    (iblk m c 2 t : FVec Ideal S1088x512 .bf16) (ix2 i j) = at2 (cat (U m c) (Q m c) (K m c) (W m c)) (t.val * 1088 + i.val) (1024 + j.val) := by
  have ht := tlt t
  rw [at2_mk _ _ _ (by omega) (by omega)]
  unfold cat
  rw [dif_neg (show ¬1024 + j.val < 1024 by omega), dif_pos (show 1024 + j.val < 1536 by omega), ← V_v15 m c]
  blk_ext [iblk, idx t]

theorem V_v16 (c : Dev nD) : (V m c main_v16 : FVec Ideal S8704x512 .bf16) = K m c := by
  unfold V V0
  simp only [hostOps0, List.flatten_cons, List.flatten_nil, List.cons_append, List.nil_append, List.append_nil]
  after_results_simp
  rfl

theorem iblk3 (c : Dev nD) (t : Fin cfg0.N) (i : Fin 1088) (j : Fin 512) :
    (iblk m c 3 t : FVec Ideal S1088x512 .bf16) (ix2 i j) = at2 (cat (U m c) (Q m c) (K m c) (W m c)) (t.val * 1088 + i.val) (1536 + j.val) := by
  have ht := tlt t
  rw [at2_mk _ _ _ (by omega) (by omega)]
  unfold cat
  rw [dif_neg (show ¬1536 + j.val < 1024 by omega), dif_neg (show ¬1536 + j.val < 1536 by omega), dif_pos (show 1536 + j.val < 2048 by omega), ← V_v16 m c]
  blk_ext [iblk, idx t]

theorem V_v17 (c : Dev nD) : (V m c main_v17 : FVec Ideal S8704x512 .bf16) = W m c := by
  unfold V V0
  simp only [hostOps0, List.flatten_cons, List.flatten_nil, List.cons_append, List.nil_append, List.append_nil]
  after_results_simp
  rfl

theorem iblk4 (c : Dev nD) (t : Fin cfg0.N) (i : Fin 1088) (j : Fin 512) :
    (iblk m c 4 t : FVec Ideal S1088x512 .bf16) (ix2 i j) = at2 (cat (U m c) (Q m c) (K m c) (W m c)) (t.val * 1088 + i.val) (2048 + j.val) := by
  have ht := tlt t
  rw [at2_mk _ _ _ (by omega) (by omega)]
  unfold cat
  rw [dif_neg (show ¬2048 + j.val < 1024 by omega), dif_neg (show ¬2048 + j.val < 1536 by omega), dif_neg (show ¬2048 + j.val < 2048 by omega), ← V_v17 m c]
  blk_ext [iblk, idx t]

/-- One block of rows' addition to the entry. -/
def add (c : Dev nD) (p : Fin 1024) (n : Fin 2560) (s : ℕ) : EReal :=
  ∑ i : Fin 1088, term (X m c) (G m c) (U m c) (Q m c) (K m c) (W m c) p.val n.val (s * 1088 + i.val)

theorem step5 (c : Dev nD) (t : Fin cfg0.N) (Z : FVec Ideal S1x1024x1024 .f32) (p : Fin 1024) (j : Fin 1024) (n : Fin 2560) (hn : n.val = j.val) :
    k0_pay5 (F := Ideal) (iblk m c 0 t) Z (iblk m c 1 t) (ix3 0 p j) = Z (ix3 0 p j) + add m c p n t.val := by
  pointwise [k0_pay5, k0_pay4]
  simp only [iblk0 m c t, iblk1 m c t, ← hn]
  rfl

theorem step6 (c : Dev nD) (t : Fin cfg0.N) (Z : FVec Ideal S1x1024x512 .f32) (p : Fin 1024) (j : Fin 512) (n : Fin 2560) (hn : n.val = 1024 + j.val) :
    k0_pay6 (F := Ideal) (iblk m c 0 t) Z (iblk m c 2 t) (ix3 0 p j) = Z (ix3 0 p j) + add m c p n t.val := by
  pointwise [k0_pay6, k0_pay4]
  simp only [iblk0 m c t, iblk2 m c t, ← hn]
  rfl

theorem step1 (c : Dev nD) (t : Fin cfg0.N) (Z : FVec Ideal S1x1024x512 .f32) (p : Fin 1024) (j : Fin 512) (n : Fin 2560) (hn : n.val = 1536 + j.val) :
    k0_pay1 (F := Ideal) (k0_pay7 Z) (k0_pay8 (iblk m c 0 t) (iblk m c 3 t)) (ix3 0 p j) = Z (ix3 0 p j) + add m c p n t.val := by
  pointwise [k0_pay1, k0_pay7, k0_pay8, k0_pay4]
  simp only [iblk0 m c t, iblk3 m c t, ← hn]
  rfl

theorem step2 (c : Dev nD) (t : Fin cfg0.N) (Z : FVec Ideal S1x1024x512 .f32) (p : Fin 1024) (j : Fin 512) (n : Fin 2560) (hn : n.val = 2048 + j.val) :
    k0_pay2 (F := Ideal) (k0_pay4 (iblk m c 0 t)) Z (iblk m c 4 t) (ix3 0 p j) = Z (ix3 0 p j) + add m c p n t.val := by
  pointwise [k0_pay2, k0_pay4]
  simp only [iblk0 m c t, iblk4 m c t, ← hn]
  rfl

/-- A later point adds its block's product to what stood there, one range of columns after the other. -/
theorem outs_B (c : Dev nD) (t : Fin cfg0.N) (h : ¬t.val % 8 = 0) (p : Fin 1024) (n : Fin 2560) :
    outsAt0 m c t.val t.isLt (ix3 0 p n)
      = ((outsAt0 m c (t.val - 1) (Nat.lt_of_le_of_lt (Nat.sub_le _ _) t.isLt) : FVec Ideal S1x1024x2560 .f32) (ix3 0 p n) + add m c p n t.val : EReal) := by
  rw [outsAt0_B m c t h]
  frame_out
  refine View.canon_eq_of_allAt (Val := Elt Ideal) (S := S1x1024x2560) (e := .f32) _ (ix3 0 p n) _ (View.cover_of_tiledBy _ ![1, 1024, 512] (by sl_kernel_rfl) _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step2 m c t _ p j n (h 2)).trans (congrArg (fun v : EReal => v + add m c p n t.val) ?_)
    exact View.ld_unit_apply_of _ _ _ _ _ _ h
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step1 m c t _ p j n (h 2)).trans (congrArg (fun v : EReal => v + add m c p n t.val) ?_)
    exact View.ld_unit_apply_of _ _ _ _ _ _ h
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step6 m c t _ p j n (h 2)).trans (congrArg (fun v : EReal => v + add m c p n t.val) ?_)
    exact View.ld_unit_apply_of _ _ _ _ _ _ h
  · intro x h
    obtain ⟨z, i, j, rfl⟩ : ∃ (z : Fin 1) (i : Fin 1024) (j : Fin 1024), x = ix3 z i j := ⟨x 0, x 1, x 2, eq_ix3 x⟩
    obtain rfl : z = 0 := Subsingleton.elim _ _
    obtain rfl : p = i := Fin.ext ((h 1).trans (Nat.zero_add _))
    refine (step5 m c t _ p j n ((h 2).trans (Nat.zero_add _))).trans (congrArg (fun v : EReal => v + add m c p n t.val) ?_)
    exact View.ld_unit_apply_of _ _ _ _ _ _ h

/-- The first point fills the block with zeros and adds its product to them. -/
theorem outs_A (c : Dev nD) (t : Fin cfg0.N) (h : t.val % 8 = 0) (p : Fin 1024) (n : Fin 2560) :
    outsAt0 m c t.val t.isLt (ix3 0 p n) = (0 + add m c p n t.val : EReal) := by
  rw [outsAt0_A m c t h]
  frame_out
  simp (disch := first | rfl | decide) only [View.readCov_skip, View.readCov_fill]
  refine canon_front (Val := Elt Ideal) (S := S1x1024x2560) (e := .f32) [_, _, _, _] _ (ix3 0 p n) _ (View.cover_of_tiledBy _ ![1, 1024, 512] (by sl_kernel_rfl) _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step2 m c t _ p j n (h 2)).trans (congrArg (fun v : EReal => v + add m c p n t.val) ?_)
    refine (View.ld_unit_apply_of _ _ _ _ _ _ h).trans ?_
    pointwise [k0_pay3]
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step1 m c t _ p j n (h 2)).trans (congrArg (fun v : EReal => v + add m c p n t.val) ?_)
    refine (View.ld_unit_apply_of _ _ _ _ _ _ h).trans ?_
    pointwise [k0_pay3]
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step6 m c t _ p j n (h 2)).trans (congrArg (fun v : EReal => v + add m c p n t.val) ?_)
    refine (View.ld_unit_apply_of _ _ _ _ _ _ h).trans ?_
    pointwise [k0_pay3]
  · intro x h
    obtain ⟨z, i, j, rfl⟩ : ∃ (z : Fin 1) (i : Fin 1024) (j : Fin 1024), x = ix3 z i j := ⟨x 0, x 1, x 2, eq_ix3 x⟩
    obtain rfl : z = 0 := Subsingleton.elim _ _
    obtain rfl : p = i := Fin.ext ((h 1).trans (Nat.zero_add _))
    refine (step5 m c t _ p j n ((h 2).trans (Nat.zero_add _))).trans (congrArg (fun v : EReal => v + add m c p n t.val) ?_)
    refine (View.ld_unit_apply_of _ _ _ _ _ _ h).trans ?_
    pointwise [k0_pay3]

/-- What stands in the output block after the last point. -/
theorem run_last (c : Dev nD) (t : Fin cfg0.N) (h : t.val % 8 = 7) (p : Fin 1024) (n : Fin 2560) :
    outsAt0 m c t.val t.isLt (ix3 0 p n) = dw (X m c) (G m c) (U m c) (Q m c) (K m c) (W m c) p n := by
  have ht := tlt t
  refine (Pipeline.eq_sum_of_reset_step_divmod (fun n' h => (outsAt0 m c n' h (ix3 0 p n) : EReal)) 8 0
    (fun q k => add m c p n (q * 8 + k)) (fun t h => ?_) (fun t h => ?_) t).trans ?_
  · beta_reduce
    refine (outs_A m c t h p n).trans ?_
    rw [show t.val / 8 * 8 + t.val % 8 = t.val by omega]
  · beta_reduce
    refine (outs_B m c t h p n).trans ?_
    rw [show t.val / 8 * 8 + t.val % 8 = t.val by omega]
  · rw [h, show t.val / 8 = 0 by omega, ← dw_eq]
    refine (zero_add (_ : EReal)).trans (Finset.sum_congr rfl fun k _ => ?_)
    rw [Nat.zero_mul, Nat.zero_add]
    rfl

/-- The second layer's part of the output array after the last grid point. -/
theorem array (c : Dev nD) (p : Fin 1024) (n : Fin 2560) :
    ((dats m 0 c).arrAt 5 (cfgs 0).N : FVec Ideal S2x1024x2560 .f32) (ix3 1 p n) = dw (X m c) (G m c) (U m c) (Q m c) (K m c) (W m c) p n := by
  refine (dats m 0 c).arrAt_forall_of_coversWhere 5 (fun (x : S2x1024x2560.Idx) (v : EReal) => (x 0).val = 1 → ∀ (p : Fin 1024) (n : Fin 2560),
      (x 1).val = p.val → (x 2).val = n.val → v = dw (X m c) (G m c) (U m c) (Q m c) (K m c) (W m c) p n) (fun β => β (0 : Fin 3) = 1)
      (by decide +kernel) (fun t hf y => ?_) (fun j hj => ?_) (ix3 1 p n) (Memref.isWhole_whole _) rfl p n rfl rfl
  · blk_simp
    rw [after0_5]
    have e1 : win0_5.index t 1 = 0 := by rw [(idx t).2.2.2.2.2]; rfl
    have e2 : win0_5.index t 2 = 0 := by rw [(idx t).2.2.2.2.2]; rfl
    rw [e1, e2]
    intro _ p n hp hn
    have h3 : t.val % 8 = 7 := (by decide +kernel : ∀ t : Fin grid0.N, win0_5.flush t = true → t.val % 8 = 7) t hf
    obtain rfl : y 1 = p := Fin.ext (by rw [← hp]; omega)
    obtain rfl : y 2 = n := Fin.ext (by rw [← hn]; omega)
    have hy : y = ix3 0 (y 1) (y 2) := by
      rw [eq_ix3 y]
      congr 1
      exact Subsingleton.elim (α := Fin 1) _ _
    rw [hy]
    exact run_last m c t h3 (y 1) (y 2)
  · intro h
    exact absurd (by blk_simp [Pipeline.Window.cell_apply] at h ⊢; omega) hj

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E5 (c : Dev nD) : E m c (Proc.devRef .tc main_v18) = (dats m 0 c).arrAt 5 (cfgs 0).N :=
  (dats m 0 c).withArrays_arrAt (by decide +kernel) (V0 m c) (fun _ => rfl) 5

theorem T_v20 (c : Dev nD) (p : Fin 1024) (n : Fin 2560) : (T m c main_v20 : FVec Ideal S1024x2560 .f32) (ix2 p n) = dw (X m c) (G m c) (U m c) (Q m c) (K m c) (W m c) p n := by
  refine Eq.trans ?_ (array m c p n)
  unfold T Pipeline.afterTail₀
  rw [← E5]
  simp only [hostOps1, List.flatten_cons, List.flatten_nil, List.cons_append, List.nil_append, List.append_nil]
  after_results_simp
  pointwise

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v20) = T m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).2 main_v20 (by decide +kernel), h.2 c⟩) (θ_run_and (run_main m ρ) (unchanged m ρ))

end Cert.Kernel8Ideal.Value

namespace Cert.Reference8Ideal.Plain

open Idealize.ShloMosaic Idealize.ShloMosaic.TcCoe Idealize.SL.Sem
open Cert.Reference8Ideal Cert.Reference8Ideal.Gen Cert.Reference8Ideal.Read

theorem v17_at (x : FVec Ideal S8704x1024 .f32) (g : FVec Ideal S1024 .f32) (u : FVec Ideal S8704x1024 .f32) (q k v : FVec Ideal S8704x512 .f32) (p : Fin 1024) (n : Fin 2560) :
    val_main_v17 (F := Ideal) x g u q k v (ix2 p n) = Cert.Kernel8Ideal.Value.dw x g u q k v p n := by
  pointwise [val_main_v17, val_main_v16, val_main_v0]
  unfold Cert.Kernel8Ideal.Value.dw Cert.Kernel8Ideal.Value.cat
  refine Finset.sum_congr rfl fun r _ => (mul_comm _ _).trans (congrArg (fun w : EReal => Cert.Kernel8Ideal.Value.hn x g r p * w) ?_)
  by_cases h1 : n.val < 1024
  · rw [dif_pos h1, dif_pos h1]
  rw [dif_neg h1, dif_neg h1]
  by_cases h2 : n.val < 1536
  · rw [dif_pos (show n.val - 1024 < 512 by omega), dif_pos h2]
  rw [dif_neg (show ¬n.val - 1024 < 512 by omega), dif_neg h2]
  by_cases h3 : n.val < 2048
  · rw [dif_pos (show n.val - 1024 - 512 < 512 by omega), dif_pos h3]
    exact congrArg (fun j => k (ix2 r j)) (Fin.ext (show n.val - 1024 - 512 = n.val - 1536 by omega))
  rw [dif_neg (show ¬n.val - 1024 - 512 < 512 by omega), dif_neg h3]
  exact congrArg (fun j => v (ix2 r j)) (Fin.ext (show n.val - 1024 - 512 - 512 = n.val - 2048 by omega))

end Cert.Reference8Ideal.Plain

namespace Cert.Proof.InDw

open Idealize.ShloMosaic Idealize.ShloMosaic.TcCoe Idealize.SL.Sem

/-- At the ideal instance the kernel's gradient is the reference's. -/
theorem algebraic : Cert.algebraic_Kernel8Ideal_Reference8Ideal := by
  pair_intro
  · run_from Cert.Kernel8Ideal.Value.run m g
  · run_from Cert.Reference8Ideal.Value.run m' g'
    · rw [Cert.Reference8Ideal.Read.val_main_v17_eq, (hagree c).2.2.1, (hagree c).2.2.2.1, (hagree c).2.2.2.2.1, (hagree c).2.2.2.2.2]
      funext i
      rw [eq_ix2 i]
      exact (Cert.Reference8Ideal.Plain.v17_at ..).trans (Cert.Kernel8Ideal.Value.T_v20 m c (i 0) (i 1)).symm

end Cert.Proof.InDw

end
-- ==== Proof.InProj.lean ====
/- The input projection: normalised rows, and their products with the second layer's matrix, cut at the column where the
   convolution part ends. -/
module

public import proofs.«01_k».proof.Defs
public import proofs.«01_k».proof.Proof.Norm
public import proofs.«01_k».proof.Proof.Gen.Kernel9Ideal.Value
public import proofs.«01_k».proof.Proof.Gen.Reference9Ideal.Read
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Ring
public import Idealize.ShloMosaic.Lib.IdealHost

@[expose] public section

set_option maxRecDepth 16384
set_option maxHeartbeats 4000000

noncomputable section

namespace Cert.Kernel9Ideal.Value

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- The normalised rows. -/
def hn (x : FVec Ideal S8704x1024 .f32) (g : FVec Ideal S1024 .f32) (r : Fin 8704) (j : Fin 1024) : EReal :=
  Cert.Norm.norm (fun k => x (ix2 r k)) (fun k => g (ix1 k)) j

/-- Their products with the second layer's matrix. -/
def prod (x : FVec Ideal S8704x1024 .f32) (g : FVec Ideal S1024 .f32) (w : FVec Ideal S2x1024x2560 .f32) (r : Fin 8704) (n : Fin 2560) : EReal :=
  ∑ k : Fin 1024, hn x g r k * w (ix3 1 k n)

/-- The columns from `1024` on. -/
def late (x : FVec Ideal S8704x1024 .f32) (g : FVec Ideal S1024 .f32) (w : FVec Ideal S2x1024x2560 .f32) (r : Fin 8704) (n : Fin 1536) : EReal :=
  prod x g w r ⟨1024 + n.val, by omega⟩

/-- The columns before. -/
def early (x : FVec Ideal S8704x1024 .f32) (g : FVec Ideal S1024 .f32) (w : FVec Ideal S2x1024x2560 .f32) (r : Fin 8704) (n : Fin 1024) : EReal :=
  prod x g w r ⟨n.val, by omega⟩

/-- The three inputs as the program's start holds them. -/
abbrev X (c : Dev nD) : FVec Ideal S8704x1024 .f32 := m ((c : Thread nD τ).loc main_arg0)
abbrev G (c : Dev nD) : FVec Ideal S1024 .f32 := m ((c : Thread nD τ).loc main_arg1)
abbrev W (c : Dev nD) : FVec Ideal S2x1024x2560 .f32 := m ((c : Thread nD τ).loc main_arg2)

theorem idx : ∀ t : Fin cfg0.N, win0_0.index t = ![t.val, 0] ∧ win0_1.index t = ![0, 0] ∧ win0_2.index t = ![1, 0, 0]
    ∧ win0_3.index t = ![t.val, 0] ∧ win0_4.index t = ![t.val, 0] ∧ win0_5.index t = ![t.val, 0] :=
  (by decide +kernel : ∀ t : Fin grid0.N, _)

theorem tlt (t : Fin cfg0.N) : t.val < 16 := lt_of_lt_of_eq t.isLt N_0

theorem iblk0 (c : Dev nD) (t : Fin cfg0.N) (i : Fin 544) (k : Fin 1024) (r : Fin 8704) (hr : t.val * 544 + i.val = r.val) :
    (iblk m c 0 t : FVec Ideal S544x1024 .f32) (ix2 i k) = X m c (ix2 r k) := by
  have ht := tlt t
  obtain ⟨r, h⟩ := r
  obtain rfl : t.val * 544 + i.val = r := hr
  blk_ext [iblk, idx t, V]

theorem V_v0 (c : Dev nD) (j : S2x1024x2560.Idx) : (V m c main_v0 : FVec Ideal S2x1024x2560 .bf16) j = W m c j := by
  unfold V
  simp only [hostOps0, List.flatten_cons, List.flatten_nil, List.cons_append, List.nil_append, List.append_nil]
  after_results_simp
  rfl

theorem V_v1 (c : Dev nD) (k : Fin 1024) : (V m c main_v1 : FVec Ideal S1x1024 .f32) (ix2 0 k) = G m c (ix1 k) := by
  unfold V
  simp only [hostOps0, List.flatten_cons, List.flatten_nil, List.cons_append, List.nil_append, List.append_nil]
  after_results_simp
  pointwise

theorem iblk1 (c : Dev nD) (t : Fin cfg0.N) (k : Fin 1024) : (iblk m c 1 t : FVec Ideal S1x1024 .f32) (ix2 0 k) = G m c (ix1 k) := by
  refine Eq.trans (b := (V m c main_v1 : FVec Ideal S1x1024 .f32) (ix2 0 k)) ?_ (V_v1 m c _)
  blk_ext [iblk, idx t]

theorem iblk2 (c : Dev nD) (t : Fin cfg0.N) (j : Fin 1024) (k : Fin 2560) :
    (iblk m c 2 t : FVec Ideal S1x1024x2560 .bf16) (ix3 0 j k) = W m c (ix3 1 j k) := by
  refine Eq.trans (b := (V m c main_v0 : FVec Ideal S2x1024x2560 .bf16) (ix3 1 j k)) ?_ (V_v0 m c _)
  blk_ext [iblk, idx t]

theorem point3 (c : Dev nD) (t : Fin cfg0.N) (i : Fin 544) (j : Fin 1024) (r : Fin 8704) (hr : t.val * 544 + i.val = r.val) :
    k0_pay3 (F := Ideal) (View.ld (iblk m c 0 t) r0_0) (View.ld (iblk m c 1 t) r0_1) (ix2 i j) = hn (X m c) (G m c) r j := by
  pointwise [k0_pay3]
  unfold hn
  simp only [iblk0 m c t i _ r hr, iblk1 m c t]

theorem point4 (c : Dev nD) (t : Fin cfg0.N) (o : ℕ) (g) (i : Fin 544) (j : Fin 512) (r : Fin 8704) (n : Fin 1024) (hr : t.val * 544 + i.val = r.val) (hn : n.val = o + j.val) :
    k0_pay4 (F := Ideal) (View.ld (iblk m c 0 t) r0_0) (View.ld (iblk m c 1 t) r0_1) (View.ld (iblk m c 2 t) (Rect.unit (s := S1x1024x2560) ![0, 0, o] S1x1024x512.size g)) (ix2 i j)
      = early (X m c) (G m c) (W m c) r n := by
  pointwise [k0_pay4, k0_pay3]
  unfold early prod
  unfold Kernel9Ideal.Value.hn
  obtain ⟨n, h⟩ := n
  obtain rfl : n = o + j.val := hn
  simp only [iblk0 m c t i _ r hr, iblk1 m c t, iblk2 m c t]

theorem point5 (c : Dev nD) (t : Fin cfg0.N) (o : ℕ) (g) (i : Fin 544) (j : Fin 512) (r : Fin 8704) (n : Fin 1536) (hr : t.val * 544 + i.val = r.val) (hn : n.val + 1024 = o + j.val) :
    k0_pay6 (F := Ideal) (View.ld (iblk m c 0 t) r0_0) (View.ld (iblk m c 1 t) r0_1) (View.ld (iblk m c 2 t) (Rect.unit (s := S1x1024x2560) ![0, 0, o] S1x1024x512.size g)) (ix2 i j)
      = late (X m c) (G m c) (W m c) r n := by
  pointwise [k0_pay6, k0_pay3]
  unfold late prod
  unfold Kernel9Ideal.Value.hn
  simp only [iblk0 m c t i _ r hr, iblk1 m c t, iblk2 m c t]
  refine Finset.sum_congr rfl fun k _ => congrArg _ (congrArg (fun q : Fin 2560 => W m c (ix3 1 k q)) (Fin.ext ?_))
  show o + j.val = 1024 + n.val
  omega

theorem pieces3 (c : Dev nD) (t : Fin cfg0.N) (y : S544x1024.Idx) (r : Fin 8704) (n : Fin 1024) (hr : t.val * 544 + (y 0).val = r.val) (hn : (y 1).val = n.val) :
    out0_3 (iblk m c 0 t) (iblk m c 1 t) (iblk m c 2 t) y = Kernel9Ideal.Value.hn (X m c) (G m c) r n := by
  unfold_out out0_3
  refine View.canon_eq_of_allAt (Val := Elt Ideal) (S := S544x1024) (e := .bf16) _ y _ (View.cover_of_tiledL _ ![544, 1024] rfl y) ?_
  refine View.allAt_cons_unit _ _ _ _ _ ?_ (View.allAt_nil _ _)
  intro x h
  obtain ⟨i, j, rfl⟩ : ∃ i j, x = ix2 i j := ⟨x 0, x 1, eq_ix2 x⟩
  have e0 : (y 0).val = i.val := (h 0).trans (Nat.zero_add _)
  obtain rfl : n = j := Fin.ext (hn.symm.trans ((h 1).trans (Nat.zero_add _)))
  exact point3 m c t i n r (by omega)

theorem pieces4 (c : Dev nD) (t : Fin cfg0.N) (y : S544x1024.Idx) (r : Fin 8704) (n : Fin 1024) (hr : t.val * 544 + (y 0).val = r.val) (hn : (y 1).val = n.val) :
    out0_4 (iblk m c 0 t) (iblk m c 1 t) (iblk m c 2 t) y = early (X m c) (G m c) (W m c) r n := by
  unfold_out out0_4
  refine View.canon_eq_of_allAt (Val := Elt Ideal) (S := S544x1024) (e := .f32) _ y _ (View.cover_of_tiledL _ ![544, 512] rfl y) ?_
  refine View.allAt_cons_unit _ _ _ _ _ ?_ (View.allAt_cons_unit _ _ _ _ _ ?_ (View.allAt_nil _ _))
  · intro x h
    obtain ⟨i, j, rfl⟩ : ∃ i j, x = ix2 i j := ⟨x 0, x 1, eq_ix2 x⟩
    have e0 : (y 0).val = i.val := (h 0).trans (Nat.zero_add _)
    exact point4 m c t 512 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point4 m c t 0 _ i j r n (by omega) (hn.symm.trans (h 1))

theorem pieces5 (c : Dev nD) (t : Fin cfg0.N) (y : S544x1536.Idx) (r : Fin 8704) (n : Fin 1536) (hr : t.val * 544 + (y 0).val = r.val) (hn : (y 1).val = n.val) :
    out0_5 (iblk m c 0 t) (iblk m c 1 t) (iblk m c 2 t) y = late (X m c) (G m c) (W m c) r n := by
  unfold_out out0_5
  refine View.canon_eq_of_allAt (Val := Elt Ideal) (S := S544x1536) (e := .bf16) _ y _ (View.cover_of_tiledL _ ![544, 512] rfl y) ?_
  refine View.allAt_cons_unit _ _ _ _ _ ?_ (View.allAt_cons_unit _ _ _ _ _ ?_ (View.allAt_cons_unit _ _ _ _ _ ?_ (View.allAt_nil _ _)))
  · intro x h
    obtain ⟨i, j, rfl⟩ : ∃ i j, x = ix2 i j := ⟨x 0, x 1, eq_ix2 x⟩
    have e0 : (y 0).val = i.val := (h 0).trans (Nat.zero_add _)
    exact point5 m c t 2048 _ i j r n (by omega) (by have := h 1; simp at this; omega)
  · intro x h
    obtain ⟨i, j, rfl⟩ : ∃ i j, x = ix2 i j := ⟨x 0, x 1, eq_ix2 x⟩
    have e0 : (y 0).val = i.val := (h 0).trans (Nat.zero_add _)
    exact point5 m c t 1536 _ i j r n (by omega) (by have := h 1; simp at this; omega)
  · intro x h
    obtain ⟨i, j, rfl⟩ : ∃ i j, x = ix2 i j := ⟨x 0, x 1, eq_ix2 x⟩
    have e0 : (y 0).val = i.val := (h 0).trans (Nat.zero_add _)
    exact point5 m c t 1024 _ i j r n (by omega) (by have := h 1; simp at this; omega)

/-- What output 1 holds after the last grid point. -/
theorem array3 (c : Dev nD) (r : Fin 8704) (n : Fin 1024) :
    ((dats m 0 c).arrAt 3 (cfgs 0).N : FVec Ideal S8704x1024 .bf16) (ix2 r n) = hn (X m c) (G m c) r n := by
  refine (dats m 0 c).arrAt_forall_of_covers 3 (fun (x : S8704x1024.Idx) (v : EReal) => ∀ (r : Fin 8704) (n : Fin 1024), (x 0).val = r.val → (x 1).val = n.val →
      v = hn (X m c) (G m c) r n)
      (by decide +kernel) (fun t hf y => ?_) (ix2 r n) (Memref.isWhole_whole _) r n rfl rfl
  blk_simp
  rw [after0_3]
  have e0 : win0_3.index t 0 = t.val := by rw [(idx t).2.2.2.1]; rfl
  have e1 : win0_3.index t 1 = 0 := by rw [(idx t).2.2.2.1]; rfl
  rw [e0, e1]
  intro r n hr hn
  exact pieces3 m c t y r n hr (by omega)

/-- What output 2 holds after the last grid point. -/
theorem array4 (c : Dev nD) (r : Fin 8704) (n : Fin 1024) :
    ((dats m 0 c).arrAt 4 (cfgs 0).N : FVec Ideal S8704x1024 .f32) (ix2 r n) = early (X m c) (G m c) (W m c) r n := by
  refine (dats m 0 c).arrAt_forall_of_covers 4 (fun (x : S8704x1024.Idx) (v : EReal) => ∀ (r : Fin 8704) (n : Fin 1024), (x 0).val = r.val → (x 1).val = n.val →
      v = early (X m c) (G m c) (W m c) r n)
      (by decide +kernel) (fun t hf y => ?_) (ix2 r n) (Memref.isWhole_whole _) r n rfl rfl
  blk_simp
  rw [after0_4]
  have e0 : win0_4.index t 0 = t.val := by rw [(idx t).2.2.2.2.1]; rfl
  have e1 : win0_4.index t 1 = 0 := by rw [(idx t).2.2.2.2.1]; rfl
  rw [e0, e1]
  intro r n hr hn
  exact pieces4 m c t y r n hr (by omega)

/-- What output 3 holds after the last grid point. -/
theorem array5 (c : Dev nD) (r : Fin 8704) (n : Fin 1536) :
    ((dats m 0 c).arrAt 5 (cfgs 0).N : FVec Ideal S8704x1536 .bf16) (ix2 r n) = late (X m c) (G m c) (W m c) r n := by
  refine (dats m 0 c).arrAt_forall_of_covers 5 (fun (x : S8704x1536.Idx) (v : EReal) => ∀ (r : Fin 8704) (n : Fin 1536), (x 0).val = r.val → (x 1).val = n.val →
      v = late (X m c) (G m c) (W m c) r n)
      (by decide +kernel) (fun t hf y => ?_) (ix2 r n) (Memref.isWhole_whole _) r n rfl rfl
  blk_simp
  rw [after0_5]
  have e0 : win0_5.index t 0 = t.val := by rw [(idx t).2.2.2.2.2]; rfl
  have e1 : win0_5.index t 1 = 0 := by rw [(idx t).2.2.2.2.2]; rfl
  rw [e0, e1]
  intro r n hr hn
  exact pieces5 m c t y r n hr (by omega)

end Cert.Kernel9Ideal.Value

namespace Cert.Reference9Ideal.Plain

open Idealize.ShloMosaic Idealize.ShloMosaic.TcCoe Idealize.SL.Sem
open Cert.Reference9Ideal Cert.Reference9Ideal.Gen Cert.Reference9Ideal.Read
open Cert.Kernel9Ideal.Value (hn prod early late)

theorem v16_at (x : FVec Ideal S8704x1024 .f32) (g : FVec Ideal S1024 .f32) (r : Fin 8704) (n : Fin 1024) :
    val_main_v16 (F := Ideal) x g (ix2 r n) = hn x g r n := by
  pointwise [val_main_v16, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v17_at (x : FVec Ideal S8704x1024 .f32) (g : FVec Ideal S1024 .f32) (w : FVec Ideal S2x1024x2560 .f32) (r : Fin 8704) (n : Fin 1024) :
    val_main_v17 (F := Ideal) x g w (ix2 r n) = early x g w r n := by
  pointwise [val_main_v17, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v19_at (x : FVec Ideal S8704x1024 .f32) (g : FVec Ideal S1024 .f32) (w : FVec Ideal S2x1024x2560 .f32) (r : Fin 8704) (n : Fin 1536) :
    val_main_v19 (F := Ideal) x g w (ix2 r n) = late x g w r n := by
  pointwise [val_main_v19, val_main_v18, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.Reference9Ideal.Plain

namespace Cert.Proof.InProj

open Idealize.ShloMosaic Idealize.ShloMosaic.TcCoe Idealize.SL.Sem

/-- At the ideal instance the kernel's three results are the reference's. -/
theorem algebraic : Cert.algebraic_Kernel9Ideal_Reference9Ideal := by
  pair_intro
  · run_from Cert.Kernel9Ideal.Value.run_blocks m g
  · run_from Cert.Reference9Ideal.Value.run m' g'
    · refine (Cert.Reference9Ideal.Read.val_main_v16_eq ..).trans ?_
      funext i
      rw [eq_ix2 i]
      exact (Cert.Reference9Ideal.Plain.v16_at ..).trans (Cert.Kernel9Ideal.Value.array3 m c (i 0) (i 1)).symm
    · refine (Cert.Reference9Ideal.Read.val_main_v17_eq ..).trans ?_
      funext i
      rw [eq_ix2 i]
      exact (Cert.Reference9Ideal.Plain.v17_at ..).trans (Cert.Kernel9Ideal.Value.array4 m c (i 0) (i 1)).symm
    · refine (Cert.Reference9Ideal.Read.val_main_v19_eq ..).trans ?_
      funext i
      rw [eq_ix2 i]
      exact (Cert.Reference9Ideal.Plain.v19_at ..).trans (Cert.Kernel9Ideal.Value.array5 m c (i 0) (i 1)).symm

end Cert.Proof.InProj

end
-- ==== Proof.OutProj.lean ====
/- The output projection: the two inputs' products with their halves of the second layer's matrix, added to the residual; the
   reference joins the inputs and multiplies once. -/
module

public import proofs.«01_k».proof.Defs
public import proofs.«01_k».proof.Proof.Gen.Kernel10Ideal.Value
public import proofs.«01_k».proof.Proof.Gen.Reference10Ideal.Read
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Ring
public import Idealize.ShloMosaic.Lib.IdealHost

@[expose] public section

set_option maxRecDepth 16384
set_option maxHeartbeats 4000000

noncomputable section

namespace Cert.Kernel10Ideal.Value

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

/-- The residual and the two products. -/
def res (a b : FVec Ideal S8704x512 .f32) (d : FVec Ideal S8704x1024 .f32) (w : FVec Ideal S2x1024x1024 .f32) (r : Fin 8704) (n : Fin 1024) : EReal :=
  d (ix2 r n) + (∑ k : Fin 512, a (ix2 r k) * w (ix3 1 ⟨k.val, by omega⟩ n)) + ∑ k : Fin 512, b (ix2 r k) * w (ix3 1 ⟨512 + k.val, by omega⟩ n)

/-- The four inputs as the program's start holds them. -/
abbrev A (c : Dev nD) : FVec Ideal S8704x512 .f32 := m ((c : Thread nD τ).loc main_arg0)
abbrev B (c : Dev nD) : FVec Ideal S8704x512 .f32 := m ((c : Thread nD τ).loc main_arg1)
abbrev D (c : Dev nD) : FVec Ideal S8704x1024 .f32 := m ((c : Thread nD τ).loc main_arg2)
abbrev W (c : Dev nD) : FVec Ideal S2x1024x1024 .f32 := m ((c : Thread nD τ).loc main_arg3)

theorem idx : ∀ t : Fin cfg0.N, win0_0.index t = ![t.val, 0] ∧ win0_1.index t = ![t.val, 0] ∧ win0_2.index t = ![t.val, 0]
    ∧ win0_3.index t = ![1, 0, 0] ∧ win0_4.index t = ![t.val, 0] :=
  (by decide +kernel : ∀ t : Fin grid0.N, _)

theorem tlt (t : Fin cfg0.N) : t.val < 16 := lt_of_lt_of_eq t.isLt N_0

theorem V_v0 (c : Dev nD) : (V m c main_v0 : FVec Ideal S8704x512 .bf16) = A m c := by
  unfold V
  simp only [hostOps0, List.flatten_cons, List.flatten_nil, List.cons_append, List.nil_append, List.append_nil]
  after_results_simp
  rfl

theorem V_v1 (c : Dev nD) : (V m c main_v1 : FVec Ideal S8704x512 .bf16) = B m c := by
  unfold V
  simp only [hostOps0, List.flatten_cons, List.flatten_nil, List.cons_append, List.nil_append, List.append_nil]
  after_results_simp
  rfl

theorem V_v2 (c : Dev nD) : (V m c main_v2 : FVec Ideal S2x1024x1024 .bf16) = W m c := by
  unfold V
  simp only [hostOps0, List.flatten_cons, List.flatten_nil, List.cons_append, List.nil_append, List.append_nil]
  after_results_simp
  rfl

theorem iblk0 (c : Dev nD) (t : Fin cfg0.N) (i : Fin 544) (k : Fin 512) (r : Fin 8704) (hr : t.val * 544 + i.val = r.val) :
    (iblk m c 0 t : FVec Ideal S544x512 .bf16) (ix2 i k) = A m c (ix2 r k) := by
  have ht := tlt t
  obtain ⟨r, h⟩ := r
  obtain rfl : t.val * 544 + i.val = r := hr
  rw [← V_v0 m c]
  blk_ext [iblk, idx t]

theorem iblk1 (c : Dev nD) (t : Fin cfg0.N) (i : Fin 544) (k : Fin 512) (r : Fin 8704) (hr : t.val * 544 + i.val = r.val) :
    (iblk m c 1 t : FVec Ideal S544x512 .bf16) (ix2 i k) = B m c (ix2 r k) := by
  have ht := tlt t
  obtain ⟨r, h⟩ := r
  obtain rfl : t.val * 544 + i.val = r := hr
  rw [← V_v1 m c]
  blk_ext [iblk, idx t]

theorem iblk2 (c : Dev nD) (t : Fin cfg0.N) (i : Fin 544) (k : Fin 1024) (r : Fin 8704) (hr : t.val * 544 + i.val = r.val) :
    (iblk m c 2 t : FVec Ideal S544x1024 .f32) (ix2 i k) = D m c (ix2 r k) := by
  have ht := tlt t
  obtain ⟨r, h⟩ := r
  obtain rfl : t.val * 544 + i.val = r := hr
  blk_ext [iblk, idx t, V]

theorem iblk3 (c : Dev nD) (t : Fin cfg0.N) (j k : Fin 1024) :
    (iblk m c 3 t : FVec Ideal S1x1024x1024 .bf16) (ix3 0 j k) = W m c (ix3 1 j k) := by
  rw [← V_v2 m c]
  blk_ext [iblk, idx t]

theorem point (c : Dev nD) (t : Fin cfg0.N) (o : ℕ) (g g' g'') (i : Fin 544) (j : Fin 512) (r : Fin 8704) (n : Fin 1024) (hr : t.val * 544 + i.val = r.val) (hn : n.val = o + j.val) :
    k0_pay2 (F := Ideal) (View.ld (iblk m c 2 t) (Rect.unit (s := S544x1024) ![0, o] S544x512.size g)) (View.ld (iblk m c 0 t) r0_1)
        (View.ld (iblk m c 3 t) (Rect.unit (s := S1x1024x1024) ![0, 0, o] S1x512x512.size g')) (View.ld (iblk m c 1 t) r0_1)
        (View.ld (iblk m c 3 t) (Rect.unit (s := S1x1024x1024) ![0, 512, o] S1x512x512.size g'')) (ix2 i j)
      = res (A m c) (B m c) (D m c) (W m c) r n := by
  pointwise [k0_pay2]
  unfold res
  obtain ⟨n, h⟩ := n
  obtain rfl : n = o + j.val := hn
  simp only [iblk0 m c t i _ r hr, iblk1 m c t i _ r hr, iblk2 m c t i _ r hr, iblk3 m c t]

theorem pieces (c : Dev nD) (t : Fin cfg0.N) (y : S544x1024.Idx) (r : Fin 8704) (n : Fin 1024) (hr : t.val * 544 + (y 0).val = r.val) (hn : (y 1).val = n.val) :
    out0_4 (iblk m c 0 t) (iblk m c 1 t) (iblk m c 2 t) (iblk m c 3 t) y = res (A m c) (B m c) (D m c) (W m c) r n := by
  unfold out0_4
  refine View.canon_eq_of_allAt (Val := Elt Ideal) (S := S544x1024) (e := .f32) _ y _ (View.cover_of_tiledL _ ![544, 512] rfl y) ?_
  refine View.allAt_cons_unit _ _ _ _ _ ?_ (View.allAt_cons_unit _ _ _ _ _ ?_ (View.allAt_nil _ _))
  · intro x h
    obtain ⟨i, j, rfl⟩ : ∃ i j, x = ix2 i j := ⟨x 0, x 1, eq_ix2 x⟩
    have e0 : (y 0).val = i.val := (h 0).trans (Nat.zero_add _)
    exact point m c t 512 _ _ _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point m c t 0 _ _ _ i j r n (by omega) (hn.symm.trans (h 1))

/-- What output 1 holds after the last grid point. -/
theorem array4 (c : Dev nD) (r : Fin 8704) (n : Fin 1024) :
    ((dats m 0 c).arrAt 4 (cfgs 0).N : FVec Ideal S8704x1024 .f32) (ix2 r n) = res (A m c) (B m c) (D m c) (W m c) r n := by
  refine (dats m 0 c).arrAt_forall_of_covers 4 (fun (x : S8704x1024.Idx) (v : EReal) => ∀ (r : Fin 8704) (n : Fin 1024), (x 0).val = r.val → (x 1).val = n.val →
      v = res (A m c) (B m c) (D m c) (W m c) r n)
      (by decide +kernel) (fun t hf y => ?_) (ix2 r n) (Memref.isWhole_whole _) r n rfl rfl
  blk_simp
  rw [after0_4]
  have e0 : win0_4.index t 0 = t.val := by rw [(idx t).2.2.2.2]; rfl
  have e1 : win0_4.index t 1 = 0 := by rw [(idx t).2.2.2.2]; rfl
  rw [e0, e1]
  intro r n hr hn
  exact pieces m c t y r n hr (by omega)

end Cert.Kernel10Ideal.Value

namespace Cert.Reference10Ideal.Plain

open Idealize.ShloMosaic Idealize.ShloMosaic.TcCoe Idealize.SL.Sem
open Cert.Reference10Ideal Cert.Reference10Ideal.Gen Cert.Reference10Ideal.Read

/-- The joined inputs' product falls into the two halves. -/
theorem v4_at (a b : FVec Ideal S8704x512 .f32) (d : FVec Ideal S8704x1024 .f32) (w : FVec Ideal S2x1024x1024 .f32) (r : Fin 8704) (n : Fin 1024) :
    val_main_v4 (F := Ideal) a b d w (ix2 r n) = Cert.Kernel10Ideal.Value.res a b d w r n := by
  pointwise [val_main_v4, val_main_v3, val_main_v2, val_main_v1, val_main_v0]
  unfold Cert.Kernel10Ideal.Value.res
  rw [add_assoc]

end Cert.Reference10Ideal.Plain

namespace Cert.Proof.OutProj

open Idealize.ShloMosaic Idealize.ShloMosaic.TcCoe Idealize.SL.Sem

/-- At the ideal instance the kernel's result is the reference's. -/
theorem algebraic : Cert.algebraic_Kernel10Ideal_Reference10Ideal := by
  pair_intro
  · run_from Cert.Kernel10Ideal.Value.run_blocks m g
  · run_from Cert.Reference10Ideal.Value.run m' g'
    · refine (Cert.Reference10Ideal.Read.val_main_v4_eq ..).trans ?_
      funext i
      rw [eq_ix2 i]
      exact (Cert.Reference10Ideal.Plain.v4_at ..).trans (Cert.Kernel10Ideal.Value.array4 m c (i 0) (i 1)).symm

end Cert.Proof.OutProj

end
-- ==== Proof.UpProj.lean ====
/- The first matrix of the feed-forward block: normalised rows, their products with the second layer's matrix, and the squared
   rectifier of these. -/
module

public import proofs.«01_k».proof.Defs
public import proofs.«01_k».proof.Proof.Norm
public import proofs.«01_k».proof.Proof.Gen.Kernel11Ideal.Value
public import proofs.«01_k».proof.Proof.Gen.Reference11Ideal.Read
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Ring
public import Idealize.ShloMosaic.Lib.IdealHost

@[expose] public section

set_option maxRecDepth 16384
set_option maxHeartbeats 4000000

noncomputable section

namespace Cert.Kernel11Ideal.Value

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

/-- The normalised rows. -/
def hn (x : FVec Ideal S8704x1024 .f32) (g : FVec Ideal S1024 .f32) (r : Fin 8704) (j : Fin 1024) : EReal :=
  Cert.Norm.norm (fun k => x (ix2 r k)) (fun k => g (ix1 k)) j

/-- Their products with the second layer's matrix. -/
def prod (x : FVec Ideal S8704x1024 .f32) (g : FVec Ideal S1024 .f32) (w : FVec Ideal S2x1024x4096 .f32) (r : Fin 8704) (n : Fin 4096) : EReal :=
  ∑ k : Fin 1024, hn x g r k * w (ix3 1 k n)

/-- The squared rectifier of the products. -/
def act (x : FVec Ideal S8704x1024 .f32) (g : FVec Ideal S1024 .f32) (w : FVec Ideal S2x1024x4096 .f32) (r : Fin 8704) (n : Fin 4096) : EReal :=
  max (prod x g w r n) 0 * max (prod x g w r n) 0

/-- The three inputs as the program's start holds them. -/
abbrev X (c : Dev nD) : FVec Ideal S8704x1024 .f32 := m ((c : Thread nD τ).loc main_arg0)
abbrev G (c : Dev nD) : FVec Ideal S1024 .f32 := m ((c : Thread nD τ).loc main_arg1)
abbrev W (c : Dev nD) : FVec Ideal S2x1024x4096 .f32 := m ((c : Thread nD τ).loc main_arg2)

theorem idx : ∀ t : Fin cfg0.N, win0_0.index t = ![t.val, 0] ∧ win0_1.index t = ![0, 0] ∧ win0_2.index t = ![1, 0, 0]
    ∧ win0_3.index t = ![t.val, 0] ∧ win0_4.index t = ![t.val, 0] ∧ win0_5.index t = ![t.val, 0] :=
  (by decide +kernel : ∀ t : Fin grid0.N, _)

theorem tlt (t : Fin cfg0.N) : t.val < 16 := lt_of_lt_of_eq t.isLt N_0

theorem iblk0 (c : Dev nD) (t : Fin cfg0.N) (i : Fin 544) (k : Fin 1024) (r : Fin 8704) (hr : t.val * 544 + i.val = r.val) :
    (iblk m c 0 t : FVec Ideal S544x1024 .f32) (ix2 i k) = X m c (ix2 r k) := by
  have ht := tlt t
  obtain ⟨r, h⟩ := r
  obtain rfl : t.val * 544 + i.val = r := hr
  blk_ext [iblk, idx t, V]

theorem V_v0 (c : Dev nD) (j : S2x1024x4096.Idx) : (V m c main_v0 : FVec Ideal S2x1024x4096 .bf16) j = W m c j := by
  unfold V
  simp only [hostOps0, List.flatten_cons, List.flatten_nil, List.cons_append, List.nil_append, List.append_nil]
  after_results_simp
  rfl

theorem V_v1 (c : Dev nD) (k : Fin 1024) : (V m c main_v1 : FVec Ideal S1x1024 .f32) (ix2 0 k) = G m c (ix1 k) := by
  unfold V
  simp only [hostOps0, List.flatten_cons, List.flatten_nil, List.cons_append, List.nil_append, List.append_nil]
  after_results_simp
  pointwise

theorem iblk1 (c : Dev nD) (t : Fin cfg0.N) (k : Fin 1024) : (iblk m c 1 t : FVec Ideal S1x1024 .f32) (ix2 0 k) = G m c (ix1 k) := by
  refine Eq.trans (b := (V m c main_v1 : FVec Ideal S1x1024 .f32) (ix2 0 k)) ?_ (V_v1 m c _)
  blk_ext [iblk, idx t]

theorem iblk2 (c : Dev nD) (t : Fin cfg0.N) (j : Fin 1024) (k : Fin 4096) :
    (iblk m c 2 t : FVec Ideal S1x1024x4096 .bf16) (ix3 0 j k) = W m c (ix3 1 j k) := by
  refine Eq.trans (b := (V m c main_v0 : FVec Ideal S2x1024x4096 .bf16) (ix3 1 j k)) ?_ (V_v0 m c _)
  blk_ext [iblk, idx t]

theorem point3 (c : Dev nD) (t : Fin cfg0.N) (i : Fin 544) (j : Fin 1024) (r : Fin 8704) (hr : t.val * 544 + i.val = r.val) :
    k0_pay4 (F := Ideal) (View.ld (iblk m c 0 t) r0_0) (View.ld (iblk m c 1 t) r0_1) (ix2 i j) = hn (X m c) (G m c) r j := by
  pointwise [k0_pay4]
  unfold hn
  simp only [iblk0 m c t i _ r hr, iblk1 m c t]

theorem point4 (c : Dev nD) (t : Fin cfg0.N) (o : ℕ) (g) (i : Fin 544) (j : Fin 512) (r : Fin 8704) (n : Fin 4096) (hr : t.val * 544 + i.val = r.val) (hn : n.val = o + j.val) :
    k0_pay6 (F := Ideal) (View.ld (iblk m c 0 t) r0_0) (View.ld (iblk m c 1 t) r0_1) (View.ld (iblk m c 2 t) (Rect.unit (s := S1x1024x4096) ![0, 0, o] S1x1024x512.size g)) (ix2 i j)
      = prod (X m c) (G m c) (W m c) r n := by
  pointwise [k0_pay6, k0_pay5, k0_pay4]
  unfold prod
  unfold Kernel11Ideal.Value.hn
  obtain ⟨n, h⟩ := n
  obtain rfl : n = o + j.val := hn
  simp only [iblk0 m c t i _ r hr, iblk1 m c t, iblk2 m c t]

theorem point5 (c : Dev nD) (t : Fin cfg0.N) (o : ℕ) (g) (i : Fin 544) (j : Fin 512) (r : Fin 8704) (n : Fin 4096) (hr : t.val * 544 + i.val = r.val) (hn : n.val = o + j.val) :
    k0_pay7 (F := Ideal) (View.ld (iblk m c 0 t) r0_0) (View.ld (iblk m c 1 t) r0_1) (View.ld (iblk m c 2 t) (Rect.unit (s := S1x1024x4096) ![0, 0, o] S1x1024x512.size g)) (ix2 i j)
      = act (X m c) (G m c) (W m c) r n := by
  pointwise [k0_pay7, k0_pay5, k0_pay4]
  unfold act prod
  unfold Kernel11Ideal.Value.hn
  obtain ⟨n, h⟩ := n
  obtain rfl : n = o + j.val := hn
  simp only [iblk0 m c t i _ r hr, iblk1 m c t, iblk2 m c t]

theorem pieces3 (c : Dev nD) (t : Fin cfg0.N) (y : S544x1024.Idx) (r : Fin 8704) (n : Fin 1024) (hr : t.val * 544 + (y 0).val = r.val) (hn : (y 1).val = n.val) :
    out0_3 (iblk m c 0 t) (iblk m c 1 t) (iblk m c 2 t) y = Kernel11Ideal.Value.hn (X m c) (G m c) r n := by
  unfold_out out0_3
  refine View.canon_eq_of_allAt (Val := Elt Ideal) (S := S544x1024) (e := .bf16) _ y _ (View.cover_of_tiledL _ ![544, 1024] rfl y) ?_
  refine View.allAt_cons_unit _ _ _ _ _ ?_ (View.allAt_nil _ _)
  intro x h
  obtain ⟨i, j, rfl⟩ : ∃ i j, x = ix2 i j := ⟨x 0, x 1, eq_ix2 x⟩
  have e0 : (y 0).val = i.val := (h 0).trans (Nat.zero_add _)
  obtain rfl : n = j := Fin.ext (hn.symm.trans ((h 1).trans (Nat.zero_add _)))
  exact point3 m c t i n r (by omega)

theorem pieces4 (c : Dev nD) (t : Fin cfg0.N) (y : S544x4096.Idx) (r : Fin 8704) (n : Fin 4096) (hr : t.val * 544 + (y 0).val = r.val) (hn : (y 1).val = n.val) :
    out0_4 (iblk m c 0 t) (iblk m c 1 t) (iblk m c 2 t) y = prod (X m c) (G m c) (W m c) r n := by
  unfold_out out0_4
  refine View.canon_eq_of_allAt (Val := Elt Ideal) (S := S544x4096) (e := .bf16) _ y _ (View.cover_of_tiledL _ ![544, 512] rfl y) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro x h
    obtain ⟨i, j, rfl⟩ : ∃ i j, x = ix2 i j := ⟨x 0, x 1, eq_ix2 x⟩
    have e0 : (y 0).val = i.val := (h 0).trans (Nat.zero_add _)
    exact point4 m c t 3584 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point4 m c t 3072 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point4 m c t 2560 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point4 m c t 2048 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point4 m c t 1536 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point4 m c t 1024 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point4 m c t 512 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point4 m c t 0 _ i j r n (by omega) (hn.symm.trans (h 1))

theorem pieces5 (c : Dev nD) (t : Fin cfg0.N) (y : S544x4096.Idx) (r : Fin 8704) (n : Fin 4096) (hr : t.val * 544 + (y 0).val = r.val) (hn : (y 1).val = n.val) :
    out0_5 (iblk m c 0 t) (iblk m c 1 t) (iblk m c 2 t) y = act (X m c) (G m c) (W m c) r n := by
  unfold_out out0_5
  refine View.canon_eq_of_allAt (Val := Elt Ideal) (S := S544x4096) (e := .bf16) _ y _ (View.cover_of_tiledL _ ![544, 512] rfl y) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro x h
    obtain ⟨i, j, rfl⟩ : ∃ i j, x = ix2 i j := ⟨x 0, x 1, eq_ix2 x⟩
    have e0 : (y 0).val = i.val := (h 0).trans (Nat.zero_add _)
    exact point5 m c t 3584 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point5 m c t 3072 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point5 m c t 2560 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point5 m c t 2048 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point5 m c t 1536 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point5 m c t 1024 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point5 m c t 512 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point5 m c t 0 _ i j r n (by omega) (hn.symm.trans (h 1))

/-- What output 1 holds after the last grid point. -/
theorem array3 (c : Dev nD) (r : Fin 8704) (n : Fin 1024) :
    ((dats m 0 c).arrAt 3 (cfgs 0).N : FVec Ideal S8704x1024 .bf16) (ix2 r n) = hn (X m c) (G m c) r n := by
  refine (dats m 0 c).arrAt_forall_of_covers 3 (fun (x : S8704x1024.Idx) (v : EReal) => ∀ (r : Fin 8704) (n : Fin 1024), (x 0).val = r.val → (x 1).val = n.val →
      v = hn (X m c) (G m c) r n)
      (by decide +kernel) (fun t hf y => ?_) (ix2 r n) (Memref.isWhole_whole _) r n rfl rfl
  blk_simp
  rw [after0_3]
  have e0 : win0_3.index t 0 = t.val := by rw [(idx t).2.2.2.1]; rfl
  have e1 : win0_3.index t 1 = 0 := by rw [(idx t).2.2.2.1]; rfl
  rw [e0, e1]
  intro r n hr hn
  exact pieces3 m c t y r n hr (by omega)

/-- What output 2 holds after the last grid point. -/
theorem array4 (c : Dev nD) (r : Fin 8704) (n : Fin 4096) :
    ((dats m 0 c).arrAt 4 (cfgs 0).N : FVec Ideal S8704x4096 .bf16) (ix2 r n) = prod (X m c) (G m c) (W m c) r n := by
  refine (dats m 0 c).arrAt_forall_of_covers 4 (fun (x : S8704x4096.Idx) (v : EReal) => ∀ (r : Fin 8704) (n : Fin 4096), (x 0).val = r.val → (x 1).val = n.val →
      v = prod (X m c) (G m c) (W m c) r n)
      (by decide +kernel) (fun t hf y => ?_) (ix2 r n) (Memref.isWhole_whole _) r n rfl rfl
  blk_simp
  rw [after0_4]
  have e0 : win0_4.index t 0 = t.val := by rw [(idx t).2.2.2.2.1]; rfl
  have e1 : win0_4.index t 1 = 0 := by rw [(idx t).2.2.2.2.1]; rfl
  rw [e0, e1]
  intro r n hr hn
  exact pieces4 m c t y r n hr (by omega)

/-- What output 3 holds after the last grid point. -/
theorem array5 (c : Dev nD) (r : Fin 8704) (n : Fin 4096) :
    ((dats m 0 c).arrAt 5 (cfgs 0).N : FVec Ideal S8704x4096 .bf16) (ix2 r n) = act (X m c) (G m c) (W m c) r n := by
  refine (dats m 0 c).arrAt_forall_of_covers 5 (fun (x : S8704x4096.Idx) (v : EReal) => ∀ (r : Fin 8704) (n : Fin 4096), (x 0).val = r.val → (x 1).val = n.val →
      v = act (X m c) (G m c) (W m c) r n)
      (by decide +kernel) (fun t hf y => ?_) (ix2 r n) (Memref.isWhole_whole _) r n rfl rfl
  blk_simp
  rw [after0_5]
  have e0 : win0_5.index t 0 = t.val := by rw [(idx t).2.2.2.2.2]; rfl
  have e1 : win0_5.index t 1 = 0 := by rw [(idx t).2.2.2.2.2]; rfl
  rw [e0, e1]
  intro r n hr hn
  exact pieces5 m c t y r n hr (by omega)

end Cert.Kernel11Ideal.Value

namespace Cert.Reference11Ideal.Plain

open Idealize.ShloMosaic Idealize.ShloMosaic.TcCoe Idealize.SL.Sem
open Cert.Reference11Ideal Cert.Reference11Ideal.Gen Cert.Reference11Ideal.Read
open Cert.Kernel11Ideal.Value (hn prod act)

theorem v16_at (x : FVec Ideal S8704x1024 .f32) (g : FVec Ideal S1024 .f32) (r : Fin 8704) (n : Fin 1024) :
    val_main_v16 (F := Ideal) x g (ix2 r n) = hn x g r n := by
  pointwise [val_main_v16, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v17_at (x : FVec Ideal S8704x1024 .f32) (g : FVec Ideal S1024 .f32) (w : FVec Ideal S2x1024x4096 .f32) (r : Fin 8704) (n : Fin 4096) :
    val_main_v17 (F := Ideal) x g w (ix2 r n) = prod x g w r n := by
  pointwise [val_main_v17, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v20_at (x : FVec Ideal S8704x1024 .f32) (g : FVec Ideal S1024 .f32) (w : FVec Ideal S2x1024x4096 .f32) (r : Fin 8704) (n : Fin 4096) :
    val_main_v20 (F := Ideal) x g w (ix2 r n) = act x g w r n := by
  pointwise [val_main_v20, val_main_v19, val_main_v18, val_main_call0_v0, val_main_call0_cst, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.Reference11Ideal.Plain

namespace Cert.Proof.UpProj

open Idealize.ShloMosaic Idealize.ShloMosaic.TcCoe Idealize.SL.Sem

/-- At the ideal instance the kernel's three results are the reference's. -/
theorem algebraic : Cert.algebraic_Kernel11Ideal_Reference11Ideal := by
  pair_intro
  · run_from Cert.Kernel11Ideal.Value.run_blocks m g
  · run_from Cert.Reference11Ideal.Value.run m' g'
    · refine (Cert.Reference11Ideal.Read.val_main_v16_eq ..).trans ?_
      funext i
      rw [eq_ix2 i]
      exact (Cert.Reference11Ideal.Plain.v16_at ..).trans (Cert.Kernel11Ideal.Value.array3 m c (i 0) (i 1)).symm
    · refine (Cert.Reference11Ideal.Read.val_main_v17_eq ..).trans ?_
      funext i
      rw [eq_ix2 i]
      exact (Cert.Reference11Ideal.Plain.v17_at ..).trans (Cert.Kernel11Ideal.Value.array4 m c (i 0) (i 1)).symm
    · refine (Cert.Reference11Ideal.Read.val_main_v20_eq ..).trans ?_
      funext i
      rw [eq_ix2 i]
      exact (Cert.Reference11Ideal.Plain.v20_at ..).trans (Cert.Kernel11Ideal.Value.array5 m c (i 0) (i 1)).symm

end Cert.Proof.UpProj

end
-- ==== Proof.InProj0.lean ====
/- The input projection: normalised rows, and their products with the first layer's matrix, cut at the column where the
   convolution part ends. -/
module

public import proofs.«01_k».proof.Defs
public import proofs.«01_k».proof.Proof.Norm
public import proofs.«01_k».proof.Proof.Gen.Kernel12Ideal.Value
public import proofs.«01_k».proof.Proof.Gen.Reference12Ideal.Read
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Ring
public import Idealize.ShloMosaic.Lib.IdealHost

@[expose] public section

set_option maxRecDepth 16384
set_option maxHeartbeats 4000000

noncomputable section

namespace Cert.Kernel12Ideal.Value

open Idealize.ShloMosaic Idealize.ShloMosaic.TcCoe Idealize.SL.Sem
open Idealize.ShloMosaic.Pipeline (Dat)
open Cert.Kernel12Ideal Cert.Kernel12Ideal.Gen

variable (m : (ℓ : Loc nD τ sig) → Buf (Elt Ideal) ℓ)

/-- The normalised rows. -/
def hn (x : FVec Ideal S8704x1024 .f32) (g : FVec Ideal S1024 .f32) (r : Fin 8704) (j : Fin 1024) : EReal :=
  Cert.Norm.norm (fun k => x (ix2 r k)) (fun k => g (ix1 k)) j

/-- Their products with the first layer's matrix. -/
def prod (x : FVec Ideal S8704x1024 .f32) (g : FVec Ideal S1024 .f32) (w : FVec Ideal S2x1024x2560 .f32) (r : Fin 8704) (n : Fin 2560) : EReal :=
  ∑ k : Fin 1024, hn x g r k * w (ix3 0 k n)

/-- The columns from `1024` on. -/
def late (x : FVec Ideal S8704x1024 .f32) (g : FVec Ideal S1024 .f32) (w : FVec Ideal S2x1024x2560 .f32) (r : Fin 8704) (n : Fin 1536) : EReal :=
  prod x g w r ⟨1024 + n.val, by omega⟩

/-- The columns before. -/
def early (x : FVec Ideal S8704x1024 .f32) (g : FVec Ideal S1024 .f32) (w : FVec Ideal S2x1024x2560 .f32) (r : Fin 8704) (n : Fin 1024) : EReal :=
  prod x g w r ⟨n.val, by omega⟩

/-- The three inputs as the program's start holds them. -/
abbrev X (c : Dev nD) : FVec Ideal S8704x1024 .f32 := m ((c : Thread nD τ).loc main_arg0)
abbrev G (c : Dev nD) : FVec Ideal S1024 .f32 := m ((c : Thread nD τ).loc main_arg1)
abbrev W (c : Dev nD) : FVec Ideal S2x1024x2560 .f32 := m ((c : Thread nD τ).loc main_arg2)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] :=
  (by decide +kernel : ∀ t : Fin grid0.N, _)

theorem tlt (t : Fin cfg0.N) : t.val < 16 := lt_of_lt_of_eq t.isLt N_0

theorem iblk0 (c : Dev nD) (t : Fin cfg0.N) (i : Fin 544) (k : Fin 1024) (r : Fin 8704) (hr : t.val * 544 + i.val = r.val) :
    (iblk m c 0 t : FVec Ideal S544x1024 .f32) (ix2 i k) = X m c (ix2 r k) := by
  have ht := tlt t
  obtain ⟨r, h⟩ := r
  obtain rfl : t.val * 544 + i.val = r := hr
  blk_ext [iblk, idx t, V]

theorem V_v0 (c : Dev nD) (j : S2x1024x2560.Idx) : (V m c main_v0 : FVec Ideal S2x1024x2560 .bf16) j = W m c j := by
  unfold V
  simp only [hostOps0, List.flatten_cons, List.flatten_nil, List.cons_append, List.nil_append, List.append_nil]
  after_results_simp
  rfl

theorem V_v1 (c : Dev nD) (k : Fin 1024) : (V m c main_v1 : FVec Ideal S1x1024 .f32) (ix2 0 k) = G m c (ix1 k) := by
  unfold V
  simp only [hostOps0, List.flatten_cons, List.flatten_nil, List.cons_append, List.nil_append, List.append_nil]
  after_results_simp
  pointwise

theorem iblk1 (c : Dev nD) (t : Fin cfg0.N) (k : Fin 1024) : (iblk m c 1 t : FVec Ideal S1x1024 .f32) (ix2 0 k) = G m c (ix1 k) := by
  refine Eq.trans (b := (V m c main_v1 : FVec Ideal S1x1024 .f32) (ix2 0 k)) ?_ (V_v1 m c _)
  blk_ext [iblk, idx t]

theorem iblk2 (c : Dev nD) (t : Fin cfg0.N) (j : Fin 1024) (k : Fin 2560) :
    (iblk m c 2 t : FVec Ideal S1x1024x2560 .bf16) (ix3 0 j k) = W m c (ix3 0 j k) := by
  refine Eq.trans (b := (V m c main_v0 : FVec Ideal S2x1024x2560 .bf16) (ix3 0 j k)) ?_ (V_v0 m c _)
  blk_ext [iblk, idx t]

theorem point3 (c : Dev nD) (t : Fin cfg0.N) (i : Fin 544) (j : Fin 1024) (r : Fin 8704) (hr : t.val * 544 + i.val = r.val) :
    k0_pay3 (F := Ideal) (View.ld (iblk m c 0 t) r0_0) (View.ld (iblk m c 1 t) r0_1) (ix2 i j) = hn (X m c) (G m c) r j := by
  pointwise [k0_pay3]
  unfold hn
  simp only [iblk0 m c t i _ r hr, iblk1 m c t]

theorem point4 (c : Dev nD) (t : Fin cfg0.N) (o : ℕ) (g) (i : Fin 544) (j : Fin 512) (r : Fin 8704) (n : Fin 1024) (hr : t.val * 544 + i.val = r.val) (hn : n.val = o + j.val) :
    k0_pay4 (F := Ideal) (View.ld (iblk m c 0 t) r0_0) (View.ld (iblk m c 1 t) r0_1) (View.ld (iblk m c 2 t) (Rect.unit (s := S1x1024x2560) ![0, 0, o] S1x1024x512.size g)) (ix2 i j)
      = early (X m c) (G m c) (W m c) r n := by
  pointwise [k0_pay4, k0_pay3]
  unfold early prod
  unfold Kernel12Ideal.Value.hn
  obtain ⟨n, h⟩ := n
  obtain rfl : n = o + j.val := hn
  simp only [iblk0 m c t i _ r hr, iblk1 m c t, iblk2 m c t]

theorem point5 (c : Dev nD) (t : Fin cfg0.N) (o : ℕ) (g) (i : Fin 544) (j : Fin 512) (r : Fin 8704) (n : Fin 1536) (hr : t.val * 544 + i.val = r.val) (hn : n.val + 1024 = o + j.val) :
    k0_pay6 (F := Ideal) (View.ld (iblk m c 0 t) r0_0) (View.ld (iblk m c 1 t) r0_1) (View.ld (iblk m c 2 t) (Rect.unit (s := S1x1024x2560) ![0, 0, o] S1x1024x512.size g)) (ix2 i j)
      = late (X m c) (G m c) (W m c) r n := by
  pointwise [k0_pay6, k0_pay3]
  unfold late prod
  unfold Kernel12Ideal.Value.hn
  simp only [iblk0 m c t i _ r hr, iblk1 m c t, iblk2 m c t]
  refine Finset.sum_congr rfl fun k _ => congrArg _ (congrArg (fun q : Fin 2560 => W m c (ix3 0 k q)) (Fin.ext ?_))
  show o + j.val = 1024 + n.val
  omega

theorem pieces3 (c : Dev nD) (t : Fin cfg0.N) (y : S544x1024.Idx) (r : Fin 8704) (n : Fin 1024) (hr : t.val * 544 + (y 0).val = r.val) (hn : (y 1).val = n.val) :
    out0_3 (iblk m c 0 t) (iblk m c 1 t) (iblk m c 2 t) y = Kernel12Ideal.Value.hn (X m c) (G m c) r n := by
  unfold_out out0_3
  refine View.canon_eq_of_allAt (Val := Elt Ideal) (S := S544x1024) (e := .bf16) _ y _ (View.cover_of_tiledL _ ![544, 1024] rfl y) ?_
  refine View.allAt_cons_unit _ _ _ _ _ ?_ (View.allAt_nil _ _)
  intro x h
  obtain ⟨i, j, rfl⟩ : ∃ i j, x = ix2 i j := ⟨x 0, x 1, eq_ix2 x⟩
  have e0 : (y 0).val = i.val := (h 0).trans (Nat.zero_add _)
  obtain rfl : n = j := Fin.ext (hn.symm.trans ((h 1).trans (Nat.zero_add _)))
  exact point3 m c t i n r (by omega)

theorem pieces4 (c : Dev nD) (t : Fin cfg0.N) (y : S544x1024.Idx) (r : Fin 8704) (n : Fin 1024) (hr : t.val * 544 + (y 0).val = r.val) (hn : (y 1).val = n.val) :
    out0_4 (iblk m c 0 t) (iblk m c 1 t) (iblk m c 2 t) y = early (X m c) (G m c) (W m c) r n := by
  unfold_out out0_4
  refine View.canon_eq_of_allAt (Val := Elt Ideal) (S := S544x1024) (e := .f32) _ y _ (View.cover_of_tiledL _ ![544, 512] rfl y) ?_
  refine View.allAt_cons_unit _ _ _ _ _ ?_ (View.allAt_cons_unit _ _ _ _ _ ?_ (View.allAt_nil _ _))
  · intro x h
    obtain ⟨i, j, rfl⟩ : ∃ i j, x = ix2 i j := ⟨x 0, x 1, eq_ix2 x⟩
    have e0 : (y 0).val = i.val := (h 0).trans (Nat.zero_add _)
    exact point4 m c t 512 _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point4 m c t 0 _ i j r n (by omega) (hn.symm.trans (h 1))

theorem pieces5 (c : Dev nD) (t : Fin cfg0.N) (y : S544x1536.Idx) (r : Fin 8704) (n : Fin 1536) (hr : t.val * 544 + (y 0).val = r.val) (hn : (y 1).val = n.val) :
    out0_5 (iblk m c 0 t) (iblk m c 1 t) (iblk m c 2 t) y = late (X m c) (G m c) (W m c) r n := by
  unfold_out out0_5
  refine View.canon_eq_of_allAt (Val := Elt Ideal) (S := S544x1536) (e := .bf16) _ y _ (View.cover_of_tiledL _ ![544, 512] rfl y) ?_
  refine View.allAt_cons_unit _ _ _ _ _ ?_ (View.allAt_cons_unit _ _ _ _ _ ?_ (View.allAt_cons_unit _ _ _ _ _ ?_ (View.allAt_nil _ _)))
  · intro x h
    obtain ⟨i, j, rfl⟩ : ∃ i j, x = ix2 i j := ⟨x 0, x 1, eq_ix2 x⟩
    have e0 : (y 0).val = i.val := (h 0).trans (Nat.zero_add _)
    exact point5 m c t 2048 _ i j r n (by omega) (by have := h 1; simp at this; omega)
  · intro x h
    obtain ⟨i, j, rfl⟩ : ∃ i j, x = ix2 i j := ⟨x 0, x 1, eq_ix2 x⟩
    have e0 : (y 0).val = i.val := (h 0).trans (Nat.zero_add _)
    exact point5 m c t 1536 _ i j r n (by omega) (by have := h 1; simp at this; omega)
  · intro x h
    obtain ⟨i, j, rfl⟩ : ∃ i j, x = ix2 i j := ⟨x 0, x 1, eq_ix2 x⟩
    have e0 : (y 0).val = i.val := (h 0).trans (Nat.zero_add _)
    exact point5 m c t 1024 _ i j r n (by omega) (by have := h 1; simp at this; omega)

/-- What output 1 holds after the last grid point. -/
theorem array3 (c : Dev nD) (r : Fin 8704) (n : Fin 1024) :
    ((dats m 0 c).arrAt 3 (cfgs 0).N : FVec Ideal S8704x1024 .bf16) (ix2 r n) = hn (X m c) (G m c) r n := by
  refine (dats m 0 c).arrAt_forall_of_covers 3 (fun (x : S8704x1024.Idx) (v : EReal) => ∀ (r : Fin 8704) (n : Fin 1024), (x 0).val = r.val → (x 1).val = n.val →
      v = hn (X m c) (G m c) r n)
      (by decide +kernel) (fun t hf y => ?_) (ix2 r n) (Memref.isWhole_whole _) r n rfl rfl
  blk_simp
  rw [after0_3]
  have e0 : win0_3.index t 0 = t.val := by rw [(idx t).2.2.2.1]; rfl
  have e1 : win0_3.index t 1 = 0 := by rw [(idx t).2.2.2.1]; rfl
  rw [e0, e1]
  intro r n hr hn
  exact pieces3 m c t y r n hr (by omega)

/-- What output 2 holds after the last grid point. -/
theorem array4 (c : Dev nD) (r : Fin 8704) (n : Fin 1024) :
    ((dats m 0 c).arrAt 4 (cfgs 0).N : FVec Ideal S8704x1024 .f32) (ix2 r n) = early (X m c) (G m c) (W m c) r n := by
  refine (dats m 0 c).arrAt_forall_of_covers 4 (fun (x : S8704x1024.Idx) (v : EReal) => ∀ (r : Fin 8704) (n : Fin 1024), (x 0).val = r.val → (x 1).val = n.val →
      v = early (X m c) (G m c) (W m c) r n)
      (by decide +kernel) (fun t hf y => ?_) (ix2 r n) (Memref.isWhole_whole _) r n rfl rfl
  blk_simp
  rw [after0_4]
  have e0 : win0_4.index t 0 = t.val := by rw [(idx t).2.2.2.2.1]; rfl
  have e1 : win0_4.index t 1 = 0 := by rw [(idx t).2.2.2.2.1]; rfl
  rw [e0, e1]
  intro r n hr hn
  exact pieces4 m c t y r n hr (by omega)

/-- What output 3 holds after the last grid point. -/
theorem array5 (c : Dev nD) (r : Fin 8704) (n : Fin 1536) :
    ((dats m 0 c).arrAt 5 (cfgs 0).N : FVec Ideal S8704x1536 .bf16) (ix2 r n) = late (X m c) (G m c) (W m c) r n := by
  refine (dats m 0 c).arrAt_forall_of_covers 5 (fun (x : S8704x1536.Idx) (v : EReal) => ∀ (r : Fin 8704) (n : Fin 1536), (x 0).val = r.val → (x 1).val = n.val →
      v = late (X m c) (G m c) (W m c) r n)
      (by decide +kernel) (fun t hf y => ?_) (ix2 r n) (Memref.isWhole_whole _) r n rfl rfl
  blk_simp
  rw [after0_5]
  have e0 : win0_5.index t 0 = t.val := by rw [(idx t).2.2.2.2.2]; rfl
  have e1 : win0_5.index t 1 = 0 := by rw [(idx t).2.2.2.2.2]; rfl
  rw [e0, e1]
  intro r n hr hn
  exact pieces5 m c t y r n hr (by omega)

end Cert.Kernel12Ideal.Value

namespace Cert.Reference12Ideal.Plain

open Idealize.ShloMosaic Idealize.ShloMosaic.TcCoe Idealize.SL.Sem
open Cert.Reference12Ideal Cert.Reference12Ideal.Gen Cert.Reference12Ideal.Read
open Cert.Kernel12Ideal.Value (hn prod early late)

theorem v16_at (x : FVec Ideal S8704x1024 .f32) (g : FVec Ideal S1024 .f32) (r : Fin 8704) (n : Fin 1024) :
    val_main_v16 (F := Ideal) x g (ix2 r n) = hn x g r n := by
  pointwise [val_main_v16, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v17_at (x : FVec Ideal S8704x1024 .f32) (g : FVec Ideal S1024 .f32) (w : FVec Ideal S2x1024x2560 .f32) (r : Fin 8704) (n : Fin 1024) :
    val_main_v17 (F := Ideal) x g w (ix2 r n) = early x g w r n := by
  pointwise [val_main_v17, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v19_at (x : FVec Ideal S8704x1024 .f32) (g : FVec Ideal S1024 .f32) (w : FVec Ideal S2x1024x2560 .f32) (r : Fin 8704) (n : Fin 1536) :
    val_main_v19 (F := Ideal) x g w (ix2 r n) = late x g w r n := by
  pointwise [val_main_v19, val_main_v18, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.Reference12Ideal.Plain

namespace Cert.Proof.InProj0

open Idealize.ShloMosaic Idealize.ShloMosaic.TcCoe Idealize.SL.Sem

/-- At the ideal instance the kernel's three results are the reference's. -/
theorem algebraic : Cert.algebraic_Kernel12Ideal_Reference12Ideal := by
  pair_intro
  · run_from Cert.Kernel12Ideal.Value.run_blocks m g
  · run_from Cert.Reference12Ideal.Value.run m' g'
    · refine (Cert.Reference12Ideal.Read.val_main_v16_eq ..).trans ?_
      funext i
      rw [eq_ix2 i]
      exact (Cert.Reference12Ideal.Plain.v16_at ..).trans (Cert.Kernel12Ideal.Value.array3 m c (i 0) (i 1)).symm
    · refine (Cert.Reference12Ideal.Read.val_main_v17_eq ..).trans ?_
      funext i
      rw [eq_ix2 i]
      exact (Cert.Reference12Ideal.Plain.v17_at ..).trans (Cert.Kernel12Ideal.Value.array4 m c (i 0) (i 1)).symm
    · refine (Cert.Reference12Ideal.Read.val_main_v19_eq ..).trans ?_
      funext i
      rw [eq_ix2 i]
      exact (Cert.Reference12Ideal.Plain.v19_at ..).trans (Cert.Kernel12Ideal.Value.array5 m c (i 0) (i 1)).symm

end Cert.Proof.InProj0

end
-- ==== Proof.OutProj0.lean ====
/- The output projection: the two inputs' products with their halves of the first layer's matrix, added to the residual; the
   reference joins the inputs and multiplies once. -/
module

public import proofs.«01_k».proof.Defs
public import proofs.«01_k».proof.Proof.Gen.Kernel13Ideal.Value
public import proofs.«01_k».proof.Proof.Gen.Reference13Ideal.Read
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.Ring
public import Idealize.ShloMosaic.Lib.IdealHost

@[expose] public section

set_option maxRecDepth 16384
set_option maxHeartbeats 4000000

noncomputable section

namespace Cert.Kernel13Ideal.Value

open Idealize.ShloMosaic Idealize.ShloMosaic.TcCoe Idealize.SL.Sem
open Idealize.ShloMosaic.Pipeline (Dat)
open Cert.Kernel13Ideal Cert.Kernel13Ideal.Gen

variable (m : (ℓ : Loc nD τ sig) → Buf (Elt Ideal) ℓ)

/-- The residual and the two products. -/
def res (a b : FVec Ideal S8704x512 .f32) (d : FVec Ideal S8704x1024 .f32) (w : FVec Ideal S2x1024x1024 .f32) (r : Fin 8704) (n : Fin 1024) : EReal :=
  d (ix2 r n) + (∑ k : Fin 512, a (ix2 r k) * w (ix3 0 ⟨k.val, by omega⟩ n)) + ∑ k : Fin 512, b (ix2 r k) * w (ix3 0 ⟨512 + k.val, by omega⟩ n)

/-- The four inputs as the program's start holds them. -/
abbrev A (c : Dev nD) : FVec Ideal S8704x512 .f32 := m ((c : Thread nD τ).loc main_arg0)
abbrev B (c : Dev nD) : FVec Ideal S8704x512 .f32 := m ((c : Thread nD τ).loc main_arg1)
abbrev D (c : Dev nD) : FVec Ideal S8704x1024 .f32 := m ((c : Thread nD τ).loc main_arg2)
abbrev W (c : Dev nD) : FVec Ideal S2x1024x1024 .f32 := m ((c : Thread nD τ).loc main_arg3)

theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] :=
  (by decide +kernel : ∀ t : Fin grid0.N, _)

theorem tlt (t : Fin cfg0.N) : t.val < 16 := lt_of_lt_of_eq t.isLt N_0

theorem V_v0 (c : Dev nD) : (V m c main_v0 : FVec Ideal S8704x512 .bf16) = A m c := by
  unfold V
  simp only [hostOps0, List.flatten_cons, List.flatten_nil, List.cons_append, List.nil_append, List.append_nil]
  after_results_simp
  rfl

theorem V_v1 (c : Dev nD) : (V m c main_v1 : FVec Ideal S8704x512 .bf16) = B m c := by
  unfold V
  simp only [hostOps0, List.flatten_cons, List.flatten_nil, List.cons_append, List.nil_append, List.append_nil]
  after_results_simp
  rfl

theorem V_v2 (c : Dev nD) : (V m c main_v2 : FVec Ideal S2x1024x1024 .bf16) = W m c := by
  unfold V
  simp only [hostOps0, List.flatten_cons, List.flatten_nil, List.cons_append, List.nil_append, List.append_nil]
  after_results_simp
  rfl

theorem iblk0 (c : Dev nD) (t : Fin cfg0.N) (i : Fin 544) (k : Fin 512) (r : Fin 8704) (hr : t.val * 544 + i.val = r.val) :
    (iblk m c 0 t : FVec Ideal S544x512 .bf16) (ix2 i k) = A m c (ix2 r k) := by
  have ht := tlt t
  obtain ⟨r, h⟩ := r
  obtain rfl : t.val * 544 + i.val = r := hr
  rw [← V_v0 m c]
  blk_ext [iblk, idx t]

theorem iblk1 (c : Dev nD) (t : Fin cfg0.N) (i : Fin 544) (k : Fin 512) (r : Fin 8704) (hr : t.val * 544 + i.val = r.val) :
    (iblk m c 1 t : FVec Ideal S544x512 .bf16) (ix2 i k) = B m c (ix2 r k) := by
  have ht := tlt t
  obtain ⟨r, h⟩ := r
  obtain rfl : t.val * 544 + i.val = r := hr
  rw [← V_v1 m c]
  blk_ext [iblk, idx t]

theorem iblk2 (c : Dev nD) (t : Fin cfg0.N) (i : Fin 544) (k : Fin 1024) (r : Fin 8704) (hr : t.val * 544 + i.val = r.val) :
    (iblk m c 2 t : FVec Ideal S544x1024 .f32) (ix2 i k) = D m c (ix2 r k) := by
  have ht := tlt t
  obtain ⟨r, h⟩ := r
  obtain rfl : t.val * 544 + i.val = r := hr
  blk_ext [iblk, idx t, V]

theorem iblk3 (c : Dev nD) (t : Fin cfg0.N) (j k : Fin 1024) :
    (iblk m c 3 t : FVec Ideal S1x1024x1024 .bf16) (ix3 0 j k) = W m c (ix3 0 j k) := by
  rw [← V_v2 m c]
  blk_ext [iblk, idx t]

theorem point (c : Dev nD) (t : Fin cfg0.N) (o : ℕ) (g g' g'') (i : Fin 544) (j : Fin 512) (r : Fin 8704) (n : Fin 1024) (hr : t.val * 544 + i.val = r.val) (hn : n.val = o + j.val) :
    k0_pay2 (F := Ideal) (View.ld (iblk m c 2 t) (Rect.unit (s := S544x1024) ![0, o] S544x512.size g)) (View.ld (iblk m c 0 t) r0_1)
        (View.ld (iblk m c 3 t) (Rect.unit (s := S1x1024x1024) ![0, 0, o] S1x512x512.size g')) (View.ld (iblk m c 1 t) r0_1)
        (View.ld (iblk m c 3 t) (Rect.unit (s := S1x1024x1024) ![0, 512, o] S1x512x512.size g'')) (ix2 i j)
      = res (A m c) (B m c) (D m c) (W m c) r n := by
  pointwise [k0_pay2]
  unfold res
  obtain ⟨n, h⟩ := n
  obtain rfl : n = o + j.val := hn
  simp only [iblk0 m c t i _ r hr, iblk1 m c t i _ r hr, iblk2 m c t i _ r hr, iblk3 m c t]

theorem pieces (c : Dev nD) (t : Fin cfg0.N) (y : S544x1024.Idx) (r : Fin 8704) (n : Fin 1024) (hr : t.val * 544 + (y 0).val = r.val) (hn : (y 1).val = n.val) :
    out0_4 (iblk m c 0 t) (iblk m c 1 t) (iblk m c 2 t) (iblk m c 3 t) y = res (A m c) (B m c) (D m c) (W m c) r n := by
  unfold out0_4
  refine View.canon_eq_of_allAt (Val := Elt Ideal) (S := S544x1024) (e := .f32) _ y _ (View.cover_of_tiledL _ ![544, 512] rfl y) ?_
  refine View.allAt_cons_unit _ _ _ _ _ ?_ (View.allAt_cons_unit _ _ _ _ _ ?_ (View.allAt_nil _ _))
  · intro x h
    obtain ⟨i, j, rfl⟩ : ∃ i j, x = ix2 i j := ⟨x 0, x 1, eq_ix2 x⟩
    have e0 : (y 0).val = i.val := (h 0).trans (Nat.zero_add _)
    exact point m c t 512 _ _ _ i j r n (by omega) (hn.symm.trans (h 1))
  · intro x h
    obtain ⟨i, j, rfl⟩ : ∃ i j, x = ix2 i j := ⟨x 0, x 1, eq_ix2 x⟩
    have e0 : (y 0).val = i.val := (h 0).trans (Nat.zero_add _)
    exact point m c t 0 _ _ _ i j r n (by omega) (hn.symm.trans (h 1))

/-- What output 1 holds after the last grid point. -/
theorem array4 (c : Dev nD) (r : Fin 8704) (n : Fin 1024) :
    ((dats m 0 c).arrAt 4 (cfgs 0).N : FVec Ideal S8704x1024 .f32) (ix2 r n) = res (A m c) (B m c) (D m c) (W m c) r n := by
  refine (dats m 0 c).arrAt_forall_of_covers 4 (fun (x : S8704x1024.Idx) (v : EReal) => ∀ (r : Fin 8704) (n : Fin 1024), (x 0).val = r.val → (x 1).val = n.val →
      v = res (A m c) (B m c) (D m c) (W m c) r n)
      (by decide +kernel) (fun t hf y => ?_) (ix2 r n) (Memref.isWhole_whole _) r n rfl rfl
  blk_simp
  rw [after0_4]
  have e0 : win0_4.index t 0 = t.val := by rw [(idx t).2.2.2.2]; rfl
  have e1 : win0_4.index t 1 = 0 := by rw [(idx t).2.2.2.2]; rfl
  rw [e0, e1]
  intro r n hr hn
  exact pieces m c t y r n hr (by omega)

end Cert.Kernel13Ideal.Value

namespace Cert.Reference13Ideal.Plain

open Idealize.ShloMosaic Idealize.ShloMosaic.TcCoe Idealize.SL.Sem
open Cert.Reference13Ideal Cert.Reference13Ideal.Gen Cert.Reference13Ideal.Read

/-- The joined inputs' product falls into the two halves. -/
theorem v4_at (a b : FVec Ideal S8704x512 .f32) (d : FVec Ideal S8704x1024 .f32) (w : FVec Ideal S2x1024x1024 .f32) (r : Fin 8704) (n : Fin 1024) :
    val_main_v4 (F := Ideal) a b d w (ix2 r n) = Cert.Kernel13Ideal.Value.res a b d w r n := by
  pointwise [val_main_v4, val_main_v3, val_main_v2, val_main_v1, val_main_v0]
  unfold Cert.Kernel13Ideal.Value.res
  rw [add_assoc]

end Cert.Reference13Ideal.Plain

namespace Cert.Proof.OutProj0

open Idealize.ShloMosaic Idealize.ShloMosaic.TcCoe Idealize.SL.Sem

/-- At the ideal instance the kernel's result is the reference's. -/
theorem algebraic : Cert.algebraic_Kernel13Ideal_Reference13Ideal := by
  pair_intro
  · run_from Cert.Kernel13Ideal.Value.run_blocks m g
  · run_from Cert.Reference13Ideal.Value.run m' g'
    · refine (Cert.Reference13Ideal.Read.val_main_v4_eq ..).trans ?_
      funext i
      rw [eq_ix2 i]
      exact (Cert.Reference13Ideal.Plain.v4_at ..).trans (Cert.Kernel13Ideal.Value.array4 m c (i 0) (i 1)).symm

end Cert.Proof.OutProj0

end
-- ==== Proof.DownDw0.lean ====
/- The gradient of the first layer's second feed-forward matrix, written into the array
   that already holds the second layer's: what the kernel adds up over blocks of rows is the reference's product over all
   rows, and the second layer's part stays. -/
module

public import proofs.«01_k».proof.Defs
public import proofs.«01_k».proof.Proof.Rows
public import proofs.«01_k».proof.Proof.DownDw
public import proofs.«01_k».proof.Proof.Gen.Kernel14Ideal.Value
public import proofs.«01_k».proof.Proof.Gen.Reference14Ideal.Read
public import Idealize.ShloMosaic.Lib.Claim
public import Idealize.ShloMosaic.Lib.Pipeline.ReadBack
public import Idealize.ShloMosaic.Lib.Pipeline.FrameSuffix
public import Idealize.ShloMosaic.Lib.Ring

@[expose] public section

set_option maxRecDepth 16384
set_option maxHeartbeats 4000000

noncomputable section

namespace Cert.Kernel14Ideal.Value

open Idealize.ShloMosaic Idealize.ShloMosaic.TcCoe Idealize.SL.Sem
open Idealize.ShloMosaic.Pipeline (Dat)
open Cert.Kernel14Ideal Cert.Kernel14Ideal.Gen Cert.Rows
open Cert.Kernel5Ideal.Value (act dw term dw_eq)

variable (m : (ℓ : Loc nD τ sig) → Buf (Elt Ideal) ℓ)

/-- The inputs as the program's start holds them. -/
abbrev X (c : Dev nD) : FVec Ideal S8704x4096 .f32 := m ((c : Thread nD τ).loc main_arg0)
abbrev Y (c : Dev nD) : FVec Ideal S8704x1024 .f32 := m ((c : Thread nD τ).loc main_arg1)
abbrev I (c : Dev nD) : FVec Ideal S2x4096x1024 .f32 := m ((c : Thread nD τ).loc main_arg2)

theorem idx : ∀ t : Fin cfg0.N, win0_0.index t = ![t.val % 4, t.val / 4] ∧ win0_1.index t = ![t.val % 4, 0] ∧ win0_2.index t = ![0, t.val / 4, 0] :=
  (by decide +kernel : ∀ t : Fin grid0.N, _)

theorem tlt (t : Fin cfg0.N) : t.val < 16 := lt_of_lt_of_eq t.isLt N_0

theorem V_v2 (c : Dev nD) (r : Fin 8704) (j : Fin 4096) : (V m c main_v2 : FVec Ideal S8704x4096 .bf16) (ix2 r j) = act (X m c) r j := by
  unfold V
  simp only [hostOps0, hostOps0_1, List.flatten_cons, List.flatten_nil, List.cons_append, List.nil_append, List.append_nil]
  after_results_simp
  simp only [StableHlo.TRef.toBuf, StableHlo.TRef.ofBuf, cast_eq]
  pointwise

theorem iblk0 (c : Dev nD) (t : Fin cfg0.N) (i : Fin 2176) (j : Fin 1024) :
    (iblk m c 0 t : FVec Ideal S2176x1024 .bf16) (ix2 i j) = at2 (act (X m c)) (t.val % 4 * 2176 + i.val) (t.val / 4 * 1024 + j.val) := by
  have ht := tlt t
  rw [at2_mk _ _ _ (by omega) (by omega)]
  refine Eq.trans (b := (V m c main_v2 : FVec Ideal S8704x4096 .bf16) (ix2 ⟨t.val % 4 * 2176 + i.val, by omega⟩ ⟨t.val / 4 * 1024 + j.val, by omega⟩)) ?_ (V_v2 m c _ _)
  blk_ext [iblk, idx t]

theorem iblk1 (c : Dev nD) (t : Fin cfg0.N) (i : Fin 2176) (j : Fin 1024) :
    (iblk m c 1 t : FVec Ideal S2176x1024 .f32) (ix2 i j) = at2 (fun r n => Y m c (ix2 r n)) (t.val % 4 * 2176 + i.val) j.val := by
  have ht := tlt t
  rw [at2_mk _ _ _ (by omega) (by omega)]
  blk_ext [iblk, idx t, V]

/-- One point's step: what stood there and the block's product. -/
theorem step (c : Dev nD) (t : Fin cfg0.N) (Z : FVec Ideal S1x1024x1024 .f32) (p n : Fin 1024) :
    k0_pay2 (F := Ideal) Z (iblk m c 0 t) (iblk m c 1 t) (ix3 0 p n)
      = Z (ix3 0 p n) + ∑ x : Fin 2176, term (X m c) (Y m c) (t.val / 4 * 1024 + p.val) n.val (t.val % 4 * 2176 + x.val) := by
  pointwise [k0_pay2]
  simp only [iblk0 m c t, iblk1 m c t]
  rfl

/-- What stands in the output block after a run's last point. -/
theorem run_last (c : Dev nD) (t : Fin cfg0.N) (h : t.val % 4 = 3) (p n : Fin 1024) :
    outsAt0 m c t.val t.isLt (ix3 0 p n)
      = (∑ k ∈ Finset.range 4, ∑ x : Fin 2176, term (X m c) (Y m c) (t.val / 4 * 1024 + p.val) n.val (k * 2176 + x.val) : EReal) := by
  refine (Pipeline.eq_sum_of_reset_step_divmod (fun n' h => (outsAt0 m c n' h (ix3 0 p n) : EReal)) 4 0
    (fun q k => ∑ x : Fin 2176, term (X m c) (Y m c) (q * 1024 + p.val) n.val (k * 2176 + x.val)) (fun t h => ?_) (fun t h => ?_) t).trans ?_
  · beta_reduce
    rw [outsAt0_A m c t h]
    frame_out
    rw [step]
    pointwise [k0_pay1]
  · beta_reduce
    rw [outsAt0_B m c t h]
    frame_out
    rw [step]
  · rw [h]
    exact zero_add (_ : EReal)

/-- The first layer's part of the output array after the last grid point. -/
theorem array (c : Dev nD) (p : Fin 4096) (n : Fin 1024) :
    ((dats m 0 c).arrAt 2 (cfgs 0).N : FVec Ideal S2x4096x1024 .f32) (ix3 0 p n) = dw (X m c) (Y m c) p n := by
  refine (dats m 0 c).arrAt_forall_of_coversWhere 2 (fun (x : S2x4096x1024.Idx) (v : EReal) => (x 0).val = 0 → ∀ (p : Fin 4096) (n : Fin 1024),
      (x 1).val = p.val → (x 2).val = n.val → v = dw (X m c) (Y m c) p n) (fun β => β (0 : Fin 3) = 0)
      (by decide +kernel) (fun t hf y => ?_) (fun j hj => ?_) (ix3 0 p n) (Memref.isWhole_whole _) rfl p n rfl rfl
  · blk_simp
    rw [after0_2]
    have e1 : win0_2.index t 1 = t.val / 4 := by rw [(idx t).2.2]; rfl
    have e2 : win0_2.index t 2 = 0 := by rw [(idx t).2.2]; rfl
    rw [e1, e2]
    intro _ p n hp hn
    have h3 : t.val % 4 = 3 := (by decide +kernel : ∀ t : Fin grid0.N, win0_2.flush t = true → t.val % 4 = 3) t hf
    have hy : y = ix3 0 (y 1) (y 2) := by
      rw [eq_ix3 y]
      congr 1
      exact Subsingleton.elim (α := Fin 1) _ _
    rw [hy]
    refine (run_last m c t h3 (y 1) (y 2)).trans ?_
    rw [← dw_eq, ← hp, ← hn]
    simp only [Nat.zero_mul, Nat.zero_add]
  · intro h
    exact absurd (by blk_simp [Pipeline.Window.cell_apply] at h ⊢; omega) hj

/-- The second layer's part stays as it was handed over. -/
theorem kept (c : Dev nD) (p : Fin 4096) (n : Fin 1024) :
    ((dats m 0 c).arrAt 2 (cfgs 0).N : FVec Ideal S2x4096x1024 .f32) (ix3 1 p n) = I m c (ix3 1 p n) := by
  refine (entry2 m c (ix3 1 p n) fun t hf hi => ?_).trans ?_
  · have e0 : win0_2.index t 0 = 0 := by rw [(idx t).2.2]; rfl
    mem_blk at hi
    have h := hi.1.2
    rw [e0] at h
    exact absurd h (show ¬(1 : ℕ) < 0 + 1 by decide)
  · unfold V
    simp only [hostOps0, hostOps0_1, List.flatten_cons, List.flatten_nil, List.cons_append, List.nil_append, List.append_nil]
    after_results_simp
    rfl

end Cert.Kernel14Ideal.Value

namespace Cert.Reference14Ideal.Plain

open Idealize.ShloMosaic Idealize.ShloMosaic.TcCoe Idealize.SL.Sem
open Cert.Reference14Ideal Cert.Reference14Ideal.Gen Cert.Reference14Ideal.Read

theorem v5_at (a : FVec Ideal S8704x4096 .f32) (d : FVec Ideal S8704x1024 .f32) (p : Fin 4096) (n : Fin 1024) :
    val_main_v5 (F := Ideal) a d (ix2 p n) = Cert.Kernel5Ideal.Value.dw a d p n :=
  Cert.Reference5Ideal.Plain.v5_at ..

/-- The stacked result: the gradient in front, the array's second layer behind. -/
theorem stack_at (a : FVec Ideal S8704x4096 .f32) (d : FVec Ideal S8704x1024 .f32) (w : FVec Ideal S2x4096x1024 .f32) (p : Fin 4096) (n : Fin 1024) :
    val_main_v10 (F := Ideal) a d w (ix3 0 p n) = Cert.Kernel5Ideal.Value.dw a d p n := by
  pointwise [val_main_v10, val_main_v8]
  exact v5_at a d p n

theorem stack_at' (a : FVec Ideal S8704x4096 .f32) (d : FVec Ideal S8704x1024 .f32) (w : FVec Ideal S2x4096x1024 .f32) (p : Fin 4096) (n : Fin 1024) :
    val_main_v10 (F := Ideal) a d w (ix3 1 p n) = w (ix3 1 p n) := by
  pointwise [val_main_v10, val_main_v9, val_main_v7, val_main_v6]

end Cert.Reference14Ideal.Plain

namespace Cert.Proof.DownDw0

open Idealize.ShloMosaic Idealize.ShloMosaic.TcCoe Idealize.SL.Sem

open Cert.Kernel14Ideal.Value (X Y I) in
theorem same (m : (ℓ : Loc Cert.Kernel14Ideal.nD Cert.Kernel14Ideal.τ Cert.Kernel14Ideal.sig) → Buf (Elt Ideal) ℓ) (c : Dev Cert.Kernel14Ideal.nD) (l : Fin 2) (p : Fin 4096) (n : Fin 1024) :
    Cert.Reference14Ideal.Read.val_main_v10 (F := Ideal) (X m c) (Y m c) (I m c) (ix3 l p n)
      = ((Cert.Kernel14Ideal.Gen.dats m 0 c).arrAt 2 (Cert.Kernel14Ideal.cfgs 0).N : FVec Ideal Cert.Kernel14Ideal.S2x4096x1024 .f32) (ix3 l p n) :=
  match l with
  | 0 => (Cert.Reference14Ideal.Plain.stack_at ..).trans (Cert.Kernel14Ideal.Value.array m c p n).symm
  | 1 => (Cert.Reference14Ideal.Plain.stack_at' ..).trans (Cert.Kernel14Ideal.Value.kept m c p n).symm

/-- At the ideal instance the kernel's array is the reference's. -/
theorem algebraic : Cert.algebraic_Kernel14Ideal_Reference14Ideal := by
  pair_intro
  · run_from Cert.Kernel14Ideal.Value.run_blocks m g
  · run_from Cert.Reference14Ideal.Value.run m' g'
    · rw [Cert.Reference14Ideal.Read.val_main_v10_eq, (hagree c).2.2]
      funext i
      rw [eq_ix3 i]
      exact same m c (i 0) (i 1) (i 2)

end Cert.Proof.DownDw0

end
-- ==== Proof.UpDw0.lean ====
/- The gradient of the first layer's first feed-forward matrix, written into the array
   that already holds the second layer's: what the kernel adds up over blocks of rows is the reference's product over all
   rows, and the second layer's part stays. -/
module

public import proofs.«01_k».proof.Defs
public import proofs.«01_k».proof.Proof.Rows
public import proofs.«01_k».proof.Proof.UpDw
public import proofs.«01_k».proof.Proof.Gen.Kernel15Ideal.Value
public import proofs.«01_k».proof.Proof.Gen.Reference15Ideal.Read
public import Idealize.ShloMosaic.Lib.Claim
public import Idealize.ShloMosaic.Lib.Pipeline.ReadBack
public import Idealize.ShloMosaic.Lib.Pipeline.FrameSuffix
public import Idealize.ShloMosaic.Lib.Ring

@[expose] public section

set_option maxRecDepth 16384
set_option maxHeartbeats 4000000

noncomputable section

namespace Cert.Kernel15Ideal.Value

open Idealize.ShloMosaic Idealize.ShloMosaic.TcCoe Idealize.SL.Sem
open Idealize.ShloMosaic.Pipeline (Dat)
open Cert.Kernel15Ideal Cert.Kernel15Ideal.Gen Cert.Rows
open Cert.Kernel6Ideal.Value (hn dw term dw_eq)

variable (m : (ℓ : Loc nD τ sig) → Buf (Elt Ideal) ℓ)

/-- The inputs as the program's start holds them. -/
abbrev X (c : Dev nD) : FVec Ideal S8704x1024 .f32 := m ((c : Thread nD τ).loc main_arg0)
abbrev G (c : Dev nD) : FVec Ideal S1024 .f32 := m ((c : Thread nD τ).loc main_arg1)
abbrev Y (c : Dev nD) : FVec Ideal S8704x4096 .f32 := m ((c : Thread nD τ).loc main_arg2)
abbrev I (c : Dev nD) : FVec Ideal S2x1024x4096 .f32 := m ((c : Thread nD τ).loc main_arg3)

theorem idx : ∀ t : Fin cfg0.N, win0_0.index t = ![t.val % 4, 0] ∧ win0_1.index t = ![t.val % 4, t.val / 4] ∧ win0_2.index t = ![0, 0, t.val / 4] :=
  (by decide +kernel : ∀ t : Fin grid0.N, _)

theorem tlt (t : Fin cfg0.N) : t.val < 16 := lt_of_lt_of_eq t.isLt N_0

theorem V_v13 (c : Dev nD) (r : Fin 8704) (j : Fin 1024) : (V m c main_v13 : FVec Ideal S8704x1024 .bf16) (ix2 r j) = hn (X m c) (G m c) r j := by
  unfold V
  simp only [hostOps0, List.flatten_cons, List.flatten_nil, List.cons_append, List.nil_append, List.append_nil]
  after_results_simp
  rfl

theorem V_v14 (c : Dev nD) (r : Fin 8704) (j : Fin 4096) : (V m c main_v14 : FVec Ideal S8704x4096 .bf16) (ix2 r j) = Y m c (ix2 r j) := by
  unfold V
  simp only [hostOps0, List.flatten_cons, List.flatten_nil, List.cons_append, List.nil_append, List.append_nil]
  after_results_simp
  rfl

theorem iblk0 (c : Dev nD) (t : Fin cfg0.N) (i : Fin 2176) (j : Fin 1024) :
    (iblk m c 0 t : FVec Ideal S2176x1024 .bf16) (ix2 i j) = at2 (hn (X m c) (G m c)) (t.val % 4 * 2176 + i.val) j.val := by
  have ht := tlt t
  rw [at2_mk _ _ _ (by omega) (by omega)]
  refine Eq.trans (b := (V m c main_v13 : FVec Ideal S8704x1024 .bf16) (ix2 ⟨t.val % 4 * 2176 + i.val, by omega⟩ ⟨j.val, by omega⟩)) ?_ (V_v13 m c _ _)
  blk_ext [iblk, idx t]

theorem iblk1 (c : Dev nD) (t : Fin cfg0.N) (i : Fin 2176) (j : Fin 1024) :
    (iblk m c 1 t : FVec Ideal S2176x1024 .bf16) (ix2 i j)
      = at2 (fun r n => Y m c (ix2 r n)) (t.val % 4 * 2176 + i.val) (t.val / 4 * 1024 + j.val) := by
  have ht := tlt t
  rw [at2_mk _ _ _ (by omega) (by omega)]
  refine Eq.trans (b := (V m c main_v14 : FVec Ideal S8704x4096 .bf16) (ix2 ⟨t.val % 4 * 2176 + i.val, by omega⟩ ⟨t.val / 4 * 1024 + j.val, by omega⟩)) ?_ (V_v14 m c _ _)
  blk_ext [iblk, idx t]

/-- One point's step: what stood there and the block's product. -/
theorem step (c : Dev nD) (t : Fin cfg0.N) (Z : FVec Ideal S1x1024x1024 .f32) (p n : Fin 1024) :
    k0_pay2 (F := Ideal) Z (iblk m c 0 t) (iblk m c 1 t) (ix3 0 p n)
      = Z (ix3 0 p n) + ∑ x : Fin 2176, term (X m c) (G m c) (Y m c) p.val (t.val / 4 * 1024 + n.val) (t.val % 4 * 2176 + x.val) := by
  pointwise [k0_pay2]
  simp only [iblk0 m c t, iblk1 m c t]
  rfl

/-- What stands in the output block after a run's last point. -/
theorem run_last (c : Dev nD) (t : Fin cfg0.N) (h : t.val % 4 = 3) (p n : Fin 1024) :
    outsAt0 m c t.val t.isLt (ix3 0 p n)
      = (∑ k ∈ Finset.range 4, ∑ x : Fin 2176, term (X m c) (G m c) (Y m c) p.val (t.val / 4 * 1024 + n.val) (k * 2176 + x.val) : EReal) := by
  refine (Pipeline.eq_sum_of_reset_step_divmod (fun n' h => (outsAt0 m c n' h (ix3 0 p n) : EReal)) 4 0
    (fun q k => ∑ x : Fin 2176, term (X m c) (G m c) (Y m c) p.val (q * 1024 + n.val) (k * 2176 + x.val)) (fun t h => ?_) (fun t h => ?_) t).trans ?_
  · beta_reduce
    rw [outsAt0_A m c t h]
    frame_out
    rw [step]
    pointwise [k0_pay1]
  · beta_reduce
    rw [outsAt0_B m c t h]
    frame_out
    rw [step]
  · rw [h]
    exact zero_add (_ : EReal)

/-- The first layer's part of the output array after the last grid point. -/
theorem array (c : Dev nD) (p : Fin 1024) (n : Fin 4096) :
    ((dats m 0 c).arrAt 2 (cfgs 0).N : FVec Ideal S2x1024x4096 .f32) (ix3 0 p n) = dw (X m c) (G m c) (Y m c) p n := by
  refine (dats m 0 c).arrAt_forall_of_coversWhere 2 (fun (x : S2x1024x4096.Idx) (v : EReal) => (x 0).val = 0 → ∀ (p : Fin 1024) (n : Fin 4096),
      (x 1).val = p.val → (x 2).val = n.val → v = dw (X m c) (G m c) (Y m c) p n) (fun β => β (0 : Fin 3) = 0)
      (by decide +kernel) (fun t hf y => ?_) (fun j hj => ?_) (ix3 0 p n) (Memref.isWhole_whole _) rfl p n rfl rfl
  · blk_simp
    rw [after0_2]
    have e1 : win0_2.index t 1 = 0 := by rw [(idx t).2.2]; rfl
    have e2 : win0_2.index t 2 = t.val / 4 := by rw [(idx t).2.2]; rfl
    rw [e1, e2]
    intro _ p n hp hn
    have h3 : t.val % 4 = 3 := (by decide +kernel : ∀ t : Fin grid0.N, win0_2.flush t = true → t.val % 4 = 3) t hf
    have hy : y = ix3 0 (y 1) (y 2) := by
      rw [eq_ix3 y]
      congr 1
      exact Subsingleton.elim (α := Fin 1) _ _
    rw [hy]
    refine (run_last m c t h3 (y 1) (y 2)).trans ?_
    rw [← dw_eq, ← hp, ← hn]
    simp only [Nat.zero_mul, Nat.zero_add]
  · intro h
    exact absurd (by blk_simp [Pipeline.Window.cell_apply] at h ⊢; omega) hj

/-- The second layer's part stays as it was handed over. -/
theorem kept (c : Dev nD) (p : Fin 1024) (n : Fin 4096) :
    ((dats m 0 c).arrAt 2 (cfgs 0).N : FVec Ideal S2x1024x4096 .f32) (ix3 1 p n) = I m c (ix3 1 p n) := by
  refine (entry2 m c (ix3 1 p n) fun t hf hi => ?_).trans ?_
  · have e0 : win0_2.index t 0 = 0 := by rw [(idx t).2.2]; rfl
    mem_blk at hi
    have h := hi.1.2
    rw [e0] at h
    exact absurd h (show ¬(1 : ℕ) < 0 + 1 by decide)
  · unfold V
    simp only [hostOps0, List.flatten_cons, List.flatten_nil, List.cons_append, List.nil_append, List.append_nil]
    after_results_simp
    rfl

end Cert.Kernel15Ideal.Value

namespace Cert.Reference15Ideal.Plain

open Idealize.ShloMosaic Idealize.ShloMosaic.TcCoe Idealize.SL.Sem
open Cert.Reference15Ideal Cert.Reference15Ideal.Gen Cert.Reference15Ideal.Read

theorem v16_at (x : FVec Ideal S8704x1024 .f32) (g : FVec Ideal S1024 .f32) (d : FVec Ideal S8704x4096 .f32) (p : Fin 1024) (n : Fin 4096) :
    val_main_v16 (F := Ideal) x g d (ix2 p n) = Cert.Kernel6Ideal.Value.dw x g d p n :=
  Cert.Reference6Ideal.Plain.v16_at ..

/-- The stacked result: the gradient in front, the array's second layer behind. -/
theorem stack_at (x : FVec Ideal S8704x1024 .f32) (g : FVec Ideal S1024 .f32) (d : FVec Ideal S8704x4096 .f32) (w : FVec Ideal S2x1024x4096 .f32) (p : Fin 1024) (n : Fin 4096) :
    val_main_v21 (F := Ideal) x g d w (ix3 0 p n) = Cert.Kernel6Ideal.Value.dw x g d p n := by
  pointwise [val_main_v21, val_main_v19]
  exact v16_at x g d p n

theorem stack_at' (x : FVec Ideal S8704x1024 .f32) (g : FVec Ideal S1024 .f32) (d : FVec Ideal S8704x4096 .f32) (w : FVec Ideal S2x1024x4096 .f32) (p : Fin 1024) (n : Fin 4096) :
    val_main_v21 (F := Ideal) x g d w (ix3 1 p n) = w (ix3 1 p n) := by
  pointwise [val_main_v21, val_main_v20, val_main_v18, val_main_v17]

end Cert.Reference15Ideal.Plain

namespace Cert.Proof.UpDw0

open Idealize.ShloMosaic Idealize.ShloMosaic.TcCoe Idealize.SL.Sem

open Cert.Kernel15Ideal.Value (X G Y I) in
theorem same (m : (ℓ : Loc Cert.Kernel15Ideal.nD Cert.Kernel15Ideal.τ Cert.Kernel15Ideal.sig) → Buf (Elt Ideal) ℓ) (c : Dev Cert.Kernel15Ideal.nD) (l : Fin 2) (p : Fin 1024) (n : Fin 4096) :
    Cert.Reference15Ideal.Read.val_main_v21 (F := Ideal) (X m c) (G m c) (Y m c) (I m c) (ix3 l p n)
      = ((Cert.Kernel15Ideal.Gen.dats m 0 c).arrAt 2 (Cert.Kernel15Ideal.cfgs 0).N : FVec Ideal Cert.Kernel15Ideal.S2x1024x4096 .f32) (ix3 l p n) :=
  match l with
  | 0 => (Cert.Reference15Ideal.Plain.stack_at ..).trans (Cert.Kernel15Ideal.Value.array m c p n).symm
  | 1 => (Cert.Reference15Ideal.Plain.stack_at' ..).trans (Cert.Kernel15Ideal.Value.kept m c p n).symm

/-- At the ideal instance the kernel's array is the reference's. -/
theorem algebraic : Cert.algebraic_Kernel15Ideal_Reference15Ideal := by
  pair_intro
  · run_from Cert.Kernel15Ideal.Value.run_blocks m g
  · run_from Cert.Reference15Ideal.Value.run m' g'
    · rw [Cert.Reference15Ideal.Read.val_main_v21_eq, (hagree c).2.2.2]
      funext i
      rw [eq_ix3 i]
      exact same m c (i 0) (i 1) (i 2)

end Cert.Proof.UpDw0

end
-- ==== Proof.OutDw0.lean ====
/- The gradient of the first layer's output projection, written into the array
   that already holds the second layer's: what the kernel adds up over blocks of rows is the reference's product over all
   rows, and the second layer's part stays. -/
module

public import proofs.«01_k».proof.Defs
public import proofs.«01_k».proof.Proof.Rows
public import proofs.«01_k».proof.Proof.OutDw
public import proofs.«01_k».proof.Proof.Gen.Kernel16Ideal.Value
public import proofs.«01_k».proof.Proof.Gen.Reference16Ideal.Read
public import Idealize.ShloMosaic.Lib.Claim
public import Idealize.ShloMosaic.Lib.Pipeline.ReadBack
public import Idealize.ShloMosaic.Lib.Pipeline.FrameSuffix
public import Idealize.ShloMosaic.Lib.Ring

@[expose] public section

set_option maxRecDepth 16384
set_option maxHeartbeats 4000000

noncomputable section

namespace Cert.Kernel16Ideal.Value

open Idealize.ShloMosaic Idealize.ShloMosaic.TcCoe Idealize.SL.Sem
open Idealize.ShloMosaic.Pipeline (Dat)
open Cert.Kernel16Ideal Cert.Kernel16Ideal.Gen Cert.Rows
open Cert.Kernel7Ideal.Value (cat dw term dw_eq)

variable (m : (ℓ : Loc nD τ sig) → Buf (Elt Ideal) ℓ)

/-- The inputs as the program's start holds them. -/
abbrev A (c : Dev nD) : FVec Ideal S8704x512 .f32 := m ((c : Thread nD τ).loc main_arg0)
abbrev B (c : Dev nD) : FVec Ideal S8704x512 .f32 := m ((c : Thread nD τ).loc main_arg1)
abbrev Y (c : Dev nD) : FVec Ideal S8704x1024 .f32 := m ((c : Thread nD τ).loc main_arg2)
abbrev I (c : Dev nD) : FVec Ideal S2x1024x1024 .f32 := m ((c : Thread nD τ).loc main_arg3)

theorem idx : ∀ t : Fin cfg0.N, win0_0.index t = ![t.val, 0] ∧ win0_1.index t = ![t.val, 0] ∧ win0_2.index t = ![t.val, 0] ∧ win0_3.index t = ![0, 0, 0] :=
  (by decide +kernel : ∀ t : Fin grid0.N, _)

theorem tlt (t : Fin cfg0.N) : t.val < 8 := lt_of_lt_of_eq t.isLt N_0

theorem V_v0 (c : Dev nD) : (V m c main_v0 : FVec Ideal S8704x512 .bf16) = A m c := by
  unfold V
  simp only [hostOps0, List.flatten_cons, List.flatten_nil, List.cons_append, List.nil_append, List.append_nil]
  after_results_simp
  rfl

theorem V_v1 (c : Dev nD) : (V m c main_v1 : FVec Ideal S8704x512 .bf16) = B m c := by
  unfold V
  simp only [hostOps0, List.flatten_cons, List.flatten_nil, List.cons_append, List.nil_append, List.append_nil]
  after_results_simp
  rfl

theorem iblk0 (c : Dev nD) (t : Fin cfg0.N) (i : Fin 1088) (j : Fin 512) :
    (iblk m c 0 t : FVec Ideal S1088x512 .bf16) (ix2 i j) = at2 (cat (A m c) (B m c)) (t.val * 1088 + i.val) j.val := by
  have ht := tlt t
  rw [at2_mk _ _ _ (by omega) (by omega)]
  unfold cat
  rw [dif_pos (show j.val < 512 by omega), ← V_v0 m c]
  blk_ext [iblk, idx t]

theorem iblk1 (c : Dev nD) (t : Fin cfg0.N) (i : Fin 1088) (j : Fin 512) :
    (iblk m c 1 t : FVec Ideal S1088x512 .bf16) (ix2 i j) = at2 (cat (A m c) (B m c)) (t.val * 1088 + i.val) (512 + j.val) := by
  have ht := tlt t
  rw [at2_mk _ _ _ (by omega) (by omega)]
  unfold cat
  rw [dif_neg (show ¬512 + j.val < 512 by omega), ← V_v1 m c]
  blk_ext [iblk, idx t]

theorem iblk2 (c : Dev nD) (t : Fin cfg0.N) (i : Fin 1088) (j : Fin 1024) :
    (iblk m c 2 t : FVec Ideal S1088x1024 .f32) (ix2 i j) = at2 (fun r n => Y m c (ix2 r n)) (t.val * 1088 + i.val) j.val := by
  have ht := tlt t
  rw [at2_mk _ _ _ (by omega) (by omega)]
  blk_ext [iblk, idx t, V]

/-- One block of rows' addition to the entry. -/
def add (c : Dev nD) (p n : Fin 1024) (k : ℕ) : EReal := ∑ x : Fin 1088, term (A m c) (B m c) (Y m c) p.val n.val (k * 1088 + x.val)

theorem step2 (c : Dev nD) (t : Fin cfg0.N) (Z : FVec Ideal S1x512x1024 .f32) (i : Fin 512) (p n : Fin 1024) (hp : p.val = i.val) :
    k0_pay2 (F := Ideal) (iblk m c 0 t) Z (iblk m c 2 t) (ix3 0 i n) = Z (ix3 0 i n) + add m c p n t.val := by
  pointwise [k0_pay2]
  simp only [iblk0 m c t, iblk2 m c t, ← hp]
  rfl

theorem step3 (c : Dev nD) (t : Fin cfg0.N) (Z : FVec Ideal S1x512x1024 .f32) (i : Fin 512) (p n : Fin 1024) (hp : p.val = 512 + i.val) :
    k0_pay3 (F := Ideal) (iblk m c 1 t) Z (iblk m c 2 t) (ix3 0 i n) = Z (ix3 0 i n) + add m c p n t.val := by
  pointwise [k0_pay3]
  simp only [iblk1 m c t, iblk2 m c t, ← hp]
  rfl

/-- A later point adds its block's product to what stood there, half by half. -/
theorem outs_B (c : Dev nD) (t : Fin cfg0.N) (h : ¬t.val % 8 = 0) (p n : Fin 1024) :
    outsAt0 m c t.val t.isLt (ix3 0 p n)
      = ((outsAt0 m c (t.val - 1) (Nat.lt_of_le_of_lt (Nat.sub_le _ _) t.isLt) : FVec Ideal S1x1024x1024 .f32) (ix3 0 p n) + add m c p n t.val : EReal) := by
  rw [outsAt0_B m c t h]
  frame_out
  refine View.canon_eq_of_allAt (Val := Elt Ideal) (S := S1x1024x1024) (e := .f32) _ (ix3 0 p n) _ (View.cover_of_tiledL _ ![1, 512, 1024] rfl _) ?_
  refine View.allAt_cons_unit _ _ _ _ _ ?_ (View.allAt_cons_unit _ _ _ _ _ ?_ (View.allAt_nil _ _))
  · intro x h
    obtain ⟨z, i, j, rfl⟩ : ∃ (z : Fin 1) (i : Fin 512) (j : Fin 1024), x = ix3 z i j := ⟨x 0, x 1, x 2, eq_ix3 x⟩
    obtain rfl : z = 0 := Subsingleton.elim _ _
    obtain rfl : n = j := Fin.ext ((h 2).trans (Nat.zero_add _))
    have e1 : p.val = 512 + i.val := h 1
    refine (step3 m c t _ i p n e1).trans (congrArg (fun v : EReal => v + add m c p n t.val) ?_)
    exact View.ld_unit_apply_of _ _ _ _ _ _ h
  · intro x h
    obtain ⟨z, i, j, rfl⟩ : ∃ (z : Fin 1) (i : Fin 512) (j : Fin 1024), x = ix3 z i j := ⟨x 0, x 1, x 2, eq_ix3 x⟩
    obtain rfl : z = 0 := Subsingleton.elim _ _
    obtain rfl : n = j := Fin.ext ((h 2).trans (Nat.zero_add _))
    have e1 : p.val = i.val := (h 1).trans (Nat.zero_add _)
    refine (step2 m c t _ i p n e1).trans (congrArg (fun v : EReal => v + add m c p n t.val) ?_)
    exact View.ld_unit_apply_of _ _ _ _ _ _ h

/-- The first point fills the block with zeros and adds its product to them. -/
theorem outs_A (c : Dev nD) (t : Fin cfg0.N) (h : t.val % 8 = 0) (p n : Fin 1024) :
    outsAt0 m c t.val t.isLt (ix3 0 p n) = (0 + add m c p n t.val : EReal) := by
  rw [outsAt0_A m c t h]
  frame_out
  simp (disch := first | rfl | decide) only [View.readCov_skip, View.readCov_fill]
  refine canon_front (Val := Elt Ideal) (S := S1x1024x1024) (e := .f32) [_, _] _ (ix3 0 p n) _ (View.cover_of_tiledL _ ![1, 512, 1024] rfl _) ?_
  refine View.allAt_cons_unit _ _ _ _ _ ?_ (View.allAt_cons_unit _ _ _ _ _ ?_ (View.allAt_nil _ _))
  · intro x h
    obtain ⟨z, i, j, rfl⟩ : ∃ (z : Fin 1) (i : Fin 512) (j : Fin 1024), x = ix3 z i j := ⟨x 0, x 1, x 2, eq_ix3 x⟩
    obtain rfl : z = 0 := Subsingleton.elim _ _
    obtain rfl : n = j := Fin.ext ((h 2).trans (Nat.zero_add _))
    have e1 : p.val = 512 + i.val := h 1
    refine (step3 m c t _ i p n e1).trans (congrArg (fun v : EReal => v + add m c p n t.val) ?_)
    refine (View.ld_unit_apply_of _ _ _ _ _ _ h).trans ?_
    pointwise [k0_pay1]
  · intro x h
    obtain ⟨z, i, j, rfl⟩ : ∃ (z : Fin 1) (i : Fin 512) (j : Fin 1024), x = ix3 z i j := ⟨x 0, x 1, x 2, eq_ix3 x⟩
    obtain rfl : z = 0 := Subsingleton.elim _ _
    obtain rfl : n = j := Fin.ext ((h 2).trans (Nat.zero_add _))
    have e1 : p.val = i.val := (h 1).trans (Nat.zero_add _)
    refine (step2 m c t _ i p n e1).trans (congrArg (fun v : EReal => v + add m c p n t.val) ?_)
    refine (View.ld_unit_apply_of _ _ _ _ _ _ h).trans ?_
    pointwise [k0_pay1]

/-- What stands in the output block after the last point. -/
theorem run_last (c : Dev nD) (t : Fin cfg0.N) (h : t.val % 8 = 7) (p n : Fin 1024) :
    outsAt0 m c t.val t.isLt (ix3 0 p n) = dw (A m c) (B m c) (Y m c) p n := by
  have ht := tlt t
  refine (Pipeline.eq_sum_of_reset_step_divmod (fun n' h => (outsAt0 m c n' h (ix3 0 p n) : EReal)) 8 0
    (fun q k => add m c p n (q * 8 + k)) (fun t h => ?_) (fun t h => ?_) t).trans ?_
  · beta_reduce
    refine (outs_A m c t h p n).trans ?_
    rw [show t.val / 8 * 8 + t.val % 8 = t.val by omega]
  · beta_reduce
    refine (outs_B m c t h p n).trans ?_
    rw [show t.val / 8 * 8 + t.val % 8 = t.val by omega]
  · rw [h, show t.val / 8 = 0 by omega, ← dw_eq]
    refine (zero_add (_ : EReal)).trans (Finset.sum_congr rfl fun k _ => ?_)
    rw [Nat.zero_mul, Nat.zero_add]
    rfl

/-- The first layer's part of the output array after the last grid point. -/
theorem array (c : Dev nD) (p n : Fin 1024) :
    ((dats m 0 c).arrAt 3 (cfgs 0).N : FVec Ideal S2x1024x1024 .f32) (ix3 0 p n) = dw (A m c) (B m c) (Y m c) p n := by
  refine (dats m 0 c).arrAt_forall_of_coversWhere 3 (fun (x : S2x1024x1024.Idx) (v : EReal) => (x 0).val = 0 → ∀ (p n : Fin 1024),
      (x 1).val = p.val → (x 2).val = n.val → v = dw (A m c) (B m c) (Y m c) p n) (fun β => β (0 : Fin 3) = 0)
      (by decide +kernel) (fun t hf y => ?_) (fun j hj => ?_) (ix3 0 p n) (Memref.isWhole_whole _) rfl p n rfl rfl
  · blk_simp
    rw [after0_3]
    have e1 : win0_3.index t 1 = 0 := by rw [(idx t).2.2.2]; rfl
    have e2 : win0_3.index t 2 = 0 := by rw [(idx t).2.2.2]; rfl
    rw [e1, e2]
    intro _ p n hp hn
    have h3 : t.val % 8 = 7 := (by decide +kernel : ∀ t : Fin grid0.N, win0_3.flush t = true → t.val % 8 = 7) t hf
    obtain rfl : y 1 = p := Fin.ext (by rw [← hp]; omega)
    obtain rfl : y 2 = n := Fin.ext (by rw [← hn]; omega)
    have hy : y = ix3 0 (y 1) (y 2) := by
      rw [eq_ix3 y]
      congr 1
      exact Subsingleton.elim (α := Fin 1) _ _
    rw [hy]
    exact run_last m c t h3 (y 1) (y 2)
  · intro h
    exact absurd (by blk_simp [Pipeline.Window.cell_apply] at h ⊢; omega) hj

/-- The second layer's part stays as it was handed over. -/
theorem kept (c : Dev nD) (p : Fin 1024) (n : Fin 1024) :
    ((dats m 0 c).arrAt 3 (cfgs 0).N : FVec Ideal S2x1024x1024 .f32) (ix3 1 p n) = I m c (ix3 1 p n) := by
  refine (entry3 m c (ix3 1 p n) fun t hf hi => ?_).trans ?_
  · have e0 : win0_3.index t 0 = 0 := by rw [(idx t).2.2.2]; rfl
    mem_blk at hi
    have h := hi.1.2
    rw [e0] at h
    exact absurd h (show ¬(1 : ℕ) < 0 + 1 by decide)
  · unfold V
    simp only [hostOps0, List.flatten_cons, List.flatten_nil, List.cons_append, List.nil_append, List.append_nil]
    after_results_simp
    rfl

end Cert.Kernel16Ideal.Value

namespace Cert.Reference16Ideal.Plain

open Idealize.ShloMosaic Idealize.ShloMosaic.TcCoe Idealize.SL.Sem
open Cert.Reference16Ideal Cert.Reference16Ideal.Gen Cert.Reference16Ideal.Read

theorem v4_at (a b : FVec Ideal S8704x512 .f32) (d : FVec Ideal S8704x1024 .f32) (p n : Fin 1024) :
    val_main_v4 (F := Ideal) a b d (ix2 p n) = Cert.Kernel7Ideal.Value.dw a b d p n :=
  Cert.Reference7Ideal.Plain.v4_at ..

/-- The stacked result: the gradient in front, the array's second layer behind. -/
theorem stack_at (a b : FVec Ideal S8704x512 .f32) (d : FVec Ideal S8704x1024 .f32) (w : FVec Ideal S2x1024x1024 .f32) (p : Fin 1024) (n : Fin 1024) :
    val_main_v9 (F := Ideal) a b d w (ix3 0 p n) = Cert.Kernel7Ideal.Value.dw a b d p n := by
  pointwise [val_main_v9, val_main_v7]
  exact v4_at a b d p n

theorem stack_at' (a b : FVec Ideal S8704x512 .f32) (d : FVec Ideal S8704x1024 .f32) (w : FVec Ideal S2x1024x1024 .f32) (p : Fin 1024) (n : Fin 1024) :
    val_main_v9 (F := Ideal) a b d w (ix3 1 p n) = w (ix3 1 p n) := by
  pointwise [val_main_v9, val_main_v8, val_main_v6, val_main_v5]

end Cert.Reference16Ideal.Plain

namespace Cert.Proof.OutDw0

open Idealize.ShloMosaic Idealize.ShloMosaic.TcCoe Idealize.SL.Sem

open Cert.Kernel16Ideal.Value (A B Y I) in
theorem same (m : (ℓ : Loc Cert.Kernel16Ideal.nD Cert.Kernel16Ideal.τ Cert.Kernel16Ideal.sig) → Buf (Elt Ideal) ℓ) (c : Dev Cert.Kernel16Ideal.nD) (l : Fin 2) (p : Fin 1024) (n : Fin 1024) :
    Cert.Reference16Ideal.Read.val_main_v9 (F := Ideal) (A m c) (B m c) (Y m c) (I m c) (ix3 l p n)
      = ((Cert.Kernel16Ideal.Gen.dats m 0 c).arrAt 3 (Cert.Kernel16Ideal.cfgs 0).N : FVec Ideal Cert.Kernel16Ideal.S2x1024x1024 .f32) (ix3 l p n) :=
  match l with
  | 0 => (Cert.Reference16Ideal.Plain.stack_at ..).trans (Cert.Kernel16Ideal.Value.array m c p n).symm
  | 1 => (Cert.Reference16Ideal.Plain.stack_at' ..).trans (Cert.Kernel16Ideal.Value.kept m c p n).symm

/-- At the ideal instance the kernel's array is the reference's. -/
theorem algebraic : Cert.algebraic_Kernel16Ideal_Reference16Ideal := by
  pair_intro
  · run_from Cert.Kernel16Ideal.Value.run_blocks m g
  · run_from Cert.Reference16Ideal.Value.run m' g'
    · rw [Cert.Reference16Ideal.Read.val_main_v9_eq, (hagree c).2.2.2]
      funext i
      rw [eq_ix3 i]
      exact same m c (i 0) (i 1) (i 2)

end Cert.Proof.OutDw0

end
-- ==== Proof.InDw0.lean ====
/- The gradient of the first layer's joint input projection, written into the array
   that already holds the second layer's: what the kernel adds up over blocks of rows is the reference's product over all
   rows, and the second layer's part stays. -/
module

public import proofs.«01_k».proof.Defs
public import proofs.«01_k».proof.Proof.Rows
public import proofs.«01_k».proof.Proof.InDw
public import proofs.«01_k».proof.Proof.Gen.Kernel17Ideal.Value
public import proofs.«01_k».proof.Proof.Gen.Reference17Ideal.Read
public import Idealize.ShloMosaic.Lib.Claim
public import Idealize.ShloMosaic.Lib.Pipeline.ReadBack
public import Idealize.ShloMosaic.Lib.Pipeline.FrameSuffix
public import Idealize.ShloMosaic.Lib.Ring

@[expose] public section

set_option maxRecDepth 16384
set_option maxHeartbeats 4000000

noncomputable section

namespace Cert.Kernel17Ideal.Value

open Idealize.ShloMosaic Idealize.ShloMosaic.TcCoe Idealize.SL.Sem
open Idealize.ShloMosaic.Pipeline (Dat)
open Cert.Kernel17Ideal Cert.Kernel17Ideal.Gen Cert.Rows
open Cert.Kernel8Ideal.Value (hn cat dw term dw_eq)

variable (m : (ℓ : Loc nD τ sig) → Buf (Elt Ideal) ℓ)

/-- The inputs as the program's start holds them. -/
abbrev X (c : Dev nD) : FVec Ideal S8704x1024 .f32 := m ((c : Thread nD τ).loc main_arg0)
abbrev G (c : Dev nD) : FVec Ideal S1024 .f32 := m ((c : Thread nD τ).loc main_arg1)
abbrev U (c : Dev nD) : FVec Ideal S8704x1024 .f32 := m ((c : Thread nD τ).loc main_arg2)
abbrev Q (c : Dev nD) : FVec Ideal S8704x512 .f32 := m ((c : Thread nD τ).loc main_arg3)
abbrev K (c : Dev nD) : FVec Ideal S8704x512 .f32 := m ((c : Thread nD τ).loc main_arg4)
abbrev W (c : Dev nD) : FVec Ideal S8704x512 .f32 := m ((c : Thread nD τ).loc main_arg5)
abbrev I (c : Dev nD) : FVec Ideal S2x1024x2560 .f32 := m ((c : Thread nD τ).loc main_arg6)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] :=
  (by decide +kernel : ∀ t : Fin grid0.N, _)

theorem tlt (t : Fin cfg0.N) : t.val < 8 := lt_of_lt_of_eq t.isLt N_0

theorem V_v13 (c : Dev nD) (r : Fin 8704) (j : Fin 1024) : (V m c main_v13 : FVec Ideal S8704x1024 .bf16) (ix2 r j) = hn (X m c) (G m c) r j := by
  unfold V
  simp only [hostOps0, List.flatten_cons, List.flatten_nil, List.cons_append, List.nil_append, List.append_nil]
  after_results_simp
  rfl

theorem iblk0 (c : Dev nD) (t : Fin cfg0.N) (i : Fin 1088) (j : Fin 1024) :
    (iblk m c 0 t : FVec Ideal S1088x1024 .bf16) (ix2 i j) = at2 (hn (X m c) (G m c)) (t.val * 1088 + i.val) j.val := by
  have ht := tlt t
  rw [at2_mk _ _ _ (by omega) (by omega)]
  refine Eq.trans (b := (V m c main_v13 : FVec Ideal S8704x1024 .bf16) (ix2 ⟨t.val * 1088 + i.val, by omega⟩ ⟨j.val, by omega⟩)) ?_ (V_v13 m c _ _)
  blk_ext [iblk, idx t]

theorem V_v14 (c : Dev nD) : (V m c main_v14 : FVec Ideal S8704x1024 .bf16) = U m c := by
  unfold V
  simp only [hostOps0, List.flatten_cons, List.flatten_nil, List.cons_append, List.nil_append, List.append_nil]
  after_results_simp
  rfl

theorem iblk1 (c : Dev nD) (t : Fin cfg0.N) (i : Fin 1088) (j : Fin 1024) :
    (iblk m c 1 t : FVec Ideal S1088x1024 .bf16) (ix2 i j) = at2 (cat (U m c) (Q m c) (K m c) (W m c)) (t.val * 1088 + i.val) j.val := by
  have ht := tlt t
  rw [at2_mk _ _ _ (by omega) (by omega)]
  unfold cat
  rw [dif_pos (show j.val < 1024 by omega), ← V_v14 m c]
  blk_ext [iblk, idx t]

theorem V_v15 (c : Dev nD) : (V m c main_v15 : FVec Ideal S8704x512 .bf16) = Q m c := by
  unfold V
  simp only [hostOps0, List.flatten_cons, List.flatten_nil, List.cons_append, List.nil_append, List.append_nil]
  after_results_simp
  rfl

theorem iblk2 (c : Dev nD) (t : Fin cfg0.N) (i : Fin 1088) (j : Fin 512) :
    (iblk m c 2 t : FVec Ideal S1088x512 .bf16) (ix2 i j) = at2 (cat (U m c) (Q m c) (K m c) (W m c)) (t.val * 1088 + i.val) (1024 + j.val) := by
  have ht := tlt t
  rw [at2_mk _ _ _ (by omega) (by omega)]
  unfold cat
  rw [dif_neg (show ¬1024 + j.val < 1024 by omega), dif_pos (show 1024 + j.val < 1536 by omega), ← V_v15 m c]
  blk_ext [iblk, idx t]

theorem V_v16 (c : Dev nD) : (V m c main_v16 : FVec Ideal S8704x512 .bf16) = K m c := by
  unfold V
  simp only [hostOps0, List.flatten_cons, List.flatten_nil, List.cons_append, List.nil_append, List.append_nil]
  after_results_simp
  rfl

theorem iblk3 (c : Dev nD) (t : Fin cfg0.N) (i : Fin 1088) (j : Fin 512) :
    (iblk m c 3 t : FVec Ideal S1088x512 .bf16) (ix2 i j) = at2 (cat (U m c) (Q m c) (K m c) (W m c)) (t.val * 1088 + i.val) (1536 + j.val) := by
  have ht := tlt t
  rw [at2_mk _ _ _ (by omega) (by omega)]
  unfold cat
  rw [dif_neg (show ¬1536 + j.val < 1024 by omega), dif_neg (show ¬1536 + j.val < 1536 by omega), dif_pos (show 1536 + j.val < 2048 by omega), ← V_v16 m c]
  blk_ext [iblk, idx t]

theorem V_v17 (c : Dev nD) : (V m c main_v17 : FVec Ideal S8704x512 .bf16) = W m c := by
  unfold V
  simp only [hostOps0, List.flatten_cons, List.flatten_nil, List.cons_append, List.nil_append, List.append_nil]
  after_results_simp
  rfl

theorem iblk4 (c : Dev nD) (t : Fin cfg0.N) (i : Fin 1088) (j : Fin 512) :
    (iblk m c 4 t : FVec Ideal S1088x512 .bf16) (ix2 i j) = at2 (cat (U m c) (Q m c) (K m c) (W m c)) (t.val * 1088 + i.val) (2048 + j.val) := by
  have ht := tlt t
  rw [at2_mk _ _ _ (by omega) (by omega)]
  unfold cat
  rw [dif_neg (show ¬2048 + j.val < 1024 by omega), dif_neg (show ¬2048 + j.val < 1536 by omega), dif_neg (show ¬2048 + j.val < 2048 by omega), ← V_v17 m c]
  blk_ext [iblk, idx t]

/-- One block of rows' addition to the entry. -/
def add (c : Dev nD) (p : Fin 1024) (n : Fin 2560) (s : ℕ) : EReal :=
  ∑ i : Fin 1088, term (X m c) (G m c) (U m c) (Q m c) (K m c) (W m c) p.val n.val (s * 1088 + i.val)

theorem step5 (c : Dev nD) (t : Fin cfg0.N) (Z : FVec Ideal S1x1024x1024 .f32) (p : Fin 1024) (j : Fin 1024) (n : Fin 2560) (hn : n.val = j.val) :
    k0_pay5 (F := Ideal) (iblk m c 0 t) Z (iblk m c 1 t) (ix3 0 p j) = Z (ix3 0 p j) + add m c p n t.val := by
  pointwise [k0_pay5, k0_pay4]
  simp only [iblk0 m c t, iblk1 m c t, ← hn]
  rfl

theorem step6 (c : Dev nD) (t : Fin cfg0.N) (Z : FVec Ideal S1x1024x512 .f32) (p : Fin 1024) (j : Fin 512) (n : Fin 2560) (hn : n.val = 1024 + j.val) :
    k0_pay6 (F := Ideal) (iblk m c 0 t) Z (iblk m c 2 t) (ix3 0 p j) = Z (ix3 0 p j) + add m c p n t.val := by
  pointwise [k0_pay6, k0_pay4]
  simp only [iblk0 m c t, iblk2 m c t, ← hn]
  rfl

theorem step1 (c : Dev nD) (t : Fin cfg0.N) (Z : FVec Ideal S1x1024x512 .f32) (p : Fin 1024) (j : Fin 512) (n : Fin 2560) (hn : n.val = 1536 + j.val) :
    k0_pay1 (F := Ideal) (k0_pay7 Z) (k0_pay8 (iblk m c 0 t) (iblk m c 3 t)) (ix3 0 p j) = Z (ix3 0 p j) + add m c p n t.val := by
  pointwise [k0_pay1, k0_pay7, k0_pay8, k0_pay4]
  simp only [iblk0 m c t, iblk3 m c t, ← hn]
  rfl

theorem step2 (c : Dev nD) (t : Fin cfg0.N) (Z : FVec Ideal S1x1024x512 .f32) (p : Fin 1024) (j : Fin 512) (n : Fin 2560) (hn : n.val = 2048 + j.val) :
    k0_pay2 (F := Ideal) (k0_pay4 (iblk m c 0 t)) Z (iblk m c 4 t) (ix3 0 p j) = Z (ix3 0 p j) + add m c p n t.val := by
  pointwise [k0_pay2, k0_pay4]
  simp only [iblk0 m c t, iblk4 m c t, ← hn]
  rfl

/-- A later point adds its block's product to what stood there, one range of columns after the other. -/
theorem outs_B (c : Dev nD) (t : Fin cfg0.N) (h : ¬t.val % 8 = 0) (p : Fin 1024) (n : Fin 2560) :
    outsAt0 m c t.val t.isLt (ix3 0 p n)
      = ((outsAt0 m c (t.val - 1) (Nat.lt_of_le_of_lt (Nat.sub_le _ _) t.isLt) : FVec Ideal S1x1024x2560 .f32) (ix3 0 p n) + add m c p n t.val : EReal) := by
  rw [outsAt0_B m c t h]
  frame_out
  refine View.canon_eq_of_allAt (Val := Elt Ideal) (S := S1x1024x2560) (e := .f32) _ (ix3 0 p n) _ (View.cover_of_tiledBy _ ![1, 1024, 512] (by sl_kernel_rfl) _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step2 m c t _ p j n (h 2)).trans (congrArg (fun v : EReal => v + add m c p n t.val) ?_)
    exact View.ld_unit_apply_of _ _ _ _ _ _ h
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step1 m c t _ p j n (h 2)).trans (congrArg (fun v : EReal => v + add m c p n t.val) ?_)
    exact View.ld_unit_apply_of _ _ _ _ _ _ h
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step6 m c t _ p j n (h 2)).trans (congrArg (fun v : EReal => v + add m c p n t.val) ?_)
    exact View.ld_unit_apply_of _ _ _ _ _ _ h
  · intro x h
    obtain ⟨z, i, j, rfl⟩ : ∃ (z : Fin 1) (i : Fin 1024) (j : Fin 1024), x = ix3 z i j := ⟨x 0, x 1, x 2, eq_ix3 x⟩
    obtain rfl : z = 0 := Subsingleton.elim _ _
    obtain rfl : p = i := Fin.ext ((h 1).trans (Nat.zero_add _))
    refine (step5 m c t _ p j n ((h 2).trans (Nat.zero_add _))).trans (congrArg (fun v : EReal => v + add m c p n t.val) ?_)
    exact View.ld_unit_apply_of _ _ _ _ _ _ h

/-- The first point fills the block with zeros and adds its product to them. -/
theorem outs_A (c : Dev nD) (t : Fin cfg0.N) (h : t.val % 8 = 0) (p : Fin 1024) (n : Fin 2560) :
    outsAt0 m c t.val t.isLt (ix3 0 p n) = (0 + add m c p n t.val : EReal) := by
  rw [outsAt0_A m c t h]
  frame_out
  simp (disch := first | rfl | decide) only [View.readCov_skip, View.readCov_fill]
  refine canon_front (Val := Elt Ideal) (S := S1x1024x2560) (e := .f32) [_, _, _, _] _ (ix3 0 p n) _ (View.cover_of_tiledBy _ ![1, 1024, 512] (by sl_kernel_rfl) _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step2 m c t _ p j n (h 2)).trans (congrArg (fun v : EReal => v + add m c p n t.val) ?_)
    refine (View.ld_unit_apply_of _ _ _ _ _ _ h).trans ?_
    pointwise [k0_pay3]
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step1 m c t _ p j n (h 2)).trans (congrArg (fun v : EReal => v + add m c p n t.val) ?_)
    refine (View.ld_unit_apply_of _ _ _ _ _ _ h).trans ?_
    pointwise [k0_pay3]
  · intro x h
    obtain ⟨z, i, j, rfl⟩ : ∃ (z : Fin 1) (i : Fin 1024) (j : Fin 512), x = ix3 z i j := ⟨x 0, x 1, x 2, eq_ix3 x⟩
    obtain rfl : z = 0 := Subsingleton.elim _ _
    obtain rfl : p = i := Fin.ext ((h 1).trans (Nat.zero_add _))
    refine (step6 m c t _ p j n (h 2)).trans (congrArg (fun v : EReal => v + add m c p n t.val) ?_)
    refine (View.ld_unit_apply_of _ _ _ _ _ _ h).trans ?_
    pointwise [k0_pay3]
  · intro x h
    obtain ⟨z, i, j, rfl⟩ : ∃ (z : Fin 1) (i : Fin 1024) (j : Fin 1024), x = ix3 z i j := ⟨x 0, x 1, x 2, eq_ix3 x⟩
    obtain rfl : z = 0 := Subsingleton.elim _ _
    obtain rfl : p = i := Fin.ext ((h 1).trans (Nat.zero_add _))
    refine (step5 m c t _ p j n ((h 2).trans (Nat.zero_add _))).trans (congrArg (fun v : EReal => v + add m c p n t.val) ?_)
    refine (View.ld_unit_apply_of _ _ _ _ _ _ h).trans ?_
    pointwise [k0_pay3]

/-- What stands in the output block after the last point. -/
theorem run_last (c : Dev nD) (t : Fin cfg0.N) (h : t.val % 8 = 7) (p : Fin 1024) (n : Fin 2560) :
    outsAt0 m c t.val t.isLt (ix3 0 p n) = dw (X m c) (G m c) (U m c) (Q m c) (K m c) (W m c) p n := by
  have ht := tlt t
  refine (Pipeline.eq_sum_of_reset_step_divmod (fun n' h => (outsAt0 m c n' h (ix3 0 p n) : EReal)) 8 0
    (fun q k => add m c p n (q * 8 + k)) (fun t h => ?_) (fun t h => ?_) t).trans ?_
  · beta_reduce
    refine (outs_A m c t h p n).trans ?_
    rw [show t.val / 8 * 8 + t.val % 8 = t.val by omega]
  · beta_reduce
    refine (outs_B m c t h p n).trans ?_
    rw [show t.val / 8 * 8 + t.val % 8 = t.val by omega]
  · rw [h, show t.val / 8 = 0 by omega, ← dw_eq]
    refine (zero_add (_ : EReal)).trans (Finset.sum_congr rfl fun k _ => ?_)
    rw [Nat.zero_mul, Nat.zero_add]
    rfl

/-- The first layer's part of the output array after the last grid point. -/
theorem array (c : Dev nD) (p : Fin 1024) (n : Fin 2560) :
    ((dats m 0 c).arrAt 5 (cfgs 0).N : FVec Ideal S2x1024x2560 .f32) (ix3 0 p n) = dw (X m c) (G m c) (U m c) (Q m c) (K m c) (W m c) p n := by
  refine (dats m 0 c).arrAt_forall_of_coversWhere 5 (fun (x : S2x1024x2560.Idx) (v : EReal) => (x 0).val = 0 → ∀ (p : Fin 1024) (n : Fin 2560),
      (x 1).val = p.val → (x 2).val = n.val → v = dw (X m c) (G m c) (U m c) (Q m c) (K m c) (W m c) p n) (fun β => β (0 : Fin 3) = 0)
      (by decide +kernel) (fun t hf y => ?_) (fun j hj => ?_) (ix3 0 p n) (Memref.isWhole_whole _) rfl p n rfl rfl
  · blk_simp
    rw [after0_5]
    have e1 : win0_5.index t 1 = 0 := by rw [(idx t).2.2.2.2.2]; rfl
    have e2 : win0_5.index t 2 = 0 := by rw [(idx t).2.2.2.2.2]; rfl
    rw [e1, e2]
    intro _ p n hp hn
    have h3 : t.val % 8 = 7 := (by decide +kernel : ∀ t : Fin grid0.N, win0_5.flush t = true → t.val % 8 = 7) t hf
    obtain rfl : y 1 = p := Fin.ext (by rw [← hp]; omega)
    obtain rfl : y 2 = n := Fin.ext (by rw [← hn]; omega)
    have hy : y = ix3 0 (y 1) (y 2) := by
      rw [eq_ix3 y]
      congr 1
      exact Subsingleton.elim (α := Fin 1) _ _
    rw [hy]
    exact run_last m c t h3 (y 1) (y 2)
  · intro h
    exact absurd (by blk_simp [Pipeline.Window.cell_apply] at h ⊢; omega) hj

/-- The second layer's part stays as it was handed over. -/
theorem kept (c : Dev nD) (p : Fin 1024) (n : Fin 2560) :
    ((dats m 0 c).arrAt 5 (cfgs 0).N : FVec Ideal S2x1024x2560 .f32) (ix3 1 p n) = I m c (ix3 1 p n) := by
  refine (entry5 m c (ix3 1 p n) fun t hf hi => ?_).trans ?_
  · have e0 : win0_5.index t 0 = 0 := by rw [(idx t).2.2.2.2.2]; rfl
    mem_blk at hi
    have h := hi.1.2
    rw [e0] at h
    exact absurd h (show ¬(1 : ℕ) < 0 + 1 by decide)
  · unfold V
    simp only [hostOps0, List.flatten_cons, List.flatten_nil, List.cons_append, List.nil_append, List.append_nil]
    after_results_simp
    rfl

end Cert.Kernel17Ideal.Value

namespace Cert.Reference17Ideal.Plain

open Idealize.ShloMosaic Idealize.ShloMosaic.TcCoe Idealize.SL.Sem
open Cert.Reference17Ideal Cert.Reference17Ideal.Gen Cert.Reference17Ideal.Read

theorem v17_at (x : FVec Ideal S8704x1024 .f32) (g : FVec Ideal S1024 .f32) (u : FVec Ideal S8704x1024 .f32) (q k v : FVec Ideal S8704x512 .f32) (p : Fin 1024) (n : Fin 2560) :
    val_main_v17 (F := Ideal) x g u q k v (ix2 p n) = Cert.Kernel8Ideal.Value.dw x g u q k v p n :=
  Cert.Reference8Ideal.Plain.v17_at ..

/-- The stacked result: the gradient in front, the array's second layer behind. -/
theorem stack_at (x : FVec Ideal S8704x1024 .f32) (g : FVec Ideal S1024 .f32) (u : FVec Ideal S8704x1024 .f32) (q k v : FVec Ideal S8704x512 .f32) (w : FVec Ideal S2x1024x2560 .f32) (p : Fin 1024) (n : Fin 2560) :
    val_main_v22 (F := Ideal) x g u q k v w (ix3 0 p n) = Cert.Kernel8Ideal.Value.dw x g u q k v p n := by
  pointwise [val_main_v22, val_main_v20]
  exact v17_at x g u q k v p n

theorem stack_at' (x : FVec Ideal S8704x1024 .f32) (g : FVec Ideal S1024 .f32) (u : FVec Ideal S8704x1024 .f32) (q k v : FVec Ideal S8704x512 .f32) (w : FVec Ideal S2x1024x2560 .f32) (p : Fin 1024) (n : Fin 2560) :
    val_main_v22 (F := Ideal) x g u q k v w (ix3 1 p n) = w (ix3 1 p n) := by
  pointwise [val_main_v22, val_main_v21, val_main_v19, val_main_v18]

end Cert.Reference17Ideal.Plain

namespace Cert.Proof.InDw0

open Idealize.ShloMosaic Idealize.ShloMosaic.TcCoe Idealize.SL.Sem

open Cert.Kernel17Ideal.Value (X G U Q K W I) in
theorem same (m : (ℓ : Loc Cert.Kernel17Ideal.nD Cert.Kernel17Ideal.τ Cert.Kernel17Ideal.sig) → Buf (Elt Ideal) ℓ) (c : Dev Cert.Kernel17Ideal.nD) (l : Fin 2) (p : Fin 1024) (n : Fin 2560) :
    Cert.Reference17Ideal.Read.val_main_v22 (F := Ideal) (X m c) (G m c) (U m c) (Q m c) (K m c) (W m c) (I m c) (ix3 l p n)
      = ((Cert.Kernel17Ideal.Gen.dats m 0 c).arrAt 5 (Cert.Kernel17Ideal.cfgs 0).N : FVec Ideal Cert.Kernel17Ideal.S2x1024x2560 .f32) (ix3 l p n) :=
  match l with
  | 0 => (Cert.Reference17Ideal.Plain.stack_at ..).trans (Cert.Kernel17Ideal.Value.array m c p n).symm
  | 1 => (Cert.Reference17Ideal.Plain.stack_at' ..).trans (Cert.Kernel17Ideal.Value.kept m c p n).symm

/-- At the ideal instance the kernel's array is the reference's. -/
theorem algebraic : Cert.algebraic_Kernel17Ideal_Reference17Ideal := by
  pair_intro
  · run_from Cert.Kernel17Ideal.Value.run_blocks m g
  · run_from Cert.Reference17Ideal.Value.run m' g'
    · rw [Cert.Reference17Ideal.Read.val_main_v22_eq, (hagree c).2.2.2.2.1, (hagree c).2.2.2.2.2.1, (hagree c).2.2.2.2.2.2]
      funext i
      rw [eq_ix3 i]
      exact same m c (i 0) (i 1) (i 2)

end Cert.Proof.InDw0

end
-- ==== Proof.Spec.lean ====
/- What the gradient of the gated convolution and of the multi-scale pooling IS, as plain formulas over numbered
   rows.  No program is named here: the kernel's arrays (Arrays.lean) and the reference's (Ref.lean) are both shown
   to hold these formulas. -/
module

public import Idealize.ShloMosaic.Lib.Pointwise
public import Idealize.ShloMosaic.Lib.Pipeline.ValueKit

@[expose] public section

noncomputable section

namespace Cert.ConvPool

open Idealize.ShloMosaic

/-- A `[4, 2064, 1024]` array read at natural numbers, with the 112 zero rows in front that fill a sequence up to
    2176 rows: row `q` of sequence `b` is row `q - 112` of the array, and everything outside is zero. -/
def padded (x : Fin 4 → Fin 2064 → Fin 1024 → EReal) (b q c : ℕ) : EReal :=
  if h : b < 4 ∧ 112 ≤ q ∧ q < 2176 ∧ c < 1024 then x ⟨b, h.1⟩ ⟨q - 112, by omega⟩ ⟨c, h.2.2.2⟩ else 0

variable (U D : ℕ → ℕ → ℕ → EReal) (w : ℕ → ℕ → EReal) (W : ℕ → ℕ → ℕ → EReal) (ps : ℕ → EReal)

/-- The gated input of the convolution, `c_c * c_x`. -/
def gated (b q c : ℕ) : EReal := U b q (256 + c) * U b q (512 + c)

/-- The causal depthwise convolution of width three. -/
def conv (b q c : ℕ) : EReal := w 0 c * gated U b (q - 2) c + w 1 c * gated U b (q - 1) c + w 2 c * gated U b q c

/-- The cotangent of the convolution's result. -/
def dconv (b q c : ℕ) : EReal := D b q c * U b q c

/-- The cotangent of the gated input: the convolution's transpose. -/
def dgated (b q c : ℕ) : EReal := w 2 c * dconv U D b q c + w 1 c * dconv U D b (q + 1) c + w 0 c * dconv U D b (q + 2) c

/-- The window of a channel: 2, 4, 8 and 16 rows for the four groups of 64 channels. -/
def win (c : ℕ) : ℕ := 2 ^ (c / 64 + 1)

/-- How many rows of the sequence lie in the window that ends at row `q`. -/
def cnt (q c : ℕ) : EReal := (((min (q - 111) (win c) : ℕ) : ℝ) : EReal)

/-- The windowed mean minus the row itself, and zero in front of the sequence. -/
def pooled (b q c : ℕ) : EReal :=
  if 112 ≤ q then Ideal.div (∑ k ∈ Finset.range (win c), U b (q - k) (768 + c)) (cnt q c) - U b q (768 + c) else 0

/-- The group matrices as one block-diagonal matrix. -/
def mix (c d : ℕ) : EReal := if c / 64 = d / 64 then W (d / 64) (c % 64) (d % 64) else 0

/-- The cotangent of the group product's result: the output scale applied. -/
def dpre (b q d : ℕ) : EReal := D b q (256 + d) * ps d

/-- The cotangent of `pooled`, zero outside the sequence. -/
def dpool (b q c : ℕ) : EReal :=
  if 112 ≤ q ∧ q < 2176 then ∑ d ∈ Finset.range 256, dpre D ps b q d * mix W c d else 0

/-- What a row's mean hands back to each row of its window. -/
def spread (b q c : ℕ) : EReal := Ideal.div (dpool D W ps b q c) (cnt q c)

/-- The gradient of the block's four input parts, side by side. -/
def du (b q c : ℕ) : EReal :=
  if c < 256 then D b q c * conv U w b q c
  else if c < 512 then dgated U D w b q (c - 256) * U b q (c + 256)
  else if c < 768 then dgated U D w b q (c - 512) * U b q (c - 256)
  else (∑ k ∈ Finset.range (win (c - 768)), spread D W ps b (q + k) (c - 768)) - dpool D W ps b q (c - 768)

/-- One row's part of the gradient of tap `k` of the convolution. -/
def dtap (k c b q : ℕ) : EReal := dconv U D b q c * gated U b (q - (2 - k)) c

/-- One row's part of the gradient of the output scale. -/
def dscale (d b q : ℕ) : EReal := D b q (256 + d) * ∑ c ∈ Finset.range 256, pooled U b q c * mix W c d

/-- One row's part of the gradient of the group matrices, over all pairs of channels. -/
def dmix (c d b q : ℕ) : EReal := pooled U b q c * dpre D ps b q d

/-- The sum over the rows of the four sequences. -/
def rows (f : ℕ → ℕ → EReal) : EReal := ∑ b ∈ Finset.range 4, ∑ q ∈ Finset.range 2176, f b q

end Cert.ConvPool
-- ==== Proof.Blocks.lean ====
/- What the kernel's blocks hold: the rows of the two zero-extended inputs that a grid point reads, the taps, the
   block-diagonal matrix and the scale, each as a number-indexed function of the program's arguments. -/
module

public import proofs.«01_k».proof.Proof.Gen.KernelIdeal.Frame
public import proofs.«01_k».proof.Proof.Spec

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.ConvPool

variable (m : (ℓ : Loc nD τ sig) → Buf (Elt Ideal) ℓ)

/-- The block's input, its rows numbered with the zero rows in front. -/
abbrev U (c : Dev nD) : ℕ → ℕ → ℕ → EReal :=
  padded fun b t j => (m ((c : Thread nD τ).loc main_arg0) : FVec Ideal S4x2064x1024 .f32) (ix3 b t j)

/-- The cotangent, likewise. -/
abbrev D (c : Dev nD) : ℕ → ℕ → ℕ → EReal :=
  padded fun b t j => (m ((c : Thread nD τ).loc main_arg1) : FVec Ideal S4x2064x1024 .f32) (ix3 b t j)

/-- The convolution's taps. -/
abbrev w (c : Dev nD) : ℕ → ℕ → EReal := fun k j =>
  if h : k < 3 ∧ j < 256 then (m ((c : Thread nD τ).loc main_arg2) : FVec Ideal S3x256 .f32) (ix2 ⟨k, h.1⟩ ⟨j, h.2⟩) else 0

/-- The group matrices. -/
abbrev W (c : Dev nD) : ℕ → ℕ → ℕ → EReal := fun g i j =>
  if h : g < 4 ∧ i < 64 ∧ j < 64 then
    (m ((c : Thread nD τ).loc main_arg3) : FVec Ideal S4x64x64 .f32) (ix3 ⟨g, h.1⟩ ⟨i, h.2.1⟩ ⟨j, h.2.2⟩) else 0

/-- The output scale. -/
abbrev ps (c : Dev nD) : ℕ → EReal := fun j =>
  if h : j < 256 then (m ((c : Thread nD τ).loc main_arg4) : FVec Ideal S256 .f32) (ix1 ⟨j, h⟩) else 0

/-- The zero rows put in front of each of the four sequences, the rows then numbered through. -/
abbrev front (x : FVec Ideal S4x2064x1024 .f32) : FVec Ideal S8704x1024 .f32 :=
  shapeCast S8704x1024
    (pad S4x2176x1024 ![0, 112, 0] ![0, 0, 0] ![0, 0, 0] x (sitofp .f32 (constantI S_ 32 0#32) : FVec Ideal S_ .f32)
      pads_S4x2064x1024_S4x2176x1024_000_11200_000 h_S_) shapeCasts_S4x2176x1024_S8704x1024

theorem front_apply (x : FVec Ideal S4x2064x1024 .f32) (j : S8704x1024.Idx) :
    front x j = padded (fun b t j => x (ix3 b t j)) ((j 0).val / 2176) ((j 0).val % 2176) (j 1).val := by
  pointwise [padded]
  have h0 := (j 0).isLt
  split_ifs with h1 h2 h2
  · rfl
  · omega
  · omega
  · show (((0#32 : BitVec 32).toInt : ℝ) : EReal) = 0
    simp

theorem V_v1 (c : Dev nD) : V m c main_v1 = front (m ((c : Thread nD τ).loc main_arg0)) := by
  unfold V V0
  simp only [hostOps0, hostOps0_1, hostOps0_2, hostOps0_3, hostOps0_4, List.flatten_cons, List.flatten_nil, List.cons_append, List.nil_append, List.append_nil]
  after_results_simp
  rfl

theorem V_v3 (c : Dev nD) : V m c main_v3 = front (m ((c : Thread nD τ).loc main_arg1)) := by
  unfold V V0
  simp only [hostOps0, hostOps0_1, hostOps0_2, hostOps0_3, hostOps0_4, List.flatten_cons, List.flatten_nil, List.cons_append, List.nil_append, List.append_nil]
  after_results_simp
  rfl

theorem eye (a b : ℕ) (ha : a < 4) (hb : b < 4) :
    (FloatOps.uitofp .f32 (IntOp.cmpi .eq (IntOp.addi (BitVec.ofNat 32 a) 0#32) (BitVec.ofNat 32 b)) : Ideal .f32) = if a = b then (1 : EReal) else 0 := by
  show (((IntOp.cmpi .eq (IntOp.addi (BitVec.ofNat 32 a) 0#32) (BitVec.ofNat 32 b)).toNat : ℝ) : EReal) = _
  interval_cases a <;> interval_cases b <;> simp [IntOp.cmpi, IntOp.addi]

/-- A group's matrix, or zero between two groups. -/
theorem mix_apply (x : FVec Ideal S4x64x64 .f32) (a b : Fin 256) :
    (FloatOps.uitofp .f32 (IntOp.cmpi .eq (IntOp.addi (BitVec.ofNat 32 (a.val / 64)) 0#32) (BitVec.ofNat 32 (b.val / 64))) : Ideal .f32)
        * x (ix3 ⟨a.val / 64, by omega⟩ ⟨a.val % 64, by omega⟩ ⟨b.val % 64, by omega⟩)
      = mix (fun g i j => if h : g < 4 ∧ i < 64 ∧ j < 64 then x (ix3 ⟨g, h.1⟩ ⟨i, h.2.1⟩ ⟨j, h.2.2⟩) else 0) a.val b.val := by
  rw [eye _ _ (by omega) (by omega)]
  have h0 := a.isLt
  have h1 := b.isLt
  unfold mix
  beta_reduce
  rw [dif_pos (⟨by omega, by omega, by omega⟩ : b.val / 64 < 4 ∧ a.val % 64 < 64 ∧ b.val % 64 < 64)]
  split_ifs with h
  · rw [one_mul]
    simp only [h]
  · rw [zero_mul]

theorem V_v16 (c : Dev nD) (j : S256x256.Idx) : (V m c main_v16 : FVec Ideal S256x256 .bf16) j = mix (W m c) (j 0).val (j 1).val := by
  unfold V V0
  simp only [hostOps0, hostOps0_1, hostOps0_2, hostOps0_3, hostOps0_4, List.flatten_cons, List.flatten_nil, List.cons_append, List.nil_append, List.append_nil]
  after_results_simp
  pointwise
  idx_vars j
  exact mix_apply _ _ _

theorem V_v17 (c : Dev nD) (j : S1x256.Idx) : (V m c main_v17 : FVec Ideal S1x256 .f32) j = ps m c (j 1).val := by
  unfold V V0
  simp only [hostOps0, hostOps0_1, hostOps0_2, hostOps0_3, hostOps0_4, List.flatten_cons, List.flatten_nil, List.cons_append, List.nil_append, List.append_nil]
  after_results_simp
  pointwise
  idx_vars j
  rw [ps, dif_pos j1.isLt]

theorem idx : ∀ t : Fin cfg0.N, win0_0.index t = ![t.val, 0] ∧ win0_1.index t = ![t.val, 1] ∧ win0_2.index t = ![t.val, 2] ∧ win0_3.index t = ![t.val, 3]
    ∧ win0_4.index t = ![min ((t.val + 1) * 34) 543, 0] ∧ win0_5.index t = ![t.val * 34 - 1, 1] ∧ win0_6.index t = ![t.val * 34 - 1, 2] ∧ win0_7.index t = ![t.val * 34 - 1, 3]
    ∧ win0_8.index t = ![t.val, 0] ∧ win0_9.index t = ![t.val, 1] ∧ win0_10.index t = ![min ((t.val + 1) * 34) 543, 0] ∧ win0_11.index t = ![min ((t.val + 1) * 34) 543, 1]
    ∧ win0_12.index t = ![0, 0] ∧ win0_13.index t = ![0, 0] ∧ win0_14.index t = ![0, 0] ∧ win0_15.index t = ![t.val, 0] ∧ (grid0.coords t 0).val = t.val :=
  (by decide +kernel : ∀ t : Fin grid0.N, _)

/-- The padded input read at a row of a tile. -/
theorem front_at (x : FVec Ideal S4x2064x1024 .f32) (r j b q n : ℕ) (hr : r < 8704) (hj : j < 1024) (hq : q < 2176) (e : r = 2176 * b + q) (hn : j = n) :
    front x (ix2 ⟨r, hr⟩ ⟨j, hj⟩) = padded (fun b t j => x (ix3 b t j)) b q n := by
  rw [front_apply]
  subst hn
  show padded _ (r / 2176) (r % 2176) j = _
  rw [show r / 2176 = b by omega, show r % 2176 = q by omega]

theorem tlt (t : Fin cfg0.N) : t.val < 16 := lt_of_lt_of_eq t.isLt N_0

/-! ## The blocks at grid point `t`: sequence `t / 4`, rows `t % 4 * 544` and on -/

theorem iblk0 (c : Dev nD) (t : Fin cfg0.N) (i : Fin 544) (j : Fin 256) :
    (iblk m c 0 t : FVec Ideal S544x256 .f32) (ix2 i j) = U m c (t.val / 4) (t.val % 4 * 544 + i.val) j.val := by
  have ht := tlt t
  refine Eq.trans (b := (V m c main_v1 : FVec Ideal S8704x1024 .f32) (ix2 ⟨t.val * 544 + i.val, by omega⟩ ⟨j.val, by omega⟩)) ?_ ?_
  · blk_ext [iblk, idx t]
  · rw [V_v1]; exact front_at _ _ _ _ _ _ _ _ (by omega) (by omega) rfl

theorem iblk1 (c : Dev nD) (t : Fin cfg0.N) (i : Fin 544) (j : Fin 256) :
    (iblk m c 1 t : FVec Ideal S544x256 .f32) (ix2 i j) = U m c (t.val / 4) (t.val % 4 * 544 + i.val) (256 + j.val) := by
  have ht := tlt t
  refine Eq.trans (b := (V m c main_v1 : FVec Ideal S8704x1024 .f32) (ix2 ⟨t.val * 544 + i.val, by omega⟩ ⟨(256 + j.val), by omega⟩)) ?_ ?_
  · blk_ext [iblk, idx t]
  · rw [V_v1]; exact front_at _ _ _ _ _ _ _ _ (by omega) (by omega) rfl

theorem iblk2 (c : Dev nD) (t : Fin cfg0.N) (i : Fin 544) (j : Fin 256) :
    (iblk m c 2 t : FVec Ideal S544x256 .f32) (ix2 i j) = U m c (t.val / 4) (t.val % 4 * 544 + i.val) (512 + j.val) := by
  have ht := tlt t
  refine Eq.trans (b := (V m c main_v1 : FVec Ideal S8704x1024 .f32) (ix2 ⟨t.val * 544 + i.val, by omega⟩ ⟨(512 + j.val), by omega⟩)) ?_ ?_
  · blk_ext [iblk, idx t]
  · rw [V_v1]; exact front_at _ _ _ _ _ _ _ _ (by omega) (by omega) rfl

theorem iblk3 (c : Dev nD) (t : Fin cfg0.N) (i : Fin 544) (j : Fin 256) :
    (iblk m c 3 t : FVec Ideal S544x256 .f32) (ix2 i j) = U m c (t.val / 4) (t.val % 4 * 544 + i.val) (768 + j.val) := by
  have ht := tlt t
  refine Eq.trans (b := (V m c main_v1 : FVec Ideal S8704x1024 .f32) (ix2 ⟨t.val * 544 + i.val, by omega⟩ ⟨(768 + j.val), by omega⟩)) ?_ ?_
  · blk_ext [iblk, idx t]
  · rw [V_v1]; exact front_at _ _ _ _ _ _ _ _ (by omega) (by omega) rfl

theorem iblk8 (c : Dev nD) (t : Fin cfg0.N) (i : Fin 544) (j : Fin 256) :
    (iblk m c 8 t : FVec Ideal S544x256 .f32) (ix2 i j) = D m c (t.val / 4) (t.val % 4 * 544 + i.val) j.val := by
  have ht := tlt t
  refine Eq.trans (b := (V m c main_v3 : FVec Ideal S8704x1024 .f32) (ix2 ⟨t.val * 544 + i.val, by omega⟩ ⟨j.val, by omega⟩)) ?_ ?_
  · blk_ext [iblk, idx t]
  · rw [V_v3]; exact front_at _ _ _ _ _ _ _ _ (by omega) (by omega) rfl

theorem iblk9 (c : Dev nD) (t : Fin cfg0.N) (i : Fin 544) (j : Fin 256) :
    (iblk m c 9 t : FVec Ideal S544x256 .f32) (ix2 i j) = D m c (t.val / 4) (t.val % 4 * 544 + i.val) (256 + j.val) := by
  have ht := tlt t
  refine Eq.trans (b := (V m c main_v3 : FVec Ideal S8704x1024 .f32) (ix2 ⟨t.val * 544 + i.val, by omega⟩ ⟨(256 + j.val), by omega⟩)) ?_ ?_
  · blk_ext [iblk, idx t]
  · rw [V_v3]; exact front_at _ _ _ _ _ _ _ _ (by omega) (by omega) rfl

theorem iblk5 (c : Dev nD) (t : Fin cfg0.N) (i : Fin 16) (j : Fin 256) (h : t.val % 4 ≠ 0) :
    (iblk m c 5 t : FVec Ideal S16x256 .f32) (ix2 i j) = U m c (t.val / 4) (t.val % 4 * 544 + i.val - 16) (256 + j.val) := by
  have ht := tlt t
  refine Eq.trans (b := (V m c main_v1 : FVec Ideal S8704x1024 .f32) (ix2 ⟨t.val * 544 + i.val - 16, by omega⟩ ⟨(256 + j.val), by omega⟩)) ?_ ?_
  · blk_ext [iblk, idx t]
  · rw [V_v1]; exact front_at _ _ _ _ _ _ _ _ (by omega) (by omega) rfl

theorem iblk6 (c : Dev nD) (t : Fin cfg0.N) (i : Fin 16) (j : Fin 256) (h : t.val % 4 ≠ 0) :
    (iblk m c 6 t : FVec Ideal S16x256 .f32) (ix2 i j) = U m c (t.val / 4) (t.val % 4 * 544 + i.val - 16) (512 + j.val) := by
  have ht := tlt t
  refine Eq.trans (b := (V m c main_v1 : FVec Ideal S8704x1024 .f32) (ix2 ⟨t.val * 544 + i.val - 16, by omega⟩ ⟨(512 + j.val), by omega⟩)) ?_ ?_
  · blk_ext [iblk, idx t]
  · rw [V_v1]; exact front_at _ _ _ _ _ _ _ _ (by omega) (by omega) rfl

theorem iblk7 (c : Dev nD) (t : Fin cfg0.N) (i : Fin 16) (j : Fin 256) (h : t.val % 4 ≠ 0) :
    (iblk m c 7 t : FVec Ideal S16x256 .f32) (ix2 i j) = U m c (t.val / 4) (t.val % 4 * 544 + i.val - 16) (768 + j.val) := by
  have ht := tlt t
  refine Eq.trans (b := (V m c main_v1 : FVec Ideal S8704x1024 .f32) (ix2 ⟨t.val * 544 + i.val - 16, by omega⟩ ⟨(768 + j.val), by omega⟩)) ?_ ?_
  · blk_ext [iblk, idx t]
  · rw [V_v1]; exact front_at _ _ _ _ _ _ _ _ (by omega) (by omega) rfl

theorem iblk4 (c : Dev nD) (t : Fin cfg0.N) (i : Fin 16) (j : Fin 256) (h : t.val % 4 ≠ 3) :
    (iblk m c 4 t : FVec Ideal S16x256 .f32) (ix2 i j) = U m c (t.val / 4) (t.val % 4 * 544 + 544 + i.val) j.val := by
  have ht := tlt t
  refine Eq.trans (b := (V m c main_v1 : FVec Ideal S8704x1024 .f32) (ix2 ⟨t.val * 544 + 544 + i.val, by omega⟩ ⟨j.val, by omega⟩)) ?_ ?_
  · blk_ext [iblk, idx t]
  · rw [V_v1]; exact front_at _ _ _ _ _ _ _ _ (by omega) (by omega) rfl

theorem iblk10 (c : Dev nD) (t : Fin cfg0.N) (i : Fin 16) (j : Fin 256) (h : t.val % 4 ≠ 3) :
    (iblk m c 10 t : FVec Ideal S16x256 .f32) (ix2 i j) = D m c (t.val / 4) (t.val % 4 * 544 + 544 + i.val) j.val := by
  have ht := tlt t
  refine Eq.trans (b := (V m c main_v3 : FVec Ideal S8704x1024 .f32) (ix2 ⟨t.val * 544 + 544 + i.val, by omega⟩ ⟨j.val, by omega⟩)) ?_ ?_
  · blk_ext [iblk, idx t]
  · rw [V_v3]; exact front_at _ _ _ _ _ _ _ _ (by omega) (by omega) rfl

theorem iblk11 (c : Dev nD) (t : Fin cfg0.N) (i : Fin 16) (j : Fin 256) (h : t.val % 4 ≠ 3) :
    (iblk m c 11 t : FVec Ideal S16x256 .f32) (ix2 i j) = D m c (t.val / 4) (t.val % 4 * 544 + 544 + i.val) (256 + j.val) := by
  have ht := tlt t
  refine Eq.trans (b := (V m c main_v3 : FVec Ideal S8704x1024 .f32) (ix2 ⟨t.val * 544 + 544 + i.val, by omega⟩ ⟨(256 + j.val), by omega⟩)) ?_ ?_
  · blk_ext [iblk, idx t]
  · rw [V_v3]; exact front_at _ _ _ _ _ _ _ _ (by omega) (by omega) rfl

theorem iblk12 (c : Dev nD) (t : Fin cfg0.N) (i : Fin 3) (j : Fin 256) :
    (iblk m c 12 t : FVec Ideal S3x256 .f32) (ix2 i j) = w m c i.val j.val := by
  refine Eq.trans (b := (m ((c : Thread nD τ).loc main_arg2) : FVec Ideal S3x256 .f32) (ix2 i j)) ?_ ?_
  · blk_ext [iblk, idx t, V]
  · rw [w, dif_pos ⟨i.isLt, j.isLt⟩]

theorem iblk13 (c : Dev nD) (t : Fin cfg0.N) (i j : Fin 256) :
    (iblk m c 13 t : FVec Ideal S256x256 .bf16) (ix2 i j) = mix (W m c) i.val j.val := by
  refine Eq.trans (b := (V m c main_v16 : FVec Ideal S256x256 .bf16) (ix2 i j)) ?_ (V_v16 m c _)
  blk_ext [iblk, idx t]

theorem iblk14 (c : Dev nD) (t : Fin cfg0.N) (i : Fin 1) (j : Fin 256) :
    (iblk m c 14 t : FVec Ideal S1x256 .f32) (ix2 i j) = ps m c j.val := by
  refine Eq.trans (b := (V m c main_v17 : FVec Ideal S1x256 .f32) (ix2 i j)) ?_ (V_v17 m c _)
  blk_ext [iblk, idx t]

end Cert.KernelIdeal.Value
-- ==== Proof.Points.lean ====
/- What one grid point of the kernel computes.  Point `t` works on sequence `t / 4`, rows `t % 4 * 544` and on; its row
   `i` is row `t % 4 * 544 + i` of the sequence.  Each of the values it forms is read here at an index, as the plain
   formula of Spec.lean at that row. -/
module

public import proofs.«01_k».proof.Proof.Blocks

@[expose] public section

set_option maxRecDepth 16384

noncomputable section

namespace Cert.KernelIdeal.Value

open Idealize.ShloMosaic Idealize.ShloMosaic.TcCoe Idealize.SL.Sem
open Cert.KernelIdeal Cert.KernelIdeal.Gen Cert.ConvPool

variable (m : (ℓ : Loc nD τ sig) → Buf (Elt Ideal) ℓ)

/-- A rotation towards higher rows, away from the wrapped rows. -/
theorem roll_back {a s : ℕ} (h : s ≤ a) (h' : a < 560 + s) : (a + 560 - s) % 560 = a - s := by omega

/-- A rotation towards lower rows, away from the wrapped rows. -/
theorem roll_ahead {a s : ℕ} (h : s ≤ 560) (h' : a + (560 - s) < 560) : (a + 560 - s) % 560 = a + (560 - s) := by omega

/-! ## Row numbers, masks and window counts -/

theorem rowNo (i : grid0.Coords) (y : S560x1.Idx) : k0_pay4 i y = BitVec.ofNat 32 ((i 0).val % 4 * 544 + (y 0).val) := by
  pointwise [k0_pay4]
  have h : (i 0).val < 16 := (i 0).isLt
  generalize (i 0).val = n at h
  rw [BitVec.ofNat_add]
  refine congrArg (fun a => IntOp.addi a (BitVec.ofNat 32 (y 0).val)) ?_
  interval_cases n <;> decide

theorem select_ofBool {α : Type} (p : Prop) [Decidable p] (a b : α) : Scalar.select (BitVec.ofBool (decide p)) a b = if p then a else b := by
  by_cases h : p <;> simp [Scalar.select, h]

theorem valid560 (t : Fin cfg0.N) (e : Fin 560) :
    k0_pay5 (grid0.coords t) (ix2 e 0) = BitVec.ofBool (decide (112 ≤ t.val % 4 * 544 + e.val ∧ t.val % 4 * 544 + e.val < 2176)) := by
  pointwise [k0_pay5]
  rw [rowNo, (idx t).2.2.2.2.2.2.2.2.2.2.2.2.2.2.2.2]
  show IntOp.andi (IntOp.cmpi .sge (BitVec.ofNat 32 (t.val % 4 * 544 + e.val)) (BitVec.ofNat 32 112)) (IntOp.cmpi .slt (BitVec.ofNat 32 (t.val % 4 * 544 + e.val)) (BitVec.ofNat 32 2176)) = _
  have h := e.isLt
  rw [WordCmp.cmpi_sge_ofNat (by omega) (by omega), WordCmp.cmpi_slt_ofNat (by omega) (by omega), Bool.decide_and]
  generalize decide (112 ≤ t.val % 4 * 544 + e.val) = a
  generalize decide (t.val % 4 * 544 + e.val < 2176) = b
  revert a b
  decide

theorem valid544 (t : Fin cfg0.N) (e : Fin 544) :
    k0_pay6 (grid0.coords t) (ix2 e 0) = BitVec.ofBool (decide (112 ≤ t.val % 4 * 544 + e.val)) := by
  pointwise [k0_pay6]
  rw [rowNo, (idx t).2.2.2.2.2.2.2.2.2.2.2.2.2.2.2.2]
  exact WordCmp.cmpi_sge_ofNat (a := t.val % 4 * 544 + e.val) (b := 112) (by omega) (by omega)

theorem group (j : Fin 256) : k0_pay26 (ix2 0 j) = BitVec.ofNat 32 (j.val / 64) := by
  pointwise [k0_pay26]
  revert j
  decide +kernel

/-- Which of four a channel of group `g` takes. -/
theorem choose {α : Type} (g : ℕ) (hg : g < 4) (a : ℕ → α) :
    Scalar.select (IntOp.cmpi .eq (BitVec.ofNat 32 g) 0#32) (a 0) (Scalar.select (IntOp.cmpi .eq (BitVec.ofNat 32 g) 1#32) (a 1)
      (Scalar.select (IntOp.cmpi .eq (BitVec.ofNat 32 g) 2#32) (a 2) (a 3))) = a g := by
  interval_cases g <;> simp [Scalar.select, IntOp.cmpi]

theorem window (j : Fin 256) : (k0_pay27 (F := Ideal) (ix2 0 j) : EReal) = ((win j.val : ℕ) : ℝ) := by
  pointwise [k0_pay27]
  rw [group]
  have h2 : Ideal.ofBits .f32 0x40000000#32 = (((2 ^ (0 + 1) : ℕ) : ℝ) : EReal) := by
    simp [Ideal.ofBits, Ideal.ieee, -EReal.coe_mul]; norm_num
  have h4 : Ideal.ofBits .f32 0x40800000#32 = (((2 ^ (1 + 1) : ℕ) : ℝ) : EReal) := by
    simp [Ideal.ofBits, Ideal.ieee, -EReal.coe_mul]; norm_num
  have h8 : Ideal.ofBits .f32 0x41000000#32 = (((2 ^ (2 + 1) : ℕ) : ℝ) : EReal) := by
    simp [Ideal.ofBits, Ideal.ieee, -EReal.coe_mul]; norm_num
  have h16 : Ideal.ofBits .f32 0x41800000#32 = (((2 ^ (3 + 1) : ℕ) : ℝ) : EReal) := by
    simp [Ideal.ofBits, Ideal.ieee, -EReal.coe_mul]; norm_num
  rw [h2, h4, h8, h16]
  exact choose (j.val / 64) (by omega) fun g => (((2 ^ (g + 1) : ℕ) : ℝ) : EReal)

theorem count (a b) (q : ℕ) (e : Fin 560) (j : Fin 256) (hq : q < 2192) (ha : a (ix2 e 0) = BitVec.ofNat 32 q) (hb : (b (ix2 0 j) : EReal) = ((win j.val : ℕ) : ℝ)) :
    (k0_pay30 (F := Ideal) a b (ix2 e j) : EReal) = if 112 ≤ q then cnt q j.val else 1 := by
  pointwise [k0_pay30]
  rw [ha]
  have h1 : (IntOp.subi (BitVec.ofNat 32 q) 111#32).toInt = (q : ℤ) - 111 := by
    show (BitVec.ofNat 32 q - BitVec.ofNat 32 111).toInt = _
    rw [BitVec.toInt_sub, WordCmp.toInt_ofNat_of_lt (by omega), WordCmp.toInt_ofNat_of_lt (by omega)]
    simp only [Int.bmod]
    omega
  have hw : 1 ≤ win j.val := Nat.one_le_two_pow
  show max (min (((IntOp.subi (BitVec.ofNat 32 q) 111#32).toInt : ℝ) : EReal) (b (ix2 0 j))) ((1 : ℝ) : EReal) = _
  rw [h1, hb, ← EReal.coe_strictMono.monotone.map_min, ← EReal.coe_strictMono.monotone.map_max]
  split_ifs with h
  · unfold cnt
    congr 1
    have e1 : (((q : ℤ) - 111 : ℤ) : ℝ) = ((q - 111 : ℕ) : ℝ) := by
      rw [Nat.cast_sub (by omega)]; push_cast; ring
    rw [e1, ← Nat.cast_min]
    refine max_eq_left ?_
    exact_mod_cast (le_min (by omega) hw : 1 ≤ min (q - 111) (win j.val))
  · refine congrArg _ (max_eq_right ((min_le_left _ _).trans ?_))
    have : (q : ℤ) - 111 ≤ 1 := by omega
    exact_mod_cast this

/-! ## The gated convolution -/

/-- The gated input with the sixteen rows before it. -/
theorem gates (c : Dev nD) (t : Fin cfg0.N) (e : Fin 560) (j : Fin 256) (h : 16 ≤ t.val % 4 * 544 + e.val) :
    k0_pay11 (F := Ideal) (k0_pay8 (iblk m c 1 t)) (k0_pay9 (iblk m c 2 t)) (iblk m c 5 t) (iblk m c 6 t) (ix2 e j)
      = gated (U m c) (t.val / 4) (t.val % 4 * 544 + e.val - 16) j.val := by
  pointwise [k0_pay11, k0_pay10, k0_pay8, k0_pay9]
  unfold gated
  by_cases h1 : e.val < 16
  · rw [dif_pos h1, iblk5 m c t _ _ (by omega), iblk6 m c t _ _ (by omega)]
  · rw [dif_neg h1]
    rw [iblk1, iblk2]
    have e1 : t.val % 4 * 544 + (e.val - 16) = t.val % 4 * 544 + e.val - 16 := by omega
    simp only [e1]

theorem gate (c : Dev nD) (t : Fin cfg0.N) (i : Fin 544) (j : Fin 256) :
    k0_pay10 (F := Ideal) (k0_pay8 (iblk m c 1 t)) (k0_pay9 (iblk m c 2 t)) (ix2 i j)
      = gated (U m c) (t.val / 4) (t.val % 4 * 544 + i.val) j.val := by
  pointwise [k0_pay10, k0_pay8, k0_pay9]
  rw [iblk1, iblk2, gated]

theorem gate1 (c : Dev nD) (t : Fin cfg0.N) (i : Fin 544) (j : Fin 256) (h : 1 ≤ t.val % 4 * 544 + i.val) :
    k0_pay12 (F := Ideal) (k0_pay8 (iblk m c 1 t)) (k0_pay9 (iblk m c 2 t)) (iblk m c 5 t) (iblk m c 6 t) (ix2 i j)
      = gated (U m c) (t.val / 4) (t.val % 4 * 544 + i.val - 1) j.val := by
  pointwise [k0_pay12]
  rw [gates m c t _ _ (by dsimp only; omega)]
  congr 1; dsimp only; omega

theorem gate2 (c : Dev nD) (t : Fin cfg0.N) (i : Fin 544) (j : Fin 256) (h : 2 ≤ t.val % 4 * 544 + i.val) :
    k0_pay13 (F := Ideal) (k0_pay8 (iblk m c 1 t)) (k0_pay9 (iblk m c 2 t)) (iblk m c 5 t) (iblk m c 6 t) (ix2 i j)
      = gated (U m c) (t.val / 4) (t.val % 4 * 544 + i.val - 2) j.val := by
  pointwise [k0_pay13]
  rw [gates m c t _ _ (by dsimp only; omega)]
  congr 1; dsimp only; omega

/-- The three taps' rows, as the program reads them. -/
theorem tap (c : Dev nD) (t : Fin cfg0.N) (k : Fin 3) (hb) (j : Fin 256) :
    (View.ld (iblk m c 12 t) (Rect.unit (s := S3x256) ![k.val, 0] S1x256.size hb) : FVec Ideal S1x256 .f32) (ix2 0 j) = w m c k.val j.val := by
  rw [← iblk12 m c t]
  refine View.ld_unit_apply_of _ _ _ _ _ _ fun a => ?_
  fin_cases a <;> simp

/-- The gradient of the convolution's gate. -/
theorem duGate (c : Dev nD) (t : Fin cfg0.N) (v25 v26 v27) (i : Fin 544) (j : Fin 256) (h : 2 ≤ t.val % 4 * 544 + i.val)
    (h0 : v25 (ix2 0 j) = w m c 0 j.val) (h1 : v26 (ix2 0 j) = w m c 1 j.val) (h2 : v27 (ix2 0 j) = w m c 2 j.val) :
    k0_pay15 (F := Ideal) v25 v26 v27 (k0_pay8 (iblk m c 1 t)) (k0_pay9 (iblk m c 2 t)) (iblk m c 5 t) (iblk m c 6 t) (iblk m c 8 t) (ix2 i j)
      = D m c (t.val / 4) (t.val % 4 * 544 + i.val) j.val * conv (U m c) (w m c) (t.val / 4) (t.val % 4 * 544 + i.val) j.val := by
  pointwise [k0_pay15, k0_pay14]
  rw [gate, gate1 m c t i j (by omega), gate2 m c t i j h, h0, h1, h2, iblk8, conv]

/-- The convolution's cotangent with the sixteen rows after it: the mask takes away what lies outside the sequence. -/
theorem dconvs (c : Dev nD) (t : Fin cfg0.N) (e : Fin 560) (j : Fin 256) :
    k0_pay16 (F := Ideal) (k0_pay5 (grid0.coords t)) (k0_pay7 (iblk m c 0 t)) (iblk m c 8 t) (iblk m c 10 t) (iblk m c 4 t) (ix2 e j)
      = dconv (U m c) (D m c) (t.val / 4) (t.val % 4 * 544 + e.val) j.val := by
  pointwise [k0_pay16, k0_pay14, k0_pay7]
  rw [valid560, select_ofBool]
  unfold dconv
  by_cases h1 : 112 ≤ t.val % 4 * 544 + e.val ∧ t.val % 4 * 544 + e.val < 2176
  · rw [if_pos h1]
    by_cases h2 : e.val < 544
    · rw [dif_pos h2, iblk8, iblk0]
    · rw [dif_neg h2, iblk10 m c t _ _ (by omega), iblk4 m c t _ _ (by omega)]
      have e1 : t.val % 4 * 544 + 544 + (e.val - 544) = t.val % 4 * 544 + e.val := by omega
      simp only [e1]
  · rw [if_neg h1, D, padded, dif_neg (fun h => h1 ⟨h.2.1, h.2.2.1⟩), zero_mul]

theorem dconv544 (c : Dev nD) (t : Fin cfg0.N) (i : Fin 544) (j : Fin 256) :
    k0_pay17 (F := Ideal) (k0_pay5 (grid0.coords t)) (k0_pay7 (iblk m c 0 t)) (iblk m c 8 t) (iblk m c 10 t) (iblk m c 4 t) (ix2 i j)
      = dconv (U m c) (D m c) (t.val / 4) (t.val % 4 * 544 + i.val) j.val := by
  pointwise [k0_pay17]
  rw [dconvs]

/-- The cotangent of the gated input. -/
theorem dgate (c : Dev nD) (t : Fin cfg0.N) (v25 v26 v27) (i : Fin 544) (j : Fin 256)
    (h0 : v25 (ix2 0 j) = w m c 0 j.val) (h1 : v26 (ix2 0 j) = w m c 1 j.val) (h2 : v27 (ix2 0 j) = w m c 2 j.val) :
    k0_pay19 (F := Ideal) v25 (k0_pay16 (F := Ideal) (k0_pay5 (grid0.coords t)) (k0_pay7 (iblk m c 0 t)) (iblk m c 8 t) (iblk m c 10 t) (iblk m c 4 t))
        (k0_pay18 (F := Ideal) (k0_pay5 (grid0.coords t)) v26 v27 (k0_pay7 (iblk m c 0 t)) (iblk m c 8 t) (iblk m c 10 t) (iblk m c 4 t)) (ix2 i j)
      = dgated (U m c) (D m c) (w m c) (t.val / 4) (t.val % 4 * 544 + i.val) j.val := by
  pointwise [k0_pay19, k0_pay18]
  rw [dconv544, dconvs, dconvs, h0, h1, h2]
  unfold dgated
  have e1 : t.val % 4 * 544 + (i.val + 560 - 559) % 560 = t.val % 4 * 544 + i.val + 1 := by omega
  have e2 : t.val % 4 * 544 + (i.val + 560 - 558) % 560 = t.val % 4 * 544 + i.val + 2 := by omega
  simp only [e1, e2]

/-- The convolution's cotangent is zero in front of the sequence. -/
theorem dconv_front (c : Dev nD) (b q j : ℕ) (h : q < 112) : dconv (U m c) (D m c) b q j = 0 := by
  rw [dconv, D, padded, dif_neg (fun h' => absurd h'.2.1 (by omega)), zero_mul]

/-- A point's share of the gradient of tap 0, folded onto eight rows. -/
theorem tap0Sum (c : Dev nD) (t : Fin cfg0.N) (v) (r : Fin 8) (j : Fin 256) :
    k0_pay22 (F := Ideal) (k0_pay13 (F := Ideal) (k0_pay8 (iblk m c 1 t)) (k0_pay9 (iblk m c 2 t)) (iblk m c 5 t) (iblk m c 6 t))
        (k0_pay17 (F := Ideal) (k0_pay5 (grid0.coords t)) (k0_pay7 (iblk m c 0 t)) (iblk m c 8 t) (iblk m c 10 t) (iblk m c 4 t)) v (ix2 r j)
      = (v (ix2 r j) : EReal) + ∑ x : Fin 68, dtap (U m c) (D m c) 0 j.val (t.val / 4) (t.val % 4 * 544 + (x.val * 8 + r.val)) := by
  pointwise [k0_pay22]
  refine congrArg _ (Finset.sum_congr rfl fun x _ => ?_)
  rw [dconv544, dtap]
  by_cases h : t.val % 4 * 544 + (x.val * 8 + r.val) < 112
  · rw [dconv_front m c _ _ _ h, zero_mul, zero_mul]
  · rw [gate2 m c t _ _ (by dsimp only; omega)]

/-- A point's share of the gradient of tap 1. -/
theorem tap1Sum (c : Dev nD) (t : Fin cfg0.N) (v) (r : Fin 8) (j : Fin 256) :
    k0_pay23 (F := Ideal) (k0_pay12 (F := Ideal) (k0_pay8 (iblk m c 1 t)) (k0_pay9 (iblk m c 2 t)) (iblk m c 5 t) (iblk m c 6 t))
        (k0_pay17 (F := Ideal) (k0_pay5 (grid0.coords t)) (k0_pay7 (iblk m c 0 t)) (iblk m c 8 t) (iblk m c 10 t) (iblk m c 4 t)) v (ix2 r j)
      = (v (ix2 r j) : EReal) + ∑ x : Fin 68, dtap (U m c) (D m c) 1 j.val (t.val / 4) (t.val % 4 * 544 + (x.val * 8 + r.val)) := by
  pointwise [k0_pay23]
  refine congrArg _ (Finset.sum_congr rfl fun x _ => ?_)
  rw [dconv544, dtap]
  by_cases h : t.val % 4 * 544 + (x.val * 8 + r.val) < 112
  · rw [dconv_front m c _ _ _ h, zero_mul, zero_mul]
  · rw [gate1 m c t _ _ (by dsimp only; omega)]

/-- A point's share of the gradient of tap 2. -/
theorem tap2Sum (c : Dev nD) (t : Fin cfg0.N) (v) (r : Fin 8) (j : Fin 256) :
    k0_pay24 (F := Ideal) (k0_pay10 (F := Ideal) (k0_pay8 (iblk m c 1 t)) (k0_pay9 (iblk m c 2 t)))
        (k0_pay17 (F := Ideal) (k0_pay5 (grid0.coords t)) (k0_pay7 (iblk m c 0 t)) (iblk m c 8 t) (iblk m c 10 t) (iblk m c 4 t)) v (ix2 r j)
      = (v (ix2 r j) : EReal) + ∑ x : Fin 68, dtap (U m c) (D m c) 2 j.val (t.val / 4) (t.val % 4 * 544 + (x.val * 8 + r.val)) := by
  pointwise [k0_pay24]
  refine congrArg _ (Finset.sum_congr rfl fun x _ => ?_)
  rw [dconv544, dtap, gate]
  rfl

end Cert.KernelIdeal.Value
-- ==== Proof.Pool.lean ====
/- What one grid point computes for the multi-scale pooling: the windowed means by sums of doubling length over rotated
   rows, the group product, and the transposes of both. -/
module

public import proofs.«01_k».proof.Proof.Points

@[expose] public section

set_option maxRecDepth 16384
set_option maxHeartbeats 4000000

noncomputable section

namespace Cert.KernelIdeal.Value

open Idealize.ShloMosaic Idealize.ShloMosaic.TcCoe Idealize.SL.Sem
open Cert.KernelIdeal Cert.KernelIdeal.Gen Cert.ConvPool

variable (m : (ℓ : Loc nD τ sig) → Buf (Elt Ideal) ℓ)

/-- A group's trailing sum by doubling: the sum over its window. -/
theorem trailing (F : ℕ → EReal) (g n : ℕ) (hg : g < 4) :
    Scalar.select (IntOp.cmpi .eq (BitVec.ofNat 32 g) 0#32) (F n + F (n - 1))
      (Scalar.select (IntOp.cmpi .eq (BitVec.ofNat 32 g) 1#32) (F n + F (n - 1) + (F (n - 2) + F (n - 3)))
        (Scalar.select (IntOp.cmpi .eq (BitVec.ofNat 32 g) 2#32)
          (F n + F (n - 1) + (F (n - 2) + F (n - 3)) + (F (n - 4) + F (n - 5) + (F (n - 6) + F (n - 7))))
          (F n + F (n - 1) + (F (n - 2) + F (n - 3)) + (F (n - 4) + F (n - 5) + (F (n - 6) + F (n - 7)))
            + (F (n - 8) + F (n - 9) + (F (n - 10) + F (n - 11)) + (F (n - 12) + F (n - 13) + (F (n - 14) + F (n - 15)))))))
      = ∑ k ∈ Finset.range (2 ^ (g + 1)), F (n - k) := by
  interval_cases g <;>
  · simp only [Finset.sum_range_succ, Finset.sum_range_zero, Nat.reducePow, Nat.reduceAdd, zero_add]
    simp [Scalar.select, IntOp.cmpi]
    try ac_rfl

theorem pooled_at (a b c d e f g) (q lo : ℕ) (P : ℕ → EReal) (i : Fin 544) (j : Fin 256)
    (hb : b (ix2 i 0) = BitVec.ofBool (decide (112 ≤ q))) (ha : a (ix2 ⟨i.val, by omega⟩ 0) = BitVec.ofNat 32 q) (hq : q < 2176)
    (hd : d (ix2 0 j) = BitVec.ofNat 32 (j.val / 64)) (he : (e (ix2 0 j) : EReal) = ((win j.val : ℕ) : ℝ))
    (hf : ∀ (n : ℕ) (h : n < 560), lo ≤ n → f (ix2 ⟨n, h⟩ j) = P n) (hg : ∀ (n : ℕ) (h : n < 560), lo + 1 ≤ n → g (ix2 ⟨n, h⟩ j) = P (n - 1)) (hlo : 112 ≤ q → lo ≤ i.val + 1) (hc : c (ix2 i j) = P (16 + i.val)) :
    k0_pay31 (F := Ideal) a b c d e f g (ix2 i j)
      = if 112 ≤ q then Ideal.div (∑ k ∈ Finset.range (win j.val), P (16 + i.val - k)) (cnt q j.val) - P (16 + i.val) else 0 := by
  pointwise [k0_pay31]
  rewrite [hb, select_ofBool]
  by_cases h : 112 ≤ q
  · rewrite [if_pos h, if_pos h]
    specialize hlo h
    have hcnt := count a e q ⟨i.val, by omega⟩ j (by omega) ha he
    rewrite [if_pos h] at hcnt

    simp (disch := omega) only [roll_back, hf, hg, Nat.sub_sub, Nat.reduceAdd, hcnt, hc, hd]
    rewrite [trailing P (j.val / 64) (16 + i.val) (by omega)]
    rfl
  · rewrite [if_neg h, if_neg h]
    rfl

/-- The pool's rows with the sixteen before them. -/
theorem pools (c : Dev nD) (t : Fin cfg0.N) (n : ℕ) (h : n < 560) (j : Fin 256) (hlo : 16 ≤ t.val % 4 * 544 + n) :
    k0_pay28 (F := Ideal) (iblk m c 3 t) (iblk m c 7 t) (ix2 ⟨n, h⟩ j) = U m c (t.val / 4) (t.val % 4 * 544 + n - 16) (768 + j.val) := by
  pointwise [k0_pay28, k0_pay25]
  by_cases h1 : n < 16
  · rw [dif_pos h1, iblk7 m c t _ _ (by omega)]
  · rw [dif_neg h1, iblk3]
    have e1 : t.val % 4 * 544 + (n - 16) = t.val % 4 * 544 + n - 16 := by omega
    simp only [e1]

theorem pools1 (c : Dev nD) (t : Fin cfg0.N) (n : ℕ) (h : n < 560) (j : Fin 256) (hlo : 17 ≤ t.val % 4 * 544 + n) (h1 : 1 ≤ n) :
    k0_pay29 (F := Ideal) (iblk m c 3 t) (iblk m c 7 t) (ix2 ⟨n, h⟩ j) = U m c (t.val / 4) (t.val % 4 * 544 + (n - 1) - 16) (768 + j.val) := by
  pointwise [k0_pay29]
  have e1 : (n + 560 - 1) % 560 = n - 1 := by omega
  simp only [e1]
  rw [pools m c t _ _ _ (by omega)]

/-- The windowed means minus the rows. -/
theorem pooled544 (c : Dev nD) (t : Fin cfg0.N) (i : Fin 544) (j : Fin 256) :
    k0_pay31 (F := Ideal) (k0_pay4 (grid0.coords t)) (k0_pay6 (grid0.coords t)) (k0_pay25 (iblk m c 3 t)) k0_pay26 k0_pay27
        (k0_pay28 (iblk m c 3 t) (iblk m c 7 t)) (k0_pay29 (iblk m c 3 t) (iblk m c 7 t)) (ix2 i j)
      = pooled (U m c) (t.val / 4) (t.val % 4 * 544 + i.val) j.val := by
  rw [pooled_at _ _ _ _ _ _ _ (t.val % 4 * 544 + i.val) (16 - t.val % 4 * 544)
    (fun n => U m c (t.val / 4) (t.val % 4 * 544 + n - 16) (768 + j.val)) i j (valid544 t i)
    (by rw [rowNo, (idx t).2.2.2.2.2.2.2.2.2.2.2.2.2.2.2.2]; rfl) (by omega) (group j) (window j)
    (fun n h hn => pools m c t n h j (by omega)) (fun n h hn => pools1 m c t n h j (by omega) (by omega)) (by omega)
    (by
      pointwise [k0_pay25]
      rw [iblk3]
      congr 1; omega)]
  unfold pooled
  have hw : win j.val ≤ 16 := Nat.pow_le_pow_right (by omega) (by omega : j.val / 64 + 1 ≤ 4)
  have e1 : t.val % 4 * 544 + (16 + i.val) - 16 = t.val % 4 * 544 + i.val := by omega
  simp only [e1]
  refine if_congr Iff.rfl ?_ rfl
  refine congrArg (fun x => Ideal.div x _ - _) (Finset.sum_congr rfl fun k hk => ?_)
  have := Finset.mem_range.1 hk
  congr 1; omega

/-- A point's share of the gradient of the output scale. -/
theorem scaleSum (c : Dev nD) (t : Fin cfg0.N) (v) (r : Fin 8) (j : Fin 256) :
    k0_pay35 (F := Ideal) (k0_pay31 (F := Ideal) (k0_pay4 (grid0.coords t)) (k0_pay6 (grid0.coords t)) (k0_pay25 (iblk m c 3 t)) k0_pay26 k0_pay27
        (k0_pay28 (iblk m c 3 t) (iblk m c 7 t)) (k0_pay29 (iblk m c 3 t) (iblk m c 7 t))) (k0_pay32 (iblk m c 9 t)) (k0_pay33 v) (k0_pay34 (iblk m c 13 t)) (ix2 r j)
      = (v (ix2 r j) : EReal) + ∑ x : Fin 68, dscale (U m c) (D m c) (W m c) j.val (t.val / 4) (t.val % 4 * 544 + (x.val * 8 + r.val)) := by
  pointwise [k0_pay35, k0_pay32, k0_pay33, k0_pay34]
  refine congrArg _ (Finset.sum_congr rfl fun x _ => ?_)
  rw [iblk9, dscale, Finset.sum_range]
  refine congrArg _ (Finset.sum_congr rfl fun y _ => ?_)
  rw [pooled544, iblk13]

theorem dpre560 (c : Dev nD) (t : Fin cfg0.N) (e : Fin 560) (j : Fin 256) (h : t.val % 4 * 544 + e.val < 2176) :
    k0_pay36 (F := Ideal) (k0_pay32 (iblk m c 9 t)) (iblk m c 11 t) (iblk m c 14 t) (ix2 e j)
      = dpre (D m c) (ps m c) (t.val / 4) (t.val % 4 * 544 + e.val) j.val := by
  pointwise [k0_pay36, k0_pay32]
  rw [iblk14, dpre]
  by_cases h2 : e.val < 544
  · rw [dif_pos h2, iblk9]
  · rw [dif_neg h2, iblk11 m c t _ _ (by omega)]
    have e1 : t.val % 4 * 544 + 544 + (e.val - 544) = t.val % 4 * 544 + e.val := by omega
    simp only [e1]

/-- A point's share of the gradient of the group matrices, over all pairs of channels. -/
theorem mixSum (c : Dev nD) (t : Fin cfg0.N) (v) (k j : Fin 256) :
    k0_pay37 (F := Ideal) (k0_pay31 (F := Ideal) (k0_pay4 (grid0.coords t)) (k0_pay6 (grid0.coords t)) (k0_pay25 (iblk m c 3 t)) k0_pay26 k0_pay27
        (k0_pay28 (iblk m c 3 t) (iblk m c 7 t)) (k0_pay29 (iblk m c 3 t) (iblk m c 7 t))) (k0_pay32 (iblk m c 9 t)) (iblk m c 11 t) (iblk m c 14 t) v (ix2 k j)
      = (v (ix2 k j) : EReal) + ∑ x : Fin 544, dmix (U m c) (D m c) (ps m c) k.val j.val (t.val / 4) (t.val % 4 * 544 + x.val) := by
  pointwise [k0_pay37]
  refine congrArg _ (Finset.sum_congr rfl fun x _ => ?_)
  rw [pooled544, dpre560 m c t _ _ (by dsimp only; omega), dmix]

/-- The cotangent of `pooled` with the sixteen rows after it. -/
theorem dpools (c : Dev nD) (t : Fin cfg0.N) (e : Fin 560) (j : Fin 256) :
    k0_pay38 (F := Ideal) (k0_pay5 (grid0.coords t)) (k0_pay32 (iblk m c 9 t)) (iblk m c 11 t) (iblk m c 14 t) (iblk m c 13 t) (ix2 e j)
      = dpool (D m c) (W m c) (ps m c) (t.val / 4) (t.val % 4 * 544 + e.val) j.val := by
  pointwise [k0_pay38]
  rw [valid560, select_ofBool, dpool]
  refine if_ctx_congr Iff.rfl (fun h => ?_) fun _ => rfl
  rw [Finset.sum_range]
  refine Finset.sum_congr rfl fun x _ => ?_
  rw [dpre560 m c t _ _ h.2, iblk13]

/-- A group's leading sum by doubling: the sum over the rows whose window reaches back to this one. -/
theorem leading (F : ℕ → EReal) (g n : ℕ) (hg : g < 4) :
    Scalar.select (IntOp.cmpi .eq (BitVec.ofNat 32 g) 0#32) (F n + F (n + 1))
      (Scalar.select (IntOp.cmpi .eq (BitVec.ofNat 32 g) 1#32) (F n + F (n + 1) + (F (n + 2) + F (n + 3)))
        (Scalar.select (IntOp.cmpi .eq (BitVec.ofNat 32 g) 2#32)
          (F n + F (n + 1) + (F (n + 2) + F (n + 3)) + (F (n + 4) + F (n + 5) + (F (n + 6) + F (n + 7))))
          (F n + F (n + 1) + (F (n + 2) + F (n + 3)) + (F (n + 4) + F (n + 5) + (F (n + 6) + F (n + 7)))
            + (F (n + 8) + F (n + 9) + (F (n + 10) + F (n + 11)) + (F (n + 12) + F (n + 13) + (F (n + 14) + F (n + 15)))))))
      = ∑ k ∈ Finset.range (2 ^ (g + 1)), F (n + k) := by
  interval_cases g <;>
  · simp only [Finset.sum_range_succ, Finset.sum_range_zero, Nat.reducePow, Nat.reduceAdd, zero_add]
    simp [Scalar.select, IntOp.cmpi]
    try ac_rfl

section Leading

variable (v21 : IVec S560x1 1) (v183 : FVec Ideal S560x256 .f32) (v193 : FVec Ideal S544x256 .f32) (v204 : Vec Ideal S16x256 .f32)
  (v207 : Vec Ideal S1x256 .f32) (v218 : Vec Ideal S256x256 .bf16) (F : ℕ → EReal) (lo : ℕ) (j : Fin 256)

theorem leading2 (n : ℕ) (h : n < 560)
    (hF : ∀ (n : ℕ) (h : n < 560), lo ≤ n → (Ideal.div (k0_pay38 (F := Ideal) v21 v193 v204 v207 v218 (ix2 ⟨n, h⟩ j) : EReal) (v183 (ix2 ⟨n, h⟩ j)) : EReal) = F n)
    (hn : n < 559) (hl : lo ≤ n) : k0_pay39 (F := Ideal) v21 v183 v193 v204 v207 v218 (ix2 ⟨n, h⟩ j) = (F n + F (n + 1) : EReal) := by
  pointwise [k0_pay39]
  simp (disch := omega) only [roll_ahead, Nat.reduceSub, hF]

theorem leading4 (n : ℕ) (h : n < 560)
    (hF : ∀ (n : ℕ) (h : n < 560), lo ≤ n → (Ideal.div (k0_pay38 (F := Ideal) v21 v193 v204 v207 v218 (ix2 ⟨n, h⟩ j) : EReal) (v183 (ix2 ⟨n, h⟩ j)) : EReal) = F n)
    (hn : n < 557) (hl : lo ≤ n) : k0_pay40 (F := Ideal) v21 v183 v193 v204 v207 v218 (ix2 ⟨n, h⟩ j) = (F n + F (n + 1) + (F (n + 2) + F (n + 3)) : EReal) := by
  pointwise [k0_pay40]
  have h2 := fun n h => leading2 v21 v183 v193 v204 v207 v218 F lo j n h hF
  simp (disch := omega) only [roll_ahead, Nat.reduceSub, h2, Nat.add_assoc, Nat.reduceAdd]

theorem leading8 (n : ℕ) (h : n < 560)
    (hF : ∀ (n : ℕ) (h : n < 560), lo ≤ n → (Ideal.div (k0_pay38 (F := Ideal) v21 v193 v204 v207 v218 (ix2 ⟨n, h⟩ j) : EReal) (v183 (ix2 ⟨n, h⟩ j)) : EReal) = F n)
    (hn : n < 553) (hl : lo ≤ n) : k0_pay41 (F := Ideal) v21 v183 v193 v204 v207 v218 (ix2 ⟨n, h⟩ j)
      = (F n + F (n + 1) + (F (n + 2) + F (n + 3)) + (F (n + 4) + F (n + 5) + (F (n + 6) + F (n + 7))) : EReal) := by
  pointwise [k0_pay41]
  have h4 := fun n h => leading4 v21 v183 v193 v204 v207 v218 F lo j n h hF
  simp (disch := omega) only [roll_ahead, Nat.reduceSub, h4, Nat.add_assoc, Nat.reduceAdd]

theorem leading16 (n : ℕ) (h : n < 560)
    (hF : ∀ (n : ℕ) (h : n < 560), lo ≤ n → (Ideal.div (k0_pay38 (F := Ideal) v21 v193 v204 v207 v218 (ix2 ⟨n, h⟩ j) : EReal) (v183 (ix2 ⟨n, h⟩ j)) : EReal) = F n)
    (hn : n < 545) (hl : lo ≤ n) : k0_pay42 (F := Ideal) v21 v183 v193 v204 v207 v218 (ix2 ⟨n, h⟩ j)
      = (F n + F (n + 1) + (F (n + 2) + F (n + 3)) + (F (n + 4) + F (n + 5) + (F (n + 6) + F (n + 7)))
            + (F (n + 8) + F (n + 9) + (F (n + 10) + F (n + 11)) + (F (n + 12) + F (n + 13) + (F (n + 14) + F (n + 15)))) : EReal) := by
  pointwise [k0_pay42]
  have h8 := fun n h => leading8 v21 v183 v193 v204 v207 v218 F lo j n h hF
  simp (disch := omega) only [roll_ahead, Nat.reduceSub, h8, Nat.add_assoc, Nat.reduceAdd]

end Leading

/-- The gradient of the pool's rows. -/
theorem duPool (c : Dev nD) (t : Fin cfg0.N) (i : Fin 544) (j : Fin 256) (h : 112 ≤ t.val % 4 * 544 + i.val) :
    k0_pay1 (F := Ideal) k0_pay26
        (k0_pay38 (F := Ideal) (k0_pay5 (grid0.coords t)) (k0_pay32 (iblk m c 9 t)) (iblk m c 11 t) (iblk m c 14 t) (iblk m c 13 t))
        (k0_pay39 (F := Ideal) (k0_pay5 (grid0.coords t)) (k0_pay30 (k0_pay4 (grid0.coords t)) k0_pay27) (k0_pay32 (iblk m c 9 t)) (iblk m c 11 t) (iblk m c 14 t) (iblk m c 13 t))
        (k0_pay40 (F := Ideal) (k0_pay5 (grid0.coords t)) (k0_pay30 (k0_pay4 (grid0.coords t)) k0_pay27) (k0_pay32 (iblk m c 9 t)) (iblk m c 11 t) (iblk m c 14 t) (iblk m c 13 t))
        (k0_pay41 (F := Ideal) (k0_pay5 (grid0.coords t)) (k0_pay30 (k0_pay4 (grid0.coords t)) k0_pay27) (k0_pay32 (iblk m c 9 t)) (iblk m c 11 t) (iblk m c 14 t) (iblk m c 13 t))
        (k0_pay42 (F := Ideal) (k0_pay5 (grid0.coords t)) (k0_pay30 (k0_pay4 (grid0.coords t)) k0_pay27) (k0_pay32 (iblk m c 9 t)) (iblk m c 11 t) (iblk m c 14 t) (iblk m c 13 t))
        0#32 (ix2 i j)
      = (∑ k ∈ Finset.range (win j.val), spread (D m c) (W m c) (ps m c) (t.val / 4) (t.val % 4 * 544 + i.val + k) j.val)
        - dpool (D m c) (W m c) (ps m c) (t.val / 4) (t.val % 4 * 544 + i.val) j.val := by
  have hF : ∀ (n : ℕ) (h : n < 560), 112 - t.val % 4 * 544 ≤ n →
      (Ideal.div (k0_pay38 (F := Ideal) (k0_pay5 (grid0.coords t)) (k0_pay32 (iblk m c 9 t)) (iblk m c 11 t) (iblk m c 14 t) (iblk m c 13 t) (ix2 ⟨n, h⟩ j) : EReal)
        (k0_pay30 (F := Ideal) (k0_pay4 (grid0.coords t)) k0_pay27 (ix2 ⟨n, h⟩ j)) : EReal)
        = spread (D m c) (W m c) (ps m c) (t.val / 4) (t.val % 4 * 544 + n) j.val := by
    intro n h hn
    rw [dpools, count _ _ (t.val % 4 * 544 + n) ⟨n, h⟩ j (by omega)
      (by rw [rowNo, (idx t).2.2.2.2.2.2.2.2.2.2.2.2.2.2.2.2]; rfl) (window j), if_pos (by omega), spread]
  pointwise [k0_pay1]
  rw [leading2 _ _ _ _ _ _ _ _ j i.val _ hF (by omega) (by omega), leading4 _ _ _ _ _ _ _ _ j i.val _ hF (by omega) (by omega),
    leading8 _ _ _ _ _ _ _ _ j i.val _ hF (by omega) (by omega), leading16 _ _ _ _ _ _ _ _ j i.val _ hF (by omega) (by omega),
    group, leading (fun n => spread (D m c) (W m c) (ps m c) (t.val / 4) (t.val % 4 * 544 + n) j.val) (j.val / 64) i.val (by omega), dpools]
  simp only [Nat.add_assoc]
  rfl

end Cert.KernelIdeal.Value
-- ==== Proof.Sums.lean ====
/- The rearrangements of sums that stand between the kernel's tiles and the plain formulas: a window matrix and a
   window, rows counted by tiles and by sequences, a block-diagonal matrix and its blocks. -/
module

public import proofs.«01_k».proof.Proof.Spec

@[expose] public section

noncomputable section

namespace Cert.ConvPool

open Idealize.ShloMosaic

/-- Pairs counted through. -/
theorem range_mul (g : ℕ → ℕ → EReal) (m n : ℕ) :
    ∑ a ∈ Finset.range m, ∑ b ∈ Finset.range n, g a b = ∑ k ∈ Finset.range (m * n), g (k / n) (k % n) := by
  induction m with
  | zero => simp
  | succ m ih =>
    rw [Finset.sum_range_succ, ih, Nat.succ_mul, Finset.sum_range_add]
    congr 1
    refine Finset.sum_congr rfl fun b hb => ?_
    have hb := Finset.mem_range.mp hb
    have e1 : (m * n + b) / n = m := by rw [Nat.mul_comm, Nat.mul_add_div (by omega), Nat.div_eq_of_lt hb, Nat.add_zero]
    have e2 : (m * n + b) % n = b := by rw [Nat.mul_comm, Nat.mul_add_mod, Nat.mod_eq_of_lt hb]
    rw [e1, e2]

/-- Sixteen tiles of 544 rows are the rows of the four sequences. -/
theorem tiles_eq_rows (f : ℕ → ℕ → EReal) :
    ∑ t : Fin 16, ∑ x : Fin 544, f (t.val / 4) (t.val % 4 * 544 + x.val) = rows f := by
  rw [rows, range_mul,
    Finset.sum_fin_eq_sum_range (n := 16) (fun t => ∑ x : Fin 544, f (t.val / 4) (t.val % 4 * 544 + x.val))]
  refine Eq.trans (b := ∑ t ∈ Finset.range 16, ∑ x ∈ Finset.range 544, f (t / 4) (t % 4 * 544 + x)) ?_ ?_
  · refine Finset.sum_congr rfl fun t ht => ?_
    rw [dif_pos (Finset.mem_range.mp ht), Finset.sum_range]
  · rw [range_mul (fun t x => f (t / 4) (t % 4 * 544 + x))]
    refine Finset.sum_congr rfl fun k _ => ?_
    have e1 : k / 544 / 4 = k / 2176 := by omega
    have e2 : k / 544 % 4 * 544 + k % 544 = k % 2176 := by omega
    rw [e1, e2]

/-- A tile's 544 rows in 68 blocks of eight. -/
theorem eights (g : ℕ → EReal) : ∑ x : Fin 544, g x.val = ∑ r : Fin 8, ∑ x : Fin 68, g (x.val * 8 + r.val) := by
  rw [Finset.sum_comm, ← Finset.sum_range (fun x => g x)]
  refine Eq.trans (b := ∑ x ∈ Finset.range 68, ∑ r ∈ Finset.range 8, g (x * 8 + r)) ?_ ?_
  · rw [range_mul (fun x r => g (x * 8 + r))]
    refine Finset.sum_congr rfl fun k _ => ?_
    have e : k / 8 * 8 + k % 8 = k := by omega
    rw [e]
  · rw [Finset.sum_range]
    refine Finset.sum_congr rfl fun x _ => ?_
    rw [Finset.sum_range]

/-- Eight partial sums over every eighth row of all tiles are the sum over the rows. -/
theorem folds_eq_rows (f : ℕ → ℕ → EReal) :
    ∑ r : Fin 8, ∑ t : Fin 16, ∑ x : Fin 68, f (t.val / 4) (t.val % 4 * 544 + (x.val * 8 + r.val)) = rows f := by
  rw [Finset.sum_comm, ← tiles_eq_rows]
  refine Finset.sum_congr rfl fun t _ => ?_
  exact (eights fun x => f (t.val / 4) (t.val % 4 * 544 + x)).symm

/-- Rows that are zero in front of the sequences do not count. -/
theorem rows_eq (f : ℕ → ℕ → EReal) (hf : ∀ b q, q < 112 → f b q = 0) :
    rows f = ∑ b : Fin 4, ∑ l : Fin 2064, f b.val (l.val + 112) := by
  rw [rows, Finset.sum_range]
  refine Finset.sum_congr rfl fun b _ => ?_
  rw [show 2176 = 112 + 2064 from rfl, Finset.sum_range_add, Finset.sum_eq_zero (fun q hq => hf _ _ (Finset.mem_range.mp hq)), zero_add,
    Finset.sum_range]
  refine Finset.sum_congr rfl fun l _ => ?_
  rw [Nat.add_comm]

/-- The window matrix from the left: the rows of the window that ends at row `t`. -/
theorem window_back (F : ℕ → EReal) (hF : ∀ q, q < 112 → F q = 0) (t n : ℕ) (ht : t < 2064) :
    ∑ s : Fin 2064, F (s.val + 112) * (if s.val ≤ t ∧ t < s.val + n then (1 : EReal) else 0)
      = ∑ k ∈ Finset.range n, F (t + 112 - k) := by
  rw [← Finset.sum_range (fun s => F (s + 112) * (if s ≤ t ∧ t < s + n then (1 : EReal) else 0))]
  simp only [mul_ite, mul_one, mul_zero]
  rw [← Finset.sum_filter, ← Finset.sum_filter_add_sum_filter_not (Finset.range n) (fun k => k ≤ t),
    Finset.sum_eq_zero (s := Finset.filter (fun k => ¬ k ≤ t) (Finset.range n)), add_zero]
  · refine Finset.sum_nbij' (fun s => t - s) (fun k => t - k) ?_ ?_ ?_ ?_ ?_
    · intro s hs
      simp only [Finset.mem_filter, Finset.mem_range] at hs ⊢
      omega
    · intro k hk
      simp only [Finset.mem_filter, Finset.mem_range] at hk ⊢
      omega
    · intro s hs
      simp only [Finset.mem_filter, Finset.mem_range] at hs
      omega
    · intro k hk
      simp only [Finset.mem_filter, Finset.mem_range] at hk
      omega
    · intro s hs
      simp only [Finset.mem_filter, Finset.mem_range] at hs
      congr 1
      omega
  · intro k hk
    simp only [Finset.mem_filter, Finset.mem_range] at hk
    exact hF _ (by omega)

/-- The window matrix from the right: the rows whose windows hold row `s`. -/
theorem window_ahead (G : ℕ → EReal) (hG : ∀ q, 2176 ≤ q → G q = 0) (s n : ℕ) (hs : s < 2064) :
    ∑ t : Fin 2064, G (t.val + 112) * (if s ≤ t.val ∧ t.val < s + n then (1 : EReal) else 0)
      = ∑ k ∈ Finset.range n, G (s + 112 + k) := by
  rw [← Finset.sum_range (fun t => G (t + 112) * (if s ≤ t ∧ t < s + n then (1 : EReal) else 0))]
  simp only [mul_ite, mul_one, mul_zero]
  rw [← Finset.sum_filter, ← Finset.sum_filter_add_sum_filter_not (Finset.range n) (fun k => s + k < 2064),
    Finset.sum_eq_zero (s := Finset.filter (fun k => ¬ s + k < 2064) (Finset.range n)), add_zero]
  · refine Finset.sum_nbij' (fun t => t - s) (fun k => s + k) ?_ ?_ ?_ ?_ ?_
    · intro t ht
      simp only [Finset.mem_filter, Finset.mem_range] at ht ⊢
      omega
    · intro k hk
      simp only [Finset.mem_filter, Finset.mem_range] at hk ⊢
      omega
    · intro t ht
      simp only [Finset.mem_filter, Finset.mem_range] at ht
      omega
    · intro k hk
      simp only [Finset.mem_filter, Finset.mem_range] at hk
      omega
    · intro t ht
      simp only [Finset.mem_filter, Finset.mem_range] at ht
      congr 1
      omega
  · intro k hk
    simp only [Finset.mem_filter, Finset.mem_range] at hk
    exact hG _ (by omega)

/-- A sum over 256 channels that only looks at one group of 64. -/
theorem one_group (g : ℕ) (hg : g < 4) (A : ℕ → EReal) (hA : ∀ c, c / 64 ≠ g → A c = 0) :
    ∑ c ∈ Finset.range 256, A c = ∑ k : Fin 64, A (g * 64 + k.val) := by
  refine Eq.trans (b := ∑ a ∈ Finset.range 4, ∑ k ∈ Finset.range 64, A (a * 64 + k)) ?_ ?_
  · rw [range_mul (fun a k => A (a * 64 + k))]
    refine Finset.sum_congr rfl fun k _ => ?_
    have e : k / 64 * 64 + k % 64 = k := by omega
    rw [e]
  · rw [Finset.sum_eq_single g, Finset.sum_range]
    · intro a _ ha
      refine Finset.sum_eq_zero fun k hk => hA _ ?_
      have := Finset.mem_range.mp hk
      omega
    · intro h
      exact absurd (Finset.mem_range.mpr hg) h

variable (W : ℕ → ℕ → ℕ → EReal)

/-- A row times the block-diagonal matrix. -/
theorem mix_left (A : ℕ → EReal) (g d : ℕ) (hg : g < 4) (hd : d < 64) :
    ∑ c ∈ Finset.range 256, A c * mix W c (g * 64 + d) = ∑ k : Fin 64, A (g * 64 + k.val) * W g k.val d := by
  have e1 : (g * 64 + d) / 64 = g := by omega
  have e2 : (g * 64 + d) % 64 = d := by omega
  rw [one_group g hg]
  · refine Finset.sum_congr rfl fun k _ => ?_
    have e3 : (g * 64 + k.val) / 64 = g := by omega
    have e4 : (g * 64 + k.val) % 64 = k.val := by omega
    rw [mix, e1, e2, e3, e4, if_pos rfl]
  · intro c hc
    rw [mix, e1, if_neg hc, mul_zero]

/-- A row times its transpose. -/
theorem mix_right (A : ℕ → EReal) (g c : ℕ) (hg : g < 4) (hc : c < 64) :
    ∑ d ∈ Finset.range 256, A d * mix W (g * 64 + c) d = ∑ k : Fin 64, A (g * 64 + k.val) * W g c k.val := by
  have e1 : (g * 64 + c) / 64 = g := by omega
  have e2 : (g * 64 + c) % 64 = c := by omega
  rw [one_group g hg]
  · refine Finset.sum_congr rfl fun k _ => ?_
    have e3 : (g * 64 + k.val) / 64 = g := by omega
    have e4 : (g * 64 + k.val) % 64 = k.val := by omega
    rw [mix, e1, e2, e3, e4, if_pos rfl]
  · intro d hd
    rw [mix, e1, if_neg (Ne.symm hd), mul_zero]

end Cert.ConvPool
-- ==== Proof.Ref.lean ====
/- What the reference computes: its stages, one after another, are the plain formulas. -/
module

public import proofs.«01_k».proof.Proof.Sums
public import proofs.«01_k».proof.Proof.Gen.ReferenceIdeal.Read
public import Idealize.ShloMosaic.Lib.WordCmp
public import Idealize.ShloMosaic.Lib.IdealHost
public import Idealize.ShloMosaic.Lib.TwoAxisContraction

@[expose] public section

set_option maxRecDepth 16384
set_option maxHeartbeats 4000000

noncomputable section

namespace Cert.ReferenceIdeal.Plain

open Idealize.ShloMosaic Idealize.ShloMosaic.TcCoe Idealize.SL.Sem
open Cert.ReferenceIdeal Cert.ReferenceIdeal.Gen Cert.ReferenceIdeal.Read Cert.ConvPool

variable (x0 x1 : FVec Ideal S4x2064x1024 .f32) (x2 : FVec Ideal S3x256 .f32) (x3 : FVec Ideal S4x64x64 .f32) (x4 : FVec Ideal S256 .f32)

/-- The arrays read at natural numbers. -/
abbrev seqs (x : FVec Ideal S4x2064x1024 .f32) : ℕ → ℕ → ℕ → EReal := padded fun b t j => x (ix3 b t j)
abbrev taps : ℕ → ℕ → EReal := fun k j => if h : k < 3 ∧ j < 256 then x2 (ix2 ⟨k, h.1⟩ ⟨j, h.2⟩) else 0
abbrev mats : ℕ → ℕ → ℕ → EReal := fun g i j =>
  if h : g < 4 ∧ i < 64 ∧ j < 64 then x3 (ix3 ⟨g, h.1⟩ ⟨i, h.2.1⟩ ⟨j, h.2.2⟩) else 0
abbrev scale : ℕ → EReal := fun j => if h : j < 256 then x4 (ix1 ⟨j, h⟩) else 0

theorem seqs_at (x : FVec Ideal S4x2064x1024 .f32) (b : Fin 4) (l : Fin 2064) (q j : ℕ) (hq : q = l.val + 112) (hj : j < 1024) :
    seqs x b.val q j = x (ix3 b l ⟨j, hj⟩) := by
  subst hq
  show padded _ _ _ _ = _
  unfold padded
  rw [dif_pos ⟨b.isLt, by omega, by omega, hj⟩]
  simp only [Nat.add_sub_cancel]

theorem seqs_zero (x : FVec Ideal S4x2064x1024 .f32) (b q j : ℕ) (hq : q < 112 ∨ 2176 ≤ q) : seqs x b q j = 0 := by
  show padded _ _ _ _ = _
  unfold padded
  rw [dif_neg (by omega)]

theorem zero_bits : (FloatOps.ofBits .f32 0x00000000#32 : Ideal .f32) = (0 : EReal) := by
  pointwise []

theorem two_shl (g : Fin 4) : IntOp.shli .host 2#32 (BitVec.ofNat 32 g.val) = BitVec.ofNat 32 (2 ^ (g.val + 1)) := by
  revert g
  decide

/-- The gated input with two zero rows in front. -/
theorem v6_at (b : Fin 4) (l : Fin 2066) (c : Fin 256) :
    (val_main_v6 (F := Ideal) x0 (ix3 b l c) : EReal) = gated (seqs x0) b.val (l.val + 110) c.val := by
  pointwise [val_main_v6, val_main_v5, val_main_cst, val_main_v4, val_main_v1, val_main_v2]
  have hl := l.isLt
  have hc := c.isLt
  unfold gated
  by_cases h : l.val < 2
  · rw [dif_pos h, seqs_zero _ _ _ _ (by omega), zero_mul]
  · rw [dif_neg h, seqs_at x0 b ⟨l.val - 2, by omega⟩ _ _ (by show l.val + 110 = l.val - 2 + 112; omega) (by omega),
      seqs_at x0 b ⟨l.val - 2, by omega⟩ _ _ (by show l.val + 110 = l.val - 2 + 112; omega) (by omega)]

/-- The convolution. -/
theorem v27_at (b : Fin 4) (l : Fin 2064) (c : Fin 256) :
    (val_main_v27 (F := Ideal) x0 x2 (ix3 b l c) : EReal) = conv (seqs x0) (taps x2) b.val (l.val + 112) c.val := by
  pointwise [val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8]
  rw [v6_at, v6_at, v6_at, conv]
  have h0 : taps x2 0 c.val = x2 (ix2 0 c) := dif_pos ⟨by omega, c.isLt⟩
  have h1 : taps x2 1 c.val = x2 (ix2 1 c) := dif_pos ⟨by omega, c.isLt⟩
  have h2 : taps x2 2 c.val = x2 (ix2 2 c) := dif_pos ⟨by omega, c.isLt⟩
  rw [h0, h1, h2]
  have e0 : l.val + 112 - 2 = l.val + 110 := by omega
  have e1 : l.val + 112 - 1 = 1 + l.val + 110 := by omega
  have e2 : l.val + 112 = 2 + l.val + 110 := by omega
  rw [e0, e1, e2]

/-- The cotangent of the convolution. -/
theorem v94_at (b : Fin 4) (l : Fin 2064) (c : Fin 256) :
    (val_main_v94 (F := Ideal) x0 x1 (ix3 b l c) : EReal) = dconv (seqs x0) (seqs x1) b.val (l.val + 112) c.val := by
  pointwise [val_main_v94, val_main_v0, val_main_v72, val_main_v71]
  have hc := c.isLt
  rw [dconv, seqs_at x0 b l _ _ rfl (by omega), seqs_at x1 b l _ _ rfl (by omega), mul_comm]

/-- The window matrix. -/
theorem v49_at (t s : Fin 2064) (g : Fin 4) :
    (val_main_v49 (F := Ideal) (ix3 t s g) : EReal) = if s.val ≤ t.val ∧ t.val < s.val + 2 ^ (g.val + 1) then 1 else 0 := by
  pointwise [val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v32, val_main_v31, val_main_v30, val_main_c, val_main_call0_v0, val_main_call0_v1, val_main_cst_1, val_main_cst_2]
  have ht := t.isLt
  have hs := s.isLt
  rw [two_shl]
  have hg : 2 ^ (g.val + 1) ≤ 2 ^ 4 := Nat.pow_le_pow_right (by omega) (by omega)
  have e : IntOp.addi (BitVec.ofNat 32 s.val) (BitVec.ofNat 32 (2 ^ (g.val + 1))) = BitVec.ofNat 32 (s.val + 2 ^ (g.val + 1)) := (BitVec.ofNat_add _ _).symm
  rw [e, WordCmp.cmpi_sle_ofNat (by omega) (by omega), WordCmp.cmpi_slt_ofNat (by omega) (by omega), WordCmp.andi_ofBool, WordCmp.select_ofBool]
  simp only [Bool.and_eq_true, decide_eq_true_eq]

/-- The number of rows in a window. -/
theorem v56_at (t : Fin 2064) (g : Fin 4) :
    (val_main_v56 (F := Ideal) (ix3 t 0 g) : EReal) = (((min (t.val + 1) (2 ^ (g.val + 1)) : ℕ) : ℝ) : EReal) := by
  pointwise [val_main_v56, val_main_v55, val_main_v54, val_main_v53, val_main_v52, val_main_v51, val_main_v50,
    val_main_v36, val_main_v35, val_main_v34, val_main_v31, val_main_v30, val_main_c, val_main_c_3]
  have ht := t.isLt
  rw [two_shl]
  have hg : 2 ^ (g.val + 1) ≤ 2 ^ 4 := Nat.pow_le_pow_right (by omega) (by omega)
  have e : IntOp.addi (BitVec.ofNat 32 t.val) 1#32 = BitVec.ofNat 32 (t.val + 1) := (BitVec.ofNat_add _ _).symm
  rw [e]
  have h : (IntOp.minsi (BitVec.ofNat 32 (t.val + 1)) (BitVec.ofNat 32 (2 ^ (g.val + 1)))).toInt = ((min (t.val + 1) (2 ^ (g.val + 1)) : ℕ) : ℤ) := by
    unfold IntOp.minsi
    have h1 : (BitVec.ofNat 32 (t.val + 1)).toInt = ((t.val + 1 : ℕ) : ℤ) := WordCmp.toInt_ofNat_of_lt (by omega)
    have h2 : (BitVec.ofNat 32 (2 ^ (g.val + 1))).toInt = ((2 ^ (g.val + 1) : ℕ) : ℤ) := WordCmp.toInt_ofNat_of_lt (by omega)
    split_ifs with h
    · simp only [BitVec.slt, h1, h2, decide_eq_true_eq] at h
      omega
    · simp only [BitVec.slt, h1, h2, decide_eq_true_eq] at h
      omega
  show (((IntOp.minsi (BitVec.ofNat 32 (t.val + 1)) (BitVec.ofNat 32 (2 ^ (g.val + 1)))).toInt : ℝ) : EReal) = _
  rw [h]
  simp only [Int.cast_natCast]

/-- The gradient of the gated input. -/
theorem v128_at (b : Fin 4) (l : Fin 2064) (c : Fin 256) :
    (val_main_v128 (F := Ideal) x0 x1 x2 (ix3 b l c) : EReal) = dgated (seqs x0) (seqs x1) (taps x2) b.val (l.val + 112) c.val := by
  pointwise [val_main_v128, val_main_v123, val_main_v122, val_main_v117, val_main_v116, val_main_v112, val_main_v111, val_main_v106, val_main_v105,
    val_main_v102, val_main_v97, val_main_v96, val_main_v24, val_main_v22, val_main_v21, val_main_v17, val_main_v15, val_main_v14,
    val_main_v11, val_main_v9, val_main_v8, val_main_cst_8, val_main_cst_12, val_main_cst_16]
  have h0 : taps x2 0 c.val = x2 (ix2 0 c) := dif_pos ⟨by omega, c.isLt⟩
  have h1 : taps x2 1 c.val = x2 (ix2 1 c) := dif_pos ⟨by omega, c.isLt⟩
  have h2 : taps x2 2 c.val = x2 (ix2 2 c) := dif_pos ⟨by omega, c.isLt⟩
  have hl := l.isLt
  rw [dgated, h0, h1, h2, v94_at]
  congr 1
  · congr 1
    by_cases h : l.val + 1 < 2064
    · rw [dif_pos (by omega), v94_at]
      have e : 2 + l.val - 1 + 112 = l.val + 112 + 1 := by omega
      rw [e]
    · rw [dif_neg (by omega), dconv, seqs_zero x1 _ _ _ (by omega), zero_mul, mul_zero]
  · by_cases h : 2 + l.val < 2064
    · rw [dif_pos h, v94_at]
      have e : 2 + l.val + 112 = l.val + 112 + 2 := by omega
      rw [e]
    · rw [dif_neg h, dconv, seqs_zero x1 _ _ _ (by omega), zero_mul, mul_zero]

/-- The first three of the four parts of the input's gradient. -/
theorem v95_at (b : Fin 4) (l : Fin 2064) (c : Fin 256) :
    (val_main_v95 (F := Ideal) x0 x1 x2 (ix3 b l c) : EReal)
      = seqs x1 b.val (l.val + 112) c.val * conv (seqs x0) (taps x2) b.val (l.val + 112) c.val := by
  have hc := c.isLt
  pointwise [val_main_v95, val_main_v72, val_main_v71]
  rw [v27_at, seqs_at x1 b l _ _ rfl (by omega)]

theorem v130_at (b : Fin 4) (l : Fin 2064) (c : Fin 256) :
    (val_main_v130 (F := Ideal) x0 x1 x2 (ix3 b l c) : EReal)
      = dgated (seqs x0) (seqs x1) (taps x2) b.val (l.val + 112) c.val * seqs x0 b.val (l.val + 112) (512 + c.val) := by
  have hc := c.isLt
  pointwise [val_main_v130, val_main_v2]
  rw [v128_at, seqs_at x0 b l _ _ rfl (by omega)]

theorem v129_at (b : Fin 4) (l : Fin 2064) (c : Fin 256) :
    (val_main_v129 (F := Ideal) x0 x1 x2 (ix3 b l c) : EReal)
      = dgated (seqs x0) (seqs x1) (taps x2) b.val (l.val + 112) c.val * seqs x0 b.val (l.val + 112) (256 + c.val) := by
  have hc := c.isLt
  pointwise [val_main_v129, val_main_v1]
  rw [v128_at, seqs_at x0 b l _ _ rfl (by omega), mul_comm]

/-- The windowed mean minus the row. -/
theorem v63_at (b : Fin 4) (t : Fin 2064) (g : Fin 4) (c : Fin 64) :
    (val_main_v63 (F := Ideal) x0 (ix4 b t g c) : EReal) = pooled (seqs x0) b.val (t.val + 112) (g.val * 64 + c.val) := by
  pointwise [val_main_v63, val_main_v62, val_main_v61, val_main_v60, val_main_v59, val_main_v58, val_main_v57, val_main_v29, val_main_v3]
  have ht := t.isLt
  have hc := c.isLt
  have hg := g.isLt
  have e1 : (g.val * 64 + c.val) / 64 = g.val := by omega
  have e2 : t.val + 112 - 111 = t.val + 1 := by omega
  rw [pooled, if_pos (by omega), v56_at, cnt, win, e1, e2, seqs_at x0 b t _ _ rfl (by omega),
    ← window_back (fun q => seqs x0 b.val q (768 + (g.val * 64 + c.val))) (fun q hq => seqs_zero _ _ _ _ (by omega)) t.val _ ht]
  congr 2
  refine Finset.sum_congr rfl fun s _ => ?_
  rw [v49_at, seqs_at x0 b s _ _ rfl (by omega)]

/-- The group products. -/
theorem v66_at (b : Fin 4) (t : Fin 2064) (d : Fin 256) :
    (val_main_v66 (F := Ideal) x0 x3 (ix3 b t d) : EReal)
      = ∑ c ∈ Finset.range 256, pooled (seqs x0) b.val (t.val + 112) c * mix (mats x3) c d.val := by
  pointwise [val_main_v66, val_main_v65, val_main_v64]
  have hd := d.isLt
  have e : d.val = d.val / 64 * 64 + d.val % 64 := by omega
  have key := mix_left (mats x3) (fun c => pooled (seqs x0) b.val (t.val + 112) c) (d.val / 64) (d.val % 64) (by omega) (by omega)
  rw [← e] at key
  rw [key]
  refine Finset.sum_congr rfl fun k _ => ?_
  have h : mats x3 (d.val / 64) k.val (d.val % 64) = x3 (ix3 ⟨d.val / 64, by omega⟩ k ⟨d.val % 64, by omega⟩) := dif_pos ⟨by omega, k.isLt, by omega⟩
  rw [h, v63_at, mul_comm]

/-- The scaled cotangent. -/
theorem v78_at (b : Fin 4) (t : Fin 2064) (d : Fin 256) :
    (val_main_v78 (F := Ideal) x1 x4 (ix3 b t d) : EReal) = dpre (seqs x1) (scale x4) b.val (t.val + 112) d.val := by
  pointwise [val_main_v78, val_main_v77, val_main_v67, val_main_v73, val_main_v71]
  have hd := d.isLt
  have h : scale x4 d.val = x4 (ix1 d) := dif_pos d.isLt
  rw [dpre, h, seqs_at x1 b t _ _ rfl (by omega)]

/-- The cotangent of the windowed mean minus the row. -/
theorem v83_at (b : Fin 4) (t : Fin 2064) (g : Fin 4) (c : Fin 64) :
    (val_main_v83 (F := Ideal) x1 x3 x4 (ix4 b t g c) : EReal) = dpool (seqs x1) (mats x3) (scale x4) b.val (t.val + 112) (g.val * 64 + c.val) := by
  pointwise [val_main_v83, val_main_v82, val_main_v81, val_main_v80]
  have ht := t.isLt
  rw [dpool, if_pos (by omega), mix_right (mats x3) _ _ _ g.isLt c.isLt]
  refine Finset.sum_congr rfl fun k _ => ?_
  have h : mats x3 g.val c.val k.val = x3 (ix3 g c k) := dif_pos ⟨g.isLt, c.isLt, k.isLt⟩
  rw [h, v78_at]

/-- The last part of the input's gradient. -/
theorem v93_at (b : Fin 4) (s : Fin 2064) (c : Fin 256) :
    (val_main_v93 (F := Ideal) x1 x3 x4 (ix3 b s c) : EReal)
      = (∑ k ∈ Finset.range (win c.val), spread (seqs x1) (mats x3) (scale x4) b.val (s.val + 112 + k) c.val)
        - dpool (seqs x1) (mats x3) (scale x4) b.val (s.val + 112) c.val := by
  pointwise [val_main_v93, val_main_v92, val_main_v91, val_main_v90, val_main_v89, val_main_v88, val_main_v87, val_main_v86, val_main_v60, val_main_v59]
  have hs := s.isLt
  have hc := c.isLt
  have e : c.val / 64 * 64 + c.val % 64 = c.val := by omega
  rw [v83_at]
  refine (add_comm (_ : EReal) _).trans (Eq.trans ?_ (sub_eq_add_neg (_ : EReal) _).symm)
  simp only [e]
  congr 1
  rw [← window_ahead (fun q => spread (seqs x1) (mats x3) (scale x4) b.val q c.val) (fun q hq => ?_) s.val _ hs]
  · refine Finset.sum_congr rfl fun t _ => ?_
    rw [v83_at, v56_at, v49_at]
    have e2 : t.val + 112 - 111 = t.val + 1 := by omega
    simp only [e, spread, cnt, win, e2]
    congr
  · have h1 : 1 ≤ min (q - 111) (win c.val) := Nat.le_min.mpr ⟨by omega, Nat.one_le_two_pow⟩
    have h2 : ((min (q - 111) (win c.val) : ℕ) : ℝ) ≠ 0 := by
      simp only [ne_eq, Nat.cast_eq_zero]
      omega
    show Ideal.div (dpool _ _ _ _ _ _) (cnt q c.val) = 0
    rw [dpool, if_neg (by omega), cnt, Ideal.div_coe h2]
    simp

/-- The gradient of the group matrices. -/
theorem v85_at (g : Fin 4) (c d : Fin 64) :
    (val_main_v85 (F := Ideal) x0 x1 x4 (ix3 g c d) : EReal)
      = rows (dmix (seqs x0) (seqs x1) (scale x4) (g.val * 64 + c.val) (g.val * 64 + d.val)) := by
  pointwise [val_main_v85, val_main_v84, val_main_v81, val_main_v80]
  rw [rows_eq _ (fun b q hq => by rw [dmix, pooled, if_neg (by omega), zero_mul])]
  refine Finset.sum_congr rfl fun b _ => Finset.sum_congr rfl fun t _ => ?_
  rw [v78_at, v63_at, dmix, mul_comm]

/-- A sum over sequences and rows at a channel. -/
theorem sum_rows (x : FVec Ideal S4x2064x256 .f32) (z : FVec Ideal S_ .f32) (hz : ∀ i, (z i : EReal) = 0) (d : Fin 256) :
    (Host.reduceAdd x z reducesTo_S4x2064x256_S256_d0_1 h_S_ (ix1 d) : EReal) = ∑ b : Fin 4, ∑ t : Fin 2064, (x (ix3 b t d) : EReal) := by
  rw [ValueIdx.hostReduceAdd_apply]
  show z _ + ∑ i ∈ Finset.univ.filter (fun i => reducesTo_S4x2064x256_S256_d0_1.drop i = ix1 d), (x i : EReal) = _
  rw [hz, zero_add]
  refine (Finset.sum_filter_eq_sum_of_fiber _ (fun k : Fin 4 × Fin 2064 => ix3 k.1 k.2 d)
    (fun _ _ e => Prod.ext (congrFun e 0) (congrFun e 1)) (fun i => ?_) x).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext a
      apply Fin.ext
      match a with
      | ⟨0, _⟩ => rfl
  · simp only [Fintype.sum_prod_type]

/-- A sum over two axes of size one. -/
theorem sum_one (x : FVec Ideal S1x1x256 .f32) (z : FVec Ideal S_ .f32) (hz : ∀ i, (z i : EReal) = 0) (d : Fin 256) :
    (Host.reduceAdd x z reducesTo_S1x1x256_S256_d0_1 h_S_ (ix1 d) : EReal) = x (ix3 0 0 d) := by
  rw [ValueIdx.hostReduceAdd_apply]
  show z _ + ∑ i ∈ Finset.univ.filter (fun i => reducesTo_S1x1x256_S256_d0_1.drop i = ix1 d), (x i : EReal) = _
  rw [hz, zero_add]
  refine (Finset.sum_filter_eq_sum_of_fiber _ (fun k : Fin 1 × Fin 1 => ix3 k.1 k.2 d)
    (fun _ _ e => Prod.ext (congrFun e 0) (congrFun e 1)) (fun i => ?_) x).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext a
      apply Fin.ext
      match a with
      | ⟨0, _⟩ => rfl
  · simp only [Fintype.sum_prod_type, Finset.univ_unique, Finset.sum_singleton]
    rfl

/-- The gradient of the output scale. -/
theorem v79_at (d : Fin 256) :
    (val_main_v79 (F := Ideal) x0 x1 x3 (ix1 d) : EReal) = rows (dscale (seqs x0) (seqs x1) (mats x3) d.val) := by
  have hd := d.isLt
  unfold val_main_v79
  rw [sum_one _ _ (fun i => by pointwise [val_main_cst_5])]
  pointwise [val_main_v76]
  unfold val_main_v75
  rw [sum_rows _ _ (fun i => by pointwise [val_main_cst_4]),
    rows_eq _ (fun b q hq => by rw [dscale, seqs_zero _ _ _ _ (by omega), zero_mul])]
  refine Finset.sum_congr rfl fun b _ => Finset.sum_congr rfl fun t _ => ?_
  pointwise [val_main_v74, val_main_v73, val_main_v71]
  rw [v66_at, dscale, seqs_at x1 b t _ _ rfl (by omega), mul_comm]

/-- The gradient of one tap: a product of the cotangent with the shifted input, over all rows. -/
theorem tap_at (x : FVec Ideal S4x2064x256 .f32) (z : FVec Ideal S_ .f32) (hz : ∀ i, (z i : EReal) = 0) (k : ℕ) (d : Fin 256)
    (hx : ∀ (b : Fin 4) (t : Fin 2064), (x (ix3 b t d) : EReal) = dtap (seqs x0) (seqs x1) k d.val b.val (t.val + 112)) :
    (Host.reduceAdd x z reducesTo_S4x2064x256_S256_d0_1 h_S_ (ix1 d) : EReal) = rows (dtap (seqs x0) (seqs x1) k d.val) := by
  rw [sum_rows _ _ hz, rows_eq _ (fun b q hq => by rw [dtap, dconv, seqs_zero _ _ _ _ (by omega), zero_mul, zero_mul])]
  exact Finset.sum_congr rfl fun b _ => Finset.sum_congr rfl fun t _ => hx b t

theorem v101_at (d : Fin 256) : (val_main_v101 (F := Ideal) x0 x1 (ix1 d) : EReal) = rows (dtap (seqs x0) (seqs x1) 2 d.val) := by
  unfold val_main_v101
  rw [sum_one _ _ (fun i => by pointwise [val_main_cst_7])]
  pointwise [val_main_v100]
  refine tap_at x0 x1 _ _ (fun i => by pointwise [val_main_cst_6]) 2 d fun b t => ?_
  pointwise [val_main_v98, val_main_v23]
  rw [v94_at, v6_at, dtap]
  have e : 2 + t.val + 110 = t.val + 112 - (2 - 2) := by omega
  simp only [e]

theorem v110_at (d : Fin 256) : (val_main_v110 (F := Ideal) x0 x1 (ix1 d) : EReal) = rows (dtap (seqs x0) (seqs x1) 1 d.val) := by
  unfold val_main_v110
  rw [sum_one _ _ (fun i => by pointwise [val_main_cst_11])]
  pointwise [val_main_v109]
  refine tap_at x0 x1 _ _ (fun i => by pointwise [val_main_cst_10]) 1 d fun b t => ?_
  pointwise [val_main_v107, val_main_v16]
  rw [v94_at, v6_at, dtap]
  have e : 1 + t.val + 110 = t.val + 112 - (2 - 1) := by omega
  simp only [e]

theorem v121_at (d : Fin 256) : (val_main_v121 (F := Ideal) x0 x1 (ix1 d) : EReal) = rows (dtap (seqs x0) (seqs x1) 0 d.val) := by
  unfold val_main_v121
  rw [sum_one _ _ (fun i => by pointwise [val_main_cst_15])]
  pointwise [val_main_v120]
  refine tap_at x0 x1 _ _ (fun i => by pointwise [val_main_cst_14]) 0 d fun b t => ?_
  pointwise [val_main_v118, val_main_v10]
  rw [v94_at, v6_at, dtap]
  have e : t.val + 110 = t.val + 112 - (2 - 0) := by omega
  simp only [e]

/-- The gradient of the taps. -/
theorem v126_at (k : Fin 3) (d : Fin 256) :
    (val_main_v126 (F := Ideal) x0 x1 (ix2 k d) : EReal) = rows (dtap (seqs x0) (seqs x1) k.val d.val) := by
  have hk := k.isLt
  obtain ⟨k, hk⟩ := k
  pointwise [val_main_v126, val_main_v125, val_main_v124, val_main_v115, val_main_v114, val_main_v113, val_main_v104, val_main_v103,
    val_main_cst_9, val_main_cst_13, val_main_cst_17]
  rw [v101_at, v110_at, v121_at]
  interval_cases k
  all_goals simp

/-- The gradient of the input. -/
theorem v132_at (b : Fin 4) (t : Fin 2064) (c : Fin 1024) :
    (val_main_v132 (F := Ideal) x0 x1 x2 x3 x4 (ix3 b t c) : EReal)
      = du (seqs x0) (seqs x1) (taps x2) (mats x3) (scale x4) b.val (t.val + 112) c.val := by
  have hc := c.isLt
  pointwise [val_main_v132, val_main_v131]
  unfold du
  by_cases h1 : c.val < 256
  · rw [dif_pos h1, if_pos h1, v95_at]
  rw [dif_neg h1, if_neg h1]
  by_cases h2 : c.val < 512
  · rw [dif_pos (show c.val - 256 < 256 by omega), if_pos h2, v130_at]
    have e : 512 + (c.val - 256) = c.val + 256 := by omega
    simp only [e]
  rw [dif_neg (show ¬ c.val - 256 < 256 by omega), if_neg h2]
  by_cases h3 : c.val < 768
  · rw [dif_pos (show c.val - 256 - 256 < 256 by omega), if_pos h3, v129_at]
    have e : 256 + (c.val - 512) = c.val - 256 := by omega
    have e2 : c.val - 256 - 256 = c.val - 512 := by omega
    simp only [e2, e]
  rw [dif_neg (show ¬ c.val - 256 - 256 < 256 by omega), if_neg h3, v93_at]
  have e : c.val - 256 - 256 - 256 = c.val - 768 := by omega
  simp only [e]

end Cert.ReferenceIdeal.Plain
-- ==== Proof.ConvPoolFwd.lean ====
/- The block of convolution and pooling in the forward pass: a call of the kernel computes, in the rows of the four
   sequences, the gated causal convolution and, next to it, the multi-scale pooling with its group matrices and scale. -/
module

public import proofs.«01_k».proof.Defs
public import proofs.«01_k».proof.Proof.Pool
public import proofs.«01_k».proof.Proof.Ref
public import proofs.«01_k».proof.Proof.Gen.Kernel18Ideal.Frame
public import proofs.«01_k».proof.Proof.Gen.Reference18Ideal.Read
public import Idealize.ShloMosaic.Lib.Pipeline.ReadBack
public import Idealize.ShloMosaic.Lib.Pipeline.FrameSuffix
public import Idealize.ShloMosaic.Lib.Claim

@[expose] public section

set_option maxRecDepth 16384
set_option maxHeartbeats 4000000

noncomputable section

open Idealize.ShloMosaic Idealize.ShloMosaic.TcCoe Idealize.SL.Sem

namespace Cert.ConvPool

/-- The block's result: the gated convolution, and next to it the scaled group products of the pooled rows. -/
def mixed (U : ℕ → ℕ → ℕ → EReal) (w : ℕ → ℕ → EReal) (W : ℕ → ℕ → ℕ → EReal) (ps : ℕ → EReal) (b q c : ℕ) : EReal :=
  if c < 256 then U b q c * conv U w b q c
  else (∑ k ∈ Finset.range 256, pooled U b q k * mix W k (c - 256)) * ps (c - 256)

end Cert.ConvPool

namespace Cert.Kernel18Ideal.Value

open Idealize.ShloMosaic.Pipeline (Dat)
open Cert.Kernel18Ideal Cert.Kernel18Ideal.Gen Cert.ConvPool
open Cert.KernelIdeal.Value (front front_at mix_apply roll_back select_ofBool choose trailing)

variable (m : (ℓ : Loc nD τ sig) → Buf (Elt Ideal) ℓ)

/-- The block's input, its rows numbered with the zero rows in front. -/
abbrev U (c : Dev nD) : ℕ → ℕ → ℕ → EReal :=
  padded fun b t j => (m ((c : Thread nD τ).loc main_arg0) : FVec Ideal S4x2064x1024 .f32) (ix3 b t j)

/-- The convolution's taps. -/
abbrev w (c : Dev nD) : ℕ → ℕ → EReal := fun k j =>
  if h : k < 3 ∧ j < 256 then (m ((c : Thread nD τ).loc main_arg1) : FVec Ideal S3x256 .f32) (ix2 ⟨k, h.1⟩ ⟨j, h.2⟩) else 0

/-- The group matrices. -/
abbrev W (c : Dev nD) : ℕ → ℕ → ℕ → EReal := fun g i j =>
  if h : g < 4 ∧ i < 64 ∧ j < 64 then
    (m ((c : Thread nD τ).loc main_arg2) : FVec Ideal S4x64x64 .f32) (ix3 ⟨g, h.1⟩ ⟨i, h.2.1⟩ ⟨j, h.2.2⟩) else 0

/-- The output scale. -/
abbrev ps (c : Dev nD) : ℕ → EReal := fun j =>
  if h : j < 256 then (m ((c : Thread nD τ).loc main_arg3) : FVec Ideal S256 .f32) (ix1 ⟨j, h⟩) else 0

theorem V_v1 (c : Dev nD) : V m c main_v1 = front (m ((c : Thread nD τ).loc main_arg0)) := by
  unfold V V0
  simp only [hostOps0, hostOps0_1, hostOps0_2, List.flatten_cons, List.flatten_nil, List.cons_append, List.nil_append, List.append_nil]
  after_results_simp
  rfl

theorem V_v14 (c : Dev nD) (j : S256x256.Idx) : (V m c main_v14 : FVec Ideal S256x256 .bf16) j = mix (W m c) (j 0).val (j 1).val := by
  unfold V V0
  simp only [hostOps0, hostOps0_1, hostOps0_2, List.flatten_cons, List.flatten_nil, List.cons_append, List.nil_append, List.append_nil]
  after_results_simp
  pointwise
  idx_vars j
  exact mix_apply _ _ _

theorem V_v15 (c : Dev nD) (j : S1x256.Idx) : (V m c main_v15 : FVec Ideal S1x256 .f32) j = ps m c (j 1).val := by
  unfold V V0
  simp only [hostOps0, hostOps0_1, hostOps0_2, List.flatten_cons, List.flatten_nil, List.cons_append, List.nil_append, List.append_nil]
  after_results_simp
  pointwise
  idx_vars j
  rw [ps, dif_pos j1.isLt]

theorem idx : ∀ t : Fin cfg0.N, win0_0.index t = ![t.val, 0] ∧ win0_1.index t = ![t.val, 1] ∧ win0_2.index t = ![t.val, 2] ∧ win0_3.index t = ![t.val, 3]
    ∧ win0_4.index t = ![t.val * 34 - 1, 1] ∧ win0_5.index t = ![t.val * 34 - 1, 2] ∧ win0_6.index t = ![t.val * 34 - 1, 3]
    ∧ win0_7.index t = ![0, 0] ∧ win0_8.index t = ![0, 0] ∧ win0_9.index t = ![0, 0] ∧ win0_10.index t = ![t.val, 0] ∧ (grid0.coords t 0).val = t.val :=
  (by decide +kernel : ∀ t : Fin grid0.N, _)

theorem tlt (t : Fin cfg0.N) : t.val < 16 := lt_of_lt_of_eq t.isLt N_0

/-! ## The blocks at grid point `t`: sequence `t / 4`, rows `t % 4 * 544` and on -/

theorem iblk0 (c : Dev nD) (t : Fin cfg0.N) (i : Fin 544) (j : Fin 256) :
    (iblk m c 0 t : FVec Ideal S544x256 .f32) (ix2 i j) = U m c (t.val / 4) (t.val % 4 * 544 + i.val) j.val := by
  have ht := tlt t
  refine Eq.trans (b := (V m c main_v1 : FVec Ideal S8704x1024 .f32) (ix2 ⟨t.val * 544 + i.val, by omega⟩ ⟨j.val, by omega⟩)) ?_ ?_
  · blk_ext [iblk, idx t]
  · rw [V_v1]; exact front_at _ _ _ _ _ _ _ _ (by omega) (by omega) rfl

theorem iblk1 (c : Dev nD) (t : Fin cfg0.N) (i : Fin 544) (j : Fin 256) :
    (iblk m c 1 t : FVec Ideal S544x256 .f32) (ix2 i j) = U m c (t.val / 4) (t.val % 4 * 544 + i.val) (256 + j.val) := by
  have ht := tlt t
  refine Eq.trans (b := (V m c main_v1 : FVec Ideal S8704x1024 .f32) (ix2 ⟨t.val * 544 + i.val, by omega⟩ ⟨(256 + j.val), by omega⟩)) ?_ ?_
  · blk_ext [iblk, idx t]
  · rw [V_v1]; exact front_at _ _ _ _ _ _ _ _ (by omega) (by omega) rfl

theorem iblk2 (c : Dev nD) (t : Fin cfg0.N) (i : Fin 544) (j : Fin 256) :
    (iblk m c 2 t : FVec Ideal S544x256 .f32) (ix2 i j) = U m c (t.val / 4) (t.val % 4 * 544 + i.val) (512 + j.val) := by
  have ht := tlt t
  refine Eq.trans (b := (V m c main_v1 : FVec Ideal S8704x1024 .f32) (ix2 ⟨t.val * 544 + i.val, by omega⟩ ⟨(512 + j.val), by omega⟩)) ?_ ?_
  · blk_ext [iblk, idx t]
  · rw [V_v1]; exact front_at _ _ _ _ _ _ _ _ (by omega) (by omega) rfl

theorem iblk3 (c : Dev nD) (t : Fin cfg0.N) (i : Fin 544) (j : Fin 256) :
    (iblk m c 3 t : FVec Ideal S544x256 .f32) (ix2 i j) = U m c (t.val / 4) (t.val % 4 * 544 + i.val) (768 + j.val) := by
  have ht := tlt t
  refine Eq.trans (b := (V m c main_v1 : FVec Ideal S8704x1024 .f32) (ix2 ⟨t.val * 544 + i.val, by omega⟩ ⟨(768 + j.val), by omega⟩)) ?_ ?_
  · blk_ext [iblk, idx t]
  · rw [V_v1]; exact front_at _ _ _ _ _ _ _ _ (by omega) (by omega) rfl

theorem iblk4 (c : Dev nD) (t : Fin cfg0.N) (i : Fin 16) (j : Fin 256) (h : t.val % 4 ≠ 0) :
    (iblk m c 4 t : FVec Ideal S16x256 .f32) (ix2 i j) = U m c (t.val / 4) (t.val % 4 * 544 + i.val - 16) (256 + j.val) := by
  have ht := tlt t
  refine Eq.trans (b := (V m c main_v1 : FVec Ideal S8704x1024 .f32) (ix2 ⟨t.val * 544 + i.val - 16, by omega⟩ ⟨(256 + j.val), by omega⟩)) ?_ ?_
  · blk_ext [iblk, idx t]
  · rw [V_v1]; exact front_at _ _ _ _ _ _ _ _ (by omega) (by omega) rfl

theorem iblk5 (c : Dev nD) (t : Fin cfg0.N) (i : Fin 16) (j : Fin 256) (h : t.val % 4 ≠ 0) :
    (iblk m c 5 t : FVec Ideal S16x256 .f32) (ix2 i j) = U m c (t.val / 4) (t.val % 4 * 544 + i.val - 16) (512 + j.val) := by
  have ht := tlt t
  refine Eq.trans (b := (V m c main_v1 : FVec Ideal S8704x1024 .f32) (ix2 ⟨t.val * 544 + i.val - 16, by omega⟩ ⟨(512 + j.val), by omega⟩)) ?_ ?_
  · blk_ext [iblk, idx t]
  · rw [V_v1]; exact front_at _ _ _ _ _ _ _ _ (by omega) (by omega) rfl

theorem iblk6 (c : Dev nD) (t : Fin cfg0.N) (i : Fin 16) (j : Fin 256) (h : t.val % 4 ≠ 0) :
    (iblk m c 6 t : FVec Ideal S16x256 .f32) (ix2 i j) = U m c (t.val / 4) (t.val % 4 * 544 + i.val - 16) (768 + j.val) := by
  have ht := tlt t
  refine Eq.trans (b := (V m c main_v1 : FVec Ideal S8704x1024 .f32) (ix2 ⟨t.val * 544 + i.val - 16, by omega⟩ ⟨(768 + j.val), by omega⟩)) ?_ ?_
  · blk_ext [iblk, idx t]
  · rw [V_v1]; exact front_at _ _ _ _ _ _ _ _ (by omega) (by omega) rfl

theorem iblk7 (c : Dev nD) (t : Fin cfg0.N) (i : Fin 3) (j : Fin 256) :
    (iblk m c 7 t : FVec Ideal S3x256 .f32) (ix2 i j) = w m c i.val j.val := by
  refine Eq.trans (b := (m ((c : Thread nD τ).loc main_arg1) : FVec Ideal S3x256 .f32) (ix2 i j)) ?_ ?_
  · blk_ext [iblk, idx t, V]
  · rw [w, dif_pos ⟨i.isLt, j.isLt⟩]

theorem iblk8 (c : Dev nD) (t : Fin cfg0.N) (i j : Fin 256) :
    (iblk m c 8 t : FVec Ideal S256x256 .bf16) (ix2 i j) = mix (W m c) i.val j.val := by
  refine Eq.trans (b := (V m c main_v14 : FVec Ideal S256x256 .bf16) (ix2 i j)) ?_ (V_v14 m c _)
  blk_ext [iblk, idx t]

theorem iblk9 (c : Dev nD) (t : Fin cfg0.N) (i : Fin 1) (j : Fin 256) :
    (iblk m c 9 t : FVec Ideal S1x256 .f32) (ix2 i j) = ps m c j.val := by
  refine Eq.trans (b := (V m c main_v15 : FVec Ideal S1x256 .f32) (ix2 i j)) ?_ (V_v15 m c _)
  blk_ext [iblk, idx t]

/-! ## Row numbers, masks and groups -/

theorem rowNo (i : grid0.Coords) (y : S544x1.Idx) : k0_pay2 i y = BitVec.ofNat 32 ((i 0).val % 4 * 544 + (y 0).val) := by
  pointwise [k0_pay2]
  have h : (i 0).val < 16 := (i 0).isLt
  generalize (i 0).val = n at h
  rw [BitVec.ofNat_add]
  refine congrArg (fun a => IntOp.addi a (BitVec.ofNat 32 (y 0).val)) ?_
  interval_cases n <;> decide

theorem rowAt (t : Fin cfg0.N) (e : Fin 544) : k0_pay2 (grid0.coords t) (ix2 e 0) = BitVec.ofNat 32 (t.val % 4 * 544 + e.val) := by
  rw [rowNo, (idx t).2.2.2.2.2.2.2.2.2.2.2]
  rfl

theorem valid (t : Fin cfg0.N) (e : Fin 544) :
    k0_pay3 (grid0.coords t) (ix2 e 0) = BitVec.ofBool (decide (112 ≤ t.val % 4 * 544 + e.val)) := by
  pointwise [k0_pay3]
  rw [rowAt]
  exact WordCmp.cmpi_sge_ofNat (a := t.val % 4 * 544 + e.val) (b := 112) (by omega) (by omega)

theorem group (j : Fin 256) : k0_pay8 (ix2 0 j) = BitVec.ofNat 32 (j.val / 64) := by
  pointwise [k0_pay8]
  revert j
  decide +kernel

/-! ## The gated convolution -/

/-- The gated input with the sixteen rows before it. -/
theorem gates (c : Dev nD) (t : Fin cfg0.N) (e : Fin 560) (j : Fin 256) (h : 16 ≤ t.val % 4 * 544 + e.val) :
    k0_pay4 (F := Ideal) (iblk m c 4 t) (iblk m c 5 t) (iblk m c 1 t) (iblk m c 2 t) (ix2 e j)
      = gated (U m c) (t.val / 4) (t.val % 4 * 544 + e.val - 16) j.val := by
  pointwise [k0_pay4]
  unfold gated
  by_cases h1 : e.val < 16
  · rw [dif_pos h1, iblk4 m c t _ _ (by omega), iblk5 m c t _ _ (by omega)]
  · rw [dif_neg h1]
    rw [iblk1, iblk2]
    have e1 : t.val % 4 * 544 + (e.val - 16) = t.val % 4 * 544 + e.val - 16 := by omega
    simp only [e1]

/-- The three taps' rows, as the program reads them. -/
theorem tap (c : Dev nD) (t : Fin cfg0.N) (k : Fin 3) (hb) (j : Fin 256) :
    (View.ld (iblk m c 7 t) (Rect.unit (s := S3x256) ![k.val, 0] S1x256.size hb) : FVec Ideal S1x256 .f32) (ix2 0 j) = w m c k.val j.val := by
  rw [← iblk7 m c t]
  refine View.ld_unit_apply_of _ _ _ _ _ _ fun a => ?_
  fin_cases a <;> simp

/-- The gated convolution's rows. -/
theorem convOut (c : Dev nD) (t : Fin cfg0.N) (v27 v31 v36) (i : Fin 544) (j : Fin 256) (h : 2 ≤ t.val % 4 * 544 + i.val)
    (h0 : v27 (ix2 0 j) = w m c 0 j.val) (h1 : v31 (ix2 0 j) = w m c 1 j.val) (h2 : v36 (ix2 0 j) = w m c 2 j.val) :
    k0_pay6 (F := Ideal) (k0_pay4 (iblk m c 4 t) (iblk m c 5 t) (iblk m c 1 t) (iblk m c 2 t))
        (k0_pay5 (iblk m c 4 t) (iblk m c 5 t) (iblk m c 1 t) (iblk m c 2 t) v27 v31) v36 (iblk m c 0 t) (ix2 i j)
      = U m c (t.val / 4) (t.val % 4 * 544 + i.val) j.val * conv (U m c) (w m c) (t.val / 4) (t.val % 4 * 544 + i.val) j.val := by
  pointwise [k0_pay6, k0_pay5]
  rw [gates m c t _ _ (by dsimp only; omega), gates m c t _ _ (by dsimp only; omega), gates m c t _ _ (by dsimp only; omega), h0, h1, h2, iblk0, conv]
  have e0 : t.val % 4 * 544 + (16 + i.val + 560 - 2) % 560 - 16 = t.val % 4 * 544 + i.val - 2 := by omega
  have e1 : t.val % 4 * 544 + (16 + i.val + 560 - 1) % 560 - 16 = t.val % 4 * 544 + i.val - 1 := by omega
  have e2 : t.val % 4 * 544 + (16 + i.val) - 16 = t.val % 4 * 544 + i.val := by omega
  simp only [e0, e1, e2]

/-! ## The pooling -/

/-- The windowed mean minus the row, from the sums of two neighbouring rows. -/
theorem mean_at (a b d f) (q lo : ℕ) (P : ℕ → EReal) (i : Fin 544) (j : Fin 256)
    (ha : a (ix2 i 0) = BitVec.ofNat 32 q) (hq : 112 ≤ q) (hq' : q < 2176) (hd : d (ix2 0 j) = BitVec.ofNat 32 (j.val / 64))
    (hf : ∀ (n : ℕ) (h : n < 560), lo + 1 ≤ n → f (ix2 ⟨n, h⟩ j) = (P n + P (n - 1) : EReal)) (hlo : lo ≤ i.val + 1) (hb : b (ix2 i j) = P (16 + i.val)) :
    k0_pay10 (F := Ideal) a b d f (ix2 i j)
      = Ideal.div (∑ k ∈ Finset.range (win j.val), P (16 + i.val - k)) (cnt q j.val) - P (16 + i.val) := by
  pointwise [k0_pay10]
  simp (disch := omega) only [roll_back, hf, Nat.sub_sub, Nat.reduceAdd, hd, hb, ha]
  rewrite [trailing P (j.val / 64) (16 + i.val) (by omega)]
  have h2 : Ideal.ofBits .f32 0x40000000#32 = (((2 ^ (0 + 1) : ℕ) : ℝ) : EReal) := by
    simp [Ideal.ofBits, Ideal.ieee, -EReal.coe_mul]; norm_num
  have h4 : Ideal.ofBits .f32 0x40800000#32 = (((2 ^ (1 + 1) : ℕ) : ℝ) : EReal) := by
    simp [Ideal.ofBits, Ideal.ieee, -EReal.coe_mul]; norm_num
  have h8 : Ideal.ofBits .f32 0x41000000#32 = (((2 ^ (2 + 1) : ℕ) : ℝ) : EReal) := by
    simp [Ideal.ofBits, Ideal.ieee, -EReal.coe_mul]; norm_num
  have h16 : Ideal.ofBits .f32 0x41800000#32 = (((2 ^ (3 + 1) : ℕ) : ℝ) : EReal) := by
    simp [Ideal.ofBits, Ideal.ieee, -EReal.coe_mul]; norm_num
  rewrite [h2, h4, h8, h16]
  have hw := choose (j.val / 64) (by omega) fun g => (((2 ^ (g + 1) : ℕ) : ℝ) : EReal)
  have h1 : (IntOp.subi (BitVec.ofNat 32 q) 111#32).toInt = ((q - 111 : ℕ) : ℤ) := by
    show (BitVec.ofNat 32 q - BitVec.ofNat 32 111).toInt = _
    rw [BitVec.toInt_sub, WordCmp.toInt_ofNat_of_lt (by omega), WordCmp.toInt_ofNat_of_lt (by omega)]
    simp only [Int.bmod]
    omega
  have key : max (min (((IntOp.subi (BitVec.ofNat 32 q) 111#32).toInt : ℝ) : EReal) (((2 ^ (j.val / 64 + 1) : ℕ) : ℝ) : EReal)) ((1 : ℝ) : EReal) = cnt q j.val := by
    have hw' : 1 ≤ win j.val := Nat.one_le_two_pow
    rw [h1, ← EReal.coe_strictMono.monotone.map_min, ← EReal.coe_strictMono.monotone.map_max]
    unfold cnt
    congr 1
    rw [Int.cast_natCast, ← Nat.cast_min]
    refine max_eq_left ?_
    exact_mod_cast (le_min (by omega) hw' : 1 ≤ min (q - 111) (win j.val))
  rw [← key, ← hw]
  rfl

/-- The sums of two neighbouring rows of the pool, with the sixteen rows before. -/
theorem pairs (c : Dev nD) (t : Fin cfg0.N) (n : ℕ) (h : n < 560) (j : Fin 256) (hlo : 17 ≤ t.val % 4 * 544 + n) (h1 : 1 ≤ n) :
    k0_pay9 (F := Ideal) (iblk m c 3 t) (iblk m c 6 t) (ix2 ⟨n, h⟩ j)
      = (U m c (t.val / 4) (t.val % 4 * 544 + n - 16) (768 + j.val) + U m c (t.val / 4) (t.val % 4 * 544 + (n - 1) - 16) (768 + j.val) : EReal) := by
  pointwise [k0_pay9, k0_pay7]
  have e1 : (n + 560 - 1) % 560 = n - 1 := by omega
  simp only [e1]
  congr 1
  · by_cases h2 : n < 16
    · rw [dif_pos h2, iblk6 m c t _ _ (by omega)]
    · rw [dif_neg h2, iblk3]
      have e1 : t.val % 4 * 544 + (n - 16) = t.val % 4 * 544 + n - 16 := by omega
      simp only [e1]
  · by_cases h2 : n - 1 < 16
    · rw [dif_pos h2, iblk6 m c t _ _ (by omega)]
    · rw [dif_neg h2, iblk3]
      have e1 : t.val % 4 * 544 + (n - 1 - 16) = t.val % 4 * 544 + (n - 1) - 16 := by omega
      simp only [e1]

theorem pooled544 (c : Dev nD) (t : Fin cfg0.N) (i : Fin 544) (j : Fin 256) (h : 112 ≤ t.val % 4 * 544 + i.val) :
    k0_pay10 (F := Ideal) (k0_pay2 (grid0.coords t)) (k0_pay7 (iblk m c 3 t)) k0_pay8 (k0_pay9 (iblk m c 3 t) (iblk m c 6 t)) (ix2 i j)
      = pooled (U m c) (t.val / 4) (t.val % 4 * 544 + i.val) j.val := by
  rw [mean_at _ _ _ _ (t.val % 4 * 544 + i.val) (16 - t.val % 4 * 544)
    (fun n => U m c (t.val / 4) (t.val % 4 * 544 + n - 16) (768 + j.val)) i j (rowAt t i) h (by omega) (group j)
    (fun n h hn => pairs m c t n h j (by omega) (by omega)) (by omega)
    (by
      pointwise [k0_pay7]
      rw [iblk3]
      congr 1; omega)]
  unfold pooled
  have hw : win j.val ≤ 16 := Nat.pow_le_pow_right (by omega) (by omega : j.val / 64 + 1 ≤ 4)
  have e1 : t.val % 4 * 544 + (16 + i.val) - 16 = t.val % 4 * 544 + i.val := by omega
  simp only [e1]
  rw [if_pos h]
  refine congrArg (fun x => Ideal.div x _ - _) (Finset.sum_congr rfl fun k hk => ?_)
  have := Finset.mem_range.1 hk
  congr 1; omega

/-- The scaled group products. -/
theorem poolOut (c : Dev nD) (t : Fin cfg0.N) (i : Fin 544) (j : Fin 256) (h : 112 ≤ t.val % 4 * 544 + i.val) :
    k0_pay1 (F := Ideal) (k0_pay3 (grid0.coords t))
        (k0_pay10 (k0_pay2 (grid0.coords t)) (k0_pay7 (iblk m c 3 t)) k0_pay8 (k0_pay9 (iblk m c 3 t) (iblk m c 6 t))) (iblk m c 8 t) (iblk m c 9 t) (ix2 i j)
      = (∑ k ∈ Finset.range 256, pooled (U m c) (t.val / 4) (t.val % 4 * 544 + i.val) k * mix (W m c) k j.val) * ps m c j.val := by
  pointwise [k0_pay1]
  rw [iblk9, Finset.sum_range]
  refine congrArg (fun x : EReal => x * _) (Finset.sum_congr rfl fun x _ => ?_)
  rw [valid, select_ofBool, if_pos h, pooled544 m c t i x h, iblk8]

/-- The two column pieces a point stores, in the rows of the sequence. -/
theorem pieces (c : Dev nD) (t : Fin cfg0.N) (y : S544x512.Idx) (k0 k1 g0 g1 g2) (hq : 112 ≤ t.val % 4 * 544 + (y 0).val) :
    View.canon (Val := Elt Ideal) (s := S544x512) (e := .bf16) [⟨Rect.unit (s := S544x512) ![0, 256] S544x256.size k1,
          k0_pay1 (k0_pay3 (grid0.coords t))
            (k0_pay10 (k0_pay2 (grid0.coords t)) (k0_pay7 (iblk m c 3 t)) k0_pay8 (k0_pay9 (iblk m c 3 t) (iblk m c 6 t)))
            (iblk m c 8 t) (iblk m c 9 t)⟩,
        ⟨Rect.unit (s := S544x512) ![0, 0] S544x256.size k0,
          k0_pay6 (k0_pay4 (iblk m c 4 t) (iblk m c 5 t) (iblk m c 1 t) (iblk m c 2 t))
            (k0_pay5 (iblk m c 4 t) (iblk m c 5 t) (iblk m c 1 t) (iblk m c 2 t)
              (View.ld (iblk m c 7 t) (Rect.unit (s := S3x256) ![0, 0] S1x256.size g0))
              (View.ld (iblk m c 7 t) (Rect.unit (s := S3x256) ![1, 0] S1x256.size g1)))
            (View.ld (iblk m c 7 t) (Rect.unit (s := S3x256) ![2, 0] S1x256.size g2)) (iblk m c 0 t)⟩] y
      = (mixed (U m c) (w m c) (W m c) (ps m c) (t.val / 4) (t.val % 4 * 544 + (y 0).val) (y 1).val : EReal) := by
  refine View.canon_eq_of_allAt (Val := Elt Ideal) (S := S544x512) (e := .bf16) _ y _ (View.cover_of_tiledL _ ![544, 256] rfl y) ?_
  refine View.allAt_cons_unit _ _ _ _ _ ?_ (View.allAt_cons_unit _ _ _ _ _ ?_ (View.allAt_nil _ _))
  · intro x h
    obtain ⟨i, j, rfl⟩ : ∃ i j, x = ix2 i j := ⟨x 0, x 1, eq_ix2 x⟩
    have e0 : (y 0).val = i.val := (h 0).trans (Nat.zero_add _)
    have e1 : (y 1).val = 256 + j.val := h 1
    rw [e0] at hq
    rw [e0, e1]
    refine (poolOut m c t i j hq).trans ?_
    have e2 : 256 + j.val - 256 = j.val := by omega
    rw [mixed, if_neg (by omega)]
    simp only [e2]
  · intro x h
    obtain ⟨i, j, rfl⟩ : ∃ i j, x = ix2 i j := ⟨x 0, x 1, eq_ix2 x⟩
    have e0 : (y 0).val = i.val := (h 0).trans (Nat.zero_add _)
    have e1 : (y 1).val = j.val := (h 1).trans (Nat.zero_add _)
    have hj : j.val < 256 := j.isLt
    rw [e0] at hq
    rw [e0, e1]
    refine (convOut m c t _ _ _ i j (by omega) (tap m c t 0 g0 j) (tap m c t 1 g1 j) (tap m c t 2 g2 j)).trans ?_
    rw [mixed, if_pos hj]

/-- The result, in the rows of the sequences. (The rows in front of a sequence the program cuts off.) -/
theorem array (c : Dev nD) (x : S8704x512.Idx) (hx : 112 ≤ (x 0).val % 2176) :
    ((dats m 0 c).arrAt 10 (cfgs 0).N : FVec Ideal S8704x512 .bf16) x
      = mixed (U m c) (w m c) (W m c) (ps m c) ((x 0).val / 2176) ((x 0).val % 2176) (x 1).val := by
  refine (dats m 0 c).arrAt_forall_of_covers 10 (fun (x : S8704x512.Idx) (v : EReal) => 112 ≤ (x 0).val % 2176 →
      v = mixed (U m c) (w m c) (W m c) (ps m c) ((x 0).val / 2176) ((x 0).val % 2176) (x 1).val) (by decide +kernel) (fun t hf y => ?_) x (Memref.isWhole_whole _) hx
  blk_simp
  rw [after0_10]
  have ht : t.val < 16 := t.isLt.trans_eq N_0
  intro hq
  have e0 : win0_10.index t 0 = t.val := by rw [(idx t).2.2.2.2.2.2.2.2.2.2.1]; rfl
  have e1 : win0_10.index t 1 = 0 := by rw [(idx t).2.2.2.2.2.2.2.2.2.2.1]; rfl
  have hy : (y 0).val < 544 := (y 0).isLt
  rw [e0] at hq
  rw [e0, e1]
  have e2 : (t.val * 544 + (y 0).val) / 2176 = t.val / 4 := by omega
  have e3 : (t.val * 544 + (y 0).val) % 2176 = t.val % 4 * 544 + (y 0).val := by omega
  have e4 : 0 * 512 + (y 1).val = (y 1).val := by omega
  rw [e3] at hq
  rw [e2, e3, e4]
  unfold out0_10
  frame_out
  exact pieces m c t y _ _ _ _ _ hq

/-! ## What the program hands back -/

/-- The rows in front of each sequence cut off. -/
theorem cut (Z : FVec Ideal S8704x512 .bf16) (b : Fin 4) (q : Fin 2064) (j : Fin 512) :
    extractStridedSlice S4x2064x512 ![0, 112, 0] (shapeCast S4x2176x512 Z shapeCasts_S8704x512_S4x2176x512)
      slices_S4x2176x512_S4x2064x512_0_112_0 (ix3 b q j) = Z (ix2 ⟨b.val * 2176 + (q.val + 112), by omega⟩ j) := by
  pointwise []
  have e : 112 + q.val = q.val + 112 := by omega
  simp only [e]

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E_arr (c : Dev nD) (w : Fin (cfgs 0).W) : E m c (Proc.devRef .tc (Pipeline.arrRef (cfgs 0).spec w)) = (dats m 0 c).arrAt w (cfgs 0).N := by
  refine (dats m 0 c).withArrays_arrAt (by decide +kernel) (V0 m c) (fun _ => rfl) w

theorem E0 (c : Dev nD) : E m c (Proc.devRef .tc main_v16) = (dats m 0 c).arrAt 10 (cfgs 0).N := E_arr m c 10

theorem T_v18 (c : Dev nD) (b : Fin 4) (q : Fin 2064) (j : Fin 512) :
    (T m c main_v18 : FVec Ideal S4x2064x512 .bf16) (ix3 b q j)
      = mixed (U m c) (w m c) (W m c) (ps m c) b.val (q.val + 112) j.val := by
  have e1 : (b.val * 2176 + (q.val + 112)) / 2176 = b.val := by omega
  have e2 : (b.val * 2176 + (q.val + 112)) % 2176 = q.val + 112 := by omega
  have h : ((dats m 0 c).arrAt 10 (cfgs 0).N : FVec Ideal S8704x512 .bf16) (ix2 ⟨b.val * 2176 + (q.val + 112), by omega⟩ j)
      = mixed (U m c) (w m c) (W m c) (ps m c) b.val (q.val + 112) j.val := by
    refine (array m c _ (by show 112 ≤ (b.val * 2176 + (q.val + 112)) % 2176; omega)).trans ?_
    show mixed _ _ _ _ ((b.val * 2176 + (q.val + 112)) / 2176) ((b.val * 2176 + (q.val + 112)) % 2176) j.val = _
    rw [e1, e2]
  refine Eq.trans ?_ h
  unfold T Pipeline.afterTail₀
  rw [← E0]
  simp only [hostOps1, List.flatten_cons, List.flatten_nil, List.append_nil]
  after_results_simp
  exact cut _ b q j

/-- The program's run: its result, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v18) = T m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).2 main_v18 (by decide +kernel), h.2 c⟩)
    (θ_run_and (run_main m ρ) (unchanged m ρ))

end Cert.Kernel18Ideal.Value

namespace Cert.Reference18Ideal.Plain

open Cert.Reference18Ideal Cert.Reference18Ideal.Gen Cert.Reference18Ideal.Read Cert.ConvPool
open Cert.ReferenceIdeal.Plain (seqs taps mats scale seqs_at seqs_zero two_shl)

variable (x0 : FVec Ideal S4x2064x1024 .f32) (x1 : FVec Ideal S3x256 .f32) (x2 : FVec Ideal S4x64x64 .f32) (x3 : FVec Ideal S256 .f32)

/-- The gated input with two zero rows in front. -/
theorem v6_at (b : Fin 4) (l : Fin 2066) (c : Fin 256) :
    (val_main_v6 (F := Ideal) x0 (ix3 b l c) : EReal) = gated (seqs x0) b.val (l.val + 110) c.val := by
  pointwise [val_main_v6, val_main_v5, val_main_cst, val_main_v4, val_main_v1, val_main_v2]
  have hl := l.isLt
  have hc := c.isLt
  unfold gated
  by_cases h : l.val < 2
  · rw [dif_pos h, seqs_zero _ _ _ _ (by omega), zero_mul]
  · rw [dif_neg h, seqs_at x0 b ⟨l.val - 2, by omega⟩ _ _ (by show l.val + 110 = l.val - 2 + 112; omega) (by omega),
      seqs_at x0 b ⟨l.val - 2, by omega⟩ _ _ (by show l.val + 110 = l.val - 2 + 112; omega) (by omega)]

/-- The convolution. -/
theorem v26_at (b : Fin 4) (l : Fin 2064) (c : Fin 256) :
    (val_main_v26 (F := Ideal) x0 x1 (ix3 b l c) : EReal) = conv (seqs x0) (taps x1) b.val (l.val + 112) c.val := by
  pointwise [val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7]
  rw [v6_at, v6_at, v6_at, conv]
  have h0 : taps x1 0 c.val = x1 (ix2 0 c) := dif_pos ⟨by omega, c.isLt⟩
  have h1 : taps x1 1 c.val = x1 (ix2 1 c) := dif_pos ⟨by omega, c.isLt⟩
  have h2 : taps x1 2 c.val = x1 (ix2 2 c) := dif_pos ⟨by omega, c.isLt⟩
  rw [h0, h1, h2]
  have e0 : l.val + 112 - 2 = l.val + 110 := by omega
  have e1 : l.val + 112 - 1 = 1 + l.val + 110 := by omega
  have e2 : l.val + 112 = 2 + l.val + 110 := by omega
  rw [e0, e1, e2]

/-- The window matrix. -/
theorem v48_at (t s : Fin 2064) (g : Fin 4) :
    (val_main_v48 (F := Ideal) (ix3 t s g) : EReal) = if s.val ≤ t.val ∧ t.val < s.val + 2 ^ (g.val + 1) then 1 else 0 := by
  pointwise [val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_c, val_main_call0_v0, val_main_call0_v1, val_main_cst_0, val_main_cst_1]
  have ht := t.isLt
  have hs := s.isLt
  rw [two_shl]
  have hg : 2 ^ (g.val + 1) ≤ 2 ^ 4 := Nat.pow_le_pow_right (by omega) (by omega)
  have e : IntOp.addi (BitVec.ofNat 32 s.val) (BitVec.ofNat 32 (2 ^ (g.val + 1))) = BitVec.ofNat 32 (s.val + 2 ^ (g.val + 1)) := (BitVec.ofNat_add _ _).symm
  rw [e, WordCmp.cmpi_sle_ofNat (by omega) (by omega), WordCmp.cmpi_slt_ofNat (by omega) (by omega), WordCmp.andi_ofBool, WordCmp.select_ofBool]
  simp only [Bool.and_eq_true, decide_eq_true_eq]

/-- The number of rows in a window. -/
theorem v55_at (t : Fin 2064) (g : Fin 4) :
    (val_main_v55 (F := Ideal) (ix3 t 0 g) : EReal) = (((min (t.val + 1) (2 ^ (g.val + 1)) : ℕ) : ℝ) : EReal) := by
  pointwise [val_main_v55, val_main_v54, val_main_v53, val_main_v52, val_main_v51, val_main_v50, val_main_v49,
    val_main_v35, val_main_v34, val_main_v33, val_main_v30, val_main_v29, val_main_c, val_main_c_2]
  have ht := t.isLt
  rw [two_shl]
  have hg : 2 ^ (g.val + 1) ≤ 2 ^ 4 := Nat.pow_le_pow_right (by omega) (by omega)
  have e : IntOp.addi (BitVec.ofNat 32 t.val) 1#32 = BitVec.ofNat 32 (t.val + 1) := (BitVec.ofNat_add _ _).symm
  rw [e]
  have h : (IntOp.minsi (BitVec.ofNat 32 (t.val + 1)) (BitVec.ofNat 32 (2 ^ (g.val + 1)))).toInt = ((min (t.val + 1) (2 ^ (g.val + 1)) : ℕ) : ℤ) := by
    unfold IntOp.minsi
    have h1 : (BitVec.ofNat 32 (t.val + 1)).toInt = ((t.val + 1 : ℕ) : ℤ) := WordCmp.toInt_ofNat_of_lt (by omega)
    have h2 : (BitVec.ofNat 32 (2 ^ (g.val + 1))).toInt = ((2 ^ (g.val + 1) : ℕ) : ℤ) := WordCmp.toInt_ofNat_of_lt (by omega)
    split_ifs with h
    · simp only [BitVec.slt, h1, h2, decide_eq_true_eq] at h
      omega
    · simp only [BitVec.slt, h1, h2, decide_eq_true_eq] at h
      omega
  show (((IntOp.minsi (BitVec.ofNat 32 (t.val + 1)) (BitVec.ofNat 32 (2 ^ (g.val + 1)))).toInt : ℝ) : EReal) = _
  rw [h]
  simp only [Int.cast_natCast]

/-- The windowed mean minus the row. -/
theorem v62_at (b : Fin 4) (t : Fin 2064) (g : Fin 4) (c : Fin 64) :
    (val_main_v62 (F := Ideal) x0 (ix4 b t g c) : EReal) = pooled (seqs x0) b.val (t.val + 112) (g.val * 64 + c.val) := by
  pointwise [val_main_v62, val_main_v61, val_main_v60, val_main_v59, val_main_v58, val_main_v57, val_main_v56, val_main_v28, val_main_v3]
  have ht := t.isLt
  have hc := c.isLt
  have hg := g.isLt
  have e1 : (g.val * 64 + c.val) / 64 = g.val := by omega
  have e2 : t.val + 112 - 111 = t.val + 1 := by omega
  rw [pooled, if_pos (by omega), v55_at, cnt, win, e1, e2, seqs_at x0 b t _ _ rfl (by omega),
    ← window_back (fun q => seqs x0 b.val q (768 + (g.val * 64 + c.val))) (fun q hq => seqs_zero _ _ _ _ (by omega)) t.val _ ht]
  congr 2
  refine Finset.sum_congr rfl fun s _ => ?_
  rw [v48_at, seqs_at x0 b s _ _ rfl (by omega)]

/-- The group products. -/
theorem v65_at (b : Fin 4) (t : Fin 2064) (d : Fin 256) :
    (val_main_v65 (F := Ideal) x0 x2 (ix3 b t d) : EReal)
      = ∑ c ∈ Finset.range 256, pooled (seqs x0) b.val (t.val + 112) c * mix (mats x2) c d.val := by
  pointwise [val_main_v65, val_main_v64, val_main_v63]
  have hd := d.isLt
  have e : d.val = d.val / 64 * 64 + d.val % 64 := by omega
  have key := mix_left (mats x2) (fun c => pooled (seqs x0) b.val (t.val + 112) c) (d.val / 64) (d.val % 64) (by omega) (by omega)
  rw [← e] at key
  rw [key]
  refine Finset.sum_congr rfl fun k _ => ?_
  have h : mats x2 (d.val / 64) k.val (d.val % 64) = x2 (ix3 ⟨d.val / 64, by omega⟩ k ⟨d.val % 64, by omega⟩) := dif_pos ⟨by omega, k.isLt, by omega⟩
  rw [h, v62_at, mul_comm]

/-- The block's result. -/
theorem v70_at (b : Fin 4) (t : Fin 2064) (c : Fin 512) :
    (val_main_v70 (F := Ideal) x0 x1 x2 x3 (ix3 b t c) : EReal)
      = mixed (seqs x0) (taps x1) (mats x2) (scale x3) b.val (t.val + 112) c.val := by
  have hc := c.isLt
  pointwise [val_main_v70, val_main_v69, val_main_v68, val_main_v67, val_main_v66, val_main_v27, val_main_v0]
  unfold mixed
  by_cases h : c.val < 256
  · rw [dif_pos h, if_pos h, v26_at, seqs_at x0 b t _ _ rfl (by omega)]
  · have hs : scale x3 (c.val - 256) = x3 (ix1 ⟨c.val - 256, by omega⟩) := dif_pos (by omega)
    rw [dif_neg h, if_neg h, v65_at, hs]

end Cert.Reference18Ideal.Plain

namespace Cert.Proof.ConvPoolFwd

/-- At the ideal instance the kernel's result is the reference's. -/
theorem algebraic : Cert.algebraic_Kernel18Ideal_Reference18Ideal := by
  pair_intro
  · run_from Cert.Kernel18Ideal.Value.run m g
  · run_from Cert.Reference18Ideal.Value.run m' g'
    · rw [Cert.Reference18Ideal.Read.val_main_v70_eq, (hagree c).1, (hagree c).2.1, (hagree c).2.2.1, (hagree c).2.2.2]
      funext i
      rw [eq_ix3 i]
      exact (Cert.Reference18Ideal.Plain.v70_at ..).trans (Cert.Kernel18Ideal.Value.T_v18 m c (i 0) (i 1) (i 2)).symm

end Cert.Proof.ConvPoolFwd

end
-- ==== Proof.Adam.lean ====
/- The optimiser's step on one entry: the two running means, and the change of the weight. -/
module

public import Idealize.ShloMosaic.PureOps.Ideal
public import Idealize.ShloMosaic.Lib.Pointwise
public import Idealize.ShloMosaic.Lib.IdealHost

@[expose] public section

noncomputable section

namespace Cert.Adam

open Idealize.ShloMosaic

/-- The running mean of the gradient. -/
def mean (m g : EReal) : EReal := Ideal.ofBits .f32 0x3F666666#32 * m + Ideal.ofBits .f32 0x3DCCCCCD#32 * g

/-- The running mean of its square. -/
def square (v g : EReal) : EReal := Ideal.ofBits .f32 0x3F7FBE77#32 * v + Ideal.ofBits .f32 0x3A83126F#32 * (g * g)

/-- The change of the weight: both means with their start corrected, the weight's decay, the rate. -/
def change (w g m v : EReal) : EReal :=
  Ideal.ofBits .f32 0xBA83126F#32 *
    (Ideal.div (Ideal.div (mean m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

variable {s r : Shape}

/-- The same three on whole arrays, entry by entry. -/
def means (m g : FVec Ideal s .f32) : FVec Ideal s .f32 := fun i => mean (m i) (g i)
def squares (v g : FVec Ideal s .f32) : FVec Ideal s .f32 := fun i => square (v i) (g i)
def changes (w g m v : FVec Ideal s .f32) : FVec Ideal s .f32 := fun i => change (w i) (g i) (m i) (v i)

/-- An array laid out in another shape and back is the array. -/
theorem back (h : s.ShapeCasts r) (h' : r.ShapeCasts s) (X : FVec Ideal s .f32) : shapeCast s (shapeCast r X h) h' = X := by
  funext i
  simp only [shapeCast]
  congr 1
  simp [Shape.reshapeEquiv]

/-- So the step on the laid-out arrays, back in the first shape, is the step on the arrays. -/
theorem means_back (h : s.ShapeCasts r) (h' : r.ShapeCasts s) (m g : FVec Ideal s .f32) :
    shapeCast s (means (shapeCast r m h) (shapeCast r g h)) h' = means m g :=
  funext fun i => congrArg₂ mean (congrFun (back h h' m) i) (congrFun (back h h' g) i)

theorem squares_back (h : s.ShapeCasts r) (h' : r.ShapeCasts s) (v g : FVec Ideal s .f32) :
    shapeCast s (squares (shapeCast r v h) (shapeCast r g h)) h' = squares v g :=
  funext fun i => congrArg₂ square (congrFun (back h h' v) i) (congrFun (back h h' g) i)

theorem changes_back (h : s.ShapeCasts r) (h' : r.ShapeCasts s) (w g m v : FVec Ideal s .f32) :
    shapeCast s (changes (shapeCast r w h) (shapeCast r g h) (shapeCast r m h) (shapeCast r v h)) h' = changes w g m v := by
  funext i
  refine Eq.trans (b := change (shapeCast s (shapeCast r w h) h' i) (shapeCast s (shapeCast r g h) h' i)
    (shapeCast s (shapeCast r m h) h' i) (shapeCast s (shapeCast r v h) h' i)) rfl ?_
  rw [back, back, back, back]
  rfl

end Cert.Adam

end
-- ==== Proof.AdamIn.lean ====
/- The optimiser's step on the shard of the joint input projection, block by block, against the step on the whole array. -/
module

public import proofs.«01_k».proof.Defs
public import proofs.«01_k».proof.Proof.Adam
public import proofs.«01_k».proof.Proof.Gen.Kernel20Ideal.Frame
public import proofs.«01_k».proof.Proof.Gen.Reference20Ideal.Read
public import Idealize.ShloMosaic.Lib.Claim
public import Idealize.ShloMosaic.Lib.Pipeline.ValueKit
public import Idealize.ShloMosaic.Lib.Pipeline.ReadBack
public import Idealize.ShloMosaic.Lib.Pipeline.FrameSuffix

@[expose] public section

set_option maxRecDepth 16384
set_option maxHeartbeats 400000

noncomputable section

namespace Cert.Kernel20Ideal.Value

open Idealize.ShloMosaic Idealize.ShloMosaic.TcCoe Idealize.SL.Sem
open Idealize.ShloMosaic.Pipeline (Dat)
open Cert.Kernel20Ideal Cert.Kernel20Ideal.Gen

variable (m : (ℓ : Loc nD τ sig) → Buf (Elt Ideal) ℓ)

/-- The weight, its gradient and the two running means as the program's start holds them. -/
abbrev W (c : Dev nD) : FVec Ideal S2x1024x640 .f32 := m ((c : Thread nD τ).loc main_arg0)
abbrev G (c : Dev nD) : FVec Ideal S2x1024x640 .f32 := m ((c : Thread nD τ).loc main_arg1)
abbrev M (c : Dev nD) : FVec Ideal S2x1024x640 .f32 := m ((c : Thread nD τ).loc main_arg2)
abbrev S (c : Dev nD) : FVec Ideal S2x1024x640 .f32 := m ((c : Thread nD τ).loc main_arg3)

/-- The kernel's three payloads, an entry at a time. -/
theorem pays (w g m v : Vec Ideal S256x640 .f32) (y : S256x640.Idx) :
    k0_pay4 (F := Ideal) w g m v y = Adam.change (w y) (g y) (m y) (v y)
    ∧ k0_pay2 (F := Ideal) g m y = Adam.mean (m y) (g y)
    ∧ k0_pay3 (F := Ideal) g v y = Adam.square (v y) (g y) := by
  rw [eq_ix2 y]
  refine ⟨?_, ?_, ?_⟩
  all_goals
    pointwise [k0_pay4, k0_pay3, k0_pay2, k0_pay1]
    rfl

/-- The four arrays the kernel reads: the arguments laid out by rows. -/
theorem entry (c : Dev nD) :
    (V m c main_v0 : FVec Ideal S2048x640 .f32) = shapeCast S2048x640 (W m c) shapeCasts_S2x1024x640_S2048x640
    ∧ (V m c main_v1 : FVec Ideal S2048x640 .f32) = shapeCast S2048x640 (G m c) shapeCasts_S2x1024x640_S2048x640
    ∧ (V m c main_v2 : FVec Ideal S2048x640 .f32) = shapeCast S2048x640 (M m c) shapeCasts_S2x1024x640_S2048x640
    ∧ (V m c main_v3 : FVec Ideal S2048x640 .f32) = shapeCast S2048x640 (S m c) shapeCasts_S2x1024x640_S2048x640 := by
  unfold V V0
  simp only [hostOps0, List.flatten_cons, List.flatten_nil, List.cons_append, List.nil_append, List.append_nil]
  refine ⟨?_, ?_, ?_, ?_⟩
  all_goals
    after_results_simp
    rfl

/-- The three arrays the kernel writes, from those it reads: every block lies where the blocks it is made of lie. -/
theorem arrays (c : Dev nD) :
    ((dats m 0 c).arrAt 4 (cfgs 0).N : FVec Ideal S2048x640 .f32)
        = Adam.changes (V m c main_v0 : FVec Ideal S2048x640 .f32) (V m c main_v1 : FVec Ideal S2048x640 .f32)
          (V m c main_v2 : FVec Ideal S2048x640 .f32) (V m c main_v3 : FVec Ideal S2048x640 .f32)
    ∧ ((dats m 0 c).arrAt 5 (cfgs 0).N : FVec Ideal S2048x640 .f32)
        = Adam.means (V m c main_v2 : FVec Ideal S2048x640 .f32) (V m c main_v1 : FVec Ideal S2048x640 .f32)
    ∧ ((dats m 0 c).arrAt 6 (cfgs 0).N : FVec Ideal S2048x640 .f32)
        = Adam.squares (V m c main_v3 : FVec Ideal S2048x640 .f32) (V m c main_v1 : FVec Ideal S2048x640 .f32) := by
  refine ⟨funext fun x => (dats m 0 c).arrAt_forall_of_covers 4 (fun (x : S2048x640.Idx) (v : EReal) => v = Adam.changes _ _ _ _ x)
      (by decide +kernel) (fun t _ y => ?_) x (Memref.isWhole_whole _),
    funext fun x => (dats m 0 c).arrAt_forall_of_covers 5 (fun (x : S2048x640.Idx) (v : EReal) => v = Adam.means _ _ x)
      (by decide +kernel) (fun t _ y => ?_) x (Memref.isWhole_whole _),
    funext fun x => (dats m 0 c).arrAt_forall_of_covers 6 (fun (x : S2048x640.Idx) (v : EReal) => v = Adam.squares _ _ x)
      (by decide +kernel) (fun t _ y => ?_) x (Memref.isWhole_whole _)⟩
  · rw [after0_4]
    unfold out0_4
    blk_simp
    frame_out
    exact (pays _ _ _ _ y).1
  · rw [after0_5]
    unfold out0_5
    blk_simp
    frame_out
    exact (pays (iblk m c 0 t) _ _ (iblk m c 3 t) y).2.1
  · rw [after0_6]
    unfold out0_6
    blk_simp
    frame_out
    exact (pays (iblk m c 0 t) _ (iblk m c 2 t) _ y).2.2

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E_at (c : Dev nD) (w : Fin (cfgs 0).W) : E m c (Proc.devRef .tc (Pipeline.arrRef spec0 w)) = (dats m 0 c).arrAt w (cfgs 0).N :=
  (dats m 0 c).withArrays_arrAt (by decide +kernel) (V0 m c) (fun _ => rfl) w

/-- The three results: the written arrays with the rows taken apart into the layers again. -/
theorem results (c : Dev nD) :
    (T m c main_v5 : FVec Ideal S2x1024x640 .f32) = Adam.changes (W m c) (G m c) (M m c) (S m c)
    ∧ (T m c main_v6 : FVec Ideal S2x1024x640 .f32) = Adam.means (M m c) (G m c)
    ∧ (T m c main_v7 : FVec Ideal S2x1024x640 .f32) = Adam.squares (S m c) (G m c) := by
  obtain ⟨a4, a5, a6⟩ := arrays m c
  obtain ⟨e0, e1, e2, e3⟩ := entry m c
  rw [e0, e1, e2, e3, ← E_at] at a4
  rw [e1, e2, ← E_at] at a5
  rw [e1, e3, ← E_at] at a6
  refine ⟨Eq.trans ?_ (Adam.changes_back shapeCasts_S2x1024x640_S2048x640 shapeCasts_S2048x640_S2x1024x640 ..),
    Eq.trans ?_ (Adam.means_back shapeCasts_S2x1024x640_S2048x640 shapeCasts_S2048x640_S2x1024x640 ..),
    Eq.trans ?_ (Adam.squares_back shapeCasts_S2x1024x640_S2048x640 shapeCasts_S2048x640_S2x1024x640 ..)⟩
  on_goal 1 => rw [← a4]
  on_goal 2 => rw [← a5]
  on_goal 3 => rw [← a6]
  all_goals
    unfold T Pipeline.afterTail₀
    simp only [hostOps1, List.flatten_cons, List.flatten_nil, List.cons_append, List.nil_append, List.append_nil]
    after_results_simp
    rfl

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5) = T m c main_v5
      ∧ r.2.mem ((c.tc : Thread nD τ).loc main_v6) = T m c main_v6
      ∧ r.2.mem ((c.tc : Thread nD τ).loc main_v7) = T m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).2 main_v5 (by decide +kernel), (h.1 c).2 main_v6 (by decide +kernel), (h.1 c).2 main_v7 (by decide +kernel), h.2 c⟩)
    (θ_run_and (run_main m ρ) (unchanged m ρ))

end Cert.Kernel20Ideal.Value

namespace Cert.Proof.AdamIn

open Idealize.ShloMosaic Idealize.ShloMosaic.TcCoe Idealize.SL.Sem
open Cert.Kernel20Ideal.Value (results)

/-- At the ideal instance the kernel's three results are the reference's. -/
theorem algebraic : Cert.algebraic_Kernel20Ideal_Reference20Ideal := by
  pair_intro
  · run_from Cert.Kernel20Ideal.Value.run m g
  · run_from Cert.Reference20Ideal.Value.run m' g'
    · exact (Cert.Reference20Ideal.Read.val_main_v23_eq ..).trans (results m c).1.symm
    · exact (Cert.Reference20Ideal.Read.val_main_v4_eq ..).trans (results m c).2.1.symm
    · exact (Cert.Reference20Ideal.Read.val_main_v10_eq ..).trans (results m c).2.2.symm

end Cert.Proof.AdamIn

end
-- ==== Proof.AdamOut.lean ====
/- The optimiser's step on the shard of the output projection, block by block, against the step on the whole array. -/
module

public import proofs.«01_k».proof.Defs
public import proofs.«01_k».proof.Proof.Adam
public import proofs.«01_k».proof.Proof.Gen.Kernel21Ideal.Frame
public import proofs.«01_k».proof.Proof.Gen.Reference21Ideal.Read
public import Idealize.ShloMosaic.Lib.Claim
public import Idealize.ShloMosaic.Lib.Pipeline.ValueKit
public import Idealize.ShloMosaic.Lib.Pipeline.ReadBack
public import Idealize.ShloMosaic.Lib.Pipeline.FrameSuffix

@[expose] public section

set_option maxRecDepth 16384
set_option maxHeartbeats 400000

noncomputable section

namespace Cert.Kernel21Ideal.Value

open Idealize.ShloMosaic Idealize.ShloMosaic.TcCoe Idealize.SL.Sem
open Idealize.ShloMosaic.Pipeline (Dat)
open Cert.Kernel21Ideal Cert.Kernel21Ideal.Gen

variable (m : (ℓ : Loc nD τ sig) → Buf (Elt Ideal) ℓ)

/-- The weight, its gradient and the two running means as the program's start holds them. -/
abbrev W (c : Dev nD) : FVec Ideal S2x256x1024 .f32 := m ((c : Thread nD τ).loc main_arg0)
abbrev G (c : Dev nD) : FVec Ideal S2x256x1024 .f32 := m ((c : Thread nD τ).loc main_arg1)
abbrev M (c : Dev nD) : FVec Ideal S2x256x1024 .f32 := m ((c : Thread nD τ).loc main_arg2)
abbrev S (c : Dev nD) : FVec Ideal S2x256x1024 .f32 := m ((c : Thread nD τ).loc main_arg3)

/-- The kernel's three payloads, an entry at a time. -/
theorem pays (w g m v : Vec Ideal S256x1024 .f32) (y : S256x1024.Idx) :
    k0_pay4 (F := Ideal) w g m v y = Adam.change (w y) (g y) (m y) (v y)
    ∧ k0_pay2 (F := Ideal) g m y = Adam.mean (m y) (g y)
    ∧ k0_pay3 (F := Ideal) g v y = Adam.square (v y) (g y) := by
  rw [eq_ix2 y]
  refine ⟨?_, ?_, ?_⟩
  all_goals
    pointwise [k0_pay4, k0_pay3, k0_pay2, k0_pay1]
    rfl

/-- The four arrays the kernel reads: the arguments laid out by rows. -/
theorem entry (c : Dev nD) :
    (V m c main_v0 : FVec Ideal S512x1024 .f32) = shapeCast S512x1024 (W m c) shapeCasts_S2x256x1024_S512x1024
    ∧ (V m c main_v1 : FVec Ideal S512x1024 .f32) = shapeCast S512x1024 (G m c) shapeCasts_S2x256x1024_S512x1024
    ∧ (V m c main_v2 : FVec Ideal S512x1024 .f32) = shapeCast S512x1024 (M m c) shapeCasts_S2x256x1024_S512x1024
    ∧ (V m c main_v3 : FVec Ideal S512x1024 .f32) = shapeCast S512x1024 (S m c) shapeCasts_S2x256x1024_S512x1024 := by
  unfold V V0
  simp only [hostOps0, List.flatten_cons, List.flatten_nil, List.cons_append, List.nil_append, List.append_nil]
  refine ⟨?_, ?_, ?_, ?_⟩
  all_goals
    after_results_simp
    rfl

/-- The three arrays the kernel writes, from those it reads: every block lies where the blocks it is made of lie. -/
theorem arrays (c : Dev nD) :
    ((dats m 0 c).arrAt 4 (cfgs 0).N : FVec Ideal S512x1024 .f32)
        = Adam.changes (V m c main_v0 : FVec Ideal S512x1024 .f32) (V m c main_v1 : FVec Ideal S512x1024 .f32)
          (V m c main_v2 : FVec Ideal S512x1024 .f32) (V m c main_v3 : FVec Ideal S512x1024 .f32)
    ∧ ((dats m 0 c).arrAt 5 (cfgs 0).N : FVec Ideal S512x1024 .f32)
        = Adam.means (V m c main_v2 : FVec Ideal S512x1024 .f32) (V m c main_v1 : FVec Ideal S512x1024 .f32)
    ∧ ((dats m 0 c).arrAt 6 (cfgs 0).N : FVec Ideal S512x1024 .f32)
        = Adam.squares (V m c main_v3 : FVec Ideal S512x1024 .f32) (V m c main_v1 : FVec Ideal S512x1024 .f32) := by
  refine ⟨funext fun x => (dats m 0 c).arrAt_forall_of_covers 4 (fun (x : S512x1024.Idx) (v : EReal) => v = Adam.changes _ _ _ _ x)
      (by decide +kernel) (fun t _ y => ?_) x (Memref.isWhole_whole _),
    funext fun x => (dats m 0 c).arrAt_forall_of_covers 5 (fun (x : S512x1024.Idx) (v : EReal) => v = Adam.means _ _ x)
      (by decide +kernel) (fun t _ y => ?_) x (Memref.isWhole_whole _),
    funext fun x => (dats m 0 c).arrAt_forall_of_covers 6 (fun (x : S512x1024.Idx) (v : EReal) => v = Adam.squares _ _ x)
      (by decide +kernel) (fun t _ y => ?_) x (Memref.isWhole_whole _)⟩
  · rw [after0_4]
    unfold out0_4
    blk_simp
    frame_out
    exact (pays _ _ _ _ y).1
  · rw [after0_5]
    unfold out0_5
    blk_simp
    frame_out
    exact (pays (iblk m c 0 t) _ _ (iblk m c 3 t) y).2.1
  · rw [after0_6]
    unfold out0_6
    blk_simp
    frame_out
    exact (pays (iblk m c 0 t) _ (iblk m c 2 t) _ y).2.2

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E_at (c : Dev nD) (w : Fin (cfgs 0).W) : E m c (Proc.devRef .tc (Pipeline.arrRef spec0 w)) = (dats m 0 c).arrAt w (cfgs 0).N :=
  (dats m 0 c).withArrays_arrAt (by decide +kernel) (V0 m c) (fun _ => rfl) w

/-- The three results: the written arrays with the rows taken apart into the layers again. -/
theorem results (c : Dev nD) :
    (T m c main_v5 : FVec Ideal S2x256x1024 .f32) = Adam.changes (W m c) (G m c) (M m c) (S m c)
    ∧ (T m c main_v6 : FVec Ideal S2x256x1024 .f32) = Adam.means (M m c) (G m c)
    ∧ (T m c main_v7 : FVec Ideal S2x256x1024 .f32) = Adam.squares (S m c) (G m c) := by
  obtain ⟨a4, a5, a6⟩ := arrays m c
  obtain ⟨e0, e1, e2, e3⟩ := entry m c
  rw [e0, e1, e2, e3, ← E_at] at a4
  rw [e1, e2, ← E_at] at a5
  rw [e1, e3, ← E_at] at a6
  refine ⟨Eq.trans ?_ (Adam.changes_back shapeCasts_S2x256x1024_S512x1024 shapeCasts_S512x1024_S2x256x1024 ..),
    Eq.trans ?_ (Adam.means_back shapeCasts_S2x256x1024_S512x1024 shapeCasts_S512x1024_S2x256x1024 ..),
    Eq.trans ?_ (Adam.squares_back shapeCasts_S2x256x1024_S512x1024 shapeCasts_S512x1024_S2x256x1024 ..)⟩
  on_goal 1 => rw [← a4]
  on_goal 2 => rw [← a5]
  on_goal 3 => rw [← a6]
  all_goals
    unfold T Pipeline.afterTail₀
    simp only [hostOps1, List.flatten_cons, List.flatten_nil, List.cons_append, List.nil_append, List.append_nil]
    after_results_simp
    rfl

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5) = T m c main_v5
      ∧ r.2.mem ((c.tc : Thread nD τ).loc main_v6) = T m c main_v6
      ∧ r.2.mem ((c.tc : Thread nD τ).loc main_v7) = T m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).2 main_v5 (by decide +kernel), (h.1 c).2 main_v6 (by decide +kernel), (h.1 c).2 main_v7 (by decide +kernel), h.2 c⟩)
    (θ_run_and (run_main m ρ) (unchanged m ρ))

end Cert.Kernel21Ideal.Value

namespace Cert.Proof.AdamOut

open Idealize.ShloMosaic Idealize.ShloMosaic.TcCoe Idealize.SL.Sem
open Cert.Kernel21Ideal.Value (results)

/-- At the ideal instance the kernel's three results are the reference's. -/
theorem algebraic : Cert.algebraic_Kernel21Ideal_Reference21Ideal := by
  pair_intro
  · run_from Cert.Kernel21Ideal.Value.run m g
  · run_from Cert.Reference21Ideal.Value.run m' g'
    · exact (Cert.Reference21Ideal.Read.val_main_v23_eq ..).trans (results m c).1.symm
    · exact (Cert.Reference21Ideal.Read.val_main_v4_eq ..).trans (results m c).2.1.symm
    · exact (Cert.Reference21Ideal.Read.val_main_v10_eq ..).trans (results m c).2.2.symm

end Cert.Proof.AdamOut

end
-- ==== Proof.AdamUp.lean ====
/- The optimiser's step on the shard of the first feed-forward matrix, block by block, against the step on the whole array. -/
module

public import proofs.«01_k».proof.Defs
public import proofs.«01_k».proof.Proof.Adam
public import proofs.«01_k».proof.Proof.Gen.Kernel22Ideal.Frame
public import proofs.«01_k».proof.Proof.Gen.Reference22Ideal.Read
public import Idealize.ShloMosaic.Lib.Claim
public import Idealize.ShloMosaic.Lib.Pipeline.ValueKit
public import Idealize.ShloMosaic.Lib.Pipeline.ReadBack
public import Idealize.ShloMosaic.Lib.Pipeline.FrameSuffix

@[expose] public section

set_option maxRecDepth 16384
set_option maxHeartbeats 400000

noncomputable section

namespace Cert.Kernel22Ideal.Value

open Idealize.ShloMosaic Idealize.ShloMosaic.TcCoe Idealize.SL.Sem
open Idealize.ShloMosaic.Pipeline (Dat)
open Cert.Kernel22Ideal Cert.Kernel22Ideal.Gen

variable (m : (ℓ : Loc nD τ sig) → Buf (Elt Ideal) ℓ)

/-- The weight, its gradient and the two running means as the program's start holds them. -/
abbrev W (c : Dev nD) : FVec Ideal S2x1024x1024 .f32 := m ((c : Thread nD τ).loc main_arg0)
abbrev G (c : Dev nD) : FVec Ideal S2x1024x1024 .f32 := m ((c : Thread nD τ).loc main_arg1)
abbrev M (c : Dev nD) : FVec Ideal S2x1024x1024 .f32 := m ((c : Thread nD τ).loc main_arg2)
abbrev S (c : Dev nD) : FVec Ideal S2x1024x1024 .f32 := m ((c : Thread nD τ).loc main_arg3)

/-- The kernel's three payloads, an entry at a time. -/
theorem pays (w g m v : Vec Ideal S256x1024 .f32) (y : S256x1024.Idx) :
    k0_pay4 (F := Ideal) w g m v y = Adam.change (w y) (g y) (m y) (v y)
    ∧ k0_pay2 (F := Ideal) g m y = Adam.mean (m y) (g y)
    ∧ k0_pay3 (F := Ideal) g v y = Adam.square (v y) (g y) := by
  rw [eq_ix2 y]
  refine ⟨?_, ?_, ?_⟩
  all_goals
    pointwise [k0_pay4, k0_pay3, k0_pay2, k0_pay1]
    rfl

/-- The four arrays the kernel reads: the arguments laid out by rows. -/
theorem entry (c : Dev nD) :
    (V m c main_v0 : FVec Ideal S2048x1024 .f32) = shapeCast S2048x1024 (W m c) shapeCasts_S2x1024x1024_S2048x1024
    ∧ (V m c main_v1 : FVec Ideal S2048x1024 .f32) = shapeCast S2048x1024 (G m c) shapeCasts_S2x1024x1024_S2048x1024
    ∧ (V m c main_v2 : FVec Ideal S2048x1024 .f32) = shapeCast S2048x1024 (M m c) shapeCasts_S2x1024x1024_S2048x1024
    ∧ (V m c main_v3 : FVec Ideal S2048x1024 .f32) = shapeCast S2048x1024 (S m c) shapeCasts_S2x1024x1024_S2048x1024 := by
  unfold V V0
  simp only [hostOps0, List.flatten_cons, List.flatten_nil, List.cons_append, List.nil_append, List.append_nil]
  refine ⟨?_, ?_, ?_, ?_⟩
  all_goals
    after_results_simp
    rfl

/-- The three arrays the kernel writes, from those it reads: every block lies where the blocks it is made of lie. -/
theorem arrays (c : Dev nD) :
    ((dats m 0 c).arrAt 4 (cfgs 0).N : FVec Ideal S2048x1024 .f32)
        = Adam.changes (V m c main_v0 : FVec Ideal S2048x1024 .f32) (V m c main_v1 : FVec Ideal S2048x1024 .f32)
          (V m c main_v2 : FVec Ideal S2048x1024 .f32) (V m c main_v3 : FVec Ideal S2048x1024 .f32)
    ∧ ((dats m 0 c).arrAt 5 (cfgs 0).N : FVec Ideal S2048x1024 .f32)
        = Adam.means (V m c main_v2 : FVec Ideal S2048x1024 .f32) (V m c main_v1 : FVec Ideal S2048x1024 .f32)
    ∧ ((dats m 0 c).arrAt 6 (cfgs 0).N : FVec Ideal S2048x1024 .f32)
        = Adam.squares (V m c main_v3 : FVec Ideal S2048x1024 .f32) (V m c main_v1 : FVec Ideal S2048x1024 .f32) := by
  refine ⟨funext fun x => (dats m 0 c).arrAt_forall_of_covers 4 (fun (x : S2048x1024.Idx) (v : EReal) => v = Adam.changes _ _ _ _ x)
      (by decide +kernel) (fun t _ y => ?_) x (Memref.isWhole_whole _),
    funext fun x => (dats m 0 c).arrAt_forall_of_covers 5 (fun (x : S2048x1024.Idx) (v : EReal) => v = Adam.means _ _ x)
      (by decide +kernel) (fun t _ y => ?_) x (Memref.isWhole_whole _),
    funext fun x => (dats m 0 c).arrAt_forall_of_covers 6 (fun (x : S2048x1024.Idx) (v : EReal) => v = Adam.squares _ _ x)
      (by decide +kernel) (fun t _ y => ?_) x (Memref.isWhole_whole _)⟩
  · rw [after0_4]
    unfold out0_4
    blk_simp
    frame_out
    exact (pays _ _ _ _ y).1
  · rw [after0_5]
    unfold out0_5
    blk_simp
    frame_out
    exact (pays (iblk m c 0 t) _ _ (iblk m c 3 t) y).2.1
  · rw [after0_6]
    unfold out0_6
    blk_simp
    frame_out
    exact (pays (iblk m c 0 t) _ (iblk m c 2 t) _ y).2.2

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E_at (c : Dev nD) (w : Fin (cfgs 0).W) : E m c (Proc.devRef .tc (Pipeline.arrRef spec0 w)) = (dats m 0 c).arrAt w (cfgs 0).N :=
  (dats m 0 c).withArrays_arrAt (by decide +kernel) (V0 m c) (fun _ => rfl) w

/-- The three results: the written arrays with the rows taken apart into the layers again. -/
theorem results (c : Dev nD) :
    (T m c main_v5 : FVec Ideal S2x1024x1024 .f32) = Adam.changes (W m c) (G m c) (M m c) (S m c)
    ∧ (T m c main_v6 : FVec Ideal S2x1024x1024 .f32) = Adam.means (M m c) (G m c)
    ∧ (T m c main_v7 : FVec Ideal S2x1024x1024 .f32) = Adam.squares (S m c) (G m c) := by
  obtain ⟨a4, a5, a6⟩ := arrays m c
  obtain ⟨e0, e1, e2, e3⟩ := entry m c
  rw [e0, e1, e2, e3, ← E_at] at a4
  rw [e1, e2, ← E_at] at a5
  rw [e1, e3, ← E_at] at a6
  refine ⟨Eq.trans ?_ (Adam.changes_back shapeCasts_S2x1024x1024_S2048x1024 shapeCasts_S2048x1024_S2x1024x1024 ..),
    Eq.trans ?_ (Adam.means_back shapeCasts_S2x1024x1024_S2048x1024 shapeCasts_S2048x1024_S2x1024x1024 ..),
    Eq.trans ?_ (Adam.squares_back shapeCasts_S2x1024x1024_S2048x1024 shapeCasts_S2048x1024_S2x1024x1024 ..)⟩
  on_goal 1 => rw [← a4]
  on_goal 2 => rw [← a5]
  on_goal 3 => rw [← a6]
  all_goals
    unfold T Pipeline.afterTail₀
    simp only [hostOps1, List.flatten_cons, List.flatten_nil, List.cons_append, List.nil_append, List.append_nil]
    after_results_simp
    rfl

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5) = T m c main_v5
      ∧ r.2.mem ((c.tc : Thread nD τ).loc main_v6) = T m c main_v6
      ∧ r.2.mem ((c.tc : Thread nD τ).loc main_v7) = T m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).2 main_v5 (by decide +kernel), (h.1 c).2 main_v6 (by decide +kernel), (h.1 c).2 main_v7 (by decide +kernel), h.2 c⟩)
    (θ_run_and (run_main m ρ) (unchanged m ρ))

end Cert.Kernel22Ideal.Value

namespace Cert.Proof.AdamUp

open Idealize.ShloMosaic Idealize.ShloMosaic.TcCoe Idealize.SL.Sem
open Cert.Kernel22Ideal.Value (results)

/-- At the ideal instance the kernel's three results are the reference's. -/
theorem algebraic : Cert.algebraic_Kernel22Ideal_Reference22Ideal := by
  pair_intro
  · run_from Cert.Kernel22Ideal.Value.run m g
  · run_from Cert.Reference22Ideal.Value.run m' g'
    · exact (Cert.Reference22Ideal.Read.val_main_v23_eq ..).trans (results m c).1.symm
    · exact (Cert.Reference22Ideal.Read.val_main_v4_eq ..).trans (results m c).2.1.symm
    · exact (Cert.Reference22Ideal.Read.val_main_v10_eq ..).trans (results m c).2.2.symm

end Cert.Proof.AdamUp

end
-- ==== Proof.Tables.lean ====
/- Tables of kernel bodies, compared label by label. -/
module

public import Idealize.ShloMosaic.Lib.Claim

@[expose] public section

namespace Cert

/-- Two tables with one label agree if they agree at it. -/
theorem table_ext {β : Fin 1 → Sort*} {f g : ∀ l, β l} (h : f 0 = g 0) : f = g :=
  funext fun l => match l with
    | 0 => h

end Cert

end
-- ==== Proof.Arrays.lean ====
/- What the kernel's three result arrays hold after the last grid point: the gradient of the block's input, the folded
   sums for the taps and the scale, and the products of all pairs of channels. -/
module

public import proofs.«01_k».proof.Proof.Pool
public import Idealize.ShloMosaic.Lib.Pipeline.ReadBack
public import Idealize.ShloMosaic.Lib.Ring

@[expose] public section

set_option maxRecDepth 16384
set_option maxHeartbeats 4000000

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.ConvPool

variable (m : (ℓ : Loc nD τ sig) → Buf (Elt Ideal) ℓ)

/-- Where a placed index lies. -/
theorem emb_unit {S : Shape} (off size : Fin S.rank → ℕ) (inb) (x : (Rect.unit (s := S) off size inb).shape.Idx) (a : Fin S.rank) :
    ((Rect.unit (s := S) off size inb).emb x a).val = off a + (x a).val := Rect.idx_unit_val off size inb x a

/-- The four column pieces a point stores, in the rows of the sequence. -/
theorem du_pieces (c : Dev nD) (t : Fin cfg0.N) (y : S544x1024.Idx) (k0 k1 k2 k3 g0 g1 g2) (hq : 112 ≤ t.val % 4 * 544 + (y 0).val) :
    View.canon (Val := Elt Ideal) (s := S544x1024) (e := .bf16) [⟨Rect.unit (s := S544x1024) ![0, 768] S544x256.size k3,
          k0_pay1 k0_pay26
            (k0_pay38 (k0_pay5 (grid0.coords t)) (k0_pay32 (iblk m c 9 t)) (iblk m c 11 t) (iblk m c 14 t)
              (iblk m c 13 t))
            (k0_pay39 (k0_pay5 (grid0.coords t)) (k0_pay30 (k0_pay4 (grid0.coords t)) k0_pay27)
              (k0_pay32 (iblk m c 9 t)) (iblk m c 11 t) (iblk m c 14 t) (iblk m c 13 t))
            (k0_pay40 (k0_pay5 (grid0.coords t)) (k0_pay30 (k0_pay4 (grid0.coords t)) k0_pay27)
              (k0_pay32 (iblk m c 9 t)) (iblk m c 11 t) (iblk m c 14 t) (iblk m c 13 t))
            (k0_pay41 (k0_pay5 (grid0.coords t)) (k0_pay30 (k0_pay4 (grid0.coords t)) k0_pay27)
              (k0_pay32 (iblk m c 9 t)) (iblk m c 11 t) (iblk m c 14 t) (iblk m c 13 t))
            (k0_pay42 (k0_pay5 (grid0.coords t)) (k0_pay30 (k0_pay4 (grid0.coords t)) k0_pay27)
              (k0_pay32 (iblk m c 9 t)) (iblk m c 11 t) (iblk m c 14 t) (iblk m c 13 t))
            0#32⟩,
        ⟨Rect.unit (s := S544x1024) ![0, 512] S544x256.size k2,
          k0_pay21 (View.ld (iblk m c 12 t) (Rect.unit (s := S3x256) ![0, 0] S1x256.size g0))
            (k0_pay8 (iblk m c 1 t))
            (k0_pay16 (k0_pay5 (grid0.coords t)) (k0_pay7 (iblk m c 0 t)) (iblk m c 8 t) (iblk m c 10 t) (iblk m c 4 t))
            (k0_pay18 (k0_pay5 (grid0.coords t))
              (View.ld (iblk m c 12 t) (Rect.unit (s := S3x256) ![1, 0] S1x256.size g1))
              (View.ld (iblk m c 12 t) (Rect.unit (s := S3x256) ![2, 0] S1x256.size g2)) (k0_pay7 (iblk m c 0 t))
              (iblk m c 8 t) (iblk m c 10 t) (iblk m c 4 t))⟩,
        ⟨Rect.unit (s := S544x1024) ![0, 256] S544x256.size k1,
          k0_pay20 (View.ld (iblk m c 12 t) (Rect.unit (s := S3x256) ![0, 0] S1x256.size g0))
            (k0_pay9 (iblk m c 2 t))
            (k0_pay16 (k0_pay5 (grid0.coords t)) (k0_pay7 (iblk m c 0 t)) (iblk m c 8 t) (iblk m c 10 t) (iblk m c 4 t))
            (k0_pay18 (k0_pay5 (grid0.coords t))
              (View.ld (iblk m c 12 t) (Rect.unit (s := S3x256) ![1, 0] S1x256.size g1))
              (View.ld (iblk m c 12 t) (Rect.unit (s := S3x256) ![2, 0] S1x256.size g2)) (k0_pay7 (iblk m c 0 t))
              (iblk m c 8 t) (iblk m c 10 t) (iblk m c 4 t))⟩,
        ⟨Rect.unit (s := S544x1024) ![0, 0] S544x256.size k0,
          k0_pay15 (View.ld (iblk m c 12 t) (Rect.unit (s := S3x256) ![0, 0] S1x256.size g0))
            (View.ld (iblk m c 12 t) (Rect.unit (s := S3x256) ![1, 0] S1x256.size g1))
            (View.ld (iblk m c 12 t) (Rect.unit (s := S3x256) ![2, 0] S1x256.size g2)) (k0_pay8 (iblk m c 1 t))
            (k0_pay9 (iblk m c 2 t)) (iblk m c 5 t) (iblk m c 6 t) (iblk m c 8 t)⟩] y
      = (du (U m c) (D m c) (w m c) (W m c) (ps m c) (t.val / 4) (t.val % 4 * 544 + (y 0).val) (y 1).val : EReal) := by
  have hld : ∀ (k : Fin 3) (j : Fin 256) (g), (View.ld (iblk m c 12 t) (Rect.unit (s := S3x256) ![k.val, 0] S1x256.size g) : FVec Ideal S1x256 .f32) (ix2 0 j) = w m c k.val j.val :=
    fun k j g => tap m c t k g j
  refine View.canon_eq_of_allAt (Val := Elt Ideal) (S := S544x1024) (e := .bf16) _ y _ (View.cover_of_tiledL _ ![544, 256] rfl y) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · intro x h
    obtain ⟨i, j, rfl⟩ : ∃ i j, x = ix2 i j := ⟨x 0, x 1, eq_ix2 x⟩
    have e0 : (y 0).val = i.val := (h 0).trans (Nat.zero_add _)
    have e1 : (y 1).val = 768 + j.val := h 1
    have hj : j.val < 256 := j.isLt
    rw [e0] at hq
    rw [e0, e1]
    refine (duPool m c t i j hq).trans ?_
    have e2 : 768 + j.val - 768 = j.val := by omega
    rw [du, if_neg (by omega), if_neg (by omega), if_neg (by omega)]
    simp only [e2]
  · intro x h
    obtain ⟨i, j, rfl⟩ : ∃ i j, x = ix2 i j := ⟨x 0, x 1, eq_ix2 x⟩
    have e0 : (y 0).val = i.val := (h 0).trans (Nat.zero_add _)
    have e1 : (y 1).val = 512 + j.val := h 1
    have hj : j.val < 256 := j.isLt
    rw [e0, e1]
    pointwise [k0_pay21, k0_pay8]
    refine (congrArg₂ (fun a b : EReal => a * b) (dgate m c t _ _ _ i j (hld 0 j g0) (hld 1 j g1) (hld 2 j g2)) (iblk1 m c t i j)).trans ?_
    have e2 : 512 + j.val - 512 = j.val := by omega
    have e3 : 512 + j.val - 256 = 256 + j.val := by omega
    rw [du, if_neg (by omega), if_neg (by omega), if_pos (by omega)]
    simp only [e2, e3]
  · intro x h
    obtain ⟨i, j, rfl⟩ : ∃ i j, x = ix2 i j := ⟨x 0, x 1, eq_ix2 x⟩
    have e0 : (y 0).val = i.val := (h 0).trans (Nat.zero_add _)
    have e1 : (y 1).val = 256 + j.val := h 1
    have hj : j.val < 256 := j.isLt
    rw [e0, e1]
    pointwise [k0_pay20, k0_pay9]
    refine (congrArg₂ (fun a b : EReal => a * b) (dgate m c t _ _ _ i j (hld 0 j g0) (hld 1 j g1) (hld 2 j g2)) (iblk2 m c t i j)).trans ?_
    have e2 : 256 + j.val - 256 = j.val := by omega
    have e3 : 256 + j.val + 256 = 512 + j.val := by omega
    rw [du, if_neg (by omega), if_pos (by omega)]
    simp only [e2, e3]
  · intro x h
    obtain ⟨i, j, rfl⟩ : ∃ i j, x = ix2 i j := ⟨x 0, x 1, eq_ix2 x⟩
    have e0 : (y 0).val = i.val := (h 0).trans (Nat.zero_add _)
    have e1 : (y 1).val = j.val := (h 1).trans (Nat.zero_add _)
    have hj : j.val < 256 := j.isLt
    rw [e0] at hq
    rw [e0, e1]
    refine (duGate m c t _ _ _ i j (by omega) (hld 0 j g0) (hld 1 j g1) (hld 2 j g2)).trans ?_
    rw [du, if_pos (by omega)]

/-- The input's gradient, in the rows of the sequences. (The rows in front of a sequence the program cuts off.) -/
theorem du_array (c : Dev nD) (x : S8704x1024.Idx) (hx : 112 ≤ (x 0).val % 2176) :
    ((dats m 0 c).arrAt 15 (cfgs 0).N : FVec Ideal S8704x1024 .bf16) x
      = du (U m c) (D m c) (w m c) (W m c) (ps m c) ((x 0).val / 2176) ((x 0).val % 2176) (x 1).val := by
  refine (dats m 0 c).arrAt_forall_of_covers 15 (fun (x : S8704x1024.Idx) (v : EReal) => 112 ≤ (x 0).val % 2176 →
      v = du (U m c) (D m c) (w m c) (W m c) (ps m c) ((x 0).val / 2176) ((x 0).val % 2176) (x 1).val) (by decide +kernel) (fun t hf y => ?_) x (Memref.isWhole_whole _) hx
  blk_simp
  rw [after0_15]
  have ht : t.val < 16 := t.isLt.trans_eq N_0
  intro hq
  have e0 : win0_15.index t 0 = t.val := by rw [(idx t).2.2.2.2.2.2.2.2.2.2.2.2.2.2.2.1]; rfl
  have e1 : win0_15.index t 1 = 0 := by rw [(idx t).2.2.2.2.2.2.2.2.2.2.2.2.2.2.2.1]; rfl
  have hy : (y 0).val < 544 := (y 0).isLt
  rw [e0] at hq
  rw [e0, e1]
  have e2 : (t.val * 544 + (y 0).val) / 2176 = t.val / 4 := by omega
  have e3 : (t.val * 544 + (y 0).val) % 2176 = t.val % 4 * 544 + (y 0).val := by omega
  have e4 : 0 * 1024 + (y 1).val = (y 1).val := by omega
  rw [e3] at hq
  rw [e2, e3, e4]
  by_cases h : t.val % 16 = 0
  · rw [outsAt0_A m c t h]
    frame_out
    exact du_pieces m c t y _ _ _ _ _ _ _ hq
  · rw [outsAt0_B m c t h]
    frame_out
    exact du_pieces m c t y _ _ _ _ _ _ _ hq

/-- What the folded sums hold: eight rows for each of the three taps, eight for the scale. -/
def fold (c : Dev nD) (t : ℕ) (j : S32x256.Idx) : EReal :=
  if (j 0).val < 24 then ∑ x : Fin 68, dtap (U m c) (D m c) ((j 0).val / 8) (j 1).val (t / 4) (t % 4 * 544 + (x.val * 8 + (j 0).val % 8))
  else ∑ x : Fin 68, dscale (U m c) (D m c) (W m c) (j 1).val (t / 4) (t % 4 * 544 + (x.val * 8 + (j 0).val % 8))

def foldSum (c : Dev nD) (j : S32x256.Idx) : EReal := ∑ t : Fin 16, fold m c t.val j

/-- The products of all pairs of channels. -/
def pair (c : Dev nD) (t : ℕ) (j : S256x256.Idx) : EReal :=
  ∑ x : Fin 544, dmix (U m c) (D m c) (ps m c) (j 0).val (j 1).val (t / 4) (t % 4 * 544 + x.val)

def pairSum (c : Dev nD) (j : S256x256.Idx) : EReal := ∑ t : Fin 16, pair m c t.val j

/-- The four eight-row pieces a point stores, each what stood there and its own share. -/
theorem fold_pieces (c : Dev nD) (t : Fin cfg0.N) (Z : FVec Ideal S32x256 .f32) (L') (y : S32x256.Idx) (h0 h1 h2 h3) :
    View.canon (Val := Elt Ideal) (s := S32x256) (e := .f32) ([⟨Rect.unit (s := S32x256) ![24, 0] S8x256.size h3,
          k0_pay35
            (k0_pay31 (k0_pay4 (grid0.coords t)) (k0_pay6 (grid0.coords t)) (k0_pay25 (iblk m c 3 t)) k0_pay26 k0_pay27
              (k0_pay28 (iblk m c 3 t) (iblk m c 7 t)) (k0_pay29 (iblk m c 3 t) (iblk m c 7 t)))
            (k0_pay32 (iblk m c 9 t))
            (k0_pay33 (View.ld Z (Rect.unit (s := S32x256) ![24, 0] S8x256.size h3)))
            (k0_pay34 (iblk m c 13 t))⟩,
        ⟨Rect.unit (s := S32x256) ![16, 0] S8x256.size h2,
          k0_pay24 (k0_pay10 (k0_pay8 (iblk m c 1 t)) (k0_pay9 (iblk m c 2 t)))
            (k0_pay17 (k0_pay5 (grid0.coords t)) (k0_pay7 (iblk m c 0 t)) (iblk m c 8 t) (iblk m c 10 t) (iblk m c 4 t))
            (View.ld Z (Rect.unit (s := S32x256) ![16, 0] S8x256.size h2))⟩,
        ⟨Rect.unit (s := S32x256) ![8, 0] S8x256.size h1,
          k0_pay23 (k0_pay12 (k0_pay8 (iblk m c 1 t)) (k0_pay9 (iblk m c 2 t)) (iblk m c 5 t) (iblk m c 6 t))
            (k0_pay17 (k0_pay5 (grid0.coords t)) (k0_pay7 (iblk m c 0 t)) (iblk m c 8 t) (iblk m c 10 t) (iblk m c 4 t))
            (View.ld Z (Rect.unit (s := S32x256) ![8, 0] S8x256.size h1))⟩,
        ⟨Rect.unit (s := S32x256) ![0, 0] S8x256.size h0,
          k0_pay22 (k0_pay13 (k0_pay8 (iblk m c 1 t)) (k0_pay9 (iblk m c 2 t)) (iblk m c 5 t) (iblk m c 6 t))
            (k0_pay17 (k0_pay5 (grid0.coords t)) (k0_pay7 (iblk m c 0 t)) (iblk m c 8 t) (iblk m c 10 t) (iblk m c 4 t))
            (View.ld Z (Rect.unit (s := S32x256) ![0, 0] S8x256.size h0))⟩] ++ L' : List (View.Piece (Elt Ideal) S32x256 .f32)) y
      = (Z y + fold m c t.val y : EReal) := by
  refine View.canon_append_of_piecesOf (Val := Elt Ideal) (s := S32x256) (e := .f32) (fun y => (Z y + fold m c t.val y : EReal)) L' [_, _, _, _] ⟨fun x => ?_, fun x => ?_, fun x => ?_, fun x => ?_, trivial⟩ y
    (View.cover_of_tiledL _ ![8, 256] rfl y)
  · obtain ⟨r, j, rfl⟩ : ∃ (r : Fin 8) (j : Fin 256), x = ix2 r j := ⟨x 0, x 1, by funext a; fin_cases a <;> rfl⟩
    have e0 : ((Rect.unit (s := S32x256) ![24, 0] ![8, 256] h3).emb (ix2 r j) 0).val = 24 + r.val := emb_unit _ _ _ _ _
    have e1 : ((Rect.unit (s := S32x256) ![24, 0] ![8, 256] h3).emb (ix2 r j) 1).val = 0 + j.val := emb_unit _ _ _ _ _
    refine (scaleSum m c t _ r j).trans (congrArg _ ?_)
    unfold fold
    rw [e0, e1, if_neg (by omega)]
    simp only [Nat.zero_add]
    have f1 : (24 + r.val) % 8 = r.val := by omega
    have f2 : (24 + r.val) / 8 = 3 := by omega
    rw [f1]
  · obtain ⟨r, j, rfl⟩ : ∃ (r : Fin 8) (j : Fin 256), x = ix2 r j := ⟨x 0, x 1, by funext a; fin_cases a <;> rfl⟩
    have e0 : ((Rect.unit (s := S32x256) ![16, 0] ![8, 256] h2).emb (ix2 r j) 0).val = 16 + r.val := emb_unit _ _ _ _ _
    have e1 : ((Rect.unit (s := S32x256) ![16, 0] ![8, 256] h2).emb (ix2 r j) 1).val = 0 + j.val := emb_unit _ _ _ _ _
    refine (tap2Sum m c t _ r j).trans (congrArg _ ?_)
    unfold fold
    rw [e0, e1, if_pos (by omega)]
    simp only [Nat.zero_add]
    have f1 : (16 + r.val) % 8 = r.val := by omega
    have f2 : (16 + r.val) / 8 = 2 := by omega
    rw [f1, f2]
  · obtain ⟨r, j, rfl⟩ : ∃ (r : Fin 8) (j : Fin 256), x = ix2 r j := ⟨x 0, x 1, by funext a; fin_cases a <;> rfl⟩
    have e0 : ((Rect.unit (s := S32x256) ![8, 0] ![8, 256] h1).emb (ix2 r j) 0).val = 8 + r.val := emb_unit _ _ _ _ _
    have e1 : ((Rect.unit (s := S32x256) ![8, 0] ![8, 256] h1).emb (ix2 r j) 1).val = 0 + j.val := emb_unit _ _ _ _ _
    refine (tap1Sum m c t _ r j).trans (congrArg _ ?_)
    unfold fold
    rw [e0, e1, if_pos (by omega)]
    simp only [Nat.zero_add]
    have f1 : (8 + r.val) % 8 = r.val := by omega
    have f2 : (8 + r.val) / 8 = 1 := by omega
    rw [f1, f2]
  · obtain ⟨r, j, rfl⟩ : ∃ (r : Fin 8) (j : Fin 256), x = ix2 r j := ⟨x 0, x 1, by funext a; fin_cases a <;> rfl⟩
    have e0 : ((Rect.unit (s := S32x256) ![0, 0] ![8, 256] h0).emb (ix2 r j) 0).val = 0 + r.val := emb_unit _ _ _ _ _
    have e1 : ((Rect.unit (s := S32x256) ![0, 0] ![8, 256] h0).emb (ix2 r j) 1).val = 0 + j.val := emb_unit _ _ _ _ _
    refine (tap0Sum m c t _ r j).trans (congrArg _ ?_)
    unfold fold
    rw [e0, e1, if_pos (by omega)]
    simp only [Nat.zero_add]
    have f1 : r.val % 8 = r.val := by omega
    have f2 : r.val / 8 = 0 := by omega
    rw [f1, f2]

theorem fold_array (c : Dev nD) : ((dats m 0 c).arrAt 16 (cfgs 0).N : FVec Ideal S32x256 .f32) = foldSum m c := by
  refine (dats m 0 c).arrAt_eq_of_after_last 16 t0_15 (by decide +kernel) (foldSum m c) fun j => ?_
  blk_simp
  rw [after0_16, Pipeline.eq_sum_fin_of_reset_step_apply_last (fun n h => (outsAt0 m c n h).2.1) 16 (fun _ => (0 : EReal)) (fun t j => fold m c t.val j)
    (fun t h j => by
      rw [outsAt0_A m c t h]
      frame_out
      simp (disch := decide) only [↓ View.readCov_skip, ↓ View.readCov_cons_toLoadRect, ↓ View.readCov_fill]
      refine (fold_pieces m c t k0_pay2 _ j _ _ _ _).trans (congrArg (· + _) ?_)
      pointwise [k0_pay2])
    (fun t h j => by
      rw [outsAt0_B m c t h]
      frame_out
      exact fold_pieces m c t _ [] j _ _ _ _)
    (le_of_eq N_0) t0_15 rfl j]
  exact zero_add (_ : EReal)

theorem pair_array (c : Dev nD) : ((dats m 0 c).arrAt 17 (cfgs 0).N : FVec Ideal S256x256 .f32) = pairSum m c := by
  refine (dats m 0 c).arrAt_eq_of_after_last 17 t0_15 (by decide +kernel) (pairSum m c) fun j => ?_
  blk_simp
  rw [after0_17, Pipeline.eq_sum_fin_of_reset_step_apply_last (fun n h => (outsAt0 m c n h).2.2) 16 (fun _ => (0 : EReal)) (fun t j => pair m c t.val j)
    (fun t h j => by
      rw [outsAt0_A m c t h]
      frame_out
      idx_vars j
      rw [mixSum]
      pointwise [k0_pay3]
      rfl)
    (fun t h j => by
      rw [outsAt0_B m c t h]
      frame_out
      idx_vars j
      rw [mixSum]
      rfl)
    (le_of_eq N_0) t0_15 rfl j]
  exact zero_add (_ : EReal)

end Cert.KernelIdeal.Value
-- ==== Proof.Tail.lean ====
/- What the program hands back: the arrays the kernel left, read by the lines that follow it. -/
module

public import proofs.«01_k».proof.Proof.Arrays
public import Idealize.ShloMosaic.Lib.Pipeline.FrameSuffix

@[expose] public section

set_option maxRecDepth 16384
set_option maxHeartbeats 4000000

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.ConvPool

variable (m : (ℓ : Loc nD τ sig) → Buf (Elt Ideal) ℓ)

/-- The rows in front of each sequence cut off. -/
theorem cut (Z : FVec Ideal S8704x1024 .bf16) (b : Fin 4) (q : Fin 2064) (j : Fin 1024) :
    extractStridedSlice S4x2064x1024 ![0, 112, 0] (shapeCast S4x2176x1024 Z shapeCasts_S8704x1024_S4x2176x1024)
      slices_S4x2176x1024_S4x2064x1024_0_112_0 (ix3 b q j) = Z (ix2 ⟨b.val * 2176 + (q.val + 112), by omega⟩ j) := by
  pointwise []
  have e : 112 + q.val = q.val + 112 := by omega
  simp only [e]

/-- Eight rows added up. -/
def sum8 (Z : FVec Ideal S32x256 .f32) (k : Fin 4) (j : Fin 256) : EReal := ∑ r : Fin 8, Z (ix2 ⟨k.val * 8 + r.val, by omega⟩ j)

/-- The eight rows of each of the four sums added up. -/
theorem eight (Z : FVec Ideal S32x256 .f32) (k : Fin 4) (j : Fin 256) :
    (Host.reduceAdd (shapeCast S4x8x256 Z shapeCasts_S32x256_S4x8x256) (constant S_ .f32 0x00000000#32) reducesTo_S4x8x256_S4x256_d1 h_S_ : FVec Ideal S4x256 .f32) (ix2 k j)
      = sum8 Z k j := by
  unfold sum8
  pointwise []

theorem taps (Z : FVec Ideal S4x256 .f32) (k : Fin 3) (j : Fin 256) :
    extractStridedSlice S3x256 ![0, 0] Z slices_S4x256_S3x256_0_0 (ix2 k j) = Z (ix2 ⟨k.val, by omega⟩ j) := by
  pointwise []

theorem last (Z : FVec Ideal S4x256 .f32) (j : Fin 256) :
    shapeCast S256 (extractStridedSlice S1x256 ![3, 0] Z slices_S4x256_S1x256_3_0) shapeCasts_S1x256_S256 (ix1 j) = Z (ix2 3 j) := by
  pointwise []

/-- The four diagonal blocks, one above the other. -/
theorem diag (Z : FVec Ideal S256x256 .f32) (h) (g : Fin 4) (x y : Fin 64) :
    (concatenate S4x64x64 0
      [⟨S1x64x64, broadcastInDim S1x64x64 ![1, 2] bcast_S64x64_S1x64x64_1_2 (extractStridedSlice S64x64 ![0, 0] Z slices_S256x256_S64x64_0_0)⟩,
       ⟨S1x64x64, broadcastInDim S1x64x64 ![1, 2] bcast_S64x64_S1x64x64_1_2 (extractStridedSlice S64x64 ![64, 64] Z slices_S256x256_S64x64_64_64)⟩,
       ⟨S1x64x64, broadcastInDim S1x64x64 ![1, 2] bcast_S64x64_S1x64x64_1_2 (extractStridedSlice S64x64 ![128, 128] Z slices_S256x256_S64x64_128_128)⟩,
       ⟨S1x64x64, broadcastInDim S1x64x64 ![1, 2] bcast_S64x64_S1x64x64_1_2 (extractStridedSlice S64x64 ![192, 192] Z slices_S256x256_S64x64_192_192)⟩]
      h : FVec Ideal S4x64x64 .f32) (ix3 g x y) = Z (ix2 ⟨g.val * 64 + x.val, by omega⟩ ⟨g.val * 64 + y.val, by omega⟩) := by
  have hg := g.isLt
  obtain ⟨g, hg⟩ := g
  interval_cases g
  all_goals pointwise []
  all_goals trace_state

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E_arr (c : Dev nD) (w : Fin (cfgs 0).W) : E m c (Proc.devRef .tc (Pipeline.arrRef (cfgs 0).spec w)) = (dats m 0 c).arrAt w (cfgs 0).N := by
  refine (dats m 0 c).withArrays_arrAt (by decide +kernel) (V0 m c) (fun _ => rfl) w

theorem E0 (c : Dev nD) : E m c (Proc.devRef .tc main_v18_0) = (dats m 0 c).arrAt 15 (cfgs 0).N := E_arr m c 15
theorem E1 (c : Dev nD) : E m c (Proc.devRef .tc main_v18_1) = (dats m 0 c).arrAt 16 (cfgs 0).N := E_arr m c 16
theorem E2 (c : Dev nD) : E m c (Proc.devRef .tc main_v18_2) = (dats m 0 c).arrAt 17 (cfgs 0).N := E_arr m c 17

/-- The gradient of the block's input. -/
theorem T_v22 (c : Dev nD) (b : Fin 4) (q : Fin 2064) (j : Fin 1024) :
    (T m c main_v22 : FVec Ideal S4x2064x1024 .bf16) (ix3 b q j)
      = du (U m c) (D m c) (w m c) (W m c) (ps m c) b.val (q.val + 112) j.val := by
  have e1 : (b.val * 2176 + (q.val + 112)) / 2176 = b.val := by omega
  have e2 : (b.val * 2176 + (q.val + 112)) % 2176 = q.val + 112 := by omega
  have h : ((dats m 0 c).arrAt 15 (cfgs 0).N : FVec Ideal S8704x1024 .bf16) (ix2 ⟨b.val * 2176 + (q.val + 112), by omega⟩ j)
      = du (U m c) (D m c) (w m c) (W m c) (ps m c) b.val (q.val + 112) j.val := by
    refine (du_array m c _ (by show 112 ≤ (b.val * 2176 + (q.val + 112)) % 2176; omega)).trans ?_
    show du _ _ _ _ _ ((b.val * 2176 + (q.val + 112)) / 2176) ((b.val * 2176 + (q.val + 112)) % 2176) j.val = _
    rw [e1, e2]
  refine Eq.trans ?_ h
  unfold T Pipeline.afterTail₀
  rw [← E0]
  simp only [hostOps1, List.flatten_cons, List.flatten_nil, List.append_nil]
  after_results_simp
  exact cut _ b q j

theorem T_v23 (c : Dev nD) (k : Fin 3) (j : Fin 256) :
    (T m c main_v23 : FVec Ideal S3x256 .f32) (ix2 k j) = sum8 (foldSum m c) ⟨k.val, by omega⟩ j := by
  rw [← fold_array]
  unfold T Pipeline.afterTail₀
  rw [← E1]
  simp only [hostOps1, List.flatten_cons, List.flatten_nil, List.append_nil]
  after_results_simp
  exact (taps _ k j).trans (eight _ ⟨k.val, by omega⟩ j)

theorem T_v34 (c : Dev nD) (j : Fin 256) :
    (T m c main_v34 : FVec Ideal S256 .f32) (ix1 j) = sum8 (foldSum m c) 3 j := by
  rw [← fold_array]
  unfold T Pipeline.afterTail₀
  rw [← E1]
  simp only [hostOps1, List.flatten_cons, List.flatten_nil, List.append_nil]
  after_results_simp
  exact (last _ j).trans (eight _ 3 j)

theorem T_v32 (c : Dev nD) (g : Fin 4) (x y : Fin 64) :
    (T m c main_v32 : FVec Ideal S4x64x64 .f32) (ix3 g x y) = pairSum m c (ix2 ⟨g.val * 64 + x.val, by omega⟩ ⟨g.val * 64 + y.val, by omega⟩) := by
  refine Eq.trans ?_ (congrFun (pair_array m c) (ix2 ⟨g.val * 64 + x.val, by omega⟩ ⟨g.val * 64 + y.val, by omega⟩))
  unfold T Pipeline.afterTail₀
  rw [← E2]
  simp only [hostOps1, List.flatten_cons, List.flatten_nil, List.append_nil]
  after_results_simp
  dsimp only [Matrix.cons_val_zero, Matrix.cons_val_one, Matrix.cons_val]
  after_results_simp
  exact diag _ _ g x y

end Cert.KernelIdeal.Value

end
-- ==== Proof.Equal.lean ====
/- The gradients of the block of convolution and pooling: what the kernel's program leaves is what the reference computes. -/
module

public import proofs.«01_k».proof.Defs
public import proofs.«01_k».proof.Proof.Tail
public import proofs.«01_k».proof.Proof.Ref
public import Idealize.ShloMosaic.Lib.Claim

@[expose] public section

set_option maxRecDepth 16384
set_option maxHeartbeats 4000000

noncomputable section

open Idealize.ShloMosaic Idealize.ShloMosaic.TcCoe Idealize.SL.Sem

namespace Cert.KernelIdeal.Value

open Cert.KernelIdeal Cert.KernelIdeal.Gen Cert.ConvPool

variable (m : (ℓ : Loc nD τ sig) → Buf (Elt Ideal) ℓ)

/-- The sums kept eight rows apart, added up, are sums over all rows: the gradient of a tap. -/
theorem taps_rows (c : Dev nD) (k : Fin 3) (j : Fin 256) :
    sum8 (foldSum m c) ⟨k.val, by omega⟩ j = rows (dtap (U m c) (D m c) k.val j.val) := by
  have hk := k.isLt
  rw [← folds_eq_rows]
  unfold sum8
  refine Finset.sum_congr rfl fun r _ => ?_
  have hr := r.isLt
  unfold foldSum
  refine Finset.sum_congr rfl fun t _ => ?_
  unfold fold
  show (if k.val * 8 + r.val < 24 then
      ∑ x : Fin 68, dtap (U m c) (D m c) ((k.val * 8 + r.val) / 8) j.val (t.val / 4) (t.val % 4 * 544 + (x.val * 8 + (k.val * 8 + r.val) % 8))
    else ∑ x : Fin 68, dscale (U m c) (D m c) (W m c) j.val (t.val / 4) (t.val % 4 * 544 + (x.val * 8 + (k.val * 8 + r.val) % 8))) = _
  have e1 : (k.val * 8 + r.val) / 8 = k.val := by omega
  have e2 : (k.val * 8 + r.val) % 8 = r.val := by omega
  rw [if_pos (by omega), e1, e2]

/-- The fourth of them: the gradient of the output scale. -/
theorem scale_rows (c : Dev nD) (j : Fin 256) :
    sum8 (foldSum m c) 3 j = rows (dscale (U m c) (D m c) (W m c) j.val) := by
  rw [← folds_eq_rows]
  unfold sum8
  refine Finset.sum_congr rfl fun r _ => ?_
  have hr := r.isLt
  unfold foldSum
  refine Finset.sum_congr rfl fun t _ => ?_
  unfold fold
  show (if 3 * 8 + r.val < 24 then
      ∑ x : Fin 68, dtap (U m c) (D m c) ((3 * 8 + r.val) / 8) j.val (t.val / 4) (t.val % 4 * 544 + (x.val * 8 + (3 * 8 + r.val) % 8))
    else ∑ x : Fin 68, dscale (U m c) (D m c) (W m c) j.val (t.val / 4) (t.val % 4 * 544 + (x.val * 8 + (3 * 8 + r.val) % 8))) = _
  have e2 : (3 * 8 + r.val) % 8 = r.val := by omega
  rw [if_neg (by omega), e2]

/-- The sum of the tiles' products is the sum over all rows. -/
theorem pair_rows (c : Dev nD) (x y : Fin 256) :
    pairSum m c (ix2 x y) = rows (dmix (U m c) (D m c) (ps m c) x.val y.val) := by
  rw [← tiles_eq_rows]
  rfl

/-- The program's run: its four results, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v22) = T m c main_v22
      ∧ r.2.mem ((c.tc : Thread nD τ).loc main_v23) = T m c main_v23
      ∧ r.2.mem ((c.tc : Thread nD τ).loc main_v32) = T m c main_v32
      ∧ r.2.mem ((c.tc : Thread nD τ).loc main_v34) = T m c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h.1 c).2 main_v22 (by decide +kernel), (h.1 c).2 main_v23 (by decide +kernel), (h.1 c).2 main_v32 (by decide +kernel),
      (h.1 c).2 main_v34 (by decide +kernel), h.2 c⟩)
    (θ_run_and (run_main m ρ) (unchanged m ρ))

end Cert.KernelIdeal.Value

namespace Cert.Proof.ConvPool

open Cert.ConvPool

/-- At the ideal instance the kernel's four gradients are the reference's. -/
theorem algebraic : Cert.algebraic_KernelIdeal_ReferenceIdeal := by
  pair_intro
  · run_from Cert.KernelIdeal.Value.run m g
  · run_from Cert.ReferenceIdeal.Value.run m' g'
    · rw [Cert.ReferenceIdeal.Read.val_main_v132_eq, (hagree c).1, (hagree c).2.1, (hagree c).2.2.1, (hagree c).2.2.2.1, (hagree c).2.2.2.2]
      funext i
      rw [eq_ix3 i]
      exact (Cert.ReferenceIdeal.Plain.v132_at ..).trans (Cert.KernelIdeal.Value.T_v22 m c (i 0) (i 1) (i 2)).symm
    · refine (Cert.ReferenceIdeal.Read.val_main_v126_eq _ _).trans ?_
      funext i
      rw [eq_ix2 i]
      exact (Cert.ReferenceIdeal.Plain.v126_at ..).trans ((Cert.KernelIdeal.Value.T_v23 m c (i 0) (i 1)).trans (Cert.KernelIdeal.Value.taps_rows m c (i 0) (i 1))).symm
    · refine (Cert.ReferenceIdeal.Read.val_main_v85_eq _ _ _).trans ?_
      funext i
      rw [eq_ix3 i]
      exact (Cert.ReferenceIdeal.Plain.v85_at ..).trans ((Cert.KernelIdeal.Value.T_v32 m c (i 0) (i 1) (i 2)).trans (Cert.KernelIdeal.Value.pair_rows m c _ _)).symm
    · refine (Cert.ReferenceIdeal.Read.val_main_v79_eq _ _ _).trans ?_
      funext i
      rw [eq_ix1 i]
      exact (Cert.ReferenceIdeal.Plain.v79_at ..).trans ((Cert.KernelIdeal.Value.T_v34 m c (i 0)).trans (Cert.KernelIdeal.Value.scale_rows m c (i 0))).symm

end Cert.Proof.ConvPool

end
-- ==== Proof.SameCalls.lean ====
/- Calls that the step makes twice, in both layers or on two weights, at the same shapes: the second call's text is the first
   one's, so its claim is the one already proved. Only the tables of bodies need a word: each is a definition by cases on its
   labels, and the cases are compared one at a time. -/
module

public import proofs.«01_k».proof.Defs
public import proofs.«01_k».proof.Proof.Tables
public import proofs.«01_k».proof.Proof.AdamUp
public import proofs.«01_k».proof.Proof.ConvPoolFwd
public import proofs.«01_k».proof.Proof.Equal
public import proofs.«01_k».proof.Proof.Gen.Kernel23Ideal
public import proofs.«01_k».proof.Proof.Gen.Reference23Ideal
public import proofs.«01_k».proof.Proof.Gen.Kernel24Ideal
public import proofs.«01_k».proof.Proof.Gen.Reference24Ideal
public import proofs.«01_k».proof.Proof.Gen.Kernel25Ideal
public import proofs.«01_k».proof.Proof.Gen.Reference25Ideal

@[expose] public section

set_option maxRecDepth 16384
set_option maxHeartbeats 4000000

namespace Cert.Proof.SameCalls

open Idealize.ShloMosaic Idealize.SL.Sem

theorem defs_23 : Cert.Kernel23Ideal.defs (F := Ideal) = Cert.Kernel22Ideal.defs (F := Ideal) :=
  congrArg (Pipeline.defs Cert.Kernel22Ideal.pcfgs) (congrArg Defs.onTc (table_ext (funext fun _ => rfl)))

/-- The optimiser on the second feed-forward matrix, from the first. -/
theorem algebraic_23 : Cert.algebraic_Kernel23Ideal_Reference23Ideal := by
  unfold Cert.algebraic_Kernel23Ideal_Reference23Ideal
  rw [defs_23]
  exact AdamUp.algebraic

theorem defs_24 : Cert.Kernel24Ideal.defs (F := Ideal) = Cert.Kernel18Ideal.defs (F := Ideal) :=
  congrArg (Pipeline.defs Cert.Kernel18Ideal.pcfgs) (congrArg Defs.onTc (table_ext (funext fun _ => rfl)))

/-- The mixers in layer 0, from layer 1. -/
theorem algebraic_24 : Cert.algebraic_Kernel24Ideal_Reference24Ideal := by
  unfold Cert.algebraic_Kernel24Ideal_Reference24Ideal
  rw [defs_24]
  exact ConvPoolFwd.algebraic

theorem defs_25 : Cert.Kernel25Ideal.defs (F := Ideal) = Cert.KernelIdeal.defs (F := Ideal) :=
  congrArg (Pipeline.defs Cert.KernelIdeal.pcfgs) (congrArg Defs.onTc (table_ext (funext fun _ => rfl)))

/-- The mixers' gradient in layer 0, from layer 1. -/
theorem algebraic_25 : Cert.algebraic_Kernel25Ideal_Reference25Ideal := by
  unfold Cert.algebraic_Kernel25Ideal_Reference25Ideal
  rw [defs_25]
  exact Cert.Proof.ConvPool.algebraic

end Cert.Proof.SameCalls

end
-- ==== Proof.DownLossKit.lean ====
/- The down projection with the loss head of the last layer (`Kernel19Ideal`), the frame's first part: @main around its
   one region, the windows' blocks, when each conditional of the body is taken, and what the body's own copy of the
   target rows into its scratch needs to be held. -/
module

public import proofs.«01_k».proof.Proof.Gen.Kernel19Ideal.Launch
public import proofs.«01_k».proof.Proof.Gen.Kernel19Ideal.Skeleton
public import proofs.«01_k».proof.Proof.Gen.Kernel19Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DownLoss

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel19Ideal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — decided over the grid. -/
theorem hcond0_1 : ∀ t : Fin cfg0.N, cond0_1 (grid0.coords t) ↔ t.val % 4 = 0 :=
  (by decide +kernel : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≢ 0 (mod 4) — decided over the grid. -/
theorem hcond0_2 : ∀ t : Fin cfg0.N, cond0_2 (grid0.coords t) ↔ ¬(t.val % 4 = 0) :=
  (by decide +kernel : ∀ t : Fin grid0.N, cond0_2 (grid0.coords t) ↔ ¬(t.val % 4 = 0))

/-- The condition of the body's `scf.if` 3 (`k0_h4`, the first tile's wait), from the grid coordinates. -/
abbrev cond0_3 (i : grid0.Coords) : Prop := k0_cond4 i = 1#1
/-- The first tile is waited for where it is started. -/
theorem hcond0_3 : ∀ t : Fin cfg0.N, cond0_3 (grid0.coords t) ↔ t.val % 4 = 0 :=
  (by decide +kernel : ∀ t : Fin grid0.N, cond0_3 (grid0.coords t) ↔ t.val % 4 = 0)

/-- The condition of the body's `scf.if` 4 (`k0_h5`, a later tile's wait), from the grid coordinates. -/
abbrev cond0_4 (i : grid0.Coords) : Prop := k0_cond5 i = 1#1
/-- A later tile is waited for where it is started. -/
theorem hcond0_4 : ∀ t : Fin cfg0.N, cond0_4 (grid0.coords t) ↔ ¬(t.val % 4 = 0) :=
  (by decide +kernel : ∀ t : Fin grid0.N, cond0_4 (grid0.coords t) ↔ ¬(t.val % 4 = 0))

/-! ## The kernel body on any staging memrefs: a subtype the run finds -/

/-- One staging buffer of output window 4, through which its contents are stated (`View.read_writes_of_cover`: the
    choice does not matter). -/
abbrev VO0_4 : View sig .tc .vmem S544x1024 .f32 := (Memref.whole cc0_stg4_0 : Memref sig .tc .vmem S544x1024 .f32).view
/-- One staging buffer of output window 5, through which its contents are stated (`View.read_writes_of_cover`: the
    choice does not matter). -/
abbrev VO0_5 : View sig .tc .vmem S8x1024 .f32 := (Memref.whole cc0_stg5_0 : Memref sig .tc .vmem S8x1024 .f32).view
/-- One staging buffer of output window 6, through which its contents are stated (`View.read_writes_of_cover`: the
    choice does not matter). -/
abbrev VO0_6 : View sig .tc .vmem S8x1024 .f32 := (Memref.whole cc0_stg6_0 : Memref sig .tc .vmem S8x1024 .f32).view
/-- Each window's current staging memref at point `t`, spelled as the pipeline passes it (`bodyAt0`), and its wholeness. -/
abbrev ms0_0 (t : Fin cfg0.N) : Memref sig .tc .vmem S544x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S544x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S544x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S544x1024 .f32 := Memref.whole cc0_scratch0
abbrev scM0_1 : Memref sig .tc .vmem S544x1024 .f32 := Memref.whole cc0_scratch1
/-- The operands left in HBM that the body copies into scratch itself, whole. -/
abbrev hbM0_0 : Memref sig .tc .hbm S4x2048x1024 .f32 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 10] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 10) 0) := by
  rw [Pipeline.ownSems0_eq_of_list c osem0 [0] (by decide) (by decide)]; rfl
/-- The HBM operands the body moves, as references: unscoped, no window's array (`Pipeline.restRefs`). -/
def H0 : Finset (Ref sig .tc) := {main_arg4}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_arg4)) := by
  rw [BI.bigSep_eq_bigSepL_of_eq [main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 10) 0) ∗ iprop(hbPt0 c hbM0_0 (V m c main_arg4))) := by
  rw [Pipeline.ΦD_eq, scopedRest0_eq, ownSems00_eq, hbmPts0_eq]; simp only [scM0_0, scM0_1, owns_whole]; try rfl

end Cert.DownLoss

end
-- ==== Proof.DownLossRunA.lean ====
/- The body of `Kernel19Ideal` run once in case A of its conditionals. -/
module

public import proofs.«01_k».proof.Proof.DownLossKit

@[expose] public section

-- membership in a rectangle of production extents (`View.cover_of_tiled`): the elaborator's structural look
-- recurses once per coordinate of the long axes
set_option maxRecDepth 16384

noncomputable section

namespace Cert.DownLoss

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the other outputs' at
    anything, the scratch buffers at anything, the HBM operands it copies whole at their launch contents `fh·`, its DMA cells at zero and the core's `owes`, the body runs to the continuation holding the inputs' as they were,
    a scratch it stored into and does not carry with its pieces (`LT·`) written over some contents, the HBM operands and the cells as they were (each transfer lent the operand's block, listed the scratch's delivery and was waited for), the waits recorded in `owes`, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (fh0 : HbBuf0 (F := F) c hbM0_0) :
    Σ' (L4 : List (View.Piece (Elt F) S544x1024 .f32)), Σ' (L5 : List (View.Piece (Elt F) S8x1024 .f32)), Σ' (L6 : List (View.Piece (Elt F) S8x1024 .f32)), Σ' (LT0 : List (View.Piece (Elt F) S544x1024 .f32)), { LT1 : List (View.Piece (Elt F) S544x1024 .f32) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_down_proj_loss1 i arg1 harg1 arg2 harg2 arg3 harg3 arg4 harg4 (Memref.whole main_arg4) (Memref.isWhole_whole _) arg6 harg6 arg7 harg7 arg8 harg8 arg9 harg9 arg10 harg10 cc0_scratch2) K } := by
  refine ⟨?_, ?_, ?_, ?_, ?_, fun W K => ?run⟩
  case run =>
    simp only [cc0_down_proj_loss1_eq_skeleton]; unfold cc0_down_proj_loss1_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hq0, Hh0, HW, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [Hq0]; · iexact Hq0
    isplitl [Hh0]; · iexact Hh0
    iexists _; iexact HW

end Cert.DownLoss

end
-- ==== Proof.DownLossRunB.lean ====
/- The body of `Kernel19Ideal` run once in case B of its conditionals. -/
module

public import proofs.«01_k».proof.Proof.DownLossRunA

@[expose] public section

-- membership in a rectangle of production extents (`View.cover_of_tiled`): the elaborator's structural look
-- recurses once per coordinate of the long axes
set_option maxRecDepth 16384

noncomputable section

namespace Cert.DownLoss

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 taken: points 1, 2, … 15: 12 of 16), WITH the
    proof that on whole staging memrefs — the inputs' at their contents, the outputs it reads before covering (5, 6) at their running contents `xo·`, the other outputs' at
    anything, the scratch buffers at anything, the HBM operands it copies whole at their launch contents `fh·`, its DMA cells at zero and the core's `owes`, the body runs to the continuation holding the inputs' as they were,
    a scratch it stored into and does not carry with its pieces (`LT·`) written over some contents, the HBM operands and the cells as they were (each transfer lent the operand's block, listed the scratch's delivery and was waited for), the waits recorded in `owes`, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : ¬cond0_1 i) (hc2 : cond0_2 i) (hc3 : ¬cond0_3 i) (hc4 : cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) :
    Σ' (L4 : List (View.Piece (Elt F) S544x1024 .f32)), Σ' (L5 : List (View.Piece (Elt F) S8x1024 .f32)), Σ' (L6 : List (View.Piece (Elt F) S8x1024 .f32)), Σ' (LT0 : List (View.Piece (Elt F) S544x1024 .f32)), { LT1 : List (View.Piece (Elt F) S544x1024 .f32) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg7 fullShare xo5 ∗ owns (c : Thread nD τ) arg8 fullShare xo6 ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_down_proj_loss1 i arg1 harg1 arg2 harg2 arg3 harg3 arg4 harg4 (Memref.whole main_arg4) (Memref.isWhole_whole _) arg6 harg6 arg7 harg7 arg8 harg8 arg9 harg9 arg10 harg10 cc0_scratch2) K } := by
  refine ⟨?_, ?_, ?_, ?_, ?_, fun W K => ?run⟩
  case run =>
    simp only [cc0_down_proj_loss1_eq_skeleton]; unfold cc0_down_proj_loss1_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hq0, Hh0, HW, Hk⟩
    obtain rfl := harg1.eq_unread hf0; obtain rfl := harg2.eq_unread hf1; obtain rfl := harg3.eq_unread hf2; obtain rfl := harg4.eq_unread hf3; obtain rfl := harg7.eq_unread hf5; obtain rfl := harg8.eq_unread hf6
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [Hq0]; · iexact Hq0
    isplitl [Hh0]; · iexact Hh0
    iexists _; iexact HW

end Cert.DownLoss

end
-- ==== Proof.DownLossRunC.lean ====
/- The body of `Kernel19Ideal` run once in case C of its conditionals. -/
module

public import proofs.«01_k».proof.Proof.DownLossRunB

@[expose] public section

-- membership in a rectangle of production extents (`View.cover_of_tiled`): the elaborator's structural look
-- recurses once per coordinate of the long axes
set_option maxRecDepth 16384

noncomputable section

namespace Cert.DownLoss

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken: points 4, 8, 12), WITH the
    proof that on whole staging memrefs — the inputs' at their contents, the outputs it reads before covering (5, 6) at their running contents `xo·`, the other outputs' at
    anything, the scratch buffers at anything, the HBM operands it copies whole at their launch contents `fh·`, its DMA cells at zero and the core's `owes`, the body runs to the continuation holding the inputs' as they were,
    a scratch it stored into and does not carry with its pieces (`LT·`) written over some contents, the HBM operands and the cells as they were (each transfer lent the operand's block, listed the scratch's delivery and was waited for), the waits recorded in `owes`, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) :
    Σ' (L4 : List (View.Piece (Elt F) S544x1024 .f32)), Σ' (L5 : List (View.Piece (Elt F) S8x1024 .f32)), Σ' (L6 : List (View.Piece (Elt F) S8x1024 .f32)), Σ' (LT0 : List (View.Piece (Elt F) S544x1024 .f32)), { LT1 : List (View.Piece (Elt F) S544x1024 .f32) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg7 fullShare xo5 ∗ owns (c : Thread nD τ) arg8 fullShare xo6 ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_down_proj_loss1 i arg1 harg1 arg2 harg2 arg3 harg3 arg4 harg4 (Memref.whole main_arg4) (Memref.isWhole_whole _) arg6 harg6 arg7 harg7 arg8 harg8 arg9 harg9 arg10 harg10 cc0_scratch2) K } := by
  refine ⟨?_, ?_, ?_, ?_, ?_, fun W K => ?run⟩
  case run =>
    simp only [cc0_down_proj_loss1_eq_skeleton]; unfold cc0_down_proj_loss1_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hq0, Hh0, HW, Hk⟩
    obtain rfl := harg1.eq_unread hf0; obtain rfl := harg2.eq_unread hf1; obtain rfl := harg3.eq_unread hf2; obtain rfl := harg4.eq_unread hf3; obtain rfl := harg7.eq_unread hf5; obtain rfl := harg8.eq_unread hf6
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [Hq0]; · iexact Hq0
    isplitl [Hh0]; · iexact Hh0
    iexists _; iexact HW

end Cert.DownLoss

end
-- ==== Proof.DownLossFrame.lean ====
/- The down projection with the loss head of the last layer (`Kernel19Ideal`), the frame: what the outputs hold after each
   point, the proof data, the body obligation and the run. -/
module

public import Idealize.ShloMosaic.Lib.Claim
public import proofs.«01_k».proof.Proof.DownLossRunC

@[expose] public section

-- membership in a rectangle of production extents (`View.cover_of_tiled`): the elaborator's structural look
-- recurses once per coordinate of the long axes
set_option maxRecDepth 16384

noncomputable section

namespace Cert.DownLoss

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 4 tile its block (1 store of `S544x1024`, checked by the kernel's evaluation: Lib/Ring.lean `Piece.tiledL`, linear in the pieces, through a loop's `@[irreducible]` trip theorem too), so they cover it. -/
theorem cover0_A_4 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (fh0 : HbBuf0 (F := F) c hbM0_0) (y : S544x1024.Idx) :
    ∃ pc ∈ (kernelRun0_A c i arg1 harg1 arg2 harg2 arg3 harg3 arg4 harg4 arg6 harg6 arg7 harg7 arg8 harg8 arg9 harg9 arg10 harg10 hc0 hc1 hc2 hc3 hc4 x0 x1 x2 x3 fh0).1, y ∈ pc.1.set :=
  View.cover_of_tiledL (kernelRun0_A c i arg1 harg1 arg2 harg2 arg3 harg3 arg4 harg4 arg6 harg6 arg7 harg7 arg8 harg8 arg9 harg9 arg10 harg10 hc0 hc1 hc2 hc3 hc4 x0 x1 x2 x3 fh0).1 S544x1024.size (by sl_kernel_rfl) y

/-- What case A leaves in output 4's staging buffer: its pieces read back over junk. -/
def out0_A_4 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (fh0 : HbBuf0 (F := F) c hbM0_0) : Vec F S544x1024 .f32 :=
  VO0_4.read (Elt F) (VO0_4.writes (Elt F) VO0_4.junk (kernelRun0_A c i arg1 harg1 arg2 harg2 arg3 harg3 arg4 harg4 arg6 harg6 arg7 harg7 arg8 harg8 arg9 harg9 arg10 harg10 hc0 hc1 hc2 hc3 hc4 x0 x1 x2 x3 fh0).1)

/-- Case A's pieces for output 5 tile its block (2 stores of `S8x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (fh0 : HbBuf0 (F := F) c hbM0_0) (y : S8x1024.Idx) :
    ∃ pc ∈ (kernelRun0_A c i arg1 harg1 arg2 harg2 arg3 harg3 arg4 harg4 arg6 harg6 arg7 harg7 arg8 harg8 arg9 harg9 arg10 harg10 hc0 hc1 hc2 hc3 hc4 x0 x1 x2 x3 fh0).2.1, y ∈ pc.1.set :=
  View.cover_of_tiledL (kernelRun0_A c i arg1 harg1 arg2 harg2 arg3 harg3 arg4 harg4 arg6 harg6 arg7 harg7 arg8 harg8 arg9 harg9 arg10 harg10 hc0 hc1 hc2 hc3 hc4 x0 x1 x2 x3 fh0).2.1 S8x1024.size (by sl_kernel_rfl) y

/-- What case A leaves in output 5's staging buffer: its pieces read back over junk. -/
def out0_A_5 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (fh0 : HbBuf0 (F := F) c hbM0_0) : Vec F S8x1024 .f32 :=
  VO0_5.read (Elt F) (VO0_5.writes (Elt F) VO0_5.junk (kernelRun0_A c i arg1 harg1 arg2 harg2 arg3 harg3 arg4 harg4 arg6 harg6 arg7 harg7 arg8 harg8 arg9 harg9 arg10 harg10 hc0 hc1 hc2 hc3 hc4 x0 x1 x2 x3 fh0).2.1)

/-- Case A's pieces for output 6 tile its block (2 stores of `S8x1024`, checked by the kernel's evaluation: Lib/Ring.lean `Piece.tiledL`, linear in the pieces, through a loop's `@[irreducible]` trip theorem too), so they cover it. -/
theorem cover0_A_6 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (fh0 : HbBuf0 (F := F) c hbM0_0) (y : S8x1024.Idx) :
    ∃ pc ∈ (kernelRun0_A c i arg1 harg1 arg2 harg2 arg3 harg3 arg4 harg4 arg6 harg6 arg7 harg7 arg8 harg8 arg9 harg9 arg10 harg10 hc0 hc1 hc2 hc3 hc4 x0 x1 x2 x3 fh0).2.2.1, y ∈ pc.1.set :=
  View.cover_of_tiledL (kernelRun0_A c i arg1 harg1 arg2 harg2 arg3 harg3 arg4 harg4 arg6 harg6 arg7 harg7 arg8 harg8 arg9 harg9 arg10 harg10 hc0 hc1 hc2 hc3 hc4 x0 x1 x2 x3 fh0).2.2.1 S8x1024.size (by sl_kernel_rfl) y

/-- What case A leaves in output 6's staging buffer: its pieces read back over junk. -/
def out0_A_6 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (fh0 : HbBuf0 (F := F) c hbM0_0) : Vec F S8x1024 .f32 :=
  VO0_6.read (Elt F) (VO0_6.writes (Elt F) VO0_6.junk (kernelRun0_A c i arg1 harg1 arg2 harg2 arg3 harg3 arg4 harg4 arg6 harg6 arg7 harg7 arg8 harg8 arg9 harg9 arg10 harg10 hc0 hc1 hc2 hc3 hc4 x0 x1 x2 x3 fh0).2.2.1)

/-- Case B's pieces for output 4 tile its block (1 store of `S544x1024`, checked by the kernel's evaluation: Lib/Ring.lean `Piece.tiledL`, linear in the pieces, through a loop's `@[irreducible]` trip theorem too), so they cover it. -/
theorem cover0_B_4 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : ¬cond0_1 i) (hc2 : cond0_2 i) (hc3 : ¬cond0_3 i) (hc4 : cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) (y : S544x1024.Idx) :
    ∃ pc ∈ (kernelRun0_B c i arg1 harg1 arg2 harg2 arg3 harg3 arg4 harg4 arg6 harg6 arg7 harg7 arg8 harg8 arg9 harg9 arg10 harg10 hc0 hc1 hc2 hc3 hc4 x0 x1 x2 x3 xo5 xo6 fh0).1, y ∈ pc.1.set :=
  View.cover_of_tiledL (kernelRun0_B c i arg1 harg1 arg2 harg2 arg3 harg3 arg4 harg4 arg6 harg6 arg7 harg7 arg8 harg8 arg9 harg9 arg10 harg10 hc0 hc1 hc2 hc3 hc4 x0 x1 x2 x3 xo5 xo6 fh0).1 S544x1024.size (by sl_kernel_rfl) y

/-- What case B leaves in output 4's staging buffer: its pieces read back over junk. -/
def out0_B_4 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : ¬cond0_1 i) (hc2 : cond0_2 i) (hc3 : ¬cond0_3 i) (hc4 : cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) : Vec F S544x1024 .f32 :=
  VO0_4.read (Elt F) (VO0_4.writes (Elt F) VO0_4.junk (kernelRun0_B c i arg1 harg1 arg2 harg2 arg3 harg3 arg4 harg4 arg6 harg6 arg7 harg7 arg8 harg8 arg9 harg9 arg10 harg10 hc0 hc1 hc2 hc3 hc4 x0 x1 x2 x3 xo5 xo6 fh0).1)

/-- Case B's pieces for output 5 tile its block (1 store of `S8x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : ¬cond0_1 i) (hc2 : cond0_2 i) (hc3 : ¬cond0_3 i) (hc4 : cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) (y : S8x1024.Idx) :
    ∃ pc ∈ (kernelRun0_B c i arg1 harg1 arg2 harg2 arg3 harg3 arg4 harg4 arg6 harg6 arg7 harg7 arg8 harg8 arg9 harg9 arg10 harg10 hc0 hc1 hc2 hc3 hc4 x0 x1 x2 x3 xo5 xo6 fh0).2.1, y ∈ pc.1.set :=
  View.cover_of_tiledL (kernelRun0_B c i arg1 harg1 arg2 harg2 arg3 harg3 arg4 harg4 arg6 harg6 arg7 harg7 arg8 harg8 arg9 harg9 arg10 harg10 hc0 hc1 hc2 hc3 hc4 x0 x1 x2 x3 xo5 xo6 fh0).2.1 S8x1024.size (by sl_kernel_rfl) y

/-- What case B leaves in output 5's staging buffer: its pieces read back over junk. -/
def out0_B_5 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : ¬cond0_1 i) (hc2 : cond0_2 i) (hc3 : ¬cond0_3 i) (hc4 : cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) : Vec F S8x1024 .f32 :=
  VO0_5.read (Elt F) (VO0_5.writes (Elt F) VO0_5.junk (kernelRun0_B c i arg1 harg1 arg2 harg2 arg3 harg3 arg4 harg4 arg6 harg6 arg7 harg7 arg8 harg8 arg9 harg9 arg10 harg10 hc0 hc1 hc2 hc3 hc4 x0 x1 x2 x3 xo5 xo6 fh0).2.1)

/-- Case B's pieces for output 6 tile its block (1 store of `S8x1024`, checked by the kernel's evaluation: Lib/Ring.lean `Piece.tiledL`, linear in the pieces, through a loop's `@[irreducible]` trip theorem too), so they cover it. -/
theorem cover0_B_6 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : ¬cond0_1 i) (hc2 : cond0_2 i) (hc3 : ¬cond0_3 i) (hc4 : cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) (y : S8x1024.Idx) :
    ∃ pc ∈ (kernelRun0_B c i arg1 harg1 arg2 harg2 arg3 harg3 arg4 harg4 arg6 harg6 arg7 harg7 arg8 harg8 arg9 harg9 arg10 harg10 hc0 hc1 hc2 hc3 hc4 x0 x1 x2 x3 xo5 xo6 fh0).2.2.1, y ∈ pc.1.set :=
  View.cover_of_tiledL (kernelRun0_B c i arg1 harg1 arg2 harg2 arg3 harg3 arg4 harg4 arg6 harg6 arg7 harg7 arg8 harg8 arg9 harg9 arg10 harg10 hc0 hc1 hc2 hc3 hc4 x0 x1 x2 x3 xo5 xo6 fh0).2.2.1 S8x1024.size (by sl_kernel_rfl) y

/-- What case B leaves in output 6's staging buffer: its pieces read back over junk. -/
def out0_B_6 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : ¬cond0_1 i) (hc2 : cond0_2 i) (hc3 : ¬cond0_3 i) (hc4 : cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) : Vec F S8x1024 .f32 :=
  VO0_6.read (Elt F) (VO0_6.writes (Elt F) VO0_6.junk (kernelRun0_B c i arg1 harg1 arg2 harg2 arg3 harg3 arg4 harg4 arg6 harg6 arg7 harg7 arg8 harg8 arg9 harg9 arg10 harg10 hc0 hc1 hc2 hc3 hc4 x0 x1 x2 x3 xo5 xo6 fh0).2.2.1)

/-- Case C's pieces for output 4 tile its block (1 store of `S544x1024`, checked by the kernel's evaluation: Lib/Ring.lean `Piece.tiledL`, linear in the pieces, through a loop's `@[irreducible]` trip theorem too), so they cover it. -/
theorem cover0_C_4 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) (y : S544x1024.Idx) :
    ∃ pc ∈ (kernelRun0_C c i arg1 harg1 arg2 harg2 arg3 harg3 arg4 harg4 arg6 harg6 arg7 harg7 arg8 harg8 arg9 harg9 arg10 harg10 hc0 hc1 hc2 hc3 hc4 x0 x1 x2 x3 xo5 xo6 fh0).1, y ∈ pc.1.set :=
  View.cover_of_tiledL (kernelRun0_C c i arg1 harg1 arg2 harg2 arg3 harg3 arg4 harg4 arg6 harg6 arg7 harg7 arg8 harg8 arg9 harg9 arg10 harg10 hc0 hc1 hc2 hc3 hc4 x0 x1 x2 x3 xo5 xo6 fh0).1 S544x1024.size (by sl_kernel_rfl) y

/-- What case C leaves in output 4's staging buffer: its pieces read back over junk. -/
def out0_C_4 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) : Vec F S544x1024 .f32 :=
  VO0_4.read (Elt F) (VO0_4.writes (Elt F) VO0_4.junk (kernelRun0_C c i arg1 harg1 arg2 harg2 arg3 harg3 arg4 harg4 arg6 harg6 arg7 harg7 arg8 harg8 arg9 harg9 arg10 harg10 hc0 hc1 hc2 hc3 hc4 x0 x1 x2 x3 xo5 xo6 fh0).1)

/-- Case C's pieces for output 5 tile its block (1 store of `S8x1024`, checked by the kernel's evaluation: Lib/Ring.lean `Piece.tiledL`, linear in the pieces, through a loop's `@[irreducible]` trip theorem too), so they cover it. -/
theorem cover0_C_5 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) (y : S8x1024.Idx) :
    ∃ pc ∈ (kernelRun0_C c i arg1 harg1 arg2 harg2 arg3 harg3 arg4 harg4 arg6 harg6 arg7 harg7 arg8 harg8 arg9 harg9 arg10 harg10 hc0 hc1 hc2 hc3 hc4 x0 x1 x2 x3 xo5 xo6 fh0).2.1, y ∈ pc.1.set :=
  View.cover_of_tiledL (kernelRun0_C c i arg1 harg1 arg2 harg2 arg3 harg3 arg4 harg4 arg6 harg6 arg7 harg7 arg8 harg8 arg9 harg9 arg10 harg10 hc0 hc1 hc2 hc3 hc4 x0 x1 x2 x3 xo5 xo6 fh0).2.1 S8x1024.size (by sl_kernel_rfl) y

/-- What case C leaves in output 5's staging buffer: its pieces read back over junk. -/
def out0_C_5 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) : Vec F S8x1024 .f32 :=
  VO0_5.read (Elt F) (VO0_5.writes (Elt F) VO0_5.junk (kernelRun0_C c i arg1 harg1 arg2 harg2 arg3 harg3 arg4 harg4 arg6 harg6 arg7 harg7 arg8 harg8 arg9 harg9 arg10 harg10 hc0 hc1 hc2 hc3 hc4 x0 x1 x2 x3 xo5 xo6 fh0).2.1)

/-- Case C's pieces for output 6 tile its block (1 store of `S8x1024`, checked by the kernel's evaluation: Lib/Ring.lean `Piece.tiledL`, linear in the pieces, through a loop's `@[irreducible]` trip theorem too), so they cover it. -/
theorem cover0_C_6 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) (y : S8x1024.Idx) :
    ∃ pc ∈ (kernelRun0_C c i arg1 harg1 arg2 harg2 arg3 harg3 arg4 harg4 arg6 harg6 arg7 harg7 arg8 harg8 arg9 harg9 arg10 harg10 hc0 hc1 hc2 hc3 hc4 x0 x1 x2 x3 xo5 xo6 fh0).2.2.1, y ∈ pc.1.set :=
  View.cover_of_tiledL (kernelRun0_C c i arg1 harg1 arg2 harg2 arg3 harg3 arg4 harg4 arg6 harg6 arg7 harg7 arg8 harg8 arg9 harg9 arg10 harg10 hc0 hc1 hc2 hc3 hc4 x0 x1 x2 x3 xo5 xo6 fh0).2.2.1 S8x1024.size (by sl_kernel_rfl) y

/-- What case C leaves in output 6's staging buffer: its pieces read back over junk. -/
def out0_C_6 (c : Dev nD) (i : grid0.Coords) (arg1 : Memref sig .tc .vmem S544x4096 .bf16) (harg1 : arg1.IsWhole) (arg2 : Memref sig .tc .vmem S544x1024 .f32) (harg2 : arg2.IsWhole) (arg3 : Memref sig .tc .vmem S1x4096x1024 .bf16) (harg3 : arg3.IsWhole) (arg4 : Memref sig .tc .vmem S1x1024 .f32) (harg4 : arg4.IsWhole) (arg6 : Memref sig .tc .vmem S544x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S544x1024 .f32) (harg9 : arg9.IsWhole) (arg10 : Memref sig .tc .vmem S544x1024 .f32) (harg10 : arg10.IsWhole) (hc0 : ¬cond0_0 i) (hc1 : cond0_1 i) (hc2 : ¬cond0_2 i) (hc3 : cond0_3 i) (hc4 : ¬cond0_4 i)
    (x0 : Vec F S544x4096 .bf16) (x1 : Vec F S544x1024 .f32) (x2 : Vec F S1x4096x1024 .bf16) (x3 : Vec F S1x1024 .f32) (xo5 : Vec F S8x1024 .f32) (xo6 : Vec F S8x1024 .f32) (fh0 : HbBuf0 (F := F) c hbM0_0) : Vec F S8x1024 .f32 :=
  VO0_6.read (Elt F) (VO0_6.writes (Elt F) VO0_6.junk (kernelRun0_C c i arg1 harg1 arg2 harg2 arg3 harg3 arg4 harg4 arg6 harg6 arg7 harg7 arg8 harg8 arg9 harg9 arg10 harg10 hc0 hc1 hc2 hc3 hc4 x0 x1 x2 x3 xo5 xo6 fh0).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S544x1024 .f32 × Vec F S8x1024 .f32 × Vec F S8x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (V m c main_arg4), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (V m c main_arg4), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (V m c main_arg4))
  | n + 1, hn =>
    if h0 : (n + 1) % 16 = 0 then
      if h1 : (n + 1) % 4 = 0 then
        if h2 : ¬((n + 1) % 4 = 0) then
          False.elim (by have hN : n + 1 < 16 := lt_of_lt_of_eq hn (show cfg0.N = 16 from N_0); omega)
        else
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h1) (fun h => h2 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h1) (fun h => h2 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h1) (fun h => h2 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4))
      else
        False.elim (by have hN : n + 1 < 16 := lt_of_lt_of_eq hn (show cfg0.N = 16 from N_0); omega)
    else
      if h1 : (n + 1) % 4 = 0 then
        if h2 : ¬((n + 1) % 4 = 0) then
          False.elim (by have hN : n + 1 < 16 := lt_of_lt_of_eq hn (show cfg0.N = 16 from N_0); omega)
        else
          (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h1) (fun h => h2 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_arg4), out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h1) (fun h => h2 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_arg4), out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h1) (fun h => h2 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_arg4))
      else
        if h2 : ¬((n + 1) % 4 = 0) then
          (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h2 ((hcond0_3 ⟨n + 1, hn⟩).mp h)) ((hcond0_4 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_arg4), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h2 ((hcond0_3 ⟨n + 1, hn⟩).mp h)) ((hcond0_4 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_arg4), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h2 ((hcond0_3 ⟨n + 1, hn⟩).mp h)) ((hcond0_4 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_arg4))
        else
          False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : t.val % 4 = 0) (h2 : ¬¬(t.val % 4 = 0)) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) ((hcond0_3 t).mpr h1) (fun h => h2 ((hcond0_4 t).mp h)) (iblk m c 0 t) (iblk m c 1 t) (iblk m c 2 t) (iblk m c 3 t) (V m c main_arg4), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) ((hcond0_3 t).mpr h1) (fun h => h2 ((hcond0_4 t).mp h)) (iblk m c 0 t) (iblk m c 1 t) (iblk m c 2 t) (iblk m c 3 t) (V m c main_arg4), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) ((hcond0_3 t).mpr h1) (fun h => h2 ((hcond0_4 t).mp h)) (iblk m c 0 t) (iblk m c 1 t) (iblk m c 2 t) (iblk m c 3 t) (V m c main_arg4)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 16 = 0) (h1 : ¬t.val % 4 = 0) (h2 : ¬(t.val % 4 = 0)) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h2 ((hcond0_3 t).mp h)) ((hcond0_4 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg4), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h2 ((hcond0_3 t).mp h)) ((hcond0_4 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg4), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h2 ((hcond0_3 t).mp h)) ((hcond0_4 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg4)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 16 = 0) (h1 : t.val % 4 = 0) (h2 : ¬¬(t.val % 4 = 0)) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) ((hcond0_3 t).mpr h1) (fun h => h2 ((hcond0_4 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg4), out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) ((hcond0_3 t).mpr h1) (fun h => h2 ((hcond0_4 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg4), out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) ((hcond0_3 t).mpr h1) (fun h => h2 ((hcond0_4 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg4)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 16 = 0) (h1 : ¬t.val % 4 = 0) (h2 : ¬(t.val % 4 = 0)) (d) :
    (dats m 0 c).before 5 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 16 = 0) (h1 : ¬t.val % 4 = 0) (h2 : ¬(t.val % 4 = 0)) (d) :
    (dats m 0 c).before 6 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case C output 5's current staging buffer holds what the body left at the point before: the point is
    not the first, the buffer was not written back between (`flush0_5`), the window is live and uncut (Lib/Pipeline/Frame.lean
    `Dat.before_out_kept`). -/
theorem before0_5_C (c : Dev nD) (t : Fin cfg0.N) (h0 : ¬t.val % 16 = 0) (h1 : t.val % 4 = 0) (h2 : ¬¬(t.val % 4 = 0)) (d) :
    (dats m 0 c).before 5 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]
/-- At a point of case C output 6's current staging buffer holds what the body left at the point before: the point is
    not the first, the buffer was not written back between (`flush0_6`), the window is live and uncut (Lib/Pipeline/Frame.lean
    `Dat.before_out_kept`). -/
theorem before0_6_C (c : Dev nD) (t : Fin cfg0.N) (h0 : ¬t.val % 16 = 0) (h1 : t.val % 4 = 0) (h2 : ¬¬(t.val % 4 = 0)) (d) :
    (dats m 0 c).before 6 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 2400000 in
/-- The body at any point: the inputs' memrefs hold their blocks (`before0_W`); the closed forms say which case the point is in (`by_cases`), an output the case reads before covering holds what the point before left (`before0_W_κ`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    after0_0, after0_1, after0_2, after0_3, after0_4, after0_5, after0_6]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 4 = 0
    · by_cases h2 : ¬(t.val % 4 = 0)
      · exfalso; omega
      · rw [outsAt0_A m c t h0 h1 h2]
        unfold out0_A_4 out0_A_5 out0_A_6; (try dsimp only)
        iintro ⟨⟨⟨HS0, HS1⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) ((hcond0_1 t).mpr h1) (fun h => h2 ((hcond0_2 t).mp h)) ((hcond0_3 t).mpr h1) (fun h => h2 ((hcond0_4 t).mp h)) (iblk m c 0 t) (iblk m c 1 t) (iblk m c 2 t) (iblk m c 3 t) (V m c main_arg4)).2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        isplitl [Hq0]; · iexact Hq0
        isplitl [Hh0]; · iexact Hh0
        isplitl [HW]; · iexact HW
        iintro ⟨H0, H1, H2, H3, ⟨%e4, H4⟩, ⟨%e5, H5⟩, ⟨%e6, H6⟩, ⟨%fT0, HS0⟩, ⟨%fT1, HS1⟩, Hq0, Hh0, ⟨%W', HW'⟩⟩
        isplitl [HS0 HS1 Hg Hq0 Hh0]
        · isplitl [HS0 HS1]
          · isplitl [HS0]
            · iexists _; unfold owns; iexists _; isplitr
              swap; · iexact HS0
              ipureintro; rfl
            iexists _; unfold owns; iexists _; isplitr
            swap; · iexact HS1
            ipureintro; rfl
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _)
        unfold owns; iexists _; isplitr
        swap; · iexact H6
        ipureintro; exact View.read_writes_of_cover _ _ _ _ _ (cover0_A_6 c _ _ _ _ _ _ _ _ _ _ _ _ _ _ _ _ _ _ _ _ _ _ _ _ _ _ _ _ _)
    · exfalso; omega
  · by_cases h1 : t.val % 4 = 0
    · by_cases h2 : ¬(t.val % 4 = 0)
      · exfalso; omega
      · rw [outsAt0_C m c t h0 h1 h2]
        simp only [before0_5_C m c t h0 h1 h2, before0_6_C m c t h0 h1 h2]
        unfold out0_C_4 out0_C_5 out0_C_6; (try dsimp only)
        iintro ⟨⟨⟨HS0, HS1⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (fun h => h2 ((hcond0_2 t).mp h)) ((hcond0_3 t).mpr h1) (fun h => h2 ((hcond0_4 t).mp h)) (iblk m c 0 t) (iblk m c 1 t) (iblk m c 2 t) (iblk m c 3 t) _ _ (V m c main_arg4)).2.2.2.2.2 W _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        isplitl [HS1]; · iexact HS1
        isplitl [Hq0]; · iexact Hq0
        isplitl [Hh0]; · iexact Hh0
        isplitl [HW]; · iexact HW
        iintro ⟨H0, H1, H2, H3, ⟨%e4, H4⟩, ⟨%e5, H5⟩, ⟨%e6, H6⟩, ⟨%fT0, HS0⟩, ⟨%fT1, HS1⟩, Hq0, Hh0, ⟨%W', HW'⟩⟩
        isplitl [HS0 HS1 Hg Hq0 Hh0]
        · isplitl [HS0 HS1]
          · isplitl [HS0]
            · iexists _; unfold owns; iexists _; isplitr
              swap; · iexact HS0
              ipureintro; rfl
            iexists _; unfold owns; iexists _; isplitr
            swap; · iexact HS1
            ipureintro; rfl
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
    · by_cases h2 : ¬(t.val % 4 = 0)
      · rw [outsAt0_B m c t h0 h1 h2]
        simp only [before0_5_B m c t h0 h1 h2, before0_6_B m c t h0 h1 h2]
        unfold out0_B_4 out0_B_5 out0_B_6; (try dsimp only)
        iintro ⟨⟨⟨HS0, HS1⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (fun h => h2 ((hcond0_3 t).mp h)) ((hcond0_4 t).mpr h2) (iblk m c 0 t) (iblk m c 1 t) (iblk m c 2 t) (iblk m c 3 t) _ _ (V m c main_arg4)).2.2.2.2.2 W _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        isplitl [HS1]; · iexact HS1
        isplitl [Hq0]; · iexact Hq0
        isplitl [Hh0]; · iexact Hh0
        isplitl [HW]; · iexact HW
        iintro ⟨H0, H1, H2, H3, ⟨%e4, H4⟩, ⟨%e5, H5⟩, ⟨%e6, H6⟩, ⟨%fT0, HS0⟩, ⟨%fT1, HS1⟩, Hq0, Hh0, ⟨%W', HW'⟩⟩
        isplitl [HS0 HS1 Hg Hq0 Hh0]
        · isplitl [HS0 HS1]
          · isplitl [HS0]
            · iexists _; unfold owns; iexists _; isplitr
              swap; · iexact HS0
              ipureintro; rfl
            iexists _; unfold owns; iexists _; isplitr
            swap; · iexact HS1
            ipureintro; rfl
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _)
        unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame at any `F`: every run ends, and the arguments are as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.DownLoss

end
-- ==== Proof.DownLoss.lean ====
/- The output product with the last normalisation, the squared error behind it and its gradient: the kernel's rows of the
   gradient, its loss and the gains' gradient, added up over blocks and eight-row folds, against the plain derivative. -/
module

public import proofs.«01_k».proof.Defs
public import proofs.«01_k».proof.Proof.Norm
public import proofs.«01_k».proof.Proof.Rows
public import proofs.«01_k».proof.Proof.DownLossFrame
public import proofs.«01_k».proof.Proof.Gen.Reference19Ideal.Read
public import Idealize.ShloMosaic.Lib.Claim
public import Idealize.ShloMosaic.Lib.Pipeline.ReadBack
public import Idealize.ShloMosaic.Lib.Pipeline.FrameSuffix
public import Idealize.ShloMosaic.Lib.Ring
public import Idealize.ShloMosaic.Lib.IdealHost

@[expose] public section

set_option maxRecDepth 16384
set_option maxHeartbeats 400000

noncomputable section

namespace Cert.DownLoss

open Idealize.ShloMosaic Idealize.ShloMosaic.TcCoe Idealize.SL.Sem
open Idealize.ShloMosaic.Pipeline (Dat)
open Cert.Kernel19Ideal Cert.Kernel19Ideal.Gen Cert.Rows

variable (m : (ℓ : Loc nD τ sig) → Buf (Elt Ideal) ℓ)

/-- The residual rows behind the second layer's output product. -/
def hrow (a : FVec Ideal S8704x4096 .f32) (h : FVec Ideal S8704x1024 .f32) (w : FVec Ideal S2x4096x1024 .f32) (r : Fin 8704) (k : Fin 1024) : EReal :=
  h (ix2 r k) + ∑ j : Fin 4096, a (ix2 r j) * w (ix3 1 j k)

/-- The normalised row against the target: nothing on the 128 conditioning rows of each sequence. -/
def err (a : FVec Ideal S8704x4096 .f32) (h : FVec Ideal S8704x1024 .f32) (w : FVec Ideal S2x4096x1024 .f32) (g : FVec Ideal S1024 .f32)
    (y : FVec Ideal S4x2048x1024 .f32) (r : Fin 8704) (n : Fin 1024) : EReal :=
  if 128 ≤ r.val % 2176 then
    Cert.Norm.norm (hrow a h w r) (fun k => g (ix1 k)) n
      - y (ix3 (⟨r.val / 2176, by omega⟩ : Fin 4) (⟨r.val % 2176 - 128, by omega⟩ : Fin 2048) n)
  else 0

/-- The cotangent of the normalised rows. -/
def dy (a : FVec Ideal S8704x4096 .f32) (h : FVec Ideal S8704x1024 .f32) (w : FVec Ideal S2x4096x1024 .f32) (g : FVec Ideal S1024 .f32)
    (y : FVec Ideal S4x2048x1024 .f32) (r : Fin 8704) (n : Fin 1024) : EReal :=
  err a h w g y r n * Ideal.ofBits .f32 0x3A800000#32

/-- The gradient of the residual rows. -/
def dh (a : FVec Ideal S8704x4096 .f32) (h : FVec Ideal S8704x1024 .f32) (w : FVec Ideal S2x4096x1024 .f32) (g : FVec Ideal S1024 .f32)
    (y : FVec Ideal S4x2048x1024 .f32) (r : Fin 8704) (n : Fin 1024) : EReal :=
  Cert.Norm.back (hrow a h w r) (fun k => dy a h w g y r k * g (ix1 k)) 0 n

/-- One entry's share of the loss. -/
def sq (a : FVec Ideal S8704x4096 .f32) (h : FVec Ideal S8704x1024 .f32) (w : FVec Ideal S2x4096x1024 .f32) (g : FVec Ideal S1024 .f32)
    (y : FVec Ideal S4x2048x1024 .f32) (r : Fin 8704) (n : Fin 1024) : EReal :=
  err a h w g y r n * err a h w g y r n * Ideal.ofBits .f32 0x3A000000#32

/-- One row's share in the gains' gradient. -/
def share (a : FVec Ideal S8704x4096 .f32) (h : FVec Ideal S8704x1024 .f32) (w : FVec Ideal S2x4096x1024 .f32) (g : FVec Ideal S1024 .f32)
    (y : FVec Ideal S4x2048x1024 .f32) (r : Fin 8704) (n : Fin 1024) : EReal :=
  dy a h w g y r n * (hrow a h w r n * Ideal.rsqrt (Cert.Norm.ms (hrow a h w r)))

/-- What each of the eight rows of a folded sum of `f` over the rows holds. -/
def fold (f : Fin 8704 → Fin 1024 → EReal) (s : Fin 8) (n : Fin 1024) : EReal :=
  ∑ k ∈ Finset.range 16, ∑ a : Fin 68, at2 f (k * 544 + (a.val * 8 + s.val)) n.val

theorem fold_eq (f : Fin 8704 → Fin 1024 → EReal) (n : Fin 1024) : ∑ s : Fin 8, fold f s n = ∑ r : Fin 8704, f r n := by
  refine (sum_folds (fun r => at2 f r n.val) 16 68).trans ?_
  show ∑ r : Fin 8704, _ = _
  simp only [at2_val]

/-- The inputs as the program's start holds them. -/
abbrev A (c : Dev nD) : FVec Ideal S8704x4096 .f32 := m ((c : Thread nD τ).loc main_arg0)
abbrev H (c : Dev nD) : FVec Ideal S8704x1024 .f32 := m ((c : Thread nD τ).loc main_arg1)
abbrev W (c : Dev nD) : FVec Ideal S2x4096x1024 .f32 := m ((c : Thread nD τ).loc main_arg2)
abbrev G (c : Dev nD) : FVec Ideal S1024 .f32 := m ((c : Thread nD τ).loc main_arg3)
abbrev Y (c : Dev nD) : FVec Ideal S4x2048x1024 .f32 := m ((c : Thread nD τ).loc main_arg4)

theorem idx : ∀ t : Fin cfg0.N, win0_0.index t = ![t.val, 0] ∧ win0_1.index t = ![t.val, 0] ∧ win0_2.index t = ![1, 0, 0]
    ∧ win0_3.index t = ![0, 0] ∧ win0_4.index t = ![t.val, 0] ∧ win0_5.index t = ![0, 0] ∧ win0_6.index t = ![0, 0] :=
  (by decide +kernel : ∀ t : Fin grid0.N, _)

theorem tlt (t : Fin cfg0.N) : t.val < 16 := lt_of_lt_of_eq t.isLt N_0

theorem V_v0 (c : Dev nD) : (V m c main_v0 : FVec Ideal S8704x4096 .bf16) = A m c := by
  unfold V V0
  simp only [hostOps0, List.flatten_cons, List.flatten_nil, List.cons_append, List.nil_append, List.append_nil]
  after_results_simp
  rfl

theorem V_v1 (c : Dev nD) : (V m c main_v1 : FVec Ideal S2x4096x1024 .bf16) = W m c := by
  unfold V V0
  simp only [hostOps0, List.flatten_cons, List.flatten_nil, List.cons_append, List.nil_append, List.append_nil]
  after_results_simp
  rfl

theorem V_v2 (c : Dev nD) (k : Fin 1024) : (V m c main_v2 : FVec Ideal S1x1024 .f32) (ix2 0 k) = G m c (ix1 k) := by
  unfold V V0
  simp only [hostOps0, List.flatten_cons, List.flatten_nil, List.cons_append, List.nil_append, List.append_nil]
  after_results_simp
  pointwise

theorem iblk0 (c : Dev nD) (t : Fin cfg0.N) (i : Fin 544) (k : Fin 4096) (r : Fin 8704) (hr : t.val * 544 + i.val = r.val) :
    (iblk m c 0 t : FVec Ideal S544x4096 .bf16) (ix2 i k) = A m c (ix2 r k) := by
  have ht := tlt t
  obtain ⟨r, h⟩ := r
  obtain rfl : t.val * 544 + i.val = r := hr
  rw [← V_v0 m c]
  blk_ext [iblk, idx t]

theorem iblk1 (c : Dev nD) (t : Fin cfg0.N) (i : Fin 544) (k : Fin 1024) (r : Fin 8704) (hr : t.val * 544 + i.val = r.val) :
    (iblk m c 1 t : FVec Ideal S544x1024 .f32) (ix2 i k) = H m c (ix2 r k) := by
  have ht := tlt t
  obtain ⟨r, h⟩ := r
  obtain rfl : t.val * 544 + i.val = r := hr
  blk_ext [iblk, idx t, V]

theorem iblk2 (c : Dev nD) (t : Fin cfg0.N) (j : Fin 4096) (k : Fin 1024) :
    (iblk m c 2 t : FVec Ideal S1x4096x1024 .bf16) (ix3 0 j k) = W m c (ix3 1 j k) := by
  rw [← V_v1 m c]
  blk_ext [iblk, idx t]

theorem iblk3 (c : Dev nD) (t : Fin cfg0.N) (k : Fin 1024) : (iblk m c 3 t : FVec Ideal S1x1024 .f32) (ix2 0 k) = G m c (ix1 k) := by
  refine Eq.trans (b := (V m c main_v2 : FVec Ideal S1x1024 .f32) (ix2 0 k)) ?_ (V_v2 m c _)
  blk_ext [iblk, idx t]

theorem whole_idx (i : Fin 544) (k : Fin 1024) :
    (Rect.unit (s := S544x1024) ![0, 0] ![544, 1024] inb_S544x1024_S544x1024_0_0).toLoadRect.idx (ix2 i k) = (ix2 i k : S544x1024.Idx) := by
  funext a
  refine Fin.ext ?_
  match a with
  | 0 => show 0 + 1 * i.val = i.val; omega
  | 1 => show 0 + 1 * k.val = k.val; omega

/-- A load of the whole of a buffer written in two halves. -/
theorem load_halves (v : View sig .tc .vmem S544x1024 .f32) (P Q : FVec Ideal S544x512 .f32) (R : Fin 544 → Fin 1024 → EReal)
    (hP : ∀ (i : Fin 544) (j : Fin 512) (k : Fin 1024), k.val = 512 + j.val → P (ix2 i j) = R i k)
    (hQ : ∀ (i : Fin 544) (j : Fin 512) (k : Fin 1024), k.val = j.val → Q (ix2 i j) = R i k) (i : Fin 544) (k : Fin 1024) :
    (View.readCov (Val := Elt Ideal) v [⟨Rect.unit ![0, 512] ![544, 512] inb_S544x1024_S544x512_0_512, P⟩, ⟨Rect.unit ![0, 0] ![544, 512] inb_S544x1024_S544x512_0_0, Q⟩]
      (Rect.unit (s := S544x1024) ![0, 0] ![544, 1024] inb_S544x1024_S544x1024_0_0).toLoadRect : FVec Ideal S544x1024 .f32) (ix2 i k) = R i k := by
  rw [View.readCov_eq_canon']
  show View.canon _ ((Rect.unit (s := S544x1024) ![0, 0] ![544, 1024] inb_S544x1024_S544x1024_0_0).toLoadRect.idx (ix2 i k)) = _
  rw [whole_idx]
  refine View.canon_eq_of_allAt _ _ _ (View.cover_of_tiledL _ ![544, 512] rfl _) ?_
  refine View.allAt_cons_unit _ _ _ _ _ ?_ (View.allAt_cons_unit _ _ _ _ _ ?_ (View.allAt_nil _ _))
  · intro x h
    obtain ⟨i', j, rfl⟩ : ∃ (i : Fin 544) (j : Fin 512), x = ix2 i j := ⟨x 0, x 1, eq_ix2 x⟩
    obtain rfl : i = i' := Fin.ext ((h 0).trans (Nat.zero_add _))
    exact hP _ _ _ (h 1)
  · intro x h
    obtain ⟨i', j, rfl⟩ : ∃ (i : Fin 544) (j : Fin 512), x = ix2 i j := ⟨x 0, x 1, eq_ix2 x⟩
    obtain rfl : i = i' := Fin.ext ((h 0).trans (Nat.zero_add _))
    exact hQ _ _ _ ((h 1).trans (Nat.zero_add _))

/-- The second half of the residual rows. -/
theorem half7 (c : Dev nD) (t : Fin cfg0.N) (i : Fin 544) (j : Fin 512) (k : Fin 1024) (hk : k.val = 512 + j.val) (r : Fin 8704) (hr : t.val * 544 + i.val = r.val) :
    k0_pay7 (F := Ideal) (View.ld (iblk m c 1 t) (Rect.unit ![0, 512] ![544, 512] inb_S544x1024_S544x512_0_512)) (iblk m c 0 t)
      (View.ld (iblk m c 2 t) (Rect.unit ![0, 0, 512] ![1, 4096, 512] inb_S1x4096x1024_S1x4096x512_0_0_512)) (ix2 i j) = hrow (A m c) (H m c) (W m c) r k := by
  obtain ⟨k, hk'⟩ := k
  obtain rfl : k = 512 + j.val := hk
  pointwise [k0_pay7]
  unfold hrow
  simp only [iblk0 m c t i _ r hr, iblk1 m c t i _ r hr, iblk2 m c t]

theorem half6 (c : Dev nD) (t : Fin cfg0.N) (i : Fin 544) (j : Fin 512) (k : Fin 1024) (hk : k.val = j.val) (r : Fin 8704) (hr : t.val * 544 + i.val = r.val) :
    k0_pay6 (F := Ideal) (View.ld (iblk m c 1 t) (Rect.unit ![0, 0] ![544, 512] inb_S544x1024_S544x512_0_0)) (iblk m c 0 t)
      (View.ld (iblk m c 2 t) (Rect.unit ![0, 0, 0] ![1, 4096, 512] inb_S1x4096x1024_S1x4096x512_0_0_0)) (ix2 i j) = hrow (A m c) (H m c) (W m c) r k := by
  obtain ⟨k, hk'⟩ := k
  obtain rfl : k = j.val := hk
  pointwise [k0_pay6]
  unfold hrow
  simp only [iblk0 m c t i _ r hr, iblk1 m c t i _ r hr, iblk2 m c t]

theorem off1 : ∀ t : Fin grid0.N, t.val % 4 = 0 → k0_off1 (grid0.coords t) = ![t.val / 4, 0, 0] := by decide +kernel
theorem off2 : ∀ t : Fin grid0.N, ¬(t.val % 4 = 0) → k0_off2 (grid0.coords t) = ![t.val / 4, (t.val % 4) * 544 - 128, 0] := by decide +kernel

/-- The target's rows as a copy of 544 of them reads them. -/
theorem read_rows (off : Fin 3 → ℕ) (inb : ∀ a, off a + S1x544x1024.size a ≤ S4x2048x1024.size a) (hq : S544x1024.numel = S1x544x1024.numel)
    (f : FVec Ideal S4x2048x1024 .f32) (b : Fin 4) (o : ℕ) (ho : off = ![b.val, o, 0]) (i : Fin 544) (n : Fin 1024) (q : Fin 2048) (hv : q.val = o + i.val) :
    (View.read (Elt Ideal) (((View.whole main_arg4).slice (Rect.unit (s := S4x2048x1024) off S1x544x1024.size inb)).reshape S544x1024 hq) f : FVec Ideal S544x1024 .f32) (ix2 i n)
      = f (ix3 b q n) := by
  subst ho
  show shapeCast S544x1024 (fun x : S1x544x1024.Idx => f ((Rect.unit (s := S4x2048x1024) ![b.val, o, 0] S1x544x1024.size inb).emb x)) hq (ix2 i n) = _
  pointwise
  refine congrArg f (funext fun a => Fin.ext ?_)
  match a with
  | 0 => show b.val + 1 * 0 = b.val; omega
  | 1 => show o + 1 * i.val = q.val; omega
  | 2 => show 0 + 1 * n.val = n.val; omega

/-- The same for a copy of 416. -/
theorem read_rows0 (off : Fin 3 → ℕ) (inb : ∀ a, off a + S1x416x1024.size a ≤ S4x2048x1024.size a) (hq : S416x1024.numel = S1x416x1024.numel)
    (f : FVec Ideal S4x2048x1024 .f32) (b : Fin 4) (ho : off = ![b.val, 0, 0]) (i : Fin 416) (n : Fin 1024) (q : Fin 2048) (hv : q.val = i.val) :
    (View.read (Elt Ideal) (((View.whole main_arg4).slice (Rect.unit (s := S4x2048x1024) off S1x416x1024.size inb)).reshape S416x1024 hq) f : FVec Ideal S416x1024 .f32) (ix2 i n)
      = f (ix3 b q n) := by
  subst ho
  show shapeCast S416x1024 (fun x : S1x416x1024.Idx => f ((Rect.unit (s := S4x2048x1024) ![b.val, 0, 0] S1x416x1024.size inb).emb x)) hq (ix2 i n) = _
  pointwise
  refine congrArg f (funext fun a => Fin.ext ?_)
  match a with
  | 0 => show b.val + 1 * 0 = b.val; omega
  | 1 => show 0 + 1 * i.val = q.val; omega
  | 2 => show 0 + 1 * n.val = n.val; omega

/-- A load of the whole of a buffer the last store filled. -/
theorem load_whole (v : View sig .tc .vmem S544x1024 .f32) (P : FVec Ideal S544x1024 .f32) (i : Fin 544) (n : Fin 1024) :
    (View.readCov (Val := Elt Ideal) v [⟨Rect.whole S544x1024, P⟩]
      (Rect.unit (s := S544x1024) ![0, 0] ![544, 1024] inb_S544x1024_S544x1024_0_0).toLoadRect : FVec Ideal S544x1024 .f32) (ix2 i n) = P (ix2 i n) := by
  rw [View.readCov_eq_canon']
  show View.canon _ ((Rect.unit (s := S544x1024) ![0, 0] ![544, 1024] inb_S544x1024_S544x1024_0_0).toLoadRect.idx (ix2 i n)) = _
  rw [whole_idx]
  refine View.canon_eq_of_allAt _ _ _ ⟨_, List.mem_singleton_self _, by rw [Rect.set_whole]; exact Finset.mem_univ _⟩ ?_
  refine View.allAt_cons _ _ _ (fun x h => ?_) (View.allAt_nil _ _)
  refine congrArg P (Eq.trans ?_ h)
  funext a
  refine Fin.ext ?_
  show (x a).val = 0 + 1 * (x a).val
  omega

/-- A load of the rows past the first 128, which a store of 416 rows filled. -/
theorem load_past (v : View sig .tc .vmem S544x1024 .f32) (P : FVec Ideal S416x1024 .f32) (Q : FVec Ideal S128x1024 .f32) (i : Fin 544) (j : Fin 416) (n : Fin 1024)
    (hj : i.val = 128 + j.val) :
    (View.readCov (Val := Elt Ideal) v [⟨Rect.unit ![128, 0] ![416, 1024] inb_S544x1024_S416x1024_128_0, P⟩, ⟨Rect.unit ![0, 0] ![128, 1024] inb_S544x1024_S128x1024_0_0, Q⟩]
      (Rect.unit (s := S544x1024) ![0, 0] ![544, 1024] inb_S544x1024_S544x1024_0_0).toLoadRect : FVec Ideal S544x1024 .f32) (ix2 i n) = P (ix2 j n) := by
  rw [View.readCov_eq_canon']
  show View.canon _ ((Rect.unit (s := S544x1024) ![0, 0] ![544, 1024] inb_S544x1024_S544x1024_0_0).toLoadRect.idx (ix2 i n)) = _
  rw [whole_idx]
  have e : (ix2 i n : S544x1024.Idx) = (Rect.unit (s := S544x1024) ![128, 0] ![416, 1024] inb_S544x1024_S416x1024_128_0).emb (ix2 j n) := by
    funext a
    refine Fin.ext ?_
    match a with
    | 0 => show i.val = 128 + 1 * j.val; omega
    | 1 => show n.val = 0 + 1 * n.val; omega
  rw [e]
  exact View.canon_cons_emb (Val := Elt Ideal) (e := .f32) (Rect.unit (s := S544x1024) ![128, 0] ![416, 1024] inb_S544x1024_S416x1024_128_0) P _ (ix2 j n)

/-- Which rows of a block are compared with the target. -/
theorem mask : ∀ (k : Fin 4) (i : Fin 544), IntOp.cmpi CmpIPredicate.sge (IntOp.addi (Scalar.muli (BitVec.ofNat 32 k.val) 544#32) (BitVec.ofNat 32 i.val)) 128#32 = if 128 ≤ k.val * 544 + i.val then 1#1 else 0#1 := by
  decide +kernel

theorem err_at (c : Dev nD) (t : Fin cfg0.N) (K : BitVec 32) (hK : K = BitVec.ofNat 32 (t.val % 4)) (X T : FVec Ideal S544x1024 .f32) (i : Fin 544) (n : Fin 1024) (r : Fin 8704) (hr : t.val * 544 + i.val = r.val)
    (hX : ∀ k, X (ix2 i k) = hrow (A m c) (H m c) (W m c) r k)
    (hT : ∀ h : 128 ≤ r.val % 2176, T (ix2 i n) = Y m c (ix3 (⟨r.val / 2176, by omega⟩ : Fin 4) (⟨r.val % 2176 - 128, by omega⟩ : Fin 2048) n)) :
    k0_pay12 (F := Ideal) K X (k0_pay8 X) (iblk m c 3 t) T (ix2 i n) = err (A m c) (H m c) (W m c) (G m c) (Y m c) r n := by
  have ht := tlt t
  subst hK
  pointwise [k0_pay12, k0_pay11, k0_pay10, k0_pay9, k0_pay8]
  simp only [hX, iblk3 m c t]
  have hm := mask ⟨t.val % 4, by omega⟩ i
  dsimp only at hm
  rw [hm]
  unfold err
  have e : t.val % 4 * 544 + i.val = r.val % 2176 := by omega
  rw [e]
  by_cases h : 128 ≤ r.val % 2176
  · rw [if_pos h, if_pos h, hT h]
    rfl
  · rw [if_neg h, if_neg h]
    rfl

/-- What a block's residual rows and target rows hold at a point. -/
structure Holds (c : Dev nD) (t : Fin cfg0.N) (K : BitVec 32) (X T : FVec Ideal S544x1024 .f32) : Prop where
  block : K = BitVec.ofNat 32 (t.val % 4)
  rows : ∀ (i : Fin 544) (r : Fin 8704), t.val * 544 + i.val = r.val → ∀ k, X (ix2 i k) = hrow (A m c) (H m c) (W m c) r k
  target : ∀ (i : Fin 544) (n : Fin 1024) (r : Fin 8704), t.val * 544 + i.val = r.val → ∀ h : 128 ≤ r.val % 2176,
    T (ix2 i n) = Y m c (ix3 (⟨r.val / 2176, by omega⟩ : Fin 4) (⟨r.val % 2176 - 128, by omega⟩ : Fin 2048) n)

theorem squares (c : Dev nD) (t : Fin cfg0.N) (K : BitVec 32) (X T : FVec Ideal S544x1024 .f32) (hx : Holds m c t K X T) (i : Fin 544) (r : Fin 8704)
    (hr : t.val * 544 + i.val = r.val) :
    k0_pay8 (F := Ideal) X (ix2 i 0) = (∑ k, hrow (A m c) (H m c) (W m c) r k * hrow (A m c) (H m c) (W m c) r k : EReal) := by
  pointwise [k0_pay8]
  simp only [hx.rows i r hr]

theorem point4 (c : Dev nD) (t : Fin cfg0.N) (K : BitVec 32) (X T : FVec Ideal S544x1024 .f32) (hx : Holds m c t K X T) (i : Fin 544) (n : Fin 1024) (r : Fin 8704)
    (hr : t.val * 544 + i.val = r.val) :
    k0_pay1 (F := Ideal) (k0_pay9 (k0_pay8 X)) (k0_pay10 X (k0_pay8 X)) (k0_pay15 K X (k0_pay8 X) (iblk m c 3 t) T)
      (k0_pay16 K X (k0_pay8 X) (iblk m c 3 t) T) (ix2 i n) = dh (A m c) (H m c) (W m c) (G m c) (Y m c) r n := by
  have he : ∀ n, k0_pay12 (F := Ideal) K X (k0_pay8 X) (iblk m c 3 t) T (ix2 i n) = err (A m c) (H m c) (W m c) (G m c) (Y m c) r n :=
    fun n => err_at m c t K hx.block X T i n r hr (hx.rows i r hr) (hx.target i n r hr)
  have hq := squares m c t K X T hx i r hr
  generalize k0_pay8 (F := Ideal) X = Q at he hq ⊢
  generalize hE : k0_pay12 (F := Ideal) K X Q (iblk m c 3 t) T = E at he
  pointwise [k0_pay1, k0_pay16, k0_pay15, k0_pay14, k0_pay11, k0_pay10, k0_pay9, hE]
  simp only [he, hq, hx.rows i r hr, iblk3 m c t]
  unfold dh dy Cert.Norm.back
  rw [zero_add]

theorem step6 (c : Dev nD) (t : Fin cfg0.N) (K : BitVec 32) (X T : FVec Ideal S544x1024 .f32) (hx : Holds m c t K X T) (Z : FVec Ideal S8x1024 .f32) (s : Fin 8) (n : Fin 1024) :
    k0_pay2 (F := Ideal) (k0_pay10 X (k0_pay8 X)) (k0_pay14 K X (k0_pay8 X) (iblk m c 3 t) T) Z (ix2 s n)
      = Z (ix2 s n) + ∑ a : Fin 68, at2 (share (A m c) (H m c) (W m c) (G m c) (Y m c)) (t.val * 544 + (a.val * 8 + s.val)) n.val := by
  have ht := tlt t
  have he : ∀ (i : Fin 544) (r : Fin 8704), t.val * 544 + i.val = r.val → k0_pay12 (F := Ideal) K X (k0_pay8 X) (iblk m c 3 t) T (ix2 i n) = err (A m c) (H m c) (W m c) (G m c) (Y m c) r n :=
    fun i r hr => err_at m c t K hx.block X T i n r hr (hx.rows i r hr) (hx.target i n r hr)
  have hq := squares m c t K X T hx
  generalize k0_pay8 (F := Ideal) X = Q at he hq ⊢
  generalize hE : k0_pay12 (F := Ideal) K X Q (iblk m c 3 t) T = E at he
  pointwise [k0_pay2, k0_pay14, k0_pay10, k0_pay9, hE]
  refine congrArg (fun v : EReal => Z (ix2 s n) + v) (Finset.sum_congr rfl fun a _ => ?_)
  rw [at2_mk _ _ _ (by omega) (by omega)]
  unfold share dy
  simp only [he ⟨a.val * 8 + s.val, by omega⟩ ⟨t.val * 544 + (a.val * 8 + s.val), by omega⟩ rfl,
    hq ⟨a.val * 8 + s.val, by omega⟩ ⟨t.val * 544 + (a.val * 8 + s.val), by omega⟩ rfl, hx.rows ⟨a.val * 8 + s.val, by omega⟩ ⟨t.val * 544 + (a.val * 8 + s.val), by omega⟩ rfl]

theorem bits_small : Ideal.ofBits .f32 0x3A000000#32 = ((1 / 2048 : ℝ) : EReal) := by
  simp [Ideal.ofBits, Ideal.ieee, -EReal.coe_mul]; norm_num

theorem step5 (c : Dev nD) (t : Fin cfg0.N) (K : BitVec 32) (X T : FVec Ideal S544x1024 .f32) (hx : Holds m c t K X T) (Z : FVec Ideal S8x1024 .f32) (s : Fin 8) (n : Fin 1024) :
    k0_pay13 (F := Ideal) K X (k0_pay8 X) (iblk m c 3 t) T Z (ix2 s n)
      = Z (ix2 s n) + ∑ a : Fin 68, at2 (sq (A m c) (H m c) (W m c) (G m c) (Y m c)) (t.val * 544 + (a.val * 8 + s.val)) n.val := by
  have ht := tlt t
  have he : ∀ (i : Fin 544) (r : Fin 8704), t.val * 544 + i.val = r.val → k0_pay12 (F := Ideal) K X (k0_pay8 X) (iblk m c 3 t) T (ix2 i n) = err (A m c) (H m c) (W m c) (G m c) (Y m c) r n :=
    fun i r hr => err_at m c t K hx.block X T i n r hr (hx.rows i r hr) (hx.target i n r hr)
  generalize hE : k0_pay12 (F := Ideal) K X (k0_pay8 X) (iblk m c 3 t) T = E at he
  pointwise [k0_pay13, hE]
  refine congrArg (fun v : EReal => Z (ix2 s n) + v) ?_
  rw [bits_small, mul_comm, Cert.Norm.mul_sum _ (by norm_num)]
  refine Finset.sum_congr rfl fun a _ => ?_
  rw [at2_mk _ _ _ (by omega) (by omega)]
  unfold sq
  rw [he ⟨a.val * 8 + s.val, by omega⟩ ⟨t.val * 544 + (a.val * 8 + s.val), by omega⟩ rfl, bits_small, mul_comm]

theorem kk : ∀ t : Fin grid0.N, Scalar.select
      (Scalar.andi
        (Scalar.xori (Scalar.cmpi CmpIPredicate.slt (Scalar.remsi (BitVec.ofNat 32 ((grid0.coords t 0)).val) 4#32) 0#32) 0#1)
        (Scalar.cmpi CmpIPredicate.ne (Scalar.remsi (BitVec.ofNat 32 ((grid0.coords t 0)).val) 4#32) 0#32))
      (Scalar.addi (Scalar.remsi (BitVec.ofNat 32 ((grid0.coords t 0)).val) 4#32) 4#32)
      (Scalar.remsi (BitVec.ofNat 32 ((grid0.coords t 0)).val) 4#32) =
    BitVec.ofNat 32 (t.val % 4) := by decide +kernel

theorem rows_at (c : Dev nD) (t : Fin cfg0.N) (i : Fin 544) (r : Fin 8704) (hr : t.val * 544 + i.val = r.val) (k : Fin 1024) :
    (View.readCov (Val := Elt Ideal) (View.whole cc0_scratch1)
      [⟨Rect.unit ![0, 512] ![544, 512] inb_S544x1024_S544x512_0_512,
          k0_pay7 (View.ld (iblk m c 1 t) (Rect.unit ![0, 512] ![544, 512] inb_S544x1024_S544x512_0_512)) (iblk m c 0 t)
            (View.ld (iblk m c 2 t) (Rect.unit ![0, 0, 512] ![1, 4096, 512] inb_S1x4096x1024_S1x4096x512_0_0_512))⟩,
        ⟨Rect.unit ![0, 0] ![544, 512] inb_S544x1024_S544x512_0_0,
          k0_pay6 (View.ld (iblk m c 1 t) (Rect.unit ![0, 0] ![544, 512] inb_S544x1024_S544x512_0_0)) (iblk m c 0 t)
            (View.ld (iblk m c 2 t) (Rect.unit ![0, 0, 0] ![1, 4096, 512] inb_S1x4096x1024_S1x4096x512_0_0_0))⟩]
      (Rect.unit (s := S544x1024) ![0, 0] ![544, 1024] inb_S544x1024_S544x1024_0_0).toLoadRect : FVec Ideal S544x1024 .f32) (ix2 i k)
      = hrow (A m c) (H m c) (W m c) r k := by
  have ht := tlt t
  obtain ⟨r, h⟩ := r
  obtain rfl : t.val * 544 + i.val = r := hr
  exact load_halves (View.whole cc0_scratch1) _ _ (fun i k => hrow (A m c) (H m c) (W m c) ⟨t.val * 544 + i.val, by omega⟩ k)
    (fun i j k hk => half7 m c t i j k hk ⟨t.val * 544 + i.val, by omega⟩ rfl) (fun i j k hk => half6 m c t i j k hk ⟨t.val * 544 + i.val, by omega⟩ rfl) i k

theorem target_first (c : Dev nD) (t : Fin cfg0.N) (h1 : t.val % 4 = 0) (inb : ∀ a, k0_off1 (grid0.coords t) a + S1x416x1024.size a ≤ S4x2048x1024.size a)
    (hq : S416x1024.numel = S1x416x1024.numel) (i : Fin 544) (n : Fin 1024) (r : Fin 8704) (hr : t.val * 544 + i.val = r.val) (h : 128 ≤ r.val % 2176) :
    (View.readCov (Val := Elt Ideal) (View.whole cc0_scratch0)
      [⟨Rect.unit ![128, 0] ![416, 1024] inb_S544x1024_S416x1024_128_0,
          ReadAs.same.apply (View.read (Elt Ideal) (((View.whole main_arg4).slice (Rect.unit (s := S4x2048x1024) (k0_off1 (grid0.coords t)) ![1, 416, 1024] inb)).reshape S416x1024 hq)
            (V m c main_arg4))⟩,
        ⟨Rect.unit ![0, 0] ![128, 1024] inb_S544x1024_S128x1024_0_0, k0_pay5 (F := Ideal)⟩]
      (Rect.unit (s := S544x1024) ![0, 0] ![544, 1024] inb_S544x1024_S544x1024_0_0).toLoadRect : FVec Ideal S544x1024 .f32) (ix2 i n)
      = Y m c (ix3 (⟨r.val / 2176, by omega⟩ : Fin 4) (⟨r.val % 2176 - 128, by omega⟩ : Fin 2048) n) := by
  have ht := tlt t
  refine (load_past (View.whole cc0_scratch0) _ _ i ⟨i.val - 128, by omega⟩ n (by dsimp only; omega)).trans ?_
  refine (read_rows0 _ inb hq (V m c main_arg4) ⟨r.val / 2176, by omega⟩ ?_ _ n ⟨r.val % 2176 - 128, by omega⟩ ?_).trans (congrFun (V_main_arg4 m c) _)
  · rw [off1 t h1, show t.val / 4 = r.val / 2176 by omega]
  · dsimp only
    omega

theorem target_later (c : Dev nD) (t : Fin cfg0.N) (h1 : ¬(t.val % 4 = 0)) (inb : ∀ a, k0_off2 (grid0.coords t) a + S1x544x1024.size a ≤ S4x2048x1024.size a)
    (hq : S544x1024.numel = S1x544x1024.numel) (i : Fin 544) (n : Fin 1024) (r : Fin 8704) (hr : t.val * 544 + i.val = r.val) (h : 128 ≤ r.val % 2176) :
    (View.readCov (Val := Elt Ideal) (View.whole cc0_scratch0)
      [⟨Rect.whole S544x1024,
          ReadAs.same.apply (View.read (Elt Ideal) (((View.whole main_arg4).slice (Rect.unit (s := S4x2048x1024) (k0_off2 (grid0.coords t)) ![1, 544, 1024] inb)).reshape S544x1024 hq)
            (V m c main_arg4))⟩]
      (Rect.unit (s := S544x1024) ![0, 0] ![544, 1024] inb_S544x1024_S544x1024_0_0).toLoadRect : FVec Ideal S544x1024 .f32) (ix2 i n)
      = Y m c (ix3 (⟨r.val / 2176, by omega⟩ : Fin 4) (⟨r.val % 2176 - 128, by omega⟩ : Fin 2048) n) := by
  have ht := tlt t
  refine (load_whole (View.whole cc0_scratch0) _ i n).trans ?_
  refine (read_rows _ inb hq (V m c main_arg4) ⟨r.val / 2176, by omega⟩ (t.val % 4 * 544 - 128) ?_ i n ⟨r.val % 2176 - 128, by omega⟩ ?_).trans (congrFun (V_main_arg4 m c) _)
  · rw [off2 t h1, show t.val / 4 = r.val / 2176 by omega]
  · dsimp only
    omega

theorem array4 (c : Dev nD) (r : Fin 8704) (n : Fin 1024) :
    ((dats m 0 c).arrAt 4 (cfgs 0).N : FVec Ideal S8704x1024 .f32) (ix2 r n) = dh (A m c) (H m c) (W m c) (G m c) (Y m c) r n := by
  refine (dats m 0 c).arrAt_forall_of_covers 4 (fun (x : S8704x1024.Idx) (v : EReal) => ∀ (r : Fin 8704) (n : Fin 1024), (x 0).val = r.val → (x 1).val = n.val →
      v = dh (A m c) (H m c) (W m c) (G m c) (Y m c) r n)
      (by decide +kernel) (fun t hf y => ?_) (ix2 r n) (Memref.isWhole_whole _) r n rfl rfl
  blk_simp
  rw [after0_4]
  have e0 : win0_4.index t 0 = t.val := by rw [(idx t).2.2.2.2.1]; rfl
  have e1 : win0_4.index t 1 = 0 := by rw [(idx t).2.2.2.2.1]; rfl
  rw [e0, e1]
  intro r n hr hn
  obtain ⟨i, j, rfl⟩ : ∃ i j, y = ix2 i j := ⟨y 0, y 1, eq_ix2 y⟩
  obtain rfl : n = j := Fin.ext (hn.symm.trans ((congrArg (· + j.val) (Nat.zero_mul 1024)).trans (Nat.zero_add _)))
  by_cases h1 : t.val % 4 = 0
  · by_cases h0 : t.val % 16 = 0
    · rw [outsAt0_A m c t h0 h1 (fun h => h h1)]
      frame_out
      exact point4 m c t _ _ _ ⟨kk t, rows_at m c t, target_first m c t h1 _ _⟩ i n r hr
    · rw [outsAt0_C m c t h0 h1 (fun h => h h1)]
      frame_out
      exact point4 m c t _ _ _ ⟨kk t, rows_at m c t, target_first m c t h1 _ _⟩ i n r hr
  · rw [outsAt0_B m c t (by omega) h1 h1]
    frame_out
    exact point4 m c t _ _ _ ⟨kk t, rows_at m c t, target_later m c t h1 _ _⟩ i n r hr

/-- What stands in the folded sums of the gains' gradient after the last point. -/
theorem last6 (c : Dev nD) (t : Fin cfg0.N) (h : t.val % 16 = 15) (s : Fin 8) (n : Fin 1024) :
    (outsAt0 m c t.val t.isLt).2.2 (ix2 s n) = fold (share (A m c) (H m c) (W m c) (G m c) (Y m c)) s n := by
  have ht := tlt t
  refine (Pipeline.eq_sum_of_reset_step_divmod (fun n' h => ((outsAt0 m c n' h).2.2 (ix2 s n) : EReal)) 16 0
    (fun q k => ∑ a : Fin 68, at2 (share (A m c) (H m c) (W m c) (G m c) (Y m c)) (k * 544 + (a.val * 8 + s.val)) n.val) (fun t h0 => ?_) (fun t h0 => ?_) t).trans ?_
  · beta_reduce
    have h1 : t.val % 4 = 0 := by omega
    have ht := tlt t
    rw [outsAt0_A m c t h0 h1 (fun h => h h1)]
    frame_out
    refine (step6 m c t _ _ _ ⟨kk t, rows_at m c t, target_first m c t h1 _ _⟩ _ s n).trans ?_
    rw [show t.val % 16 = t.val by omega]
    pointwise [k0_pay4]
  · beta_reduce
    have ht := tlt t
    rw [show t.val % 16 = t.val by omega]
    by_cases h1 : t.val % 4 = 0
    · rw [outsAt0_C m c t h0 h1 (fun h => h h1)]
      frame_out
      exact step6 m c t _ _ _ ⟨kk t, rows_at m c t, target_first m c t h1 _ _⟩ _ s n
    · rw [outsAt0_B m c t h0 h1 h1]
      frame_out
      exact step6 m c t _ _ _ ⟨kk t, rows_at m c t, target_later m c t h1 _ _⟩ _ s n
  · rw [h]
    exact zero_add (_ : EReal)

/-- What stands in the folded loss after the last point. -/
theorem last5 (c : Dev nD) (t : Fin cfg0.N) (h : t.val % 16 = 15) (s : Fin 8) (n : Fin 1024) :
    (outsAt0 m c t.val t.isLt).2.1 (ix2 s n) = fold (sq (A m c) (H m c) (W m c) (G m c) (Y m c)) s n := by
  have ht := tlt t
  refine (Pipeline.eq_sum_of_reset_step_divmod (fun n' h => ((outsAt0 m c n' h).2.1 (ix2 s n) : EReal)) 16 0
    (fun q k => ∑ a : Fin 68, at2 (sq (A m c) (H m c) (W m c) (G m c) (Y m c)) (k * 544 + (a.val * 8 + s.val)) n.val) (fun t h0 => ?_) (fun t h0 => ?_) t).trans ?_
  · beta_reduce
    have h1 : t.val % 4 = 0 := by omega
    have ht := tlt t
    rw [outsAt0_A m c t h0 h1 (fun h => h h1)]
    frame_out
    refine (step5 m c t _ _ _ ⟨kk t, rows_at m c t, target_first m c t h1 _ _⟩ _ s n).trans ?_
    rw [show t.val % 16 = t.val by omega]
    pointwise [k0_pay3]
  · beta_reduce
    have ht := tlt t
    rw [show t.val % 16 = t.val by omega]
    by_cases h1 : t.val % 4 = 0
    · rw [outsAt0_C m c t h0 h1 (fun h => h h1)]
      frame_out
      exact step5 m c t _ _ _ ⟨kk t, rows_at m c t, target_first m c t h1 _ _⟩ _ s n
    · rw [outsAt0_B m c t h0 h1 h1]
      frame_out
      exact step5 m c t _ _ _ ⟨kk t, rows_at m c t, target_later m c t h1 _ _⟩ _ s n
  · rw [h]
    exact zero_add (_ : EReal)

theorem array5 (c : Dev nD) (s : Fin 8) (n : Fin 1024) :
    ((dats m 0 c).arrAt 5 (cfgs 0).N : FVec Ideal S8x1024 .f32) (ix2 s n) = fold (sq (A m c) (H m c) (W m c) (G m c) (Y m c)) s n := by
  refine (dats m 0 c).arrAt_forall_of_covers 5 (fun (x : S8x1024.Idx) (v : EReal) => ∀ (s : Fin 8) (n : Fin 1024), (x 0).val = s.val → (x 1).val = n.val →
      v = fold (sq (A m c) (H m c) (W m c) (G m c) (Y m c)) s n)
      (by decide +kernel) (fun t hf y => ?_) (ix2 s n) (Memref.isWhole_whole _) s n rfl rfl
  blk_simp
  rw [after0_5]
  have e0 : win0_5.index t 0 = 0 := by rw [(idx t).2.2.2.2.2.1]; rfl
  have e1 : win0_5.index t 1 = 0 := by rw [(idx t).2.2.2.2.2.1]; rfl
  rw [e0, e1]
  intro s n hs hn
  have h := (flush0_5 t).mp hf
  obtain ⟨i, j, rfl⟩ : ∃ i j, y = ix2 i j := ⟨y 0, y 1, eq_ix2 y⟩
  obtain rfl : s = i := Fin.ext (hs.symm.trans ((congrArg (· + i.val) (Nat.zero_mul 8)).trans (Nat.zero_add _)))
  obtain rfl : n = j := Fin.ext (hn.symm.trans ((congrArg (· + j.val) (Nat.zero_mul 1024)).trans (Nat.zero_add _)))
  exact last5 m c t h s n

theorem array6 (c : Dev nD) (s : Fin 8) (n : Fin 1024) :
    ((dats m 0 c).arrAt 6 (cfgs 0).N : FVec Ideal S8x1024 .f32) (ix2 s n) = fold (share (A m c) (H m c) (W m c) (G m c) (Y m c)) s n := by
  refine (dats m 0 c).arrAt_forall_of_covers 6 (fun (x : S8x1024.Idx) (v : EReal) => ∀ (s : Fin 8) (n : Fin 1024), (x 0).val = s.val → (x 1).val = n.val →
      v = fold (share (A m c) (H m c) (W m c) (G m c) (Y m c)) s n)
      (by decide +kernel) (fun t hf y => ?_) (ix2 s n) (Memref.isWhole_whole _) s n rfl rfl
  blk_simp
  rw [after0_6]
  have e0 : win0_6.index t 0 = 0 := by rw [(idx t).2.2.2.2.2.2]; rfl
  have e1 : win0_6.index t 1 = 0 := by rw [(idx t).2.2.2.2.2.2]; rfl
  rw [e0, e1]
  intro s n hs hn
  have h := (flush0_6 t).mp hf
  obtain ⟨i, j, rfl⟩ : ∃ i j, y = ix2 i j := ⟨y 0, y 1, eq_ix2 y⟩
  obtain rfl : s = i := Fin.ext (hs.symm.trans ((congrArg (· + i.val) (Nat.zero_mul 8)).trans (Nat.zero_add _)))
  obtain rfl : n = j := Fin.ext (hn.symm.trans ((congrArg (· + j.val) (Nat.zero_mul 1024)).trans (Nat.zero_add _)))
  exact last6 m c t h s n

/-- The buffers at the end of the run. -/
abbrev T (c : Dev nD) (b : Ref sig .tc) := Pipeline.afterTail₀ cfgs (dats m) 0 (V0 m) [hostOps1] c b

/-- The buffers when the kernel has finished. -/
abbrev E (c : Dev nD) : Valuation τ sig (Elt Ideal) := Pipeline.withArrays (cfgs 0).spec c (V0 m c) fun w => (dats m 0 c).arrAt w (cfgs 0).N

theorem E5 (c : Dev nD) : E m c (Proc.devRef .tc main_v3_1) = (dats m 0 c).arrAt 5 (cfgs 0).N :=
  (dats m 0 c).withArrays_arrAt (by decide +kernel) (V0 m c) (fun _ => rfl) 5

theorem E6 (c : Dev nD) : E m c (Proc.devRef .tc main_v3_2) = (dats m 0 c).arrAt 6 (cfgs 0).N :=
  (dats m 0 c).withArrays_arrAt (by decide +kernel) (V0 m c) (fun _ => rfl) 6

/-- The gains' gradient, the folded rows added up. -/
theorem T_gains (c : Dev nD) (n : Fin 1024) :
    (T m c main_v6 : FVec Ideal S1024 .f32) (ix1 n) = (∑ r : Fin 8704, share (A m c) (H m c) (W m c) (G m c) (Y m c) r n : EReal) := by
  rw [← fold_eq]
  refine Eq.trans (b := (∑ s : Fin 8, ((dats m 0 c).arrAt 6 (cfgs 0).N : FVec Ideal S8x1024 .f32) (ix2 s n) : EReal)) ?_ (Finset.sum_congr rfl fun s _ => array6 m c s n)
  unfold T Pipeline.afterTail₀
  rw [← E6]
  simp only [hostOps1, List.flatten_cons, List.flatten_nil, List.cons_append, List.nil_append, List.append_nil]
  after_results_simp
  pointwise

/-- The loss, the folded rows and their columns added up. -/
theorem T_loss (c : Dev nD) (i : S_.Idx) :
    (T m c main_v5 : FVec Ideal S_ .f32) i = (∑ n : Fin 1024, ∑ r : Fin 8704, sq (A m c) (H m c) (W m c) (G m c) (Y m c) r n : EReal) := by
  simp only [← fold_eq]
  refine Eq.trans (b := (∑ n : Fin 1024, ∑ s : Fin 8, ((dats m 0 c).arrAt 5 (cfgs 0).N : FVec Ideal S8x1024 .f32) (ix2 s n) : EReal)) ?_
    (Finset.sum_congr rfl fun n _ => Finset.sum_congr rfl fun s _ => array5 m c s n)
  unfold T Pipeline.afterTail₀
  rw [← E5]
  simp only [hostOps1, List.flatten_cons, List.flatten_nil, List.cons_append, List.nil_append, List.append_nil]
  after_results_simp
  pointwise

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v3_0) = (dats m 0 c).arrAt 4 (cfgs 0).N
      ∧ r.2.mem ((c.tc : Thread nD τ).loc main_v5) = T m c main_v5
      ∧ r.2.mem ((c.tc : Thread nD τ).loc main_v6) = T m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 4, (h.1 c).2 main_v5 (by decide +kernel), (h.1 c).2 main_v6 (by decide +kernel), h.2 c⟩)
    (θ_run_and (run_main m ρ) (unchanged m ρ))

end Cert.DownLoss

namespace Cert.Reference19Ideal.Plain

open Idealize.ShloMosaic Idealize.ShloMosaic.TcCoe Idealize.SL.Sem
open Cert.Reference19Ideal Cert.Reference19Ideal.Gen Cert.Reference19Ideal.Read Cert.Rows
open Cert.DownLoss (hrow err dy dh sq share)

variable (a : FVec Ideal S8704x4096 .f32) (h : FVec Ideal S8704x1024 .f32) (w : FVec Ideal S2x4096x1024 .f32) (g : FVec Ideal S1024 .f32) (y : FVec Ideal S4x2048x1024 .f32)

theorem v3_at (r : Fin 8704) (k : Fin 1024) : val_main_v3 (F := Ideal) a h w (ix2 r k) = hrow a h w r k := by
  pointwise [val_main_v3, val_main_v2, val_main_v1, val_main_v0]
  rfl

theorem v10_at (r : Fin 8704) (z : Fin 1) : val_main_v10 (F := Ideal) a h w (ix2 r z) = Cert.Norm.ms (hrow a h w r) := by
  obtain rfl : z = 0 := Subsingleton.elim _ _
  pointwise [val_main_v10, val_main_v9, val_main_v8, val_main_v7, val_main_v6, val_main_v5, val_main_v4, val_main_cst, val_main_cst_0, val_main_cst_1]
  simp only [v3_at]

theorem v11_at (r : Fin 8704) (z : Fin 1) : val_main_v11 (F := Ideal) a h w (ix2 r z) = Ideal.rsqrt (Cert.Norm.ms (hrow a h w r)) := by
  pointwise [val_main_v11]
  rw [v10_at]

theorem v17_at (k : Fin 1024) : val_main_v17 (F := Ideal) g (ix2 0 k) = g (ix1 k) := by
  pointwise [val_main_v17]

theorem v19_at (r : Fin 8704) (n : Fin 1024) : val_main_v19 (F := Ideal) a h w g (ix2 r n) = Cert.Norm.norm (hrow a h w r) (fun k => g (ix1 k)) n := by
  pointwise [val_main_v19, val_main_v18, val_main_v17, val_main_v16, val_main_v15]
  simp only [v3_at, v11_at]

theorem v22_at (b : Fin 4) (q : Fin 2048) (n : Fin 1024) (r : Fin 8704) (hr : r.val = b.val * 2176 + 128 + q.val) :
    val_main_v22 (F := Ideal) a h w g y (ix3 b q n) = err a h w g y r n := by
  obtain ⟨r, hr'⟩ := r
  obtain rfl : r = b.val * 2176 + 128 + q.val := hr
  pointwise [val_main_v22, val_main_v21, val_main_v20]
  unfold err
  rw [v19_at, if_pos (by dsimp only; omega)]
  have e : (⟨b.val * 2176 + (128 + q.val), by omega⟩ : Fin 8704) = ⟨b.val * 2176 + 128 + q.val, hr'⟩ := Fin.ext (by dsimp only; omega)
  have eb : b = ⟨(b.val * 2176 + 128 + q.val) / 2176, by omega⟩ := Fin.ext (by dsimp only; omega)
  have eq : q = ⟨(b.val * 2176 + 128 + q.val) % 2176 - 128, by omega⟩ := Fin.ext (by dsimp only; omega)
  rw [e]
  exact congrArg (fun v : EReal => Cert.Norm.norm (hrow a h w ⟨b.val * 2176 + 128 + q.val, hr'⟩) (fun k => g (ix1 k)) n - v)
    (congrArg₂ (fun (b : Fin 4) (q : Fin 2048) => y (ix3 b q n)) eb eq)

theorem bits_two : Ideal.ofBits .f32 0x40000000#32 = ((2 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_mean : Ideal.ofBits .f32 0x3A800000#32 = ((1 / 1024 : ℝ) : EReal) := by
  simp [Ideal.ofBits, Ideal.ieee, -EReal.coe_mul]; norm_num

theorem v38_at (r : Fin 8704) (n : Fin 1024) : val_main_v38 (F := Ideal) a h w g y (ix2 r n) = dy a h w g y r n := by
  pointwise [val_main_v38, val_main_v37, val_main_v36, val_main_v35, val_main_v34, val_main_v33, val_main_v32, val_main_v31, val_main_v25, val_main_v24,
    val_main_cst_3, val_main_cst_8, val_main_cst_9, val_main_cst_10, val_main_cst_11]
  unfold dy
  split_ifs with hc
  · rw [v22_at a h w g y _ _ n r (by dsimp only; omega), bits_two, bits_half, bits_mean, Cert.Norm.bits_1024, Ideal.div_coe (by norm_num), ← mul_assoc, ← EReal.coe_mul,
      ← EReal.coe_mul, mul_comm, show (1 / 2 * (1 / 1024) * 2 : ℝ) = 1 / 1024 by norm_num]
  · unfold err
    rw [if_neg (by omega), zero_mul]

theorem v58_at (r : Fin 8704) (n : Fin 1024) : val_main_v58 (F := Ideal) a h w g y (ix2 r n) = dh a h w g y r n := by
  pointwise [val_main_v58, val_main_v57, val_main_v56, val_main_v55, val_main_v54, val_main_v53, val_main_v52, val_main_v51, val_main_v50, val_main_v49, val_main_v48,
    val_main_v47, val_main_v46, val_main_v45, val_main_v43, val_main_v42, val_main_v14, val_main_v13, val_main_v12, val_main_cst_2, val_main_cst_14, val_main_cst_15, val_main_cst_16]
  simp only [v38_at, v17_at, v11_at, v10_at, v3_at]
  exact (congrArg₂ (fun u v : EReal => u + v) (congrArg₂ (fun u v : EReal => u + v) (zero_add _).symm rfl) rfl).trans
    (Cert.Norm.back_eq (hrow a h w r) (fun k => dy a h w g y r k * g (ix1 k)) 0 n)

theorem v44_at (n : Fin 1024) : val_main_v44 (F := Ideal) a h w g y (ix1 n) = (∑ r : Fin 8704, share a h w g y r n : EReal) := by
  pointwise [val_main_v44, val_main_v41, val_main_v40, val_main_v39, val_main_v16, val_main_v15, val_main_cst_12, val_main_cst_13]
  rw [Finset.univ_unique, Finset.sum_singleton]
  simp only [v38_at, v11_at, v3_at]
  exact Finset.sum_congr rfl fun r _ => mul_comm _ _

/-- The loss row by row: the conditioning rows carry none of it. -/
theorem sum_rows (f : Fin 8704 → EReal) (F : Fin 4 → Fin 2048 → EReal) (h0 : ∀ r : Fin 8704, ¬(128 ≤ r.val % 2176) → f r = 0)
    (h1 : ∀ (b : Fin 4) (q : Fin 2048) (r : Fin 8704), r.val = b.val * 2176 + 128 + q.val → F b q = f r) :
    ∑ b : Fin 4, ∑ q : Fin 2048, F b q = ∑ r : Fin 8704, f r := by
  have hb := sum_blocks (fun r => at2 (fun r (_ : Fin 1) => f r) r 0) 4 2176
  have e : ∑ r : Fin 8704, f r = ∑ r : Fin (4 * 2176), at2 (fun r (_ : Fin 1) => f r) r.val 0 :=
    Finset.sum_congr rfl fun r _ => (at2_val (fun r (_ : Fin 1) => f r) r 0).symm
  rw [e, ← hb, ← Fin.sum_univ_eq_sum_range (fun k => ∑ x : Fin 2176, at2 (fun r (_ : Fin 1) => f r) (k * 2176 + x.val) 0) 4]
  refine Finset.sum_congr rfl fun b _ => ?_
  have hs := Fin.sum_univ_add (a := 128) (b := 2048) fun x => at2 (fun r (_ : Fin 1) => f r) (b.val * 2176 + x.val) 0
  refine Eq.trans ?_ hs.symm
  rw [Finset.sum_eq_zero (s := (Finset.univ : Finset (Fin 128))), zero_add]
  · refine Finset.sum_congr rfl fun q _ => ?_
    rw [Fin.val_natAdd, at2_mk _ _ _ (by omega) (by omega)]
    exact h1 b q _ (by dsimp only; omega)
  · intro x _
    rw [Fin.val_castAdd, at2_mk _ _ _ (by omega) (by omega)]
    exact h0 _ (by dsimp only; omega)

theorem v30_at (i : S_.Idx) : val_main_v30 (F := Ideal) a h w g y i = (∑ r : Fin 8704, ∑ n : Fin 1024, sq a h w g y r n : EReal) := by
  pointwise [val_main_v30, val_main_v29, val_main_v28, val_main_v27, val_main_v26, val_main_v23, val_main_cst_4, val_main_cst_5, val_main_cst_6, val_main_cst_7]
  rw [bits_half, Cert.Norm.mul_sum _ (by norm_num)]
  simp only [Cert.Norm.mul_sum (1 / 2) (by norm_num)]
  refine sum_rows (fun r => ∑ n : Fin 1024, sq a h w g y r n) _ (fun r hr => Finset.sum_eq_zero fun n _ => ?_) (fun b q r hr => ?_)
  · unfold Cert.DownLoss.sq err
    rw [if_neg hr, zero_mul, zero_mul]
  · beta_reduce
    simp only [v22_at a h w g y b q _ r hr]
    rw [Cert.Norm.bits_1024, Ideal.div_coe (by norm_num), mul_comm, mul_assoc, ← EReal.coe_mul, mul_comm, Cert.Norm.mul_sum _ (by norm_num)]
    refine Finset.sum_congr rfl fun n _ => ?_
    unfold Cert.DownLoss.sq
    rw [Cert.DownLoss.bits_small, mul_comm, show (1 / 1024 * (1 / 2) : ℝ) = 1 / 2048 by norm_num]

end Cert.Reference19Ideal.Plain

namespace Cert.Proof.DownLoss

open Idealize.ShloMosaic Idealize.ShloMosaic.TcCoe Idealize.SL.Sem

/-- At the ideal instance the kernel's three results are the reference's. -/
theorem algebraic : Cert.algebraic_Kernel19Ideal_Reference19Ideal := by
  pair_intro
  · run_from Cert.DownLoss.run m g
  · run_from Cert.Reference19Ideal.Value.run m' g'
    · rw [Cert.Reference19Ideal.Read.val_main_v58_eq, (hagree c).1, (hagree c).2.1, (hagree c).2.2.1, (hagree c).2.2.2.1, (hagree c).2.2.2.2]
      funext i
      rw [eq_ix2 i]
      exact (Cert.Reference19Ideal.Plain.v58_at ..).trans (Cert.DownLoss.array4 m c (i 0) (i 1)).symm
    · refine (Cert.Reference19Ideal.Read.val_main_v30_eq ..).trans ?_
      funext i
      exact (Cert.Reference19Ideal.Plain.v30_at ..).trans (Finset.sum_comm.trans (Cert.DownLoss.T_loss m c i).symm)
    · refine (Cert.Reference19Ideal.Read.val_main_v44_eq ..).trans ?_
      funext i
      rw [eq_ix1 i]
      exact (Cert.Reference19Ideal.Plain.v44_at ..).trans (Cert.DownLoss.T_gains m c (i 0)).symm

end Cert.Proof.DownLoss

end
-- ==== Proof.DownLossBits.lean ====
module
public import proofs.«01_k».proof.Defs
public import proofs.«01_k».proof.Proof.Gen.Kernel19
public import proofs.«01_k».proof.Proof.Gen.Kernel19Ideal
public import proofs.«01_k».proof.Proof.Tables
public import proofs.«01_k».proof.Proof.DownLossFrame

/-!
# The frame of the last projection and loss, at the bit patterns

The two printed texts of the call are the same, so the run of `DownLossFrame` — written over any
float values — serves for both. Only the tables of bodies need a word: each is a definition by
cases on its labels, and the cases are compared one at a time.
-/

@[expose] public section

namespace Cert.DownLoss

open Idealize.ShloMosaic Idealize.SL.Sem

variable {F : FTy → Type} [FloatOps F]

/-- The two tables of kernel bodies agree: there is one label, and its bodies have the same text. -/
theorem bodies_eq : Cert.Kernel19.defs₀ (F := F) = Cert.Kernel19Ideal.defs₀ (F := F) :=
  congrArg Defs.onTc (table_ext (funext fun _ => rfl))

/-- So do the tables with the pipeline's own regions added. -/
theorem defs_eq : Cert.Kernel19.defs (F := F) = Cert.Kernel19Ideal.defs (F := F) :=
  congrArg (Pipeline.defs Cert.Kernel19Ideal.pcfgs) bodies_eq

/-- The call runs at the bit patterns, its arguments unchanged and its semaphores at rest. -/
theorem frame_bits : Cert.quiescent_Kernel19 := fun m ρ _ => by
  rw [defs_eq]
  exact frame (F := Bits) m ρ

end Cert.DownLoss

end
-- ==== Proof.lean ====
/- The claims: each program runs and leaves its arguments, and the kernel's gradients are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Reference19Ideal
public import proofs.«01_k».proof.Proof.Gen.Reference19Ideal.Run
public import proofs.«01_k».proof.Proof.Gen.Reference19Ideal.Read
public import proofs.«01_k».proof.Proof.DownDx
public import proofs.«01_k».proof.Proof.UpDx
public import proofs.«01_k».proof.Proof.InDx
public import proofs.«01_k».proof.Proof.DownDw
public import proofs.«01_k».proof.Proof.UpDw
public import proofs.«01_k».proof.Proof.OutDw
public import proofs.«01_k».proof.Proof.InDw
public import proofs.«01_k».proof.Proof.InProj
public import proofs.«01_k».proof.Proof.OutProj
public import proofs.«01_k».proof.Proof.UpProj
public import proofs.«01_k».proof.Proof.InProj0
public import proofs.«01_k».proof.Proof.OutProj0
public import proofs.«01_k».proof.Proof.DownDw0
public import proofs.«01_k».proof.Proof.UpDw0
public import proofs.«01_k».proof.Proof.OutDw0
public import proofs.«01_k».proof.Proof.InDw0
public import proofs.«01_k».proof.Proof.ConvPoolFwd
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.AdamIn
public import proofs.«01_k».proof.Proof.AdamOut
public import proofs.«01_k».proof.Proof.AdamUp
public import proofs.«01_k».proof.Proof.SameCalls
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.DownLoss
public import proofs.«01_k».proof.Proof.DownLossBits
public import proofs.«01_k».proof.Proof.Equal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts,
  fun m ρ _ => Cert.Kernel.Gen.frame m ρ,
  fun m ρ _ => Cert.KernelIdeal.Gen.frame m ρ,
  fun m ρ _ => (θ_run _ _ _).mono (fun _ h => ⟨fun c => (h c).2.2.2.2, sem_eq_zero_of_no_sems (by decide) _⟩)
    (Cert.ReferenceIdeal.Value.run m ρ),
  fun m ρ _ => Cert.Kernel2.Gen.frame m ρ,
  fun m ρ _ => Cert.Kernel2Ideal.Gen.frame m ρ,
  fun m ρ _ => (θ_run _ _ _).mono (fun _ h => ⟨fun c => (h c).2, sem_eq_zero_of_no_sems (by decide) _⟩)
    (Cert.Reference2Ideal.Value.run m ρ),
  fun m ρ _ => Cert.Kernel3.Gen.frame m ρ,
  fun m ρ _ => Cert.Kernel3Ideal.Gen.frame m ρ,
  fun m ρ _ => (θ_run _ _ _).mono (fun _ h => ⟨fun c => (h c).2.2.2, sem_eq_zero_of_no_sems (by decide) _⟩)
    (Cert.Reference3Ideal.Value.run m ρ),
  fun m ρ _ => Cert.Kernel4.Gen.frame m ρ,
  fun m ρ _ => Cert.Kernel4Ideal.Gen.frame m ρ,
  fun m ρ _ => (θ_run _ _ _).mono (fun _ h => ⟨fun c => (h c).2.2, sem_eq_zero_of_no_sems (by decide) _⟩)
    (Cert.Reference4Ideal.Value.run m ρ),
  fun m ρ _ => Cert.Kernel5.Gen.frame m ρ,
  fun m ρ _ => Cert.Kernel5Ideal.Gen.frame m ρ,
  fun m ρ _ => (θ_run _ _ _).mono (fun _ h => ⟨fun c => (h c).2, sem_eq_zero_of_no_sems (by decide) _⟩)
    (Cert.Reference5Ideal.Value.run m ρ),
  fun m ρ _ => Cert.Kernel6.Gen.frame m ρ,
  fun m ρ _ => Cert.Kernel6Ideal.Gen.frame m ρ,
  fun m ρ _ => (θ_run _ _ _).mono (fun _ h => ⟨fun c => (h c).2, sem_eq_zero_of_no_sems (by decide) _⟩)
    (Cert.Reference6Ideal.Value.run m ρ),
  fun m ρ _ => Cert.Kernel7.Gen.frame m ρ,
  fun m ρ _ => Cert.Kernel7Ideal.Gen.frame m ρ,
  fun m ρ _ => (θ_run _ _ _).mono (fun _ h => ⟨fun c => (h c).2, sem_eq_zero_of_no_sems (by decide) _⟩)
    (Cert.Reference7Ideal.Value.run m ρ),
  fun m ρ _ => Cert.Kernel8.Gen.frame m ρ,
  fun m ρ _ => Cert.Kernel8Ideal.Gen.frame m ρ,
  fun m ρ _ => (θ_run _ _ _).mono (fun _ h => ⟨fun c => (h c).2, sem_eq_zero_of_no_sems (by decide) _⟩)
    (Cert.Reference8Ideal.Value.run m ρ),
  fun m ρ _ => Cert.Kernel9.Gen.frame m ρ,
  fun m ρ _ => Cert.Kernel9Ideal.Gen.frame m ρ,
  fun m ρ _ => (θ_run _ _ _).mono (fun _ h => ⟨fun c => (h c).2.2.2, sem_eq_zero_of_no_sems (by decide) _⟩)
    (Cert.Reference9Ideal.Value.run m ρ),
  fun m ρ _ => Cert.Kernel10.Gen.frame m ρ,
  fun m ρ _ => Cert.Kernel10Ideal.Gen.frame m ρ,
  fun m ρ _ => (θ_run _ _ _).mono (fun _ h => ⟨fun c => (h c).2, sem_eq_zero_of_no_sems (by decide) _⟩)
    (Cert.Reference10Ideal.Value.run m ρ),
  fun m ρ _ => Cert.Kernel11.Gen.frame m ρ,
  fun m ρ _ => Cert.Kernel11Ideal.Gen.frame m ρ,
  fun m ρ _ => (θ_run _ _ _).mono (fun _ h => ⟨fun c => (h c).2.2.2, sem_eq_zero_of_no_sems (by decide) _⟩)
    (Cert.Reference11Ideal.Value.run m ρ),
  fun m ρ _ => Cert.Kernel12.Gen.frame m ρ,
  fun m ρ _ => Cert.Kernel12Ideal.Gen.frame m ρ,
  fun m ρ _ => (θ_run _ _ _).mono (fun _ h => ⟨fun c => (h c).2.2.2, sem_eq_zero_of_no_sems (by decide) _⟩)
    (Cert.Reference12Ideal.Value.run m ρ),
  fun m ρ _ => Cert.Kernel13.Gen.frame m ρ,
  fun m ρ _ => Cert.Kernel13Ideal.Gen.frame m ρ,
  fun m ρ _ => (θ_run _ _ _).mono (fun _ h => ⟨fun c => (h c).2, sem_eq_zero_of_no_sems (by decide) _⟩)
    (Cert.Reference13Ideal.Value.run m ρ),
  fun m ρ _ => Cert.Kernel14.Gen.frame m ρ,
  fun m ρ _ => Cert.Kernel14Ideal.Gen.frame m ρ,
  fun m ρ _ => (θ_run _ _ _).mono (fun _ h => ⟨fun c => (h c).2, sem_eq_zero_of_no_sems (by decide) _⟩)
    (Cert.Reference14Ideal.Value.run m ρ),
  fun m ρ _ => Cert.Kernel15.Gen.frame m ρ,
  fun m ρ _ => Cert.Kernel15Ideal.Gen.frame m ρ,
  fun m ρ _ => (θ_run _ _ _).mono (fun _ h => ⟨fun c => (h c).2, sem_eq_zero_of_no_sems (by decide) _⟩)
    (Cert.Reference15Ideal.Value.run m ρ),
  fun m ρ _ => Cert.Kernel16.Gen.frame m ρ,
  fun m ρ _ => Cert.Kernel16Ideal.Gen.frame m ρ,
  fun m ρ _ => (θ_run _ _ _).mono (fun _ h => ⟨fun c => (h c).2, sem_eq_zero_of_no_sems (by decide) _⟩)
    (Cert.Reference16Ideal.Value.run m ρ),
  fun m ρ _ => Cert.Kernel17.Gen.frame m ρ,
  fun m ρ _ => Cert.Kernel17Ideal.Gen.frame m ρ,
  fun m ρ _ => (θ_run _ _ _).mono (fun _ h => ⟨fun c => (h c).2, sem_eq_zero_of_no_sems (by decide) _⟩)
    (Cert.Reference17Ideal.Value.run m ρ),
  fun m ρ _ => Cert.Kernel18.Gen.frame m ρ,
  fun m ρ _ => Cert.Kernel18Ideal.Gen.frame m ρ,
  fun m ρ _ => (θ_run _ _ _).mono (fun _ h => ⟨fun c => (h c).2, sem_eq_zero_of_no_sems (by decide) _⟩)
    (Cert.Reference18Ideal.Value.run m ρ),
  Cert.DownLoss.frame_bits,
  fun m ρ _ => Cert.DownLoss.frame m ρ,
  fun m ρ _ => (θ_run _ _ _).mono (fun _ h => ⟨fun c => (h c).2.2.2, sem_eq_zero_of_no_sems (by decide) _⟩)
    (Cert.Reference19Ideal.Value.run m ρ),
  fun m ρ _ => Cert.Kernel20.Gen.frame m ρ,
  fun m ρ _ => Cert.Kernel20Ideal.Gen.frame m ρ,
  fun m ρ _ => (θ_run _ _ _).mono (fun _ h => ⟨fun c => (h c).2.2.2, sem_eq_zero_of_no_sems (by decide) _⟩)
    (Cert.Reference20Ideal.Value.run m ρ),
  fun m ρ _ => Cert.Kernel21.Gen.frame m ρ,
  fun m ρ _ => Cert.Kernel21Ideal.Gen.frame m ρ,
  fun m ρ _ => (θ_run _ _ _).mono (fun _ h => ⟨fun c => (h c).2.2.2, sem_eq_zero_of_no_sems (by decide) _⟩)
    (Cert.Reference21Ideal.Value.run m ρ),
  fun m ρ _ => Cert.Kernel22.Gen.frame m ρ,
  fun m ρ _ => Cert.Kernel22Ideal.Gen.frame m ρ,
  fun m ρ _ => (θ_run _ _ _).mono (fun _ h => ⟨fun c => (h c).2.2.2, sem_eq_zero_of_no_sems (by decide) _⟩)
    (Cert.Reference22Ideal.Value.run m ρ),
  fun m ρ _ => Cert.Kernel23.Gen.frame m ρ,
  fun m ρ _ => Cert.Kernel23Ideal.Gen.frame m ρ,
  fun m ρ _ => (θ_run _ _ _).mono (fun _ h => ⟨fun c => (h c).2.2.2, sem_eq_zero_of_no_sems (by decide) _⟩)
    (Cert.Reference23Ideal.Value.run m ρ),
  fun m ρ _ => Cert.Kernel24.Gen.frame m ρ,
  fun m ρ _ => Cert.Kernel24Ideal.Gen.frame m ρ,
  fun m ρ _ => (θ_run _ _ _).mono (fun _ h => ⟨fun c => (h c).2, sem_eq_zero_of_no_sems (by decide) _⟩)
    (Cert.Reference24Ideal.Value.run m ρ),
  fun m ρ _ => Cert.Kernel25.Gen.frame m ρ,
  fun m ρ _ => Cert.Kernel25Ideal.Gen.frame m ρ,
  fun m ρ _ => (θ_run _ _ _).mono (fun _ h => ⟨fun c => (h c).2.2.2.2, sem_eq_zero_of_no_sems (by decide) _⟩)
    (Cert.Reference25Ideal.Value.run m ρ),
  trivial, ConvPool.algebraic,
  trivial, DownDx.algebraic,
  trivial, UpDx.algebraic,
  trivial, InDx.algebraic,
  trivial, DownDw.algebraic,
  trivial, UpDw.algebraic,
  trivial, OutDw.algebraic,
  trivial, InDw.algebraic,
  trivial, InProj.algebraic,
  trivial, OutProj.algebraic,
  trivial, UpProj.algebraic,
  trivial, InProj0.algebraic,
  trivial, OutProj0.algebraic,
  trivial, DownDw0.algebraic,
  trivial, UpDw0.algebraic,
  trivial, OutDw0.algebraic,
  trivial, InDw0.algebraic,
  trivial, ConvPoolFwd.algebraic,
  trivial, DownLoss.algebraic,
  trivial, AdamIn.algebraic,
  trivial, AdamOut.algebraic,
  trivial, AdamUp.algebraic,
  trivial, SameCalls.algebraic_23,
  trivial, SameCalls.algebraic_24,
  trivial, SameCalls.algebraic_25⟩

end Cert.Proof

end
